-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pair.BufferStatement Cert.KernelIdeal.S8x72x2x128 Cert.KernelIdeal.S8x72x1x128
  ∧ IdealRules.bf16_pair.Statement Cert.KernelIdeal.S112x128 Cert.KernelIdeal.S56x128
  ∧ IdealRules.bf16_pair.Statement Cert.KernelIdeal.S16x128 Cert.KernelIdeal.S8x128
  ∧ IdealRules.bf16_pair.Statement Cert.KernelIdeal.S8x2x128 Cert.KernelIdeal.S8x1x128
  ∧ IdealRules.bf16_pair.Statement Cert.KernelIdeal.S1x8x2x128 Cert.KernelIdeal.S1x8x1x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S112x1x16384 : Shape := ⟨3, ![112, 1, 16384]⟩
abbrev S16384x5376 : Shape := ⟨2, ![16384, 5376]⟩
abbrev S_ : Shape := ⟨0, ![]⟩

class Facts : Prop where
  bitsLt_bf16_f32 : FTy.bits .bf16 < FTy.bits .f32
  bcast_S_S112x1x16384 : S_.BroadcastsInDim S112x1x16384 (![] : Fin 0 → Fin S112x1x16384.rank)
  reducesTo_S112x1x16384_S_d0_1_2 : S112x1x16384.ReducesTo [0, 1, 2] S_
  h_S_ : 0 < S_.numel
  bcast_S_S16384x5376 : S_.BroadcastsInDim S16384x5376 (![] : Fin 0 → Fin S16384x5376.rank)
  reducesTo_S16384x5376_S_d0_1 : S16384x5376.ReducesTo [0, 1] S_

variable [Facts]

def fn {F : FTy → Type} [FloatOps F] (main_arg0 : FVec F S112x1x16384 .bf16) (main_arg1 : FVec F S16384x5376 .bf16) : IVec S_ 1 :=
  let main_v0 : FVec F S112x1x16384 .f32 := (extf .f32 · bitsLt_bf16_f32) main_arg0
  let main_v1 : FVec F S112x1x16384 .f32 := Host.absf main_v0
  let main_cst : FVec F S_ .f32 := constant S_ .f32 0x7F7F0000#32
  let main_v2 : FVec F S112x1x16384 .f32 := broadcastInDim S112x1x16384 ![] bcast_S_S112x1x16384 main_cst
  let main_v3 : IVec S112x1x16384 1 := cmpf .ole main_v1 main_v2
  let main_c : IVec S_ 1 := constantI S_ 1 1#1
  let main_v4 : IVec S_ 1 := (fun x v => Host.reduce IntOp.andi x v reducesTo_S112x1x16384_S_d0_1_2 h_S_) main_v3 main_c
  let main_v5 : FVec F S16384x5376 .f32 := (extf .f32 · bitsLt_bf16_f32) main_arg1
  let main_v6 : FVec F S16384x5376 .f32 := Host.absf main_v5
  let main_cst_0 : FVec F S_ .f32 := constant S_ .f32 0x7F7F0000#32
  let main_v7 : FVec F S16384x5376 .f32 := broadcastInDim S16384x5376 ![] bcast_S_S16384x5376 main_cst_0
  let main_v8 : IVec S16384x5376 1 := cmpf .ole main_v6 main_v7
  let main_c_1 : IVec S_ 1 := constantI S_ 1 1#1
  let main_v9 : IVec S_ 1 := (fun x v => Host.reduce IntOp.andi x v reducesTo_S16384x5376_S_d0_1 h_S_) main_v8 main_c_1
  let main_v10 : IVec S_ 1 := andi main_v4 main_v9
  main_v10
-- ==== Kernel.lean ====
abbrev S112x1x16384 : Shape := ⟨3, ![112, 1, 16384]⟩
abbrev S16384x5376 : Shape := ⟨2, ![16384, 5376]⟩
abbrev S1024x2x8x42x128 : Shape := ⟨5, ![1024, 2, 8, 42, 128]⟩
abbrev S1024x2x42x8x128 : Shape := ⟨5, ![1024, 2, 42, 8, 128]⟩
abbrev S112x16384 : Shape := ⟨2, ![112, 16384]⟩
abbrev S112x5376 : Shape := ⟨2, ![112, 5376]⟩
abbrev S112x512 : Shape := ⟨2, ![112, 512]⟩
abbrev S512x5376 : Shape := ⟨2, ![512, 5376]⟩
abbrev S16x5376 : Shape := ⟨2, ![16, 5376]⟩
abbrev S512x256 : Shape := ⟨2, ![512, 256]⟩
abbrev S8x72x128 : Shape := ⟨3, ![8, 72, 128]⟩
abbrev S8x16x128 : Shape := ⟨3, ![8, 16, 128]⟩
abbrev S3x32x42x16x128 : Shape := ⟨5, ![3, 32, 42, 16, 128]⟩
abbrev S3 : Shape := ⟨1, ![3]⟩
abbrev S1 : Shape := ⟨1, ![1]⟩
abbrev S_ : Shape := ⟨0, ![]⟩
abbrev S1x32x42x8x128 : Shape := ⟨5, ![1, 32, 42, 8, 128]⟩
abbrev S32x42x8x128 : Shape := ⟨4, ![32, 42, 8, 128]⟩
abbrev S32x1x42x8x128 : Shape := ⟨5, ![32, 1, 42, 8, 128]⟩
abbrev S112x128 : Shape := ⟨2, ![112, 128]⟩
abbrev S56x128 : Shape := ⟨2, ![56, 128]⟩
abbrev S112x128x1 : Shape := ⟨3, ![112, 128, 1]⟩
abbrev S1x32x42x16x128 : Shape := ⟨5, ![1, 32, 42, 16, 128]⟩
abbrev S32x42x16x128 : Shape := ⟨4, ![32, 42, 16, 128]⟩
abbrev S1x1x16x128 : Shape := ⟨4, ![1, 1, 16, 128]⟩
abbrev S16x128 : Shape := ⟨2, ![16, 128]⟩
abbrev S8x128 : Shape := ⟨2, ![8, 128]⟩
abbrev S1x72x128 : Shape := ⟨3, ![1, 72, 128]⟩
abbrev S72x128 : Shape := ⟨2, ![72, 128]⟩
abbrev S1x8x128 : Shape := ⟨3, ![1, 8, 128]⟩
abbrev S1x1x128 : Shape := ⟨3, ![1, 1, 128]⟩
abbrev S1x128 : Shape := ⟨2, ![1, 128]⟩
abbrev S32x128 : Shape := ⟨2, ![32, 128]⟩
abbrev S112x256 : Shape := ⟨2, ![112, 256]⟩

abbrev nBuf : Space → Nat
  | .hbm => 10
  | .vmem => 16
  | .smem => 0
  | _ => 0

abbrev bufTy : (tb : Table) → Fin (tcTables nBuf tb) → BufTy
  | .hbm, ⟨0, _⟩ => ⟨S112x1x16384, .bf16⟩
  | .hbm, ⟨1, _⟩ => ⟨S16384x5376, .bf16⟩
  | .hbm, ⟨2, _⟩ => ⟨S1024x2x8x42x128, .bf16⟩
  | .hbm, ⟨3, _⟩ => ⟨S1024x2x42x8x128, .bf16⟩
  | .hbm, ⟨4, _⟩ => ⟨S112x16384, .bf16⟩
  | .hbm, ⟨5, _⟩ => ⟨S112x5376, .bf16⟩
  | .hbm, ⟨6, _⟩ => ⟨S112x16384, .fp8e4m3⟩
  | .hbm, ⟨7, _⟩ => ⟨S112x512, .f32⟩
  | .hbm, ⟨8, _⟩ => ⟨S16384x5376, .fp8e4m3⟩
  | .hbm, ⟨9, _⟩ => ⟨S512x5376, .f32⟩
  | .local _ .vmem, ⟨0, _⟩ => ⟨S112x512, .bf16⟩
  | .local _ .vmem, ⟨1, _⟩ => ⟨S112x512, .bf16⟩
  | .local _ .vmem, ⟨2, _⟩ => ⟨S112x5376, .bf16⟩
  | .local _ .vmem, ⟨3, _⟩ => ⟨S112x512, .fp8e4m3⟩
  | .local _ .vmem, ⟨4, _⟩ => ⟨S112x512, .fp8e4m3⟩
  | .local _ .vmem, ⟨5, _⟩ => ⟨S112x512, .f32⟩
  | .local _ .vmem, ⟨6, _⟩ => ⟨S512x5376, .fp8e4m3⟩
  | .local _ .vmem, ⟨7, _⟩ => ⟨S512x5376, .fp8e4m3⟩
  | .local _ .vmem, ⟨8, _⟩ => ⟨S16x5376, .f32⟩
  | .local _ .vmem, ⟨9, _⟩ => ⟨S16x5376, .f32⟩
  | .local _ .vmem, ⟨10, _⟩ => ⟨S112x5376, .f32⟩
  | .local _ .vmem, ⟨11, _⟩ => ⟨S112x512, .bf16⟩
  | .local _ .vmem, ⟨12, _⟩ => ⟨S512x256, .bf16⟩
  | .local _ .vmem, ⟨13, _⟩ => ⟨S8x72x128, .i32⟩
  | .local _ .vmem, ⟨14, _⟩ => ⟨S8x16x128, .i32⟩
  | .local _ .vmem, ⟨15, _⟩ => ⟨S3x32x42x16x128, .bf16⟩
  | _, _ => ⟨S112x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![32], ![false]⟩

def k0_cond2 (i : grid0.Coords) : BitVec 1 :=
  let arg0 : BitVec 32 := BitVec.ofNat 32 (i 0).val
  let c2_i32 : BitVec 32 := 2#32
  let v3 : BitVec 32 := Scalar.addi arg0 c2_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c2_i32_58 : BitVec 32 := 2#32
  let v102 : BitVec 32 := Scalar.addi arg0 c2_i32_58
  let c3_i32_59 : BitVec 32 := 3#32
  let c0_i32_60 : BitVec 32 := 0#32
  let v103 : BitVec 1 := Scalar.cmpi .eq c3_i32_59 c0_i32_60
  let c1_i32_61 : BitVec 32 := 1#32
  let v104 : BitVec 32 := Scalar.select v103 c1_i32_61 c3_i32_59
  let v105 : BitVec 32 := Scalar.remsi v102 v104
  let c0_i32_63 : BitVec 32 := 0#32
  let v107 : BitVec 1 := Scalar.cmpi .slt v105 c0_i32_63
  let c0_i32_64 : BitVec 32 := 0#32
  let v108 : BitVec 1 := Scalar.cmpi .slt v104 c0_i32_64
  let v109 : BitVec 1 := Scalar.xori v107 v108
  let c0_i32_62 : BitVec 32 := 0#32
  let v106 : BitVec 1 := Scalar.cmpi .ne v105 c0_i32_62
  let v110 : BitVec 1 := Scalar.andi v109 v106
  let v111 : BitVec 32 := Scalar.addi v105 v104
  let v112 : BitVec 32 := Scalar.select v110 v111 v105
  ![v112.toNat]
def k0_off2 (i : grid0.Coords) : Fin 5 → Nat :=
  let arg0 : BitVec 32 := BitVec.ofNat 32 (i 0).val
  let c2_i32_58 : BitVec 32 := 2#32
  let v102 : BitVec 32 := Scalar.addi arg0 c2_i32_58
  let c3_i32_59 : BitVec 32 := 3#32
  let c0_i32_60 : BitVec 32 := 0#32
  let v103 : BitVec 1 := Scalar.cmpi .eq c3_i32_59 c0_i32_60
  let c1_i32_61 : BitVec 32 := 1#32
  let v104 : BitVec 32 := Scalar.select v103 c1_i32_61 c3_i32_59
  let v105 : BitVec 32 := Scalar.remsi v102 v104
  let c0_i32_63 : BitVec 32 := 0#32
  let v107 : BitVec 1 := Scalar.cmpi .slt v105 c0_i32_63
  let c0_i32_64 : BitVec 32 := 0#32
  let v108 : BitVec 1 := Scalar.cmpi .slt v104 c0_i32_64
  let v109 : BitVec 1 := Scalar.xori v107 v108
  let c0_i32_62 : BitVec 32 := 0#32
  let v106 : BitVec 1 := Scalar.cmpi .ne v105 c0_i32_62
  let v110 : BitVec 1 := Scalar.andi v109 v106
  let v111 : BitVec 32 := Scalar.addi v105 v104
  let v112 : BitVec 32 := Scalar.select v110 v111 v105
  let c0_i32_67 : BitVec 32 := 0#32
  let c0_i32_68 : BitVec 32 := 0#32
  let c0_i32_69 : BitVec 32 := 0#32
  let c0_i32_70 : BitVec 32 := 0#32
  ![v112.toNat, 0, 0, 0, 0]
def k0_off3 (i : grid0.Coords) : Fin 5 → Nat :=
  let arg0 : BitVec 32 := BitVec.ofNat 32 (i 0).val
  let c2_i32_58 : BitVec 32 := 2#32
  let v102 : BitVec 32 := Scalar.addi arg0 c2_i32_58
  let c32_i32_65 : BitVec 32 := 32#32
  let v113 : BitVec 32 := Scalar.muli v102 c32_i32_65
  let c0_i32_66 : BitVec 32 := 0#32
  let c0_i32_71 : BitVec 32 := 0#32
  let c0_i32_72 : BitVec 32 := 0#32
  let c0_i32_73 : BitVec 32 := 0#32
  ![v113.toNat, 0, 0, 0, 0]
def k0_off4 (i : grid0.Coords) : Fin 5 → Nat :=
  let arg0 : BitVec 32 := BitVec.ofNat 32 (i 0).val
  let c2_i32_58 : BitVec 32 := 2#32
  let v102 : BitVec 32 := Scalar.addi arg0 c2_i32_58
  let c3_i32_59 : BitVec 32 := 3#32
  let c0_i32_60 : BitVec 32 := 0#32
  let v103 : BitVec 1 := Scalar.cmpi .eq c3_i32_59 c0_i32_60
  let c1_i32_61 : BitVec 32 := 1#32
  let v104 : BitVec 32 := Scalar.select v103 c1_i32_61 c3_i32_59
  let v105 : BitVec 32 := Scalar.remsi v102 v104
  let c0_i32_63 : BitVec 32 := 0#32
  let v107 : BitVec 1 := Scalar.cmpi .slt v105 c0_i32_63
  let c0_i32_64 : BitVec 32 := 0#32
  let v108 : BitVec 1 := Scalar.cmpi .slt v104 c0_i32_64
  let v109 : BitVec 1 := Scalar.xori v107 v108
  let c0_i32_62 : BitVec 32 := 0#32
  let v106 : BitVec 1 := Scalar.cmpi .ne v105 c0_i32_62
  let v110 : BitVec 1 := Scalar.andi v109 v106
  let v111 : BitVec 32 := Scalar.addi v105 v104
  let v112 : BitVec 32 := Scalar.select v110 v111 v105
  let c0_i32_75 : BitVec 32 := 0#32
  let c0_i32_76 : BitVec 32 := 0#32
  let c8_i32_77 : BitVec 32 := 8#32
  let c0_i32_78 : BitVec 32 := 0#32
  ![v112.toNat, 0, 0, 8, 0]
def k0_off5 (i : grid0.Coords) : Fin 5 → Nat :=
  let arg0 : BitVec 32 := BitVec.ofNat 32 (i 0).val
  let c2_i32_58 : BitVec 32 := 2#32
  let v102 : BitVec 32 := Scalar.addi arg0 c2_i32_58
  let c32_i32_65 : BitVec 32 := 32#32
  let v113 : BitVec 32 := Scalar.muli v102 c32_i32_65
  let c1_i32_74 : BitVec 32 := 1#32
  let c0_i32_79 : BitVec 32 := 0#32
  let c0_i32_80 : BitVec 32 := 0#32
  let c0_i32_81 : BitVec 32 := 0#32
  ![v113.toNat, 1, 0, 0, 0]
def k0_mult1 (i : grid0.Coords) : BitVec 32 :=
  let arg0 : BitVec 32 := BitVec.ofNat 32 (i 0).val
  let c0_i32_7 : BitVec 32 := 0#32
  let v29 : BitVec 1 := Scalar.cmpi .sgt arg0 c0_i32_7
  let v30 : BitVec 32 := Scalar.extui v29
  let c0_i32_8 : BitVec 32 := 0#32
  let v31 : BitVec 1 := Scalar.cmpi .slt arg0 c0_i32_8
  let v32 : BitVec 32 := Scalar.extui v31
  let v33 : BitVec 32 := Scalar.subi v30 v32
  let c8_i32 : BitVec 32 := 8#32
  let c0_i32_9 : BitVec 32 := 0#32
  let v34 : BitVec 1 := Scalar.cmpi .sgt c8_i32 c0_i32_9
  let v35 : BitVec 32 := Scalar.extui v34
  let c0_i32_10 : BitVec 32 := 0#32
  let v36 : BitVec 1 := Scalar.cmpi .slt c8_i32 c0_i32_10
  let v37 : BitVec 32 := Scalar.extui v36
  let v38 : BitVec 32 := Scalar.subi v35 v37
  let v39 : BitVec 1 := Scalar.cmpi .ne v33 v38
  let v40 : BitVec 32 := Scalar.remsi arg0 c8_i32
  let c0_i32_11 : BitVec 32 := 0#32
  let v41 : BitVec 1 := Scalar.cmpi .ne v40 c0_i32_11
  let v42 : BitVec 1 := Scalar.andi v39 v41
  let v28 : BitVec 32 := Scalar.divsi arg0 c8_i32
  let c1_i32_12 : BitVec 32 := 1#32
  let v43 : BitVec 32 := Scalar.subi v28 c1_i32_12
  let v44 : BitVec 32 := Scalar.select v42 v43 v28
  let c128_i32 : BitVec 32 := 128#32
  let v45 : BitVec 32 := Scalar.muli v44 c128_i32
  v45
def k0_off6 (i : grid0.Coords) : Fin 2 → Nat :=
  let c0 : Index := 0#32
  let arg0 : BitVec 32 := BitVec.ofNat 32 (i 0).val
  let c0_i32_7 : BitVec 32 := 0#32
  let v29 : BitVec 1 := Scalar.cmpi .sgt arg0 c0_i32_7
  let v30 : BitVec 32 := Scalar.extui v29
  let c0_i32_8 : BitVec 32 := 0#32
  let v31 : BitVec 1 := Scalar.cmpi .slt arg0 c0_i32_8
  let v32 : BitVec 32 := Scalar.extui v31
  let v33 : BitVec 32 := Scalar.subi v30 v32
  let c8_i32 : BitVec 32 := 8#32
  let c0_i32_9 : BitVec 32 := 0#32
  let v34 : BitVec 1 := Scalar.cmpi .sgt c8_i32 c0_i32_9
  let v35 : BitVec 32 := Scalar.extui v34
  let c0_i32_10 : BitVec 32 := 0#32
  let v36 : BitVec 1 := Scalar.cmpi .slt c8_i32 c0_i32_10
  let v37 : BitVec 32 := Scalar.extui v36
  let v38 : BitVec 32 := Scalar.subi v35 v37
  let v39 : BitVec 1 := Scalar.cmpi .ne v33 v38
  let v40 : BitVec 32 := Scalar.remsi arg0 c8_i32
  let c0_i32_11 : BitVec 32 := 0#32
  let v41 : BitVec 1 := Scalar.cmpi .ne v40 c0_i32_11
  let v42 : BitVec 1 := Scalar.andi v39 v41
  let v28 : BitVec 32 := Scalar.divsi arg0 c8_i32
  let c1_i32_12 : BitVec 32 := 1#32
  let v43 : BitVec 32 := Scalar.subi v28 c1_i32_12
  let v44 : BitVec 32 := Scalar.select v42 v43 v28
  let c128_i32 : BitVec 32 := 128#32
  let v45 : BitVec 32 := Scalar.muli v44 c128_i32
  let v46 : BitVec 32 := v45
  let v58 : Index := Scalar.indexCast v46
  ![0, v58.toNat]
@[reducible] def k0_t1_loop : Scf.Loop 32 :=
  let c0_i32_20 : BitVec 32 := 0#32
  let c4_i32_21 : BitVec 32 := 4#32
  let v61 : BitVec 32 := Scalar.addi c0_i32_20 c4_i32_21
  let c1_i32_22 : BitVec 32 := 1#32
  ⟨c0_i32_20, v61, c1_i32_22⟩
def k0_mult2 (k0_t1 : Fin k0_t1_loop.trips) : BitVec 32 :=
  let c0_i32_20 : BitVec 32 := 0#32
  let c1_i32_22 : BitVec 32 := 1#32
  let arg15 : BitVec 32 := Scf.iv c0_i32_20 c1_i32_22 k0_t1
  let c128_i32_58 : BitVec 32 := 128#32
  let v102 : BitVec 32 := Scalar.muli arg15 c128_i32_58
  v102
def k0_off7 (k0_t1 : Fin k0_t1_loop.trips) : Fin 2 → Nat :=
  let c0_59 : Index := 0#32
  let c0_i32_20 : BitVec 32 := 0#32
  let c1_i32_22 : BitVec 32 := 1#32
  let arg15 : BitVec 32 := Scf.iv c0_i32_20 c1_i32_22 k0_t1
  let c128_i32_58 : BitVec 32 := 128#32
  let v102 : BitVec 32 := Scalar.muli arg15 c128_i32_58
  let v103 : BitVec 32 := v102
  let v104 : Index := Scalar.indexCast v103
  ![0, v104.toNat]
def k0_off8 (i : grid0.Coords) : Fin 1 → Nat :=
  let arg0 : BitVec 32 := BitVec.ofNat 32 (i 0).val
  let c3_i32 : BitVec 32 := 3#32
  let c0_i32_25 : BitVec 32 := 0#32
  let v65 : BitVec 1 := Scalar.cmpi .eq c3_i32 c0_i32_25
  let c1_i32_26 : BitVec 32 := 1#32
  let v66 : BitVec 32 := Scalar.select v65 c1_i32_26 c3_i32
  let v67 : BitVec 32 := Scalar.remsi arg0 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  ![v74.toNat]
def k0_off9 (i : grid0.Coords) : Fin 5 → Nat :=
  let arg0 : BitVec 32 := BitVec.ofNat 32 (i 0).val
  let c3_i32 : BitVec 32 := 3#32
  let c0_i32_25 : BitVec 32 := 0#32
  let v65 : BitVec 1 := Scalar.cmpi .eq c3_i32 c0_i32_25
  let c1_i32_26 : BitVec 32 := 1#32
  let v66 : BitVec 32 := Scalar.select v65 c1_i32_26 c3_i32
  let v67 : BitVec 32 := Scalar.remsi arg0 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let c0_i32_32 : BitVec 32 := 0#32
  let c0_i32_33 : BitVec 32 := 0#32
  let c0_i32_34 : BitVec 32 := 0#32
  let c0_i32_35 : BitVec 32 := 0#32
  ![v74.toNat, 0, 0, 0, 0]
def k0_off10 (i : grid0.Coords) : Fin 5 → Nat :=
  let arg0 : BitVec 32 := BitVec.ofNat 32 (i 0).val
  let c32_i32_30 : BitVec 32 := 32#32
  let v75 : BitVec 32 := Scalar.muli arg0 c32_i32_30
  let c0_i32_31 : BitVec 32 := 0#32
  let c0_i32_36 : BitVec 32 := 0#32
  let c0_i32_37 : BitVec 32 := 0#32
  let c0_i32_38 : BitVec 32 := 0#32
  ![v75.toNat, 0, 0, 0, 0]
def k0_off11 (i : grid0.Coords) : Fin 5 → Nat :=
  let arg0 : BitVec 32 := BitVec.ofNat 32 (i 0).val
  let c3_i32 : BitVec 32 := 3#32
  let c0_i32_25 : BitVec 32 := 0#32
  let v65 : BitVec 1 := Scalar.cmpi .eq c3_i32 c0_i32_25
  let c1_i32_26 : BitVec 32 := 1#32
  let v66 : BitVec 32 := Scalar.select v65 c1_i32_26 c3_i32
  let v67 : BitVec 32 := Scalar.remsi arg0 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let c0_i32_40 : BitVec 32 := 0#32
  let c0_i32_41 : BitVec 32 := 0#32
  let c8_i32_42 : BitVec 32 := 8#32
  let c0_i32_43 : BitVec 32 := 0#32
  ![v74.toNat, 0, 0, 8, 0]
def k0_off12 (i : grid0.Coords) : Fin 5 → Nat :=
  let arg0 : BitVec 32 := BitVec.ofNat 32 (i 0).val
  let c32_i32_30 : BitVec 32 := 32#32
  let v75 : BitVec 32 := Scalar.muli arg0 c32_i32_30
  let c1_i32_39 : BitVec 32 := 1#32
  let c0_i32_44 : BitVec 32 := 0#32
  let c0_i32_45 : BitVec 32 := 0#32
  let c0_i32_46 : BitVec 32 := 0#32
  ![v75.toNat, 1, 0, 0, 0]
@[reducible] def k0_t2_loop : Scf.Loop 32 :=
  let c0_i32_53 : BitVec 32 := 0#32
  let c21_i32 : BitVec 32 := 21#32
  let v98 : BitVec 32 := Scalar.addi c0_i32_53 c21_i32
  let c1_i32_54 : BitVec 32 := 1#32
  ⟨c0_i32_53, v98, c1_i32_54⟩
def k0_mult3 (k0_t2 : Fin k0_t2_loop.trips) : BitVec 32 :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  v104
@[reducible] def k0_t3_loop : Scf.Loop 32 :=
  let c0_i32_60 : BitVec 32 := 0#32
  let c4_i32_61 : BitVec 32 := 4#32
  let v106 : BitVec 32 := Scalar.addi c0_i32_60 c4_i32_61
  let c1_i32_62 : BitVec 32 := 1#32
  ⟨c0_i32_60, v106, c1_i32_62⟩
def k0_mult4 (k0_t3 : Fin k0_t3_loop.trips) : BitVec 32 :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  v136
def k0_mult5 (k0_t3 : Fin k0_t3_loop.trips) : BitVec 32 :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  v148
def k0_mult6 (k0_t2 : Fin k0_t2_loop.trips) (k0_t3 : Fin k0_t3_loop.trips) : BitVec 32 :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  let v105 : BitVec 32 := v104
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  let v137 : BitVec 32 := v136
  let v162 : BitVec 32 := Scalar.addi v105 v137
  v162
@[reducible] def k0_t4_loop : Scf.Loop 32 :=
  let c0_i32_94 : BitVec 32 := 0#32
  let c8_i32_95 : BitVec 32 := 8#32
  let v164 : BitVec 32 := Scalar.addi c0_i32_94 c8_i32_95
  let c1_i32_96 : BitVec 32 := 1#32
  ⟨c0_i32_94, v164, c1_i32_96⟩
def k0_off13 (i : grid0.Coords) : Fin 5 → Nat :=
  let arg0 : BitVec 32 := BitVec.ofNat 32 (i 0).val
  let c3_i32_47 : BitVec 32 := 3#32
  let c0_i32_48 : BitVec 32 := 0#32
  let v88 : BitVec 1 := Scalar.cmpi .eq c3_i32_47 c0_i32_48
  let c1_i32_49 : BitVec 32 := 1#32
  let v89 : BitVec 32 := Scalar.select v88 c1_i32_49 c3_i32_47
  let v90 : BitVec 32 := Scalar.remsi arg0 v89
  let c0_i32_51 : BitVec 32 := 0#32
  let v92 : BitVec 1 := Scalar.cmpi .slt v90 c0_i32_51
  let c0_i32_52 : BitVec 32 := 0#32
  let v93 : BitVec 1 := Scalar.cmpi .slt v89 c0_i32_52
  let v94 : BitVec 1 := Scalar.xori v92 v93
  let c0_i32_50 : BitVec 32 := 0#32
  let v91 : BitVec 1 := Scalar.cmpi .ne v90 c0_i32_50
  let v95 : BitVec 1 := Scalar.andi v94 v91
  let v96 : BitVec 32 := Scalar.addi v90 v89
  let v97 : BitVec 32 := Scalar.select v95 v96 v90
  let c0_i32_162 : BitVec 32 := 0#32
  let c0_i32_163 : BitVec 32 := 0#32
  let c0_i32_164 : BitVec 32 := 0#32
  let c0_i32_165 : BitVec 32 := 0#32
  ![v97.toNat, 0, 0, 0, 0]
def k0_off14 (k0_t2 : Fin k0_t2_loop.trips) (k0_t3 : Fin k0_t3_loop.trips) (k0_t4 : Fin k0_t4_loop.trips) : Fin 4 → Nat :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_146 : BitVec 32 := 0#32
  let c0_i32_94 : BitVec 32 := 0#32
  let c1_i32_96 : BitVec 32 := 1#32
  let arg17 : BitVec 32 := Scf.iv c0_i32_94 c1_i32_96 k0_t4
  let c1_i32_145 : BitVec 32 := 1#32
  let v325 : BitVec 32 := Scalar.muli arg17 c1_i32_145
  let v326 : BitVec 32 := Scalar.addi c0_i32_146 v325
  let c32_i32_147 : BitVec 32 := 32#32
  let v327 : BitVec 32 := Scalar.muli v326 c32_i32_147
  let v328 : BitVec 32 := Scalar.addi v149 v327
  let c0_i32_149 : BitVec 32 := 0#32
  let v330 : BitVec 1 := Scalar.cmpi .sgt v328 c0_i32_149
  let v331 : BitVec 32 := Scalar.extui v330
  let c0_i32_150 : BitVec 32 := 0#32
  let v332 : BitVec 1 := Scalar.cmpi .slt v328 c0_i32_150
  let v333 : BitVec 32 := Scalar.extui v332
  let v334 : BitVec 32 := Scalar.subi v331 v333
  let c16_i32_148 : BitVec 32 := 16#32
  let c0_i32_151 : BitVec 32 := 0#32
  let v335 : BitVec 1 := Scalar.cmpi .sgt c16_i32_148 c0_i32_151
  let v336 : BitVec 32 := Scalar.extui v335
  let c0_i32_152 : BitVec 32 := 0#32
  let v337 : BitVec 1 := Scalar.cmpi .slt c16_i32_148 c0_i32_152
  let v338 : BitVec 32 := Scalar.extui v337
  let v339 : BitVec 32 := Scalar.subi v336 v338
  let v340 : BitVec 1 := Scalar.cmpi .ne v334 v339
  let v341 : BitVec 32 := Scalar.remsi v328 c16_i32_148
  let c0_i32_153 : BitVec 32 := 0#32
  let v342 : BitVec 1 := Scalar.cmpi .ne v341 c0_i32_153
  let v343 : BitVec 1 := Scalar.andi v340 v342
  let v329 : BitVec 32 := Scalar.divsi v328 c16_i32_148
  let c1_i32_154 : BitVec 32 := 1#32
  let v344 : BitVec 32 := Scalar.subi v329 c1_i32_154
  let v345 : BitVec 32 := Scalar.select v343 v344 v329
  let v365 : Index := Scalar.indexCast v345
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  let v105 : BitVec 32 := v104
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  let v137 : BitVec 32 := v136
  let v162 : BitVec 32 := Scalar.addi v105 v137
  let v163 : BitVec 32 := v162
  let c0_i32_156 : BitVec 32 := 0#32
  let v347 : BitVec 1 := Scalar.cmpi .sgt v163 c0_i32_156
  let v348 : BitVec 32 := Scalar.extui v347
  let c0_i32_157 : BitVec 32 := 0#32
  let v349 : BitVec 1 := Scalar.cmpi .slt v163 c0_i32_157
  let v350 : BitVec 32 := Scalar.extui v349
  let v351 : BitVec 32 := Scalar.subi v348 v350
  let c128_i32_155 : BitVec 32 := 128#32
  let c0_i32_158 : BitVec 32 := 0#32
  let v352 : BitVec 1 := Scalar.cmpi .sgt c128_i32_155 c0_i32_158
  let v353 : BitVec 32 := Scalar.extui v352
  let c0_i32_159 : BitVec 32 := 0#32
  let v354 : BitVec 1 := Scalar.cmpi .slt c128_i32_155 c0_i32_159
  let v355 : BitVec 32 := Scalar.extui v354
  let v356 : BitVec 32 := Scalar.subi v353 v355
  let v357 : BitVec 1 := Scalar.cmpi .ne v351 v356
  let v358 : BitVec 32 := Scalar.remsi v163 c128_i32_155
  let c0_i32_160 : BitVec 32 := 0#32
  let v359 : BitVec 1 := Scalar.cmpi .ne v358 c0_i32_160
  let v360 : BitVec 1 := Scalar.andi v357 v359
  let v346 : BitVec 32 := Scalar.divsi v163 c128_i32_155
  let c1_i32_161 : BitVec 32 := 1#32
  let v361 : BitVec 32 := Scalar.subi v346 c1_i32_161
  let v362 : BitVec 32 := Scalar.select v360 v361 v346
  let v366 : Index := Scalar.indexCast v362
  let c0_166 : Index := 0#32
  let c0_167 : Index := 0#32
  ![v365.toNat, v366.toNat, 0, 0]
def k0_off15 (k0_t2 : Fin k0_t2_loop.trips) (k0_t3 : Fin k0_t3_loop.trips) (k0_t4 : Fin k0_t4_loop.trips) : Fin 4 → Nat :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_146 : BitVec 32 := 0#32
  let c0_i32_94 : BitVec 32 := 0#32
  let c1_i32_96 : BitVec 32 := 1#32
  let arg17 : BitVec 32 := Scf.iv c0_i32_94 c1_i32_96 k0_t4
  let c1_i32_145 : BitVec 32 := 1#32
  let v325 : BitVec 32 := Scalar.muli arg17 c1_i32_145
  let v326 : BitVec 32 := Scalar.addi c0_i32_146 v325
  let c32_i32_147 : BitVec 32 := 32#32
  let v327 : BitVec 32 := Scalar.muli v326 c32_i32_147
  let v328 : BitVec 32 := Scalar.addi v149 v327
  let c16_i32_168 : BitVec 32 := 16#32
  let v372 : BitVec 32 := Scalar.addi v328 c16_i32_168
  let c0_i32_170 : BitVec 32 := 0#32
  let v374 : BitVec 1 := Scalar.cmpi .sgt v372 c0_i32_170
  let v375 : BitVec 32 := Scalar.extui v374
  let c0_i32_171 : BitVec 32 := 0#32
  let v376 : BitVec 1 := Scalar.cmpi .slt v372 c0_i32_171
  let v377 : BitVec 32 := Scalar.extui v376
  let v378 : BitVec 32 := Scalar.subi v375 v377
  let c16_i32_169 : BitVec 32 := 16#32
  let c0_i32_172 : BitVec 32 := 0#32
  let v379 : BitVec 1 := Scalar.cmpi .sgt c16_i32_169 c0_i32_172
  let v380 : BitVec 32 := Scalar.extui v379
  let c0_i32_173 : BitVec 32 := 0#32
  let v381 : BitVec 1 := Scalar.cmpi .slt c16_i32_169 c0_i32_173
  let v382 : BitVec 32 := Scalar.extui v381
  let v383 : BitVec 32 := Scalar.subi v380 v382
  let v384 : BitVec 1 := Scalar.cmpi .ne v378 v383
  let v385 : BitVec 32 := Scalar.remsi v372 c16_i32_169
  let c0_i32_174 : BitVec 32 := 0#32
  let v386 : BitVec 1 := Scalar.cmpi .ne v385 c0_i32_174
  let v387 : BitVec 1 := Scalar.andi v384 v386
  let v373 : BitVec 32 := Scalar.divsi v372 c16_i32_169
  let c1_i32_175 : BitVec 32 := 1#32
  let v388 : BitVec 32 := Scalar.subi v373 c1_i32_175
  let v389 : BitVec 32 := Scalar.select v387 v388 v373
  let v409 : Index := Scalar.indexCast v389
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  let v105 : BitVec 32 := v104
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  let v137 : BitVec 32 := v136
  let v162 : BitVec 32 := Scalar.addi v105 v137
  let v163 : BitVec 32 := v162
  let c0_i32_177 : BitVec 32 := 0#32
  let v391 : BitVec 1 := Scalar.cmpi .sgt v163 c0_i32_177
  let v392 : BitVec 32 := Scalar.extui v391
  let c0_i32_178 : BitVec 32 := 0#32
  let v393 : BitVec 1 := Scalar.cmpi .slt v163 c0_i32_178
  let v394 : BitVec 32 := Scalar.extui v393
  let v395 : BitVec 32 := Scalar.subi v392 v394
  let c128_i32_176 : BitVec 32 := 128#32
  let c0_i32_179 : BitVec 32 := 0#32
  let v396 : BitVec 1 := Scalar.cmpi .sgt c128_i32_176 c0_i32_179
  let v397 : BitVec 32 := Scalar.extui v396
  let c0_i32_180 : BitVec 32 := 0#32
  let v398 : BitVec 1 := Scalar.cmpi .slt c128_i32_176 c0_i32_180
  let v399 : BitVec 32 := Scalar.extui v398
  let v400 : BitVec 32 := Scalar.subi v397 v399
  let v401 : BitVec 1 := Scalar.cmpi .ne v395 v400
  let v402 : BitVec 32 := Scalar.remsi v163 c128_i32_176
  let c0_i32_181 : BitVec 32 := 0#32
  let v403 : BitVec 1 := Scalar.cmpi .ne v402 c0_i32_181
  let v404 : BitVec 1 := Scalar.andi v401 v403
  let v390 : BitVec 32 := Scalar.divsi v163 c128_i32_176
  let c1_i32_182 : BitVec 32 := 1#32
  let v405 : BitVec 32 := Scalar.subi v390 c1_i32_182
  let v406 : BitVec 32 := Scalar.select v404 v405 v390
  let v410 : Index := Scalar.indexCast v406
  let c0_187 : Index := 0#32
  let c0_188 : Index := 0#32
  ![v409.toNat, v410.toNat, 0, 0]
def k0_off16 (k0_t2 : Fin k0_t2_loop.trips) (k0_t3 : Fin k0_t3_loop.trips) : Fin 3 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let c0_i32_189 : BitVec 32 := 0#32
  let c0_i32_190 : BitVec 32 := 0#32
  ![v161.toNat, 0, 0]
def k0_off17 (k0_t4 : Fin k0_t4_loop.trips) : Fin 2 → Nat :=
  let c0_i32_146 : BitVec 32 := 0#32
  let c0_i32_94 : BitVec 32 := 0#32
  let c1_i32_96 : BitVec 32 := 1#32
  let arg17 : BitVec 32 := Scf.iv c0_i32_94 c1_i32_96 k0_t4
  let c1_i32_145 : BitVec 32 := 1#32
  let v325 : BitVec 32 := Scalar.muli arg17 c1_i32_145
  let v326 : BitVec 32 := Scalar.addi c0_i32_146 v325
  let v420 : Index := Scalar.indexCast v326
  let c0_191 : Index := 0#32
  ![v420.toNat, 0]
def k0_off18 (k0_t2 : Fin k0_t2_loop.trips) (k0_t3 : Fin k0_t3_loop.trips) : Fin 3 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v165 : Index := Scalar.indexCast v161
  let c0_98 : Index := 0#32
  let c0_99 : Index := 0#32
  ![v165.toNat, 0, 0]
def k0_off19 (k0_t2 : Fin k0_t2_loop.trips) (k0_t3 : Fin k0_t3_loop.trips) : Fin 3 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v169 : Index := Scalar.indexCast v161
  let c9 : Index := 9#32
  let c0_100 : Index := 0#32
  ![v169.toNat, 9, 0]
def k0_off20 (k0_t2 : Fin k0_t2_loop.trips) (k0_t3 : Fin k0_t3_loop.trips) : Fin 3 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v173 : Index := Scalar.indexCast v161
  let c18 : Index := 18#32
  let c0_101 : Index := 0#32
  ![v173.toNat, 18, 0]
def k0_off21 (k0_t2 : Fin k0_t2_loop.trips) (k0_t3 : Fin k0_t3_loop.trips) : Fin 3 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v177 : Index := Scalar.indexCast v161
  let c27 : Index := 27#32
  let c0_102 : Index := 0#32
  ![v177.toNat, 27, 0]
def k0_off22 (k0_t2 : Fin k0_t2_loop.trips) (k0_t3 : Fin k0_t3_loop.trips) : Fin 3 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v181 : Index := Scalar.indexCast v161
  let c36 : Index := 36#32
  let c0_103 : Index := 0#32
  ![v181.toNat, 36, 0]
def k0_off23 (k0_t2 : Fin k0_t2_loop.trips) (k0_t3 : Fin k0_t3_loop.trips) : Fin 3 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v185 : Index := Scalar.indexCast v161
  let c45 : Index := 45#32
  let c0_104 : Index := 0#32
  ![v185.toNat, 45, 0]
def k0_off24 (k0_t2 : Fin k0_t2_loop.trips) (k0_t3 : Fin k0_t3_loop.trips) : Fin 3 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v189 : Index := Scalar.indexCast v161
  let c54 : Index := 54#32
  let c0_105 : Index := 0#32
  ![v189.toNat, 54, 0]
def k0_off25 (k0_t2 : Fin k0_t2_loop.trips) (k0_t3 : Fin k0_t3_loop.trips) : Fin 3 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v193 : Index := Scalar.indexCast v161
  let c63 : Index := 63#32
  let c0_106 : Index := 0#32
  ![v193.toNat, 63, 0]
def k0_mult7 (k0_t3 : Fin k0_t3_loop.trips) : BitVec 32 :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_127 : BitVec 32 := 0#32
  let v286 : BitVec 1 := Scalar.cmpi .sgt v149 c0_i32_127
  let v287 : BitVec 32 := Scalar.extui v286
  let c0_i32_128 : BitVec 32 := 0#32
  let v288 : BitVec 1 := Scalar.cmpi .slt v149 c0_i32_128
  let v289 : BitVec 32 := Scalar.extui v288
  let v290 : BitVec 32 := Scalar.subi v287 v289
  let c32_i32_126 : BitVec 32 := 32#32
  let c0_i32_129 : BitVec 32 := 0#32
  let v291 : BitVec 1 := Scalar.cmpi .sgt c32_i32_126 c0_i32_129
  let v292 : BitVec 32 := Scalar.extui v291
  let c0_i32_130 : BitVec 32 := 0#32
  let v293 : BitVec 1 := Scalar.cmpi .slt c32_i32_126 c0_i32_130
  let v294 : BitVec 32 := Scalar.extui v293
  let v295 : BitVec 32 := Scalar.subi v292 v294
  let v296 : BitVec 1 := Scalar.cmpi .ne v290 v295
  let v297 : BitVec 32 := Scalar.remsi v149 c32_i32_126
  let c0_i32_131 : BitVec 32 := 0#32
  let v298 : BitVec 1 := Scalar.cmpi .ne v297 c0_i32_131
  let v299 : BitVec 1 := Scalar.andi v296 v298
  let v285 : BitVec 32 := Scalar.divsi v149 c32_i32_126
  let c1_i32_132 : BitVec 32 := 1#32
  let v300 : BitVec 32 := Scalar.subi v285 c1_i32_132
  let v301 : BitVec 32 := Scalar.select v299 v300 v285
  v301
def k0_off26 (k0_t2 : Fin k0_t2_loop.trips) (k0_t3 : Fin k0_t3_loop.trips) : Fin 2 → Nat :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_127 : BitVec 32 := 0#32
  let v286 : BitVec 1 := Scalar.cmpi .sgt v149 c0_i32_127
  let v287 : BitVec 32 := Scalar.extui v286
  let c0_i32_128 : BitVec 32 := 0#32
  let v288 : BitVec 1 := Scalar.cmpi .slt v149 c0_i32_128
  let v289 : BitVec 32 := Scalar.extui v288
  let v290 : BitVec 32 := Scalar.subi v287 v289
  let c32_i32_126 : BitVec 32 := 32#32
  let c0_i32_129 : BitVec 32 := 0#32
  let v291 : BitVec 1 := Scalar.cmpi .sgt c32_i32_126 c0_i32_129
  let v292 : BitVec 32 := Scalar.extui v291
  let c0_i32_130 : BitVec 32 := 0#32
  let v293 : BitVec 1 := Scalar.cmpi .slt c32_i32_126 c0_i32_130
  let v294 : BitVec 32 := Scalar.extui v293
  let v295 : BitVec 32 := Scalar.subi v292 v294
  let v296 : BitVec 1 := Scalar.cmpi .ne v290 v295
  let v297 : BitVec 32 := Scalar.remsi v149 c32_i32_126
  let c0_i32_131 : BitVec 32 := 0#32
  let v298 : BitVec 1 := Scalar.cmpi .ne v297 c0_i32_131
  let v299 : BitVec 1 := Scalar.andi v296 v298
  let v285 : BitVec 32 := Scalar.divsi v149 c32_i32_126
  let c1_i32_132 : BitVec 32 := 1#32
  let v300 : BitVec 32 := Scalar.subi v285 c1_i32_132
  let v301 : BitVec 32 := Scalar.select v299 v300 v285
  let v302 : BitVec 32 := v301
  let v303 : Index := Scalar.indexCast v302
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  let v105 : BitVec 32 := v104
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  let v137 : BitVec 32 := v136
  let v162 : BitVec 32 := Scalar.addi v105 v137
  let v163 : BitVec 32 := v162
  let v304 : Index := Scalar.indexCast v163
  ![v303.toNat, v304.toNat]
def k0_off27 (k0_t2 : Fin k0_t2_loop.trips) (k0_t3 : Fin k0_t3_loop.trips) : Fin 3 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v311 : Index := Scalar.indexCast v161
  let c0_135 : Index := 0#32
  let c0_136 : Index := 0#32
  ![v311.toNat, 0, 0]
def k0_off28 (k0_t2 : Fin k0_t2_loop.trips) (k0_t3 : Fin k0_t3_loop.trips) : Fin 3 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v320 : Index := Scalar.indexCast v161
  let c8 : Index := 8#32
  let c0_139 : Index := 0#32
  ![v320.toNat, 8, 0]
@[reducible] def k0_t5_loop : Scf.Loop 32 :=
  let c0_i32_141 : BitVec 32 := 0#32
  let c8_i32_142 : BitVec 32 := 8#32
  let v324 : BitVec 32 := Scalar.addi c0_i32_141 c8_i32_142
  let c1_i32_143 : BitVec 32 := 1#32
  ⟨c0_i32_141, v324, c1_i32_143⟩
def k0_mult8 (k0_t3 : Fin k0_t3_loop.trips) (k0_t5 : Fin k0_t5_loop.trips) : BitVec 32 :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_146 : BitVec 32 := 0#32
  let c0_i32_141 : BitVec 32 := 0#32
  let c1_i32_143 : BitVec 32 := 1#32
  let arg17 : BitVec 32 := Scf.iv c0_i32_141 c1_i32_143 k0_t5
  let c1_i32_145 : BitVec 32 := 1#32
  let v325 : BitVec 32 := Scalar.muli arg17 c1_i32_145
  let v326 : BitVec 32 := Scalar.addi c0_i32_146 v325
  let c32_i32_147 : BitVec 32 := 32#32
  let v327 : BitVec 32 := Scalar.muli v326 c32_i32_147
  let v328 : BitVec 32 := Scalar.addi v149 v327
  v328
def k0_off29 (k0_t2 : Fin k0_t2_loop.trips) (k0_t3 : Fin k0_t3_loop.trips) (k0_t5 : Fin k0_t5_loop.trips) : Fin 3 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v330 : Index := Scalar.indexCast v161
  let c0_i32_146 : BitVec 32 := 0#32
  let c0_i32_141 : BitVec 32 := 0#32
  let c1_i32_143 : BitVec 32 := 1#32
  let arg17 : BitVec 32 := Scf.iv c0_i32_141 c1_i32_143 k0_t5
  let c1_i32_145 : BitVec 32 := 1#32
  let v325 : BitVec 32 := Scalar.muli arg17 c1_i32_145
  let v326 : BitVec 32 := Scalar.addi c0_i32_146 v325
  let v331 : Index := Scalar.indexCast v326
  let c0_148 : Index := 0#32
  ![v330.toNat, v331.toNat, 0]
def k0_off30 (k0_t2 : Fin k0_t2_loop.trips) (k0_t3 : Fin k0_t3_loop.trips) (k0_t5 : Fin k0_t5_loop.trips) : Fin 3 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v338 : Index := Scalar.indexCast v161
  let c8_i32_149 : BitVec 32 := 8#32
  let c0_i32_146 : BitVec 32 := 0#32
  let c0_i32_141 : BitVec 32 := 0#32
  let c1_i32_143 : BitVec 32 := 1#32
  let arg17 : BitVec 32 := Scf.iv c0_i32_141 c1_i32_143 k0_t5
  let c1_i32_145 : BitVec 32 := 1#32
  let v325 : BitVec 32 := Scalar.muli arg17 c1_i32_145
  let v326 : BitVec 32 := Scalar.addi c0_i32_146 v325
  let v337 : BitVec 32 := Scalar.addi c8_i32_149 v326
  let v339 : Index := Scalar.indexCast v337
  let c0_150 : Index := 0#32
  ![v338.toNat, v339.toNat, 0]
def k0_off31 (i : grid0.Coords) : Fin 5 → Nat :=
  let arg0 : BitVec 32 := BitVec.ofNat 32 (i 0).val
  let c3_i32_47 : BitVec 32 := 3#32
  let c0_i32_48 : BitVec 32 := 0#32
  let v88 : BitVec 1 := Scalar.cmpi .eq c3_i32_47 c0_i32_48
  let c1_i32_49 : BitVec 32 := 1#32
  let v89 : BitVec 32 := Scalar.select v88 c1_i32_49 c3_i32_47
  let v90 : BitVec 32 := Scalar.remsi arg0 v89
  let c0_i32_51 : BitVec 32 := 0#32
  let v92 : BitVec 1 := Scalar.cmpi .slt v90 c0_i32_51
  let c0_i32_52 : BitVec 32 := 0#32
  let v93 : BitVec 1 := Scalar.cmpi .slt v89 c0_i32_52
  let v94 : BitVec 1 := Scalar.xori v92 v93
  let c0_i32_50 : BitVec 32 := 0#32
  let v91 : BitVec 1 := Scalar.cmpi .ne v90 c0_i32_50
  let v95 : BitVec 1 := Scalar.andi v94 v91
  let v96 : BitVec 32 := Scalar.addi v90 v89
  let v97 : BitVec 32 := Scalar.select v95 v96 v90
  let c0_i32_166 : BitVec 32 := 0#32
  let c0_i32_167 : BitVec 32 := 0#32
  let c0_i32_168 : BitVec 32 := 0#32
  let c0_i32_169 : BitVec 32 := 0#32
  ![v97.toNat, 0, 0, 0, 0]
def k0_off32 (k0_t2 : Fin k0_t2_loop.trips) (k0_t3 : Fin k0_t3_loop.trips) (k0_t5 : Fin k0_t5_loop.trips) : Fin 4 → Nat :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_146 : BitVec 32 := 0#32
  let c0_i32_141 : BitVec 32 := 0#32
  let c1_i32_143 : BitVec 32 := 1#32
  let arg17 : BitVec 32 := Scf.iv c0_i32_141 c1_i32_143 k0_t5
  let c1_i32_145 : BitVec 32 := 1#32
  let v325 : BitVec 32 := Scalar.muli arg17 c1_i32_145
  let v326 : BitVec 32 := Scalar.addi c0_i32_146 v325
  let c32_i32_147 : BitVec 32 := 32#32
  let v327 : BitVec 32 := Scalar.muli v326 c32_i32_147
  let v328 : BitVec 32 := Scalar.addi v149 v327
  let v329 : BitVec 32 := v328
  let c0_i32_153 : BitVec 32 := 0#32
  let v348 : BitVec 1 := Scalar.cmpi .sgt v329 c0_i32_153
  let v349 : BitVec 32 := Scalar.extui v348
  let c0_i32_154 : BitVec 32 := 0#32
  let v350 : BitVec 1 := Scalar.cmpi .slt v329 c0_i32_154
  let v351 : BitVec 32 := Scalar.extui v350
  let v352 : BitVec 32 := Scalar.subi v349 v351
  let c16_i32_152 : BitVec 32 := 16#32
  let c0_i32_155 : BitVec 32 := 0#32
  let v353 : BitVec 1 := Scalar.cmpi .sgt c16_i32_152 c0_i32_155
  let v354 : BitVec 32 := Scalar.extui v353
  let c0_i32_156 : BitVec 32 := 0#32
  let v355 : BitVec 1 := Scalar.cmpi .slt c16_i32_152 c0_i32_156
  let v356 : BitVec 32 := Scalar.extui v355
  let v357 : BitVec 32 := Scalar.subi v354 v356
  let v358 : BitVec 1 := Scalar.cmpi .ne v352 v357
  let v359 : BitVec 32 := Scalar.remsi v329 c16_i32_152
  let c0_i32_157 : BitVec 32 := 0#32
  let v360 : BitVec 1 := Scalar.cmpi .ne v359 c0_i32_157
  let v361 : BitVec 1 := Scalar.andi v358 v360
  let v347 : BitVec 32 := Scalar.divsi v329 c16_i32_152
  let c1_i32_158 : BitVec 32 := 1#32
  let v362 : BitVec 32 := Scalar.subi v347 c1_i32_158
  let v363 : BitVec 32 := Scalar.select v361 v362 v347
  let v383 : Index := Scalar.indexCast v363
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  let v105 : BitVec 32 := v104
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  let v137 : BitVec 32 := v136
  let v162 : BitVec 32 := Scalar.addi v105 v137
  let v163 : BitVec 32 := v162
  let c0_i32_160 : BitVec 32 := 0#32
  let v365 : BitVec 1 := Scalar.cmpi .sgt v163 c0_i32_160
  let v366 : BitVec 32 := Scalar.extui v365
  let c0_i32_161 : BitVec 32 := 0#32
  let v367 : BitVec 1 := Scalar.cmpi .slt v163 c0_i32_161
  let v368 : BitVec 32 := Scalar.extui v367
  let v369 : BitVec 32 := Scalar.subi v366 v368
  let c128_i32_159 : BitVec 32 := 128#32
  let c0_i32_162 : BitVec 32 := 0#32
  let v370 : BitVec 1 := Scalar.cmpi .sgt c128_i32_159 c0_i32_162
  let v371 : BitVec 32 := Scalar.extui v370
  let c0_i32_163 : BitVec 32 := 0#32
  let v372 : BitVec 1 := Scalar.cmpi .slt c128_i32_159 c0_i32_163
  let v373 : BitVec 32 := Scalar.extui v372
  let v374 : BitVec 32 := Scalar.subi v371 v373
  let v375 : BitVec 1 := Scalar.cmpi .ne v369 v374
  let v376 : BitVec 32 := Scalar.remsi v163 c128_i32_159
  let c0_i32_164 : BitVec 32 := 0#32
  let v377 : BitVec 1 := Scalar.cmpi .ne v376 c0_i32_164
  let v378 : BitVec 1 := Scalar.andi v375 v377
  let v364 : BitVec 32 := Scalar.divsi v163 c128_i32_159
  let c1_i32_165 : BitVec 32 := 1#32
  let v379 : BitVec 32 := Scalar.subi v364 c1_i32_165
  let v380 : BitVec 32 := Scalar.select v378 v379 v364
  let v384 : Index := Scalar.indexCast v380
  let c0_170 : Index := 0#32
  let c0_171 : Index := 0#32
  ![v383.toNat, v384.toNat, 0, 0]
def k0_off33 (k0_t2 : Fin k0_t2_loop.trips) (k0_t3 : Fin k0_t3_loop.trips) (k0_t5 : Fin k0_t5_loop.trips) : Fin 4 → Nat :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_146 : BitVec 32 := 0#32
  let c0_i32_141 : BitVec 32 := 0#32
  let c1_i32_143 : BitVec 32 := 1#32
  let arg17 : BitVec 32 := Scf.iv c0_i32_141 c1_i32_143 k0_t5
  let c1_i32_145 : BitVec 32 := 1#32
  let v325 : BitVec 32 := Scalar.muli arg17 c1_i32_145
  let v326 : BitVec 32 := Scalar.addi c0_i32_146 v325
  let c32_i32_147 : BitVec 32 := 32#32
  let v327 : BitVec 32 := Scalar.muli v326 c32_i32_147
  let v328 : BitVec 32 := Scalar.addi v149 v327
  let v329 : BitVec 32 := v328
  let c16_i32_151 : BitVec 32 := 16#32
  let v346 : BitVec 32 := Scalar.addi v329 c16_i32_151
  let c0_i32_174 : BitVec 32 := 0#32
  let v393 : BitVec 1 := Scalar.cmpi .sgt v346 c0_i32_174
  let v394 : BitVec 32 := Scalar.extui v393
  let c0_i32_175 : BitVec 32 := 0#32
  let v395 : BitVec 1 := Scalar.cmpi .slt v346 c0_i32_175
  let v396 : BitVec 32 := Scalar.extui v395
  let v397 : BitVec 32 := Scalar.subi v394 v396
  let c16_i32_173 : BitVec 32 := 16#32
  let c0_i32_176 : BitVec 32 := 0#32
  let v398 : BitVec 1 := Scalar.cmpi .sgt c16_i32_173 c0_i32_176
  let v399 : BitVec 32 := Scalar.extui v398
  let c0_i32_177 : BitVec 32 := 0#32
  let v400 : BitVec 1 := Scalar.cmpi .slt c16_i32_173 c0_i32_177
  let v401 : BitVec 32 := Scalar.extui v400
  let v402 : BitVec 32 := Scalar.subi v399 v401
  let v403 : BitVec 1 := Scalar.cmpi .ne v397 v402
  let v404 : BitVec 32 := Scalar.remsi v346 c16_i32_173
  let c0_i32_178 : BitVec 32 := 0#32
  let v405 : BitVec 1 := Scalar.cmpi .ne v404 c0_i32_178
  let v406 : BitVec 1 := Scalar.andi v403 v405
  let v392 : BitVec 32 := Scalar.divsi v346 c16_i32_173
  let c1_i32_179 : BitVec 32 := 1#32
  let v407 : BitVec 32 := Scalar.subi v392 c1_i32_179
  let v408 : BitVec 32 := Scalar.select v406 v407 v392
  let v428 : Index := Scalar.indexCast v408
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  let v105 : BitVec 32 := v104
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  let v137 : BitVec 32 := v136
  let v162 : BitVec 32 := Scalar.addi v105 v137
  let v163 : BitVec 32 := v162
  let c0_i32_181 : BitVec 32 := 0#32
  let v410 : BitVec 1 := Scalar.cmpi .sgt v163 c0_i32_181
  let v411 : BitVec 32 := Scalar.extui v410
  let c0_i32_182 : BitVec 32 := 0#32
  let v412 : BitVec 1 := Scalar.cmpi .slt v163 c0_i32_182
  let v413 : BitVec 32 := Scalar.extui v412
  let v414 : BitVec 32 := Scalar.subi v411 v413
  let c128_i32_180 : BitVec 32 := 128#32
  let c0_i32_183 : BitVec 32 := 0#32
  let v415 : BitVec 1 := Scalar.cmpi .sgt c128_i32_180 c0_i32_183
  let v416 : BitVec 32 := Scalar.extui v415
  let c0_i32_184 : BitVec 32 := 0#32
  let v417 : BitVec 1 := Scalar.cmpi .slt c128_i32_180 c0_i32_184
  let v418 : BitVec 32 := Scalar.extui v417
  let v419 : BitVec 32 := Scalar.subi v416 v418
  let v420 : BitVec 1 := Scalar.cmpi .ne v414 v419
  let v421 : BitVec 32 := Scalar.remsi v163 c128_i32_180
  let c0_i32_185 : BitVec 32 := 0#32
  let v422 : BitVec 1 := Scalar.cmpi .ne v421 c0_i32_185
  let v423 : BitVec 1 := Scalar.andi v420 v422
  let v409 : BitVec 32 := Scalar.divsi v163 c128_i32_180
  let c1_i32_186 : BitVec 32 := 1#32
  let v424 : BitVec 32 := Scalar.subi v409 c1_i32_186
  let v425 : BitVec 32 := Scalar.select v423 v424 v409
  let v429 : Index := Scalar.indexCast v425
  let c0_191 : Index := 0#32
  let c0_192 : Index := 0#32
  ![v428.toNat, v429.toNat, 0, 0]
def k0_off34 (k0_t2 : Fin k0_t2_loop.trips) (k0_t3 : Fin k0_t3_loop.trips) (k0_t5 : Fin k0_t5_loop.trips) : Fin 2 → Nat :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_146 : BitVec 32 := 0#32
  let c0_i32_141 : BitVec 32 := 0#32
  let c1_i32_143 : BitVec 32 := 1#32
  let arg17 : BitVec 32 := Scf.iv c0_i32_141 c1_i32_143 k0_t5
  let c1_i32_145 : BitVec 32 := 1#32
  let v325 : BitVec 32 := Scalar.muli arg17 c1_i32_145
  let v326 : BitVec 32 := Scalar.addi c0_i32_146 v325
  let c32_i32_147 : BitVec 32 := 32#32
  let v327 : BitVec 32 := Scalar.muli v326 c32_i32_147
  let v328 : BitVec 32 := Scalar.addi v149 v327
  let v329 : BitVec 32 := v328
  let v439 : Index := Scalar.indexCast v329
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  let v105 : BitVec 32 := v104
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  let v137 : BitVec 32 := v136
  let v162 : BitVec 32 := Scalar.addi v105 v137
  let v163 : BitVec 32 := v162
  let v440 : Index := Scalar.indexCast v163
  ![v439.toNat, v440.toNat]
def k0_off35 (k0_t3 : Fin k0_t3_loop.trips) (k0_t5 : Fin k0_t5_loop.trips) : Fin 2 → Nat :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_146 : BitVec 32 := 0#32
  let c0_i32_141 : BitVec 32 := 0#32
  let c1_i32_143 : BitVec 32 := 1#32
  let arg17 : BitVec 32 := Scf.iv c0_i32_141 c1_i32_143 k0_t5
  let c1_i32_145 : BitVec 32 := 1#32
  let v325 : BitVec 32 := Scalar.muli arg17 c1_i32_145
  let v326 : BitVec 32 := Scalar.addi c0_i32_146 v325
  let c32_i32_147 : BitVec 32 := 32#32
  let v327 : BitVec 32 := Scalar.muli v326 c32_i32_147
  let v328 : BitVec 32 := Scalar.addi v149 v327
  let v329 : BitVec 32 := v328
  let v444 : Index := Scalar.indexCast v329
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  let v137 : BitVec 32 := v136
  let v445 : Index := Scalar.indexCast v137
  ![v444.toNat, v445.toNat]
def k0_off36 (k0_t2 : Fin k0_t2_loop.trips) : Fin 2 → Nat :=
  let c0_64 : Index := 0#32
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  let v105 : BitVec 32 := v104
  let v107 : Index := Scalar.indexCast v105
  ![0, v107.toNat]
def k0_cond3 (i : grid0.Coords) : BitVec 1 :=
  let arg0 : BitVec 32 := BitVec.ofNat 32 (i 0).val
  let c31_i32_56 : BitVec 32 := 31#32
  let v99 : BitVec 1 := Scalar.cmpi .eq arg0 c31_i32_56
  let v100 : BitVec 32 := Scalar.extui v99
  let c0_i32_57 : BitVec 32 := 0#32
  let v101 : BitVec 1 := Scalar.cmpi .ne v100 c0_i32_57
  v101

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S112x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S112x5376 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S112x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S112x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5376 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x5376 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S112x1x16384 : Shape := ⟨3, ![112, 1, 16384]⟩
abbrev S16384x5376 : Shape := ⟨2, ![16384, 5376]⟩
abbrev S1024x2x8x42x128 : Shape := ⟨5, ![1024, 2, 8, 42, 128]⟩
abbrev S1024x2x42x8x128 : Shape := ⟨5, ![1024, 2, 42, 8, 128]⟩
abbrev S112x16384 : Shape := ⟨2, ![112, 16384]⟩
abbrev S112x5376 : Shape := ⟨2, ![112, 5376]⟩
abbrev S112x512 : Shape := ⟨2, ![112, 512]⟩
abbrev S512x5376 : Shape := ⟨2, ![512, 5376]⟩
abbrev S16x5376 : Shape := ⟨2, ![16, 5376]⟩
abbrev S512x256 : Shape := ⟨2, ![512, 256]⟩
abbrev S8x72x128 : Shape := ⟨3, ![8, 72, 128]⟩
abbrev S8x72x2x128 : Shape := ⟨4, ![8, 72, 2, 128]⟩
abbrev S8x72x1x128 : Shape := ⟨4, ![8, 72, 1, 128]⟩
abbrev S8x16x128 : Shape := ⟨3, ![8, 16, 128]⟩
abbrev S3x32x42x16x128 : Shape := ⟨5, ![3, 32, 42, 16, 128]⟩
abbrev S3 : Shape := ⟨1, ![3]⟩
abbrev S1 : Shape := ⟨1, ![1]⟩
abbrev S_ : Shape := ⟨0, ![]⟩
abbrev S1x32x42x8x128 : Shape := ⟨5, ![1, 32, 42, 8, 128]⟩
abbrev S32x42x8x128 : Shape := ⟨4, ![32, 42, 8, 128]⟩
abbrev S32x1x42x8x128 : Shape := ⟨5, ![32, 1, 42, 8, 128]⟩
abbrev S112x128 : Shape := ⟨2, ![112, 128]⟩
abbrev S56x128 : Shape := ⟨2, ![56, 128]⟩
abbrev S112x128x1 : Shape := ⟨3, ![112, 128, 1]⟩
abbrev S1x32x42x16x128 : Shape := ⟨5, ![1, 32, 42, 16, 128]⟩
abbrev S32x42x16x128 : Shape := ⟨4, ![32, 42, 16, 128]⟩
abbrev S1x1x16x128 : Shape := ⟨4, ![1, 1, 16, 128]⟩
abbrev S16x128 : Shape := ⟨2, ![16, 128]⟩
abbrev S8x128 : Shape := ⟨2, ![8, 128]⟩
abbrev S1x72x2x128 : Shape := ⟨4, ![1, 72, 2, 128]⟩
abbrev S72x2x128 : Shape := ⟨3, ![72, 2, 128]⟩
abbrev S8x2x128 : Shape := ⟨3, ![8, 2, 128]⟩
abbrev S8x1x128 : Shape := ⟨3, ![8, 1, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S1x1x128 : Shape := ⟨3, ![1, 1, 128]⟩
abbrev S1x128 : Shape := ⟨2, ![1, 128]⟩
abbrev S32x128 : Shape := ⟨2, ![32, 128]⟩
abbrev S112x256 : Shape := ⟨2, ![112, 256]⟩

abbrev nBuf : Space → Nat
  | .hbm => 10
  | .vmem => 16
  | .smem => 0
  | _ => 0

abbrev bufTy : (tb : Table) → Fin (tcTables nBuf tb) → BufTy
  | .hbm, ⟨0, _⟩ => ⟨S112x1x16384, .bf16⟩
  | .hbm, ⟨1, _⟩ => ⟨S16384x5376, .bf16⟩
  | .hbm, ⟨2, _⟩ => ⟨S1024x2x8x42x128, .bf16⟩
  | .hbm, ⟨3, _⟩ => ⟨S1024x2x42x8x128, .bf16⟩
  | .hbm, ⟨4, _⟩ => ⟨S112x16384, .bf16⟩
  | .hbm, ⟨5, _⟩ => ⟨S112x5376, .bf16⟩
  | .hbm, ⟨6, _⟩ => ⟨S112x16384, .fp8e4m3⟩
  | .hbm, ⟨7, _⟩ => ⟨S112x512, .f32⟩
  | .hbm, ⟨8, _⟩ => ⟨S16384x5376, .fp8e4m3⟩
  | .hbm, ⟨9, _⟩ => ⟨S512x5376, .f32⟩
  | .local _ .vmem, ⟨0, _⟩ => ⟨S112x512, .bf16⟩
  | .local _ .vmem, ⟨1, _⟩ => ⟨S112x512, .bf16⟩
  | .local _ .vmem, ⟨2, _⟩ => ⟨S112x5376, .bf16⟩
  | .local _ .vmem, ⟨3, _⟩ => ⟨S112x512, .fp8e4m3⟩
  | .local _ .vmem, ⟨4, _⟩ => ⟨S112x512, .fp8e4m3⟩
  | .local _ .vmem, ⟨5, _⟩ => ⟨S112x512, .f32⟩
  | .local _ .vmem, ⟨6, _⟩ => ⟨S512x5376, .fp8e4m3⟩
  | .local _ .vmem, ⟨7, _⟩ => ⟨S512x5376, .fp8e4m3⟩
  | .local _ .vmem, ⟨8, _⟩ => ⟨S16x5376, .f32⟩
  | .local _ .vmem, ⟨9, _⟩ => ⟨S16x5376, .f32⟩
  | .local _ .vmem, ⟨10, _⟩ => ⟨S112x5376, .f32⟩
  | .local _ .vmem, ⟨11, _⟩ => ⟨S112x512, .bf16⟩
  | .local _ .vmem, ⟨12, _⟩ => ⟨S512x256, .bf16⟩
  | .local _ .vmem, ⟨13, _⟩ => ⟨S8x72x2x128, .bf16⟩
  | .local _ .vmem, ⟨14, _⟩ => ⟨S8x16x128, .i32⟩
  | .local _ .vmem, ⟨15, _⟩ => ⟨S3x32x42x16x128, .bf16⟩
  | _, _ => ⟨S112x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c2_i32 : BitVec 32 := 2#32
  let v3 : BitVec 32 := Scalar.addi arg0 c2_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c2_i32_58 : BitVec 32 := 2#32
  let v102 : BitVec 32 := Scalar.addi arg0 c2_i32_58
  let c3_i32_59 : BitVec 32 := 3#32
  let c0_i32_60 : BitVec 32 := 0#32
  let v103 : BitVec 1 := Scalar.cmpi .eq c3_i32_59 c0_i32_60
  let c1_i32_61 : BitVec 32 := 1#32
  let v104 : BitVec 32 := Scalar.select v103 c1_i32_61 c3_i32_59
  let v105 : BitVec 32 := Scalar.remsi v102 v104
  let c0_i32_63 : BitVec 32 := 0#32
  let v107 : BitVec 1 := Scalar.cmpi .slt v105 c0_i32_63
  let c0_i32_64 : BitVec 32 := 0#32
  let v108 : BitVec 1 := Scalar.cmpi .slt v104 c0_i32_64
  let v109 : BitVec 1 := Scalar.xori v107 v108
  let c0_i32_62 : BitVec 32 := 0#32
  let v106 : BitVec 1 := Scalar.cmpi .ne v105 c0_i32_62
  let v110 : BitVec 1 := Scalar.andi v109 v106
  let v111 : BitVec 32 := Scalar.addi v105 v104
  let v112 : BitVec 32 := Scalar.select v110 v111 v105
  ![v112.toNat]
def k0_off2 (i : grid0.Coords) : Fin 5 → Nat :=
  let arg0 : BitVec 32 := BitVec.ofNat 32 (i 0).val
  let c2_i32_58 : BitVec 32 := 2#32
  let v102 : BitVec 32 := Scalar.addi arg0 c2_i32_58
  let c3_i32_59 : BitVec 32 := 3#32
  let c0_i32_60 : BitVec 32 := 0#32
  let v103 : BitVec 1 := Scalar.cmpi .eq c3_i32_59 c0_i32_60
  let c1_i32_61 : BitVec 32 := 1#32
  let v104 : BitVec 32 := Scalar.select v103 c1_i32_61 c3_i32_59
  let v105 : BitVec 32 := Scalar.remsi v102 v104
  let c0_i32_63 : BitVec 32 := 0#32
  let v107 : BitVec 1 := Scalar.cmpi .slt v105 c0_i32_63
  let c0_i32_64 : BitVec 32 := 0#32
  let v108 : BitVec 1 := Scalar.cmpi .slt v104 c0_i32_64
  let v109 : BitVec 1 := Scalar.xori v107 v108
  let c0_i32_62 : BitVec 32 := 0#32
  let v106 : BitVec 1 := Scalar.cmpi .ne v105 c0_i32_62
  let v110 : BitVec 1 := Scalar.andi v109 v106
  let v111 : BitVec 32 := Scalar.addi v105 v104
  let v112 : BitVec 32 := Scalar.select v110 v111 v105
  let c0_i32_67 : BitVec 32 := 0#32
  let c0_i32_68 : BitVec 32 := 0#32
  let c0_i32_69 : BitVec 32 := 0#32
  let c0_i32_70 : BitVec 32 := 0#32
  ![v112.toNat, 0, 0, 0, 0]
def k0_off3 (i : grid0.Coords) : Fin 5 → Nat :=
  let arg0 : BitVec 32 := BitVec.ofNat 32 (i 0).val
  let c2_i32_58 : BitVec 32 := 2#32
  let v102 : BitVec 32 := Scalar.addi arg0 c2_i32_58
  let c32_i32_65 : BitVec 32 := 32#32
  let v113 : BitVec 32 := Scalar.muli v102 c32_i32_65
  let c0_i32_66 : BitVec 32 := 0#32
  let c0_i32_71 : BitVec 32 := 0#32
  let c0_i32_72 : BitVec 32 := 0#32
  let c0_i32_73 : BitVec 32 := 0#32
  ![v113.toNat, 0, 0, 0, 0]
def k0_off4 (i : grid0.Coords) : Fin 5 → Nat :=
  let arg0 : BitVec 32 := BitVec.ofNat 32 (i 0).val
  let c2_i32_58 : BitVec 32 := 2#32
  let v102 : BitVec 32 := Scalar.addi arg0 c2_i32_58
  let c3_i32_59 : BitVec 32 := 3#32
  let c0_i32_60 : BitVec 32 := 0#32
  let v103 : BitVec 1 := Scalar.cmpi .eq c3_i32_59 c0_i32_60
  let c1_i32_61 : BitVec 32 := 1#32
  let v104 : BitVec 32 := Scalar.select v103 c1_i32_61 c3_i32_59
  let v105 : BitVec 32 := Scalar.remsi v102 v104
  let c0_i32_63 : BitVec 32 := 0#32
  let v107 : BitVec 1 := Scalar.cmpi .slt v105 c0_i32_63
  let c0_i32_64 : BitVec 32 := 0#32
  let v108 : BitVec 1 := Scalar.cmpi .slt v104 c0_i32_64
  let v109 : BitVec 1 := Scalar.xori v107 v108
  let c0_i32_62 : BitVec 32 := 0#32
  let v106 : BitVec 1 := Scalar.cmpi .ne v105 c0_i32_62
  let v110 : BitVec 1 := Scalar.andi v109 v106
  let v111 : BitVec 32 := Scalar.addi v105 v104
  let v112 : BitVec 32 := Scalar.select v110 v111 v105
  let c0_i32_75 : BitVec 32 := 0#32
  let c0_i32_76 : BitVec 32 := 0#32
  let c8_i32_77 : BitVec 32 := 8#32
  let c0_i32_78 : BitVec 32 := 0#32
  ![v112.toNat, 0, 0, 8, 0]
def k0_off5 (i : grid0.Coords) : Fin 5 → Nat :=
  let arg0 : BitVec 32 := BitVec.ofNat 32 (i 0).val
  let c2_i32_58 : BitVec 32 := 2#32
  let v102 : BitVec 32 := Scalar.addi arg0 c2_i32_58
  let c32_i32_65 : BitVec 32 := 32#32
  let v113 : BitVec 32 := Scalar.muli v102 c32_i32_65
  let c1_i32_74 : BitVec 32 := 1#32
  let c0_i32_79 : BitVec 32 := 0#32
  let c0_i32_80 : BitVec 32 := 0#32
  let c0_i32_81 : BitVec 32 := 0#32
  ![v113.toNat, 1, 0, 0, 0]
def k0_mult1 (i : grid0.Coords) : BitVec 32 :=
  let arg0 : BitVec 32 := BitVec.ofNat 32 (i 0).val
  let c0_i32_7 : BitVec 32 := 0#32
  let v29 : BitVec 1 := Scalar.cmpi .sgt arg0 c0_i32_7
  let v30 : BitVec 32 := Scalar.extui v29
  let c0_i32_8 : BitVec 32 := 0#32
  let v31 : BitVec 1 := Scalar.cmpi .slt arg0 c0_i32_8
  let v32 : BitVec 32 := Scalar.extui v31
  let v33 : BitVec 32 := Scalar.subi v30 v32
  let c8_i32 : BitVec 32 := 8#32
  let c0_i32_9 : BitVec 32 := 0#32
  let v34 : BitVec 1 := Scalar.cmpi .sgt c8_i32 c0_i32_9
  let v35 : BitVec 32 := Scalar.extui v34
  let c0_i32_10 : BitVec 32 := 0#32
  let v36 : BitVec 1 := Scalar.cmpi .slt c8_i32 c0_i32_10
  let v37 : BitVec 32 := Scalar.extui v36
  let v38 : BitVec 32 := Scalar.subi v35 v37
  let v39 : BitVec 1 := Scalar.cmpi .ne v33 v38
  let v40 : BitVec 32 := Scalar.remsi arg0 c8_i32
  let c0_i32_11 : BitVec 32 := 0#32
  let v41 : BitVec 1 := Scalar.cmpi .ne v40 c0_i32_11
  let v42 : BitVec 1 := Scalar.andi v39 v41
  let v28 : BitVec 32 := Scalar.divsi arg0 c8_i32
  let c1_i32_12 : BitVec 32 := 1#32
  let v43 : BitVec 32 := Scalar.subi v28 c1_i32_12
  let v44 : BitVec 32 := Scalar.select v42 v43 v28
  let c128_i32 : BitVec 32 := 128#32
  let v45 : BitVec 32 := Scalar.muli v44 c128_i32
  v45
def k0_off6 (i : grid0.Coords) : Fin 2 → Nat :=
  let c0 : Index := 0#32
  let arg0 : BitVec 32 := BitVec.ofNat 32 (i 0).val
  let c0_i32_7 : BitVec 32 := 0#32
  let v29 : BitVec 1 := Scalar.cmpi .sgt arg0 c0_i32_7
  let v30 : BitVec 32 := Scalar.extui v29
  let c0_i32_8 : BitVec 32 := 0#32
  let v31 : BitVec 1 := Scalar.cmpi .slt arg0 c0_i32_8
  let v32 : BitVec 32 := Scalar.extui v31
  let v33 : BitVec 32 := Scalar.subi v30 v32
  let c8_i32 : BitVec 32 := 8#32
  let c0_i32_9 : BitVec 32 := 0#32
  let v34 : BitVec 1 := Scalar.cmpi .sgt c8_i32 c0_i32_9
  let v35 : BitVec 32 := Scalar.extui v34
  let c0_i32_10 : BitVec 32 := 0#32
  let v36 : BitVec 1 := Scalar.cmpi .slt c8_i32 c0_i32_10
  let v37 : BitVec 32 := Scalar.extui v36
  let v38 : BitVec 32 := Scalar.subi v35 v37
  let v39 : BitVec 1 := Scalar.cmpi .ne v33 v38
  let v40 : BitVec 32 := Scalar.remsi arg0 c8_i32
  let c0_i32_11 : BitVec 32 := 0#32
  let v41 : BitVec 1 := Scalar.cmpi .ne v40 c0_i32_11
  let v42 : BitVec 1 := Scalar.andi v39 v41
  let v28 : BitVec 32 := Scalar.divsi arg0 c8_i32
  let c1_i32_12 : BitVec 32 := 1#32
  let v43 : BitVec 32 := Scalar.subi v28 c1_i32_12
  let v44 : BitVec 32 := Scalar.select v42 v43 v28
  let c128_i32 : BitVec 32 := 128#32
  let v45 : BitVec 32 := Scalar.muli v44 c128_i32
  let v46 : BitVec 32 := v45
  let v58 : Index := Scalar.indexCast v46
  ![0, v58.toNat]
@[reducible] def k0_t1_loop : Scf.Loop 32 :=
  let c0_i32_20 : BitVec 32 := 0#32
  let c4_i32_21 : BitVec 32 := 4#32
  let v61 : BitVec 32 := Scalar.addi c0_i32_20 c4_i32_21
  let c1_i32_22 : BitVec 32 := 1#32
  ⟨c0_i32_20, v61, c1_i32_22⟩
def k0_mult2 (k0_t1 : Fin k0_t1_loop.trips) : BitVec 32 :=
  let c0_i32_20 : BitVec 32 := 0#32
  let c1_i32_22 : BitVec 32 := 1#32
  let arg15 : BitVec 32 := Scf.iv c0_i32_20 c1_i32_22 k0_t1
  let c128_i32_58 : BitVec 32 := 128#32
  let v102 : BitVec 32 := Scalar.muli arg15 c128_i32_58
  v102
def k0_off7 (k0_t1 : Fin k0_t1_loop.trips) : Fin 2 → Nat :=
  let c0_59 : Index := 0#32
  let c0_i32_20 : BitVec 32 := 0#32
  let c1_i32_22 : BitVec 32 := 1#32
  let arg15 : BitVec 32 := Scf.iv c0_i32_20 c1_i32_22 k0_t1
  let c128_i32_58 : BitVec 32 := 128#32
  let v102 : BitVec 32 := Scalar.muli arg15 c128_i32_58
  let v103 : BitVec 32 := v102
  let v104 : Index := Scalar.indexCast v103
  ![0, v104.toNat]
def k0_off8 (i : grid0.Coords) : Fin 1 → Nat :=
  let arg0 : BitVec 32 := BitVec.ofNat 32 (i 0).val
  let c3_i32 : BitVec 32 := 3#32
  let c0_i32_25 : BitVec 32 := 0#32
  let v65 : BitVec 1 := Scalar.cmpi .eq c3_i32 c0_i32_25
  let c1_i32_26 : BitVec 32 := 1#32
  let v66 : BitVec 32 := Scalar.select v65 c1_i32_26 c3_i32
  let v67 : BitVec 32 := Scalar.remsi arg0 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  ![v74.toNat]
def k0_off9 (i : grid0.Coords) : Fin 5 → Nat :=
  let arg0 : BitVec 32 := BitVec.ofNat 32 (i 0).val
  let c3_i32 : BitVec 32 := 3#32
  let c0_i32_25 : BitVec 32 := 0#32
  let v65 : BitVec 1 := Scalar.cmpi .eq c3_i32 c0_i32_25
  let c1_i32_26 : BitVec 32 := 1#32
  let v66 : BitVec 32 := Scalar.select v65 c1_i32_26 c3_i32
  let v67 : BitVec 32 := Scalar.remsi arg0 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let c0_i32_32 : BitVec 32 := 0#32
  let c0_i32_33 : BitVec 32 := 0#32
  let c0_i32_34 : BitVec 32 := 0#32
  let c0_i32_35 : BitVec 32 := 0#32
  ![v74.toNat, 0, 0, 0, 0]
def k0_off10 (i : grid0.Coords) : Fin 5 → Nat :=
  let arg0 : BitVec 32 := BitVec.ofNat 32 (i 0).val
  let c32_i32_30 : BitVec 32 := 32#32
  let v75 : BitVec 32 := Scalar.muli arg0 c32_i32_30
  let c0_i32_31 : BitVec 32 := 0#32
  let c0_i32_36 : BitVec 32 := 0#32
  let c0_i32_37 : BitVec 32 := 0#32
  let c0_i32_38 : BitVec 32 := 0#32
  ![v75.toNat, 0, 0, 0, 0]
def k0_off11 (i : grid0.Coords) : Fin 5 → Nat :=
  let arg0 : BitVec 32 := BitVec.ofNat 32 (i 0).val
  let c3_i32 : BitVec 32 := 3#32
  let c0_i32_25 : BitVec 32 := 0#32
  let v65 : BitVec 1 := Scalar.cmpi .eq c3_i32 c0_i32_25
  let c1_i32_26 : BitVec 32 := 1#32
  let v66 : BitVec 32 := Scalar.select v65 c1_i32_26 c3_i32
  let v67 : BitVec 32 := Scalar.remsi arg0 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let c0_i32_40 : BitVec 32 := 0#32
  let c0_i32_41 : BitVec 32 := 0#32
  let c8_i32_42 : BitVec 32 := 8#32
  let c0_i32_43 : BitVec 32 := 0#32
  ![v74.toNat, 0, 0, 8, 0]
def k0_off12 (i : grid0.Coords) : Fin 5 → Nat :=
  let arg0 : BitVec 32 := BitVec.ofNat 32 (i 0).val
  let c32_i32_30 : BitVec 32 := 32#32
  let v75 : BitVec 32 := Scalar.muli arg0 c32_i32_30
  let c1_i32_39 : BitVec 32 := 1#32
  let c0_i32_44 : BitVec 32 := 0#32
  let c0_i32_45 : BitVec 32 := 0#32
  let c0_i32_46 : BitVec 32 := 0#32
  ![v75.toNat, 1, 0, 0, 0]
@[reducible] def k0_t2_loop : Scf.Loop 32 :=
  let c0_i32_53 : BitVec 32 := 0#32
  let c21_i32 : BitVec 32 := 21#32
  let v98 : BitVec 32 := Scalar.addi c0_i32_53 c21_i32
  let c1_i32_54 : BitVec 32 := 1#32
  ⟨c0_i32_53, v98, c1_i32_54⟩
def k0_mult3 (k0_t2 : Fin k0_t2_loop.trips) : BitVec 32 :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  v104
@[reducible] def k0_t3_loop : Scf.Loop 32 :=
  let c0_i32_60 : BitVec 32 := 0#32
  let c4_i32_61 : BitVec 32 := 4#32
  let v106 : BitVec 32 := Scalar.addi c0_i32_60 c4_i32_61
  let c1_i32_62 : BitVec 32 := 1#32
  ⟨c0_i32_60, v106, c1_i32_62⟩
def k0_mult4 (k0_t3 : Fin k0_t3_loop.trips) : BitVec 32 :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  v136
def k0_mult5 (k0_t3 : Fin k0_t3_loop.trips) : BitVec 32 :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  v148
def k0_mult6 (k0_t2 : Fin k0_t2_loop.trips) (k0_t3 : Fin k0_t3_loop.trips) : BitVec 32 :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  let v105 : BitVec 32 := v104
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  let v137 : BitVec 32 := v136
  let v162 : BitVec 32 := Scalar.addi v105 v137
  v162
@[reducible] def k0_t4_loop : Scf.Loop 32 :=
  let c0_i32_94 : BitVec 32 := 0#32
  let c8_i32_95 : BitVec 32 := 8#32
  let v164 : BitVec 32 := Scalar.addi c0_i32_94 c8_i32_95
  let c1_i32_96 : BitVec 32 := 1#32
  ⟨c0_i32_94, v164, c1_i32_96⟩
def k0_off13 (i : grid0.Coords) : Fin 5 → Nat :=
  let arg0 : BitVec 32 := BitVec.ofNat 32 (i 0).val
  let c3_i32_47 : BitVec 32 := 3#32
  let c0_i32_48 : BitVec 32 := 0#32
  let v88 : BitVec 1 := Scalar.cmpi .eq c3_i32_47 c0_i32_48
  let c1_i32_49 : BitVec 32 := 1#32
  let v89 : BitVec 32 := Scalar.select v88 c1_i32_49 c3_i32_47
  let v90 : BitVec 32 := Scalar.remsi arg0 v89
  let c0_i32_51 : BitVec 32 := 0#32
  let v92 : BitVec 1 := Scalar.cmpi .slt v90 c0_i32_51
  let c0_i32_52 : BitVec 32 := 0#32
  let v93 : BitVec 1 := Scalar.cmpi .slt v89 c0_i32_52
  let v94 : BitVec 1 := Scalar.xori v92 v93
  let c0_i32_50 : BitVec 32 := 0#32
  let v91 : BitVec 1 := Scalar.cmpi .ne v90 c0_i32_50
  let v95 : BitVec 1 := Scalar.andi v94 v91
  let v96 : BitVec 32 := Scalar.addi v90 v89
  let v97 : BitVec 32 := Scalar.select v95 v96 v90
  let c0_i32_162 : BitVec 32 := 0#32
  let c0_i32_163 : BitVec 32 := 0#32
  let c0_i32_164 : BitVec 32 := 0#32
  let c0_i32_165 : BitVec 32 := 0#32
  ![v97.toNat, 0, 0, 0, 0]
def k0_off14 (k0_t2 : Fin k0_t2_loop.trips) (k0_t3 : Fin k0_t3_loop.trips) (k0_t4 : Fin k0_t4_loop.trips) : Fin 4 → Nat :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_146 : BitVec 32 := 0#32
  let c0_i32_94 : BitVec 32 := 0#32
  let c1_i32_96 : BitVec 32 := 1#32
  let arg17 : BitVec 32 := Scf.iv c0_i32_94 c1_i32_96 k0_t4
  let c1_i32_145 : BitVec 32 := 1#32
  let v325 : BitVec 32 := Scalar.muli arg17 c1_i32_145
  let v326 : BitVec 32 := Scalar.addi c0_i32_146 v325
  let c32_i32_147 : BitVec 32 := 32#32
  let v327 : BitVec 32 := Scalar.muli v326 c32_i32_147
  let v328 : BitVec 32 := Scalar.addi v149 v327
  let c0_i32_149 : BitVec 32 := 0#32
  let v330 : BitVec 1 := Scalar.cmpi .sgt v328 c0_i32_149
  let v331 : BitVec 32 := Scalar.extui v330
  let c0_i32_150 : BitVec 32 := 0#32
  let v332 : BitVec 1 := Scalar.cmpi .slt v328 c0_i32_150
  let v333 : BitVec 32 := Scalar.extui v332
  let v334 : BitVec 32 := Scalar.subi v331 v333
  let c16_i32_148 : BitVec 32 := 16#32
  let c0_i32_151 : BitVec 32 := 0#32
  let v335 : BitVec 1 := Scalar.cmpi .sgt c16_i32_148 c0_i32_151
  let v336 : BitVec 32 := Scalar.extui v335
  let c0_i32_152 : BitVec 32 := 0#32
  let v337 : BitVec 1 := Scalar.cmpi .slt c16_i32_148 c0_i32_152
  let v338 : BitVec 32 := Scalar.extui v337
  let v339 : BitVec 32 := Scalar.subi v336 v338
  let v340 : BitVec 1 := Scalar.cmpi .ne v334 v339
  let v341 : BitVec 32 := Scalar.remsi v328 c16_i32_148
  let c0_i32_153 : BitVec 32 := 0#32
  let v342 : BitVec 1 := Scalar.cmpi .ne v341 c0_i32_153
  let v343 : BitVec 1 := Scalar.andi v340 v342
  let v329 : BitVec 32 := Scalar.divsi v328 c16_i32_148
  let c1_i32_154 : BitVec 32 := 1#32
  let v344 : BitVec 32 := Scalar.subi v329 c1_i32_154
  let v345 : BitVec 32 := Scalar.select v343 v344 v329
  let v365 : Index := Scalar.indexCast v345
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  let v105 : BitVec 32 := v104
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  let v137 : BitVec 32 := v136
  let v162 : BitVec 32 := Scalar.addi v105 v137
  let v163 : BitVec 32 := v162
  let c0_i32_156 : BitVec 32 := 0#32
  let v347 : BitVec 1 := Scalar.cmpi .sgt v163 c0_i32_156
  let v348 : BitVec 32 := Scalar.extui v347
  let c0_i32_157 : BitVec 32 := 0#32
  let v349 : BitVec 1 := Scalar.cmpi .slt v163 c0_i32_157
  let v350 : BitVec 32 := Scalar.extui v349
  let v351 : BitVec 32 := Scalar.subi v348 v350
  let c128_i32_155 : BitVec 32 := 128#32
  let c0_i32_158 : BitVec 32 := 0#32
  let v352 : BitVec 1 := Scalar.cmpi .sgt c128_i32_155 c0_i32_158
  let v353 : BitVec 32 := Scalar.extui v352
  let c0_i32_159 : BitVec 32 := 0#32
  let v354 : BitVec 1 := Scalar.cmpi .slt c128_i32_155 c0_i32_159
  let v355 : BitVec 32 := Scalar.extui v354
  let v356 : BitVec 32 := Scalar.subi v353 v355
  let v357 : BitVec 1 := Scalar.cmpi .ne v351 v356
  let v358 : BitVec 32 := Scalar.remsi v163 c128_i32_155
  let c0_i32_160 : BitVec 32 := 0#32
  let v359 : BitVec 1 := Scalar.cmpi .ne v358 c0_i32_160
  let v360 : BitVec 1 := Scalar.andi v357 v359
  let v346 : BitVec 32 := Scalar.divsi v163 c128_i32_155
  let c1_i32_161 : BitVec 32 := 1#32
  let v361 : BitVec 32 := Scalar.subi v346 c1_i32_161
  let v362 : BitVec 32 := Scalar.select v360 v361 v346
  let v366 : Index := Scalar.indexCast v362
  let c0_166 : Index := 0#32
  let c0_167 : Index := 0#32
  ![v365.toNat, v366.toNat, 0, 0]
def k0_off15 (k0_t2 : Fin k0_t2_loop.trips) (k0_t3 : Fin k0_t3_loop.trips) (k0_t4 : Fin k0_t4_loop.trips) : Fin 4 → Nat :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_146 : BitVec 32 := 0#32
  let c0_i32_94 : BitVec 32 := 0#32
  let c1_i32_96 : BitVec 32 := 1#32
  let arg17 : BitVec 32 := Scf.iv c0_i32_94 c1_i32_96 k0_t4
  let c1_i32_145 : BitVec 32 := 1#32
  let v325 : BitVec 32 := Scalar.muli arg17 c1_i32_145
  let v326 : BitVec 32 := Scalar.addi c0_i32_146 v325
  let c32_i32_147 : BitVec 32 := 32#32
  let v327 : BitVec 32 := Scalar.muli v326 c32_i32_147
  let v328 : BitVec 32 := Scalar.addi v149 v327
  let c16_i32_168 : BitVec 32 := 16#32
  let v372 : BitVec 32 := Scalar.addi v328 c16_i32_168
  let c0_i32_170 : BitVec 32 := 0#32
  let v374 : BitVec 1 := Scalar.cmpi .sgt v372 c0_i32_170
  let v375 : BitVec 32 := Scalar.extui v374
  let c0_i32_171 : BitVec 32 := 0#32
  let v376 : BitVec 1 := Scalar.cmpi .slt v372 c0_i32_171
  let v377 : BitVec 32 := Scalar.extui v376
  let v378 : BitVec 32 := Scalar.subi v375 v377
  let c16_i32_169 : BitVec 32 := 16#32
  let c0_i32_172 : BitVec 32 := 0#32
  let v379 : BitVec 1 := Scalar.cmpi .sgt c16_i32_169 c0_i32_172
  let v380 : BitVec 32 := Scalar.extui v379
  let c0_i32_173 : BitVec 32 := 0#32
  let v381 : BitVec 1 := Scalar.cmpi .slt c16_i32_169 c0_i32_173
  let v382 : BitVec 32 := Scalar.extui v381
  let v383 : BitVec 32 := Scalar.subi v380 v382
  let v384 : BitVec 1 := Scalar.cmpi .ne v378 v383
  let v385 : BitVec 32 := Scalar.remsi v372 c16_i32_169
  let c0_i32_174 : BitVec 32 := 0#32
  let v386 : BitVec 1 := Scalar.cmpi .ne v385 c0_i32_174
  let v387 : BitVec 1 := Scalar.andi v384 v386
  let v373 : BitVec 32 := Scalar.divsi v372 c16_i32_169
  let c1_i32_175 : BitVec 32 := 1#32
  let v388 : BitVec 32 := Scalar.subi v373 c1_i32_175
  let v389 : BitVec 32 := Scalar.select v387 v388 v373
  let v409 : Index := Scalar.indexCast v389
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  let v105 : BitVec 32 := v104
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  let v137 : BitVec 32 := v136
  let v162 : BitVec 32 := Scalar.addi v105 v137
  let v163 : BitVec 32 := v162
  let c0_i32_177 : BitVec 32 := 0#32
  let v391 : BitVec 1 := Scalar.cmpi .sgt v163 c0_i32_177
  let v392 : BitVec 32 := Scalar.extui v391
  let c0_i32_178 : BitVec 32 := 0#32
  let v393 : BitVec 1 := Scalar.cmpi .slt v163 c0_i32_178
  let v394 : BitVec 32 := Scalar.extui v393
  let v395 : BitVec 32 := Scalar.subi v392 v394
  let c128_i32_176 : BitVec 32 := 128#32
  let c0_i32_179 : BitVec 32 := 0#32
  let v396 : BitVec 1 := Scalar.cmpi .sgt c128_i32_176 c0_i32_179
  let v397 : BitVec 32 := Scalar.extui v396
  let c0_i32_180 : BitVec 32 := 0#32
  let v398 : BitVec 1 := Scalar.cmpi .slt c128_i32_176 c0_i32_180
  let v399 : BitVec 32 := Scalar.extui v398
  let v400 : BitVec 32 := Scalar.subi v397 v399
  let v401 : BitVec 1 := Scalar.cmpi .ne v395 v400
  let v402 : BitVec 32 := Scalar.remsi v163 c128_i32_176
  let c0_i32_181 : BitVec 32 := 0#32
  let v403 : BitVec 1 := Scalar.cmpi .ne v402 c0_i32_181
  let v404 : BitVec 1 := Scalar.andi v401 v403
  let v390 : BitVec 32 := Scalar.divsi v163 c128_i32_176
  let c1_i32_182 : BitVec 32 := 1#32
  let v405 : BitVec 32 := Scalar.subi v390 c1_i32_182
  let v406 : BitVec 32 := Scalar.select v404 v405 v390
  let v410 : Index := Scalar.indexCast v406
  let c0_187 : Index := 0#32
  let c0_188 : Index := 0#32
  ![v409.toNat, v410.toNat, 0, 0]
def k0_off16 (k0_t2 : Fin k0_t2_loop.trips) (k0_t3 : Fin k0_t3_loop.trips) : Fin 4 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let c0_i32_189 : BitVec 32 := 0#32
  let c0_i32_190 : BitVec 32 := 0#32
  ![v161.toNat, 0, 0, 0]
def k0_off17 (k0_t4 : Fin k0_t4_loop.trips) : Fin 3 → Nat :=
  let c0_i32_146 : BitVec 32 := 0#32
  let c0_i32_94 : BitVec 32 := 0#32
  let c1_i32_96 : BitVec 32 := 1#32
  let arg17 : BitVec 32 := Scf.iv c0_i32_94 c1_i32_96 k0_t4
  let c1_i32_145 : BitVec 32 := 1#32
  let v325 : BitVec 32 := Scalar.muli arg17 c1_i32_145
  let v326 : BitVec 32 := Scalar.addi c0_i32_146 v325
  let v420 : Index := Scalar.indexCast v326
  let c0_191 : Index := 0#32
  ![v420.toNat, 0, 0]
def k0_off18 (k0_t2 : Fin k0_t2_loop.trips) (k0_t3 : Fin k0_t3_loop.trips) : Fin 4 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v165 : Index := Scalar.indexCast v161
  let c0_98 : Index := 0#32
  let c0_99 : Index := 0#32
  ![v165.toNat, 0, 0, 0]
def k0_off19 (k0_t2 : Fin k0_t2_loop.trips) (k0_t3 : Fin k0_t3_loop.trips) : Fin 4 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v169 : Index := Scalar.indexCast v161
  let c9 : Index := 9#32
  let c0_100 : Index := 0#32
  ![v169.toNat, 9, 0, 0]
def k0_off20 (k0_t2 : Fin k0_t2_loop.trips) (k0_t3 : Fin k0_t3_loop.trips) : Fin 4 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v173 : Index := Scalar.indexCast v161
  let c18 : Index := 18#32
  let c0_101 : Index := 0#32
  ![v173.toNat, 18, 0, 0]
def k0_off21 (k0_t2 : Fin k0_t2_loop.trips) (k0_t3 : Fin k0_t3_loop.trips) : Fin 4 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v177 : Index := Scalar.indexCast v161
  let c27 : Index := 27#32
  let c0_102 : Index := 0#32
  ![v177.toNat, 27, 0, 0]
def k0_off22 (k0_t2 : Fin k0_t2_loop.trips) (k0_t3 : Fin k0_t3_loop.trips) : Fin 4 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v181 : Index := Scalar.indexCast v161
  let c36 : Index := 36#32
  let c0_103 : Index := 0#32
  ![v181.toNat, 36, 0, 0]
def k0_off23 (k0_t2 : Fin k0_t2_loop.trips) (k0_t3 : Fin k0_t3_loop.trips) : Fin 4 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v185 : Index := Scalar.indexCast v161
  let c45 : Index := 45#32
  let c0_104 : Index := 0#32
  ![v185.toNat, 45, 0, 0]
def k0_off24 (k0_t2 : Fin k0_t2_loop.trips) (k0_t3 : Fin k0_t3_loop.trips) : Fin 4 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v189 : Index := Scalar.indexCast v161
  let c54 : Index := 54#32
  let c0_105 : Index := 0#32
  ![v189.toNat, 54, 0, 0]
def k0_off25 (k0_t2 : Fin k0_t2_loop.trips) (k0_t3 : Fin k0_t3_loop.trips) : Fin 4 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v193 : Index := Scalar.indexCast v161
  let c63 : Index := 63#32
  let c0_106 : Index := 0#32
  ![v193.toNat, 63, 0, 0]
def k0_mult7 (k0_t3 : Fin k0_t3_loop.trips) : BitVec 32 :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_127 : BitVec 32 := 0#32
  let v286 : BitVec 1 := Scalar.cmpi .sgt v149 c0_i32_127
  let v287 : BitVec 32 := Scalar.extui v286
  let c0_i32_128 : BitVec 32 := 0#32
  let v288 : BitVec 1 := Scalar.cmpi .slt v149 c0_i32_128
  let v289 : BitVec 32 := Scalar.extui v288
  let v290 : BitVec 32 := Scalar.subi v287 v289
  let c32_i32_126 : BitVec 32 := 32#32
  let c0_i32_129 : BitVec 32 := 0#32
  let v291 : BitVec 1 := Scalar.cmpi .sgt c32_i32_126 c0_i32_129
  let v292 : BitVec 32 := Scalar.extui v291
  let c0_i32_130 : BitVec 32 := 0#32
  let v293 : BitVec 1 := Scalar.cmpi .slt c32_i32_126 c0_i32_130
  let v294 : BitVec 32 := Scalar.extui v293
  let v295 : BitVec 32 := Scalar.subi v292 v294
  let v296 : BitVec 1 := Scalar.cmpi .ne v290 v295
  let v297 : BitVec 32 := Scalar.remsi v149 c32_i32_126
  let c0_i32_131 : BitVec 32 := 0#32
  let v298 : BitVec 1 := Scalar.cmpi .ne v297 c0_i32_131
  let v299 : BitVec 1 := Scalar.andi v296 v298
  let v285 : BitVec 32 := Scalar.divsi v149 c32_i32_126
  let c1_i32_132 : BitVec 32 := 1#32
  let v300 : BitVec 32 := Scalar.subi v285 c1_i32_132
  let v301 : BitVec 32 := Scalar.select v299 v300 v285
  v301
def k0_off26 (k0_t2 : Fin k0_t2_loop.trips) (k0_t3 : Fin k0_t3_loop.trips) : Fin 2 → Nat :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_127 : BitVec 32 := 0#32
  let v286 : BitVec 1 := Scalar.cmpi .sgt v149 c0_i32_127
  let v287 : BitVec 32 := Scalar.extui v286
  let c0_i32_128 : BitVec 32 := 0#32
  let v288 : BitVec 1 := Scalar.cmpi .slt v149 c0_i32_128
  let v289 : BitVec 32 := Scalar.extui v288
  let v290 : BitVec 32 := Scalar.subi v287 v289
  let c32_i32_126 : BitVec 32 := 32#32
  let c0_i32_129 : BitVec 32 := 0#32
  let v291 : BitVec 1 := Scalar.cmpi .sgt c32_i32_126 c0_i32_129
  let v292 : BitVec 32 := Scalar.extui v291
  let c0_i32_130 : BitVec 32 := 0#32
  let v293 : BitVec 1 := Scalar.cmpi .slt c32_i32_126 c0_i32_130
  let v294 : BitVec 32 := Scalar.extui v293
  let v295 : BitVec 32 := Scalar.subi v292 v294
  let v296 : BitVec 1 := Scalar.cmpi .ne v290 v295
  let v297 : BitVec 32 := Scalar.remsi v149 c32_i32_126
  let c0_i32_131 : BitVec 32 := 0#32
  let v298 : BitVec 1 := Scalar.cmpi .ne v297 c0_i32_131
  let v299 : BitVec 1 := Scalar.andi v296 v298
  let v285 : BitVec 32 := Scalar.divsi v149 c32_i32_126
  let c1_i32_132 : BitVec 32 := 1#32
  let v300 : BitVec 32 := Scalar.subi v285 c1_i32_132
  let v301 : BitVec 32 := Scalar.select v299 v300 v285
  let v302 : BitVec 32 := v301
  let v303 : Index := Scalar.indexCast v302
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  let v105 : BitVec 32 := v104
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  let v137 : BitVec 32 := v136
  let v162 : BitVec 32 := Scalar.addi v105 v137
  let v163 : BitVec 32 := v162
  let v304 : Index := Scalar.indexCast v163
  ![v303.toNat, v304.toNat]
def k0_off27 (k0_t2 : Fin k0_t2_loop.trips) (k0_t3 : Fin k0_t3_loop.trips) : Fin 3 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v311 : Index := Scalar.indexCast v161
  let c0_135 : Index := 0#32
  let c0_136 : Index := 0#32
  ![v311.toNat, 0, 0]
def k0_off28 (k0_t2 : Fin k0_t2_loop.trips) (k0_t3 : Fin k0_t3_loop.trips) : Fin 3 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v320 : Index := Scalar.indexCast v161
  let c8 : Index := 8#32
  let c0_139 : Index := 0#32
  ![v320.toNat, 8, 0]
@[reducible] def k0_t5_loop : Scf.Loop 32 :=
  let c0_i32_141 : BitVec 32 := 0#32
  let c8_i32_142 : BitVec 32 := 8#32
  let v324 : BitVec 32 := Scalar.addi c0_i32_141 c8_i32_142
  let c1_i32_143 : BitVec 32 := 1#32
  ⟨c0_i32_141, v324, c1_i32_143⟩
def k0_mult8 (k0_t3 : Fin k0_t3_loop.trips) (k0_t5 : Fin k0_t5_loop.trips) : BitVec 32 :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_146 : BitVec 32 := 0#32
  let c0_i32_141 : BitVec 32 := 0#32
  let c1_i32_143 : BitVec 32 := 1#32
  let arg17 : BitVec 32 := Scf.iv c0_i32_141 c1_i32_143 k0_t5
  let c1_i32_145 : BitVec 32 := 1#32
  let v325 : BitVec 32 := Scalar.muli arg17 c1_i32_145
  let v326 : BitVec 32 := Scalar.addi c0_i32_146 v325
  let c32_i32_147 : BitVec 32 := 32#32
  let v327 : BitVec 32 := Scalar.muli v326 c32_i32_147
  let v328 : BitVec 32 := Scalar.addi v149 v327
  v328
def k0_off29 (k0_t2 : Fin k0_t2_loop.trips) (k0_t3 : Fin k0_t3_loop.trips) (k0_t5 : Fin k0_t5_loop.trips) : Fin 3 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v330 : Index := Scalar.indexCast v161
  let c0_i32_146 : BitVec 32 := 0#32
  let c0_i32_141 : BitVec 32 := 0#32
  let c1_i32_143 : BitVec 32 := 1#32
  let arg17 : BitVec 32 := Scf.iv c0_i32_141 c1_i32_143 k0_t5
  let c1_i32_145 : BitVec 32 := 1#32
  let v325 : BitVec 32 := Scalar.muli arg17 c1_i32_145
  let v326 : BitVec 32 := Scalar.addi c0_i32_146 v325
  let v331 : Index := Scalar.indexCast v326
  let c0_148 : Index := 0#32
  ![v330.toNat, v331.toNat, 0]
def k0_off30 (k0_t2 : Fin k0_t2_loop.trips) (k0_t3 : Fin k0_t3_loop.trips) (k0_t5 : Fin k0_t5_loop.trips) : Fin 3 → Nat :=
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c4_i32_87 : BitVec 32 := 4#32
  let v150 : BitVec 32 := Scalar.muli v103 c4_i32_87
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let v151 : BitVec 32 := Scalar.addi v150 v118
  let c8_i32_88 : BitVec 32 := 8#32
  let c0_i32_89 : BitVec 32 := 0#32
  let v152 : BitVec 1 := Scalar.cmpi .eq c8_i32_88 c0_i32_89
  let c1_i32_90 : BitVec 32 := 1#32
  let v153 : BitVec 32 := Scalar.select v152 c1_i32_90 c8_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let v338 : Index := Scalar.indexCast v161
  let c8_i32_149 : BitVec 32 := 8#32
  let c0_i32_146 : BitVec 32 := 0#32
  let c0_i32_141 : BitVec 32 := 0#32
  let c1_i32_143 : BitVec 32 := 1#32
  let arg17 : BitVec 32 := Scf.iv c0_i32_141 c1_i32_143 k0_t5
  let c1_i32_145 : BitVec 32 := 1#32
  let v325 : BitVec 32 := Scalar.muli arg17 c1_i32_145
  let v326 : BitVec 32 := Scalar.addi c0_i32_146 v325
  let v337 : BitVec 32 := Scalar.addi c8_i32_149 v326
  let v339 : Index := Scalar.indexCast v337
  let c0_150 : Index := 0#32
  ![v338.toNat, v339.toNat, 0]
def k0_off31 (i : grid0.Coords) : Fin 5 → Nat :=
  let arg0 : BitVec 32 := BitVec.ofNat 32 (i 0).val
  let c3_i32_47 : BitVec 32 := 3#32
  let c0_i32_48 : BitVec 32 := 0#32
  let v88 : BitVec 1 := Scalar.cmpi .eq c3_i32_47 c0_i32_48
  let c1_i32_49 : BitVec 32 := 1#32
  let v89 : BitVec 32 := Scalar.select v88 c1_i32_49 c3_i32_47
  let v90 : BitVec 32 := Scalar.remsi arg0 v89
  let c0_i32_51 : BitVec 32 := 0#32
  let v92 : BitVec 1 := Scalar.cmpi .slt v90 c0_i32_51
  let c0_i32_52 : BitVec 32 := 0#32
  let v93 : BitVec 1 := Scalar.cmpi .slt v89 c0_i32_52
  let v94 : BitVec 1 := Scalar.xori v92 v93
  let c0_i32_50 : BitVec 32 := 0#32
  let v91 : BitVec 1 := Scalar.cmpi .ne v90 c0_i32_50
  let v95 : BitVec 1 := Scalar.andi v94 v91
  let v96 : BitVec 32 := Scalar.addi v90 v89
  let v97 : BitVec 32 := Scalar.select v95 v96 v90
  let c0_i32_166 : BitVec 32 := 0#32
  let c0_i32_167 : BitVec 32 := 0#32
  let c0_i32_168 : BitVec 32 := 0#32
  let c0_i32_169 : BitVec 32 := 0#32
  ![v97.toNat, 0, 0, 0, 0]
def k0_off32 (k0_t2 : Fin k0_t2_loop.trips) (k0_t3 : Fin k0_t3_loop.trips) (k0_t5 : Fin k0_t5_loop.trips) : Fin 4 → Nat :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_146 : BitVec 32 := 0#32
  let c0_i32_141 : BitVec 32 := 0#32
  let c1_i32_143 : BitVec 32 := 1#32
  let arg17 : BitVec 32 := Scf.iv c0_i32_141 c1_i32_143 k0_t5
  let c1_i32_145 : BitVec 32 := 1#32
  let v325 : BitVec 32 := Scalar.muli arg17 c1_i32_145
  let v326 : BitVec 32 := Scalar.addi c0_i32_146 v325
  let c32_i32_147 : BitVec 32 := 32#32
  let v327 : BitVec 32 := Scalar.muli v326 c32_i32_147
  let v328 : BitVec 32 := Scalar.addi v149 v327
  let v329 : BitVec 32 := v328
  let c0_i32_153 : BitVec 32 := 0#32
  let v348 : BitVec 1 := Scalar.cmpi .sgt v329 c0_i32_153
  let v349 : BitVec 32 := Scalar.extui v348
  let c0_i32_154 : BitVec 32 := 0#32
  let v350 : BitVec 1 := Scalar.cmpi .slt v329 c0_i32_154
  let v351 : BitVec 32 := Scalar.extui v350
  let v352 : BitVec 32 := Scalar.subi v349 v351
  let c16_i32_152 : BitVec 32 := 16#32
  let c0_i32_155 : BitVec 32 := 0#32
  let v353 : BitVec 1 := Scalar.cmpi .sgt c16_i32_152 c0_i32_155
  let v354 : BitVec 32 := Scalar.extui v353
  let c0_i32_156 : BitVec 32 := 0#32
  let v355 : BitVec 1 := Scalar.cmpi .slt c16_i32_152 c0_i32_156
  let v356 : BitVec 32 := Scalar.extui v355
  let v357 : BitVec 32 := Scalar.subi v354 v356
  let v358 : BitVec 1 := Scalar.cmpi .ne v352 v357
  let v359 : BitVec 32 := Scalar.remsi v329 c16_i32_152
  let c0_i32_157 : BitVec 32 := 0#32
  let v360 : BitVec 1 := Scalar.cmpi .ne v359 c0_i32_157
  let v361 : BitVec 1 := Scalar.andi v358 v360
  let v347 : BitVec 32 := Scalar.divsi v329 c16_i32_152
  let c1_i32_158 : BitVec 32 := 1#32
  let v362 : BitVec 32 := Scalar.subi v347 c1_i32_158
  let v363 : BitVec 32 := Scalar.select v361 v362 v347
  let v383 : Index := Scalar.indexCast v363
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  let v105 : BitVec 32 := v104
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  let v137 : BitVec 32 := v136
  let v162 : BitVec 32 := Scalar.addi v105 v137
  let v163 : BitVec 32 := v162
  let c0_i32_160 : BitVec 32 := 0#32
  let v365 : BitVec 1 := Scalar.cmpi .sgt v163 c0_i32_160
  let v366 : BitVec 32 := Scalar.extui v365
  let c0_i32_161 : BitVec 32 := 0#32
  let v367 : BitVec 1 := Scalar.cmpi .slt v163 c0_i32_161
  let v368 : BitVec 32 := Scalar.extui v367
  let v369 : BitVec 32 := Scalar.subi v366 v368
  let c128_i32_159 : BitVec 32 := 128#32
  let c0_i32_162 : BitVec 32 := 0#32
  let v370 : BitVec 1 := Scalar.cmpi .sgt c128_i32_159 c0_i32_162
  let v371 : BitVec 32 := Scalar.extui v370
  let c0_i32_163 : BitVec 32 := 0#32
  let v372 : BitVec 1 := Scalar.cmpi .slt c128_i32_159 c0_i32_163
  let v373 : BitVec 32 := Scalar.extui v372
  let v374 : BitVec 32 := Scalar.subi v371 v373
  let v375 : BitVec 1 := Scalar.cmpi .ne v369 v374
  let v376 : BitVec 32 := Scalar.remsi v163 c128_i32_159
  let c0_i32_164 : BitVec 32 := 0#32
  let v377 : BitVec 1 := Scalar.cmpi .ne v376 c0_i32_164
  let v378 : BitVec 1 := Scalar.andi v375 v377
  let v364 : BitVec 32 := Scalar.divsi v163 c128_i32_159
  let c1_i32_165 : BitVec 32 := 1#32
  let v379 : BitVec 32 := Scalar.subi v364 c1_i32_165
  let v380 : BitVec 32 := Scalar.select v378 v379 v364
  let v384 : Index := Scalar.indexCast v380
  let c0_170 : Index := 0#32
  let c0_171 : Index := 0#32
  ![v383.toNat, v384.toNat, 0, 0]
def k0_off33 (k0_t2 : Fin k0_t2_loop.trips) (k0_t3 : Fin k0_t3_loop.trips) (k0_t5 : Fin k0_t5_loop.trips) : Fin 4 → Nat :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_146 : BitVec 32 := 0#32
  let c0_i32_141 : BitVec 32 := 0#32
  let c1_i32_143 : BitVec 32 := 1#32
  let arg17 : BitVec 32 := Scf.iv c0_i32_141 c1_i32_143 k0_t5
  let c1_i32_145 : BitVec 32 := 1#32
  let v325 : BitVec 32 := Scalar.muli arg17 c1_i32_145
  let v326 : BitVec 32 := Scalar.addi c0_i32_146 v325
  let c32_i32_147 : BitVec 32 := 32#32
  let v327 : BitVec 32 := Scalar.muli v326 c32_i32_147
  let v328 : BitVec 32 := Scalar.addi v149 v327
  let v329 : BitVec 32 := v328
  let c16_i32_151 : BitVec 32 := 16#32
  let v346 : BitVec 32 := Scalar.addi v329 c16_i32_151
  let c0_i32_174 : BitVec 32 := 0#32
  let v393 : BitVec 1 := Scalar.cmpi .sgt v346 c0_i32_174
  let v394 : BitVec 32 := Scalar.extui v393
  let c0_i32_175 : BitVec 32 := 0#32
  let v395 : BitVec 1 := Scalar.cmpi .slt v346 c0_i32_175
  let v396 : BitVec 32 := Scalar.extui v395
  let v397 : BitVec 32 := Scalar.subi v394 v396
  let c16_i32_173 : BitVec 32 := 16#32
  let c0_i32_176 : BitVec 32 := 0#32
  let v398 : BitVec 1 := Scalar.cmpi .sgt c16_i32_173 c0_i32_176
  let v399 : BitVec 32 := Scalar.extui v398
  let c0_i32_177 : BitVec 32 := 0#32
  let v400 : BitVec 1 := Scalar.cmpi .slt c16_i32_173 c0_i32_177
  let v401 : BitVec 32 := Scalar.extui v400
  let v402 : BitVec 32 := Scalar.subi v399 v401
  let v403 : BitVec 1 := Scalar.cmpi .ne v397 v402
  let v404 : BitVec 32 := Scalar.remsi v346 c16_i32_173
  let c0_i32_178 : BitVec 32 := 0#32
  let v405 : BitVec 1 := Scalar.cmpi .ne v404 c0_i32_178
  let v406 : BitVec 1 := Scalar.andi v403 v405
  let v392 : BitVec 32 := Scalar.divsi v346 c16_i32_173
  let c1_i32_179 : BitVec 32 := 1#32
  let v407 : BitVec 32 := Scalar.subi v392 c1_i32_179
  let v408 : BitVec 32 := Scalar.select v406 v407 v392
  let v428 : Index := Scalar.indexCast v408
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  let v105 : BitVec 32 := v104
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  let v137 : BitVec 32 := v136
  let v162 : BitVec 32 := Scalar.addi v105 v137
  let v163 : BitVec 32 := v162
  let c0_i32_181 : BitVec 32 := 0#32
  let v410 : BitVec 1 := Scalar.cmpi .sgt v163 c0_i32_181
  let v411 : BitVec 32 := Scalar.extui v410
  let c0_i32_182 : BitVec 32 := 0#32
  let v412 : BitVec 1 := Scalar.cmpi .slt v163 c0_i32_182
  let v413 : BitVec 32 := Scalar.extui v412
  let v414 : BitVec 32 := Scalar.subi v411 v413
  let c128_i32_180 : BitVec 32 := 128#32
  let c0_i32_183 : BitVec 32 := 0#32
  let v415 : BitVec 1 := Scalar.cmpi .sgt c128_i32_180 c0_i32_183
  let v416 : BitVec 32 := Scalar.extui v415
  let c0_i32_184 : BitVec 32 := 0#32
  let v417 : BitVec 1 := Scalar.cmpi .slt c128_i32_180 c0_i32_184
  let v418 : BitVec 32 := Scalar.extui v417
  let v419 : BitVec 32 := Scalar.subi v416 v418
  let v420 : BitVec 1 := Scalar.cmpi .ne v414 v419
  let v421 : BitVec 32 := Scalar.remsi v163 c128_i32_180
  let c0_i32_185 : BitVec 32 := 0#32
  let v422 : BitVec 1 := Scalar.cmpi .ne v421 c0_i32_185
  let v423 : BitVec 1 := Scalar.andi v420 v422
  let v409 : BitVec 32 := Scalar.divsi v163 c128_i32_180
  let c1_i32_186 : BitVec 32 := 1#32
  let v424 : BitVec 32 := Scalar.subi v409 c1_i32_186
  let v425 : BitVec 32 := Scalar.select v423 v424 v409
  let v429 : Index := Scalar.indexCast v425
  let c0_191 : Index := 0#32
  let c0_192 : Index := 0#32
  ![v428.toNat, v429.toNat, 0, 0]
def k0_off34 (k0_t2 : Fin k0_t2_loop.trips) (k0_t3 : Fin k0_t3_loop.trips) (k0_t5 : Fin k0_t5_loop.trips) : Fin 2 → Nat :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_146 : BitVec 32 := 0#32
  let c0_i32_141 : BitVec 32 := 0#32
  let c1_i32_143 : BitVec 32 := 1#32
  let arg17 : BitVec 32 := Scf.iv c0_i32_141 c1_i32_143 k0_t5
  let c1_i32_145 : BitVec 32 := 1#32
  let v325 : BitVec 32 := Scalar.muli arg17 c1_i32_145
  let v326 : BitVec 32 := Scalar.addi c0_i32_146 v325
  let c32_i32_147 : BitVec 32 := 32#32
  let v327 : BitVec 32 := Scalar.muli v326 c32_i32_147
  let v328 : BitVec 32 := Scalar.addi v149 v327
  let v329 : BitVec 32 := v328
  let v439 : Index := Scalar.indexCast v329
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  let v105 : BitVec 32 := v104
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  let v137 : BitVec 32 := v136
  let v162 : BitVec 32 := Scalar.addi v105 v137
  let v163 : BitVec 32 := v162
  let v440 : Index := Scalar.indexCast v163
  ![v439.toNat, v440.toNat]
def k0_off35 (k0_t3 : Fin k0_t3_loop.trips) (k0_t5 : Fin k0_t5_loop.trips) : Fin 2 → Nat :=
  let c0_i32_71 : BitVec 32 := 0#32
  let c0_i32_60 : BitVec 32 := 0#32
  let c1_i32_62 : BitVec 32 := 1#32
  let arg16 : BitVec 32 := Scf.iv c0_i32_60 c1_i32_62 k0_t3
  let c1_i32_70 : BitVec 32 := 1#32
  let v117 : BitVec 32 := Scalar.muli arg16 c1_i32_70
  let v118 : BitVec 32 := Scalar.addi c0_i32_71 v117
  let c2_i32_80 : BitVec 32 := 2#32
  let c0_i32_81 : BitVec 32 := 0#32
  let v138 : BitVec 1 := Scalar.cmpi .eq c2_i32_80 c0_i32_81
  let c1_i32_82 : BitVec 32 := 1#32
  let v139 : BitVec 32 := Scalar.select v138 c1_i32_82 c2_i32_80
  let v140 : BitVec 32 := Scalar.remsi v118 v139
  let c0_i32_84 : BitVec 32 := 0#32
  let v142 : BitVec 1 := Scalar.cmpi .slt v140 c0_i32_84
  let c0_i32_85 : BitVec 32 := 0#32
  let v143 : BitVec 1 := Scalar.cmpi .slt v139 c0_i32_85
  let v144 : BitVec 1 := Scalar.xori v142 v143
  let c0_i32_83 : BitVec 32 := 0#32
  let v141 : BitVec 1 := Scalar.cmpi .ne v140 c0_i32_83
  let v145 : BitVec 1 := Scalar.andi v144 v141
  let v146 : BitVec 32 := Scalar.addi v140 v139
  let v147 : BitVec 32 := Scalar.select v145 v146 v140
  let c256_i32_86 : BitVec 32 := 256#32
  let v148 : BitVec 32 := Scalar.muli v147 c256_i32_86
  let v149 : BitVec 32 := v148
  let c0_i32_146 : BitVec 32 := 0#32
  let c0_i32_141 : BitVec 32 := 0#32
  let c1_i32_143 : BitVec 32 := 1#32
  let arg17 : BitVec 32 := Scf.iv c0_i32_141 c1_i32_143 k0_t5
  let c1_i32_145 : BitVec 32 := 1#32
  let v325 : BitVec 32 := Scalar.muli arg17 c1_i32_145
  let v326 : BitVec 32 := Scalar.addi c0_i32_146 v325
  let c32_i32_147 : BitVec 32 := 32#32
  let v327 : BitVec 32 := Scalar.muli v326 c32_i32_147
  let v328 : BitVec 32 := Scalar.addi v149 v327
  let v329 : BitVec 32 := v328
  let v444 : Index := Scalar.indexCast v329
  let c0_i32_73 : BitVec 32 := 0#32
  let v120 : BitVec 1 := Scalar.cmpi .sgt v118 c0_i32_73
  let v121 : BitVec 32 := Scalar.extui v120
  let c0_i32_74 : BitVec 32 := 0#32
  let v122 : BitVec 1 := Scalar.cmpi .slt v118 c0_i32_74
  let v123 : BitVec 32 := Scalar.extui v122
  let v124 : BitVec 32 := Scalar.subi v121 v123
  let c2_i32_72 : BitVec 32 := 2#32
  let c0_i32_75 : BitVec 32 := 0#32
  let v125 : BitVec 1 := Scalar.cmpi .sgt c2_i32_72 c0_i32_75
  let v126 : BitVec 32 := Scalar.extui v125
  let c0_i32_76 : BitVec 32 := 0#32
  let v127 : BitVec 1 := Scalar.cmpi .slt c2_i32_72 c0_i32_76
  let v128 : BitVec 32 := Scalar.extui v127
  let v129 : BitVec 32 := Scalar.subi v126 v128
  let v130 : BitVec 1 := Scalar.cmpi .ne v124 v129
  let v131 : BitVec 32 := Scalar.remsi v118 c2_i32_72
  let c0_i32_77 : BitVec 32 := 0#32
  let v132 : BitVec 1 := Scalar.cmpi .ne v131 c0_i32_77
  let v133 : BitVec 1 := Scalar.andi v130 v132
  let v119 : BitVec 32 := Scalar.divsi v118 c2_i32_72
  let c1_i32_78 : BitVec 32 := 1#32
  let v134 : BitVec 32 := Scalar.subi v119 c1_i32_78
  let v135 : BitVec 32 := Scalar.select v133 v134 v119
  let c128_i32_79 : BitVec 32 := 128#32
  let v136 : BitVec 32 := Scalar.muli v135 c128_i32_79
  let v137 : BitVec 32 := v136
  let v445 : Index := Scalar.indexCast v137
  ![v444.toNat, v445.toNat]
def k0_off36 (k0_t2 : Fin k0_t2_loop.trips) : Fin 2 → Nat :=
  let c0_64 : Index := 0#32
  let c0_i32_59 : BitVec 32 := 0#32
  let c0_i32_53 : BitVec 32 := 0#32
  let c1_i32_54 : BitVec 32 := 1#32
  let arg15 : BitVec 32 := Scf.iv c0_i32_53 c1_i32_54 k0_t2
  let c1_i32_58 : BitVec 32 := 1#32
  let v102 : BitVec 32 := Scalar.muli arg15 c1_i32_58
  let v103 : BitVec 32 := Scalar.addi c0_i32_59 v102
  let c256_i32 : BitVec 32 := 256#32
  let v104 : BitVec 32 := Scalar.muli v103 c256_i32
  let v105 : BitVec 32 := v104
  let v107 : Index := Scalar.indexCast v105
  ![0, v107.toNat]
def k0_cond3 (i : grid0.Coords) : BitVec 1 :=
  let arg0 : BitVec 32 := BitVec.ofNat 32 (i 0).val
  let c31_i32_56 : BitVec 32 := 31#32
  let v99 : BitVec 1 := Scalar.cmpi .eq arg0 c31_i32_56
  let v100 : BitVec 32 := Scalar.extui v99
  let c0_i32_57 : BitVec 32 := 0#32
  let v101 : BitVec 1 := Scalar.cmpi .ne v100 c0_i32_57
  v101

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S112x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S112x5376 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S112x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S112x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5376 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x5376 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S112x1x16384 : Shape := ⟨3, ![112, 1, 16384]⟩
abbrev S16384x5376 : Shape := ⟨2, ![16384, 5376]⟩
abbrev S112x16384 : Shape := ⟨2, ![112, 16384]⟩
abbrev S112x5376 : Shape := ⟨2, ![112, 5376]⟩
abbrev S112x512 : Shape := ⟨2, ![112, 512]⟩
abbrev S512x5376 : Shape := ⟨2, ![512, 5376]⟩
abbrev S112x512x32 : Shape := ⟨3, ![112, 512, 32]⟩
abbrev S112x512x1 : Shape := ⟨3, ![112, 512, 1]⟩
abbrev S512x32x5376 : Shape := ⟨3, ![512, 32, 5376]⟩
abbrev S512x1x5376 : Shape := ⟨3, ![512, 1, 5376]⟩

abbrev nBuf : Space → Nat
  | .hbm => 8
  | .vmem => 7
  | .smem => 0
  | _ => 0

abbrev bufTy : (tb : Table) → Fin (tcTables nBuf tb) → BufTy
  | .hbm, ⟨0, _⟩ => ⟨S112x1x16384, .bf16⟩
  | .hbm, ⟨1, _⟩ => ⟨S16384x5376, .bf16⟩
  | .hbm, ⟨2, _⟩ => ⟨S112x16384, .bf16⟩
  | .hbm, ⟨3, _⟩ => ⟨S112x5376, .bf16⟩
  | .hbm, ⟨4, _⟩ => ⟨S112x16384, .fp8e4m3⟩
  | .hbm, ⟨5, _⟩ => ⟨S112x512, .f32⟩
  | .hbm, ⟨6, _⟩ => ⟨S16384x5376, .fp8e4m3⟩
  | .hbm, ⟨7, _⟩ => ⟨S512x5376, .f32⟩
  | .local _ .vmem, ⟨0, _⟩ => ⟨S112x16384, .bf16⟩
  | .local _ .vmem, ⟨1, _⟩ => ⟨S16384x5376, .bf16⟩
  | .local _ .vmem, ⟨2, _⟩ => ⟨S112x5376, .bf16⟩
  | .local _ .vmem, ⟨3, _⟩ => ⟨S112x16384, .fp8e4m3⟩
  | .local _ .vmem, ⟨4, _⟩ => ⟨S112x512, .f32⟩
  | .local _ .vmem, ⟨5, _⟩ => ⟨S16384x5376, .fp8e4m3⟩
  | .local _ .vmem, ⟨6, _⟩ => ⟨S512x5376, .f32⟩
  | _, _ => ⟨S112x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S112x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x5376 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x16384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S112x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x5376 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x5376 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KLoops.lean ====
/- The printed kernel's inner counted loops, contents not tracked: what each trip touches is held at
   some contents before and after. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.KitQuiescent
public import Idealize.ShloMosaic.Lib.Ring
public import Idealize.ShloMosaic.Lib.Batch
public import Idealize.ShloMosaic.Lib.Affine
public import Idealize.ShloMosaic.Lib.Tactic

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The pipeline library's algebra beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

/-- The weights in HBM, the weight ring, and the other scratch buffers, as the body receives them. -/
abbrev aM : Memref sig .tc .hbm S1024x2x42x8x128 .bf16 := Memref.whole main_v1
abbrev accM : Memref sig .tc .vmem S112x5376 .f32 := Memref.whole cc0_scratch0
abbrev xqM : Memref sig .tc .vmem S112x512 .bf16 := Memref.whole cc0_scratch1
abbrev wqM : Memref sig .tc .vmem S512x256 .bf16 := Memref.whole cc0_scratch2
abbrev stM : Memref sig .tc .vmem S8x72x128 .i32 := Memref.whole cc0_scratch3
abbrev pwM : Memref sig .tc .vmem S8x16x128 .i32 := Memref.whole cc0_scratch4
abbrev bufM : Memref sig .tc .vmem S3x32x42x16x128 .bf16 := Memref.whole cc0_scratch5

/-- A memref held on its own elements at some contents. -/
abbrev held (c : Dev nD) {sp : Space} {S : Shape} {e : EltTy} (M : Memref sig .tc sp S e) : sProp 𝕄 :=
  iprop(∃ f, M.view.loc (c : Thread nD τ) ↦[M.view.set]{fullShare} f)

/-- A scratch memref's buffer held whole at some contents. -/
abbrev heldW (c : Dev nD) {sp : Space} {S : Shape} {e : EltTy} (M : Memref sig .tc sp S e) : sProp 𝕄 :=
  iprop(∃ f, M.view.loc (c : Thread nD τ) ↦{fullShare} f)

/-- Slot `s` of the weight ring, as the compute loops slice and squeeze it. -/
abbrev slotOff (s : Fin 3) : Fin 5 → Nat := ![s.val, 0, 0, 0, 0]
/-- Within the shape. -/
theorem slotOff_inb (s : Fin 3) : ∀ a, slotOff s a + S1x32x42x16x128.size a ≤ S3x32x42x16x128.size a := by
  revert s; decide
def wslot (s : Fin 3) : Memref sig .tc .vmem S32x42x16x128 .bf16 :=
  (bufM.slice (Rect.unit (s := S3x32x42x16x128) (slotOff s) S1x32x42x16x128.size (slotOff_inb s)) (fun _ => rfl)).squeeze S32x42x16x128 squeezes_S1x32x42x16x128_S32x42x16x128

/-- The offset, in closed form. -/
theorem off13_eq : ∀ i : grid0.Coords, k0_off13 i = slotOff (Ring.sl 3 (i 0).val) := by decide +kernel
/-- The offset, in closed form. -/
theorem off31_eq : ∀ i : grid0.Coords, k0_off31 i = slotOff (Ring.sl 3 (i 0).val) := by decide +kernel

/-- The same slot from the same offset. -/
theorem wslot_congr {off : Fin 5 → Nat} {s : Fin 3} (e : off = slotOff s) (hh hs) :
    (bufM.slice (Rect.unit (s := S3x32x42x16x128) off S1x32x42x16x128.size hh) hs).squeeze S32x42x16x128 squeezes_S1x32x42x16x128_S32x42x16x128 = wslot s :=
  congrArg (fun M : Memref sig .tc .vmem S1x32x42x16x128 .bf16 => M.squeeze S32x42x16x128 squeezes_S1x32x42x16x128_S32x42x16x128) (Memref.slice_unit_congr _ e _ _ _ _)
@[sl_canon] theorem slot13 (i : grid0.Coords) (hh hs) :
    (bufM.slice (Rect.unit (s := S3x32x42x16x128) (k0_off13 i) S1x32x42x16x128.size hh) hs).squeeze S32x42x16x128 squeezes_S1x32x42x16x128_S32x42x16x128 = wslot (Ring.sl 3 (i 0).val) :=
  wslot_congr (off13_eq i) _ _
@[sl_canon] theorem slot31 (i : grid0.Coords) (hh hs) :
    (bufM.slice (Rect.unit (s := S3x32x42x16x128) (k0_off31 i) S1x32x42x16x128.size hh) hs).squeeze S32x42x16x128 squeezes_S1x32x42x16x128_S32x42x16x128 = wslot (Ring.sl 3 (i 0).val) :=
  wslot_congr (off31_eq i) _ _

section Loops

variable (c : Dev nD) (i : grid0.Coords)
  (arg1 : Memref sig .tc .vmem S112x512 .bf16) (harg1 : arg1.IsWhole) (arg3 : Memref sig .tc .vmem S112x5376 .bf16) (harg3 : arg3.IsWhole)
  (arg4 : Memref sig .tc .vmem S112x512 .fp8e4m3) (harg4 : arg4.IsWhole) (arg5 : Memref sig .tc .vmem S112x512 .f32) (harg5 : arg5.IsWhole)
  (arg6 : Memref sig .tc .vmem S512x5376 .fp8e4m3) (harg6 : arg6.IsWhole) (arg7 : Memref sig .tc .vmem S16x5376 .f32) (harg7 : arg7.IsWhole)

set_option sl_exec.squeezeSlice true in
set_option warn.classDefReducibility false in
/-- The group loop that stores the group maxima: the statistics scratch and the ring slot at some contents. -/
@[sl_loop] def loopInv_k0_t4 (k0_t2 : Fin k0_t2_loop.trips) (v105 : BitVec 32) (k0_t3 : Fin k0_t3_loop.trips) (v137 v149 v153 v154 v163 : BitVec 32) :
    LoopInvTy_k0_t4 (F := F) Unit ℕ (UU nD τ) ℕ 𝒱₀ c none Set.univ i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6 k0_t2 v105 k0_t3 v137 v149 v153 v154 v163 where
  inv _ _ := iprop(heldW c stM ∗ held c (wslot (Ring.sl 3 (i 0).val)))
  step k _ := by
    iintro ⟨⟨%fs, HS⟩, ⟨%fw, HW⟩⟩
    sl_unfold [k0_t4_body]
    sl_exec
    sl_step
    isplitl [HS]; · iexists _; iexact HS
    iexists _; iexact HW

set_option sl_exec.squeezeSlice true in
set_option warn.classDefReducibility false in
/-- The group loop that stores the codes: the powers and the ring slot read, the codes' block and the dot's operand
    written, each at some contents. -/
@[sl_loop] def loopInv_k0_t5 (k0_t2 : Fin k0_t2_loop.trips) (k0_t3 : Fin k0_t3_loop.trips) (v149 v161 v163 : BitVec 32) (cst_140 : F .bf16) (c0_i32_141 : BitVec 32) :
    LoopInvTy_k0_t5 (F := F) Unit ℕ (UU nD τ) ℕ 𝒱₀ c none Set.univ i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6 k0_t2 k0_t3 v149 v161 v163 cst_140 c0_i32_141 where
  inv _ _ := iprop(heldW c pwM ∗ held c (wslot (Ring.sl 3 (i 0).val)) ∗ held c arg6 ∗ heldW c wqM)
  step k _ := by
    iintro ⟨⟨%fp, HP⟩, ⟨%fw, HW⟩, ⟨%f6, H6⟩, ⟨%fq, HQ⟩⟩
    sl_unfold [k0_t5_body]
    sl_exec
    sl_step
    isplitl [HP]; · iexists _; iexact HP
    isplitl [HW]; · iexists _; iexact HW
    isplitl [H6]; · iexists _; iexact H6
    iexists _; iexact HQ

set_option sl_exec.squeezeSlice true in
set_option warn.classDefReducibility false in
/-- One quarter of a weight column tile: the group maxima, the scales, the codes. -/
@[sl_loop] def loopInv_k0_t3 (k0_t2 : Fin k0_t2_loop.trips) (v103 v105 : BitVec 32) :
    LoopInvTy_k0_t3 (F := F) Unit ℕ (UU nD τ) ℕ 𝒱₀ c none Set.univ i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6 k0_t2 v103 v105 where
  inv _ _ := iprop(heldW c stM ∗ heldW c pwM ∗ held c (wslot (Ring.sl 3 (i 0).val)) ∗ held c arg6 ∗ held c arg7 ∗ heldW c wqM)
  step k _ := by
    iintro ⟨⟨%fs, HS⟩, ⟨%fp, HP⟩, ⟨%fw, HW⟩, ⟨%f6, H6⟩, ⟨%f7, H7⟩, ⟨%fq, HQ⟩⟩
    sl_unfold [k0_t3_body]
    sl_exec
    sl_step
    isplitl [HS]; · iexists _; iexact HS
    isplitl [HP]; · iexists _; iexact HP
    isplitl [HW]; · iexists _; iexact HW
    isplitl [H6]; · iexists _; iexact H6
    isplitl [H7]; · iexists _; iexact H7
    iexists _; iexact HQ

set_option sl_exec.squeezeSlice true in
set_option warn.classDefReducibility false in
/-- One weight column tile: its four quarters, then the product added to the accumulator. -/
@[sl_loop] def loopInv_k0_t2 :
    LoopInvTy_k0_t2 (F := F) Unit ℕ (UU nD τ) ℕ 𝒱₀ c none Set.univ i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6 where
  inv _ _ := iprop(heldW c accM ∗ heldW c xqM ∗ heldW c stM ∗ heldW c pwM ∗ held c (wslot (Ring.sl 3 (i 0).val)) ∗ held c arg6 ∗ held c arg7 ∗ heldW c wqM)
  step k _ := by
    iintro ⟨⟨%fa, HA⟩, ⟨%fx, HX⟩, ⟨%fs, HS⟩, ⟨%fp, HP⟩, ⟨%fw, HW⟩, ⟨%f6, H6⟩, ⟨%f7, H7⟩, ⟨%fq, HQ⟩⟩
    sl_unfold [k0_t2_body]
    sl_exec
    sl_step
    isplitl [HA]; · iexists _; iexact HA
    isplitl [HX]; · iexists _; iexact HX
    isplitl [HS]; · iexists _; iexact HS
    isplitl [HP]; · iexists _; iexact HP
    isplitl [HW]; · iexists _; iexact HW
    isplitl [H6]; · iexists _; iexact H6
    isplitl [H7]; · iexists _; iexact H7
    iexists _; iexact HQ

set_option sl_exec.squeezeSlice true in
set_option warn.classDefReducibility false in
/-- The activation slab loop: the block read, its codes and the dot's left operand written, the scales' tile carried. -/
@[sl_loop] def loopInv_k0_t1 (arg0 : BitVec 32) (v7 v9 v27 : IVec S112x128 32) (c8_i32 v28 v33 v38 : BitVec 32) (init : FVec F S112x128 .f32) :
    LoopInvTy_k0_t1 (F := F) Unit ℕ (UU nD τ) ℕ 𝒱₀ c none Set.univ i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6 arg0 v7 v9 v27 c8_i32 v28 v33 v38 init where
  inv _ _ := iprop(held c arg1 ∗ held c arg4 ∗ heldW c xqM)
  step k _ := by
    iintro ⟨⟨%f1, H1⟩, ⟨%f4, H4⟩, ⟨%fx, HX⟩⟩
    sl_unfold [k0_t1_body]
    sl_exec
    sl_step
    isplitl [H1]; · iexists _; iexact H1
    isplitl [H4]; · iexists _; iexact H4
    iexists _; iexact HX

end Loops

end Cert.Proof.K

end
-- ==== Proof.KRing.lean ====
/- The weight ring of the printed kernel: canonical names of its slots, halves, cells and of the weights' blocks in
   HBM, what a block's two transfers deliver, and the elements each name stands for. -/
module

public import proofs.«01_k».proof.Proof.KLoops

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]
local notation "𝕄" => MT nD τ sig Unit (Elt F) ℕ (UU nD τ) ℕ

/-! ## Names -/

/-- Half `h` of the weights' block `b` in HBM, half `h` of ring slot `s`, and slot `s`'s cell: their offsets. -/
abbrev grpOff (b : Fin 32) (h : Fin 2) : Fin 5 → Nat := ![32 * b.val, h.val, 0, 0, 0]
/-- Within the shape. -/
theorem grpOff_inb (b : Fin 32) (h : Fin 2) : ∀ a, grpOff b h a + S32x1x42x8x128.size a ≤ S1024x2x42x8x128.size a := by
  revert b h; decide +kernel
abbrev halfOff (s : Fin 3) (h : Fin 2) : Fin 5 → Nat := ![s.val, 0, 0, 8 * h.val, 0]
/-- Within the shape. -/
theorem halfOff_inb (s : Fin 3) (h : Fin 2) : ∀ a, halfOff s h a + S1x32x42x8x128.size a ≤ S3x32x42x16x128.size a := by
  revert s h; decide +kernel
abbrev semOff (s : Fin 3) : Fin 1 → Nat := ![s.val]
/-- Within the shape. -/
theorem semOff_inb (s : Fin 3) : ∀ a, semOff s a + S1.size a ≤ S3.size a := by revert s; decide

/-- Half `h` of the weights' block `b`, as the body slices and squeezes it; -/
def grp (b : Fin 32) (h : Fin 2) : Memref sig .tc .hbm S32x42x8x128 .bf16 :=
  (aM.slice (Rect.unit (s := S1024x2x42x8x128) (grpOff b h) S32x1x42x8x128.size (grpOff_inb b h)) (fun _ => rfl)).squeeze S32x42x8x128 squeezes_S32x1x42x8x128_S32x42x8x128
/-- half `h` of ring slot `s`; -/
def rslot (s : Fin 3) (h : Fin 2) : Memref sig .tc .vmem S32x42x8x128 .bf16 :=
  (bufM.slice (Rect.unit (s := S3x32x42x16x128) (halfOff s h) S1x32x42x8x128.size (halfOff_inb s h)) (fun _ => rfl)).squeeze S32x42x8x128 squeezes_S1x32x42x8x128_S32x42x8x128
/-- slot `s`'s cell. -/
def csm (s : Fin 3) : DmaSems sig S_ := (cc0_scratch6.slice (Rect.unit (s := S3) (semOff s) S1.size (semOff_inb s))).squeeze S_ squeezes_S1_S_

instance (s : Fin 3) (h : Fin 2) : ClosedOff (halfOff s h) := ⟨halfOff s h, rfl⟩
instance (b : Fin 32) (h : Fin 2) : ClosedOff (grpOff b h) := ⟨grpOff b h, rfl⟩

/-! ## The offsets the body computes -/

/-- The offset, in closed form. -/
theorem off1_eq : ∀ i : grid0.Coords, k0_off1 i = semOff (Ring.sl 3 ((i 0).val + 2)) := by decide +kernel
/-- The offset, in closed form. -/
theorem off2_eq : ∀ i : grid0.Coords, k0_off2 i = halfOff (Ring.sl 3 ((i 0).val + 2)) 0 := by decide +kernel
/-- The offset, in closed form. -/
theorem off4_eq : ∀ i : grid0.Coords, k0_off4 i = halfOff (Ring.sl 3 ((i 0).val + 2)) 1 := by decide +kernel
/-- The offset, in closed form. -/
theorem off3_eq : ∀ i : grid0.Coords, (i 0).val + 2 < 32 → k0_off3 i = grpOff (Ring.bk 32 ((i 0).val + 2)) 0 := by decide +kernel
/-- The offset, in closed form. -/
theorem off5_eq : ∀ i : grid0.Coords, (i 0).val + 2 < 32 → k0_off5 i = grpOff (Ring.bk 32 ((i 0).val + 2)) 1 := by decide +kernel
/-- The offset, in closed form. -/
theorem off8_eq : ∀ i : grid0.Coords, k0_off8 i = semOff (Ring.sl 3 (i 0).val) := by decide +kernel
/-- The offset, in closed form. -/
theorem off9_eq : ∀ i : grid0.Coords, k0_off9 i = halfOff (Ring.sl 3 (i 0).val) 0 := by decide +kernel
/-- The offset, in closed form. -/
theorem off11_eq : ∀ i : grid0.Coords, k0_off11 i = halfOff (Ring.sl 3 (i 0).val) 1 := by decide +kernel
/-- The offset, in closed form. -/
theorem off10_eq : ∀ i : grid0.Coords, k0_off10 i = grpOff (Ring.bk 32 (i 0).val) 0 := by decide +kernel
/-- The offset, in closed form. -/
theorem off12_eq : ∀ i : grid0.Coords, k0_off12 i = grpOff (Ring.bk 32 (i 0).val) 1 := by decide +kernel

/-! ## The canonical-name equations: the body's slices are `csm`, `rslot`, `grp` -/

theorem csm_congr {off : Fin 1 → Nat} {s : Fin 3} (e : off = semOff s) (hh) :
    (cc0_scratch6.slice (Rect.unit (s := S3) off S1.size hh)).squeeze S_ squeezes_S1_S_ = csm s :=
  congrArg (fun A : DmaSems sig S1 => A.squeeze S_ squeezes_S1_S_) (SemArray.slice_unit_congr _ e _ _)
theorem rslot_congr {off : Fin 5 → Nat} {s : Fin 3} {h : Fin 2} (e : off = halfOff s h) (hh hs) :
    (bufM.slice (Rect.unit (s := S3x32x42x16x128) off S1x32x42x8x128.size hh) hs).squeeze S32x42x8x128 squeezes_S1x32x42x8x128_S32x42x8x128 = rslot s h :=
  congrArg (fun M : Memref sig .tc .vmem S1x32x42x8x128 .bf16 => M.squeeze S32x42x8x128 squeezes_S1x32x42x8x128_S32x42x8x128) (Memref.slice_unit_congr _ e _ _ _ _)
theorem grp_congr {off : Fin 5 → Nat} {b : Fin 32} {h : Fin 2} (e : off = grpOff b h) (hh hs) :
    (aM.slice (Rect.unit (s := S1024x2x42x8x128) off S32x1x42x8x128.size hh) hs).squeeze S32x42x8x128 squeezes_S32x1x42x8x128_S32x42x8x128 = grp b h :=
  congrArg (fun M : Memref sig .tc .hbm S32x1x42x8x128 .bf16 => M.squeeze S32x42x8x128 squeezes_S32x1x42x8x128_S32x42x8x128) (Memref.slice_unit_congr _ e _ _ _ _)

/-- The first point's literal slices: cells, halves and blocks 0 and 1. -/
@[sl_canon] theorem semL0 (hh) : (cc0_scratch6.slice (Rect.unit (s := S3) ![0] S1.size hh)).squeeze S_ squeezes_S1_S_ = csm 0 := csm_congr (by decide) _
@[sl_canon] theorem semL1 (hh) : (cc0_scratch6.slice (Rect.unit (s := S3) ![1] S1.size hh)).squeeze S_ squeezes_S1_S_ = csm 1 := csm_congr (by decide) _
@[sl_canon] theorem slotL00 (hh hs) : (bufM.slice (Rect.unit (s := S3x32x42x16x128) ![0, 0, 0, 0, 0] S1x32x42x8x128.size hh) hs).squeeze S32x42x8x128 squeezes_S1x32x42x8x128_S32x42x8x128 = rslot 0 0 := rslot_congr (by decide) _ _
@[sl_canon] theorem grpL00 (hh hs) : (aM.slice (Rect.unit (s := S1024x2x42x8x128) ![0, 0, 0, 0, 0] S32x1x42x8x128.size hh) hs).squeeze S32x42x8x128 squeezes_S32x1x42x8x128_S32x42x8x128 = grp 0 0 := grp_congr (by decide) _ _
@[sl_canon] theorem slotL01 (hh hs) : (bufM.slice (Rect.unit (s := S3x32x42x16x128) ![0, 0, 0, 8, 0] S1x32x42x8x128.size hh) hs).squeeze S32x42x8x128 squeezes_S1x32x42x8x128_S32x42x8x128 = rslot 0 1 := rslot_congr (by decide) _ _
@[sl_canon] theorem grpL01 (hh hs) : (aM.slice (Rect.unit (s := S1024x2x42x8x128) ![0, 1, 0, 0, 0] S32x1x42x8x128.size hh) hs).squeeze S32x42x8x128 squeezes_S32x1x42x8x128_S32x42x8x128 = grp 0 1 := grp_congr (by decide) _ _
@[sl_canon] theorem slotL10 (hh hs) : (bufM.slice (Rect.unit (s := S3x32x42x16x128) ![1, 0, 0, 0, 0] S1x32x42x8x128.size hh) hs).squeeze S32x42x8x128 squeezes_S1x32x42x8x128_S32x42x8x128 = rslot 1 0 := rslot_congr (by decide) _ _
@[sl_canon] theorem grpL10 (hh hs) : (aM.slice (Rect.unit (s := S1024x2x42x8x128) ![32, 0, 0, 0, 0] S32x1x42x8x128.size hh) hs).squeeze S32x42x8x128 squeezes_S32x1x42x8x128_S32x42x8x128 = grp 1 0 := grp_congr (by decide) _ _
@[sl_canon] theorem slotL11 (hh hs) : (bufM.slice (Rect.unit (s := S3x32x42x16x128) ![1, 0, 0, 8, 0] S1x32x42x8x128.size hh) hs).squeeze S32x42x8x128 squeezes_S1x32x42x8x128_S32x42x8x128 = rslot 1 1 := rslot_congr (by decide) _ _
@[sl_canon] theorem grpL11 (hh hs) : (aM.slice (Rect.unit (s := S1024x2x42x8x128) ![32, 1, 0, 0, 0] S32x1x42x8x128.size hh) hs).squeeze S32x42x8x128 squeezes_S32x1x42x8x128_S32x42x8x128 = grp 1 1 := grp_congr (by decide) _ _

section
variable (i : grid0.Coords)
/-- What point `i` issues (block `i + 2`) and what it waits for (block `i`). -/
@[sl_canon] theorem semK1 (hh) : (cc0_scratch6.slice (Rect.unit (s := S3) (k0_off1 i) S1.size hh)).squeeze S_ squeezes_S1_S_ = csm (Ring.sl 3 ((i 0).val + 2)) := csm_congr (off1_eq i) _
@[sl_canon] theorem semK8 (hh) : (cc0_scratch6.slice (Rect.unit (s := S3) (k0_off8 i) S1.size hh)).squeeze S_ squeezes_S1_S_ = csm (Ring.sl 3 (i 0).val) := csm_congr (off8_eq i) _
@[sl_canon] theorem slotK2 (hh hs) : (bufM.slice (Rect.unit (s := S3x32x42x16x128) (k0_off2 i) S1x32x42x8x128.size hh) hs).squeeze S32x42x8x128 squeezes_S1x32x42x8x128_S32x42x8x128 = rslot (Ring.sl 3 ((i 0).val + 2)) 0 := rslot_congr (off2_eq i) _ _
@[sl_canon] theorem slotK4 (hh hs) : (bufM.slice (Rect.unit (s := S3x32x42x16x128) (k0_off4 i) S1x32x42x8x128.size hh) hs).squeeze S32x42x8x128 squeezes_S1x32x42x8x128_S32x42x8x128 = rslot (Ring.sl 3 ((i 0).val + 2)) 1 := rslot_congr (off4_eq i) _ _
@[sl_canon] theorem slotK9 (hh hs) : (bufM.slice (Rect.unit (s := S3x32x42x16x128) (k0_off9 i) S1x32x42x8x128.size hh) hs).squeeze S32x42x8x128 squeezes_S1x32x42x8x128_S32x42x8x128 = rslot (Ring.sl 3 (i 0).val) 0 := rslot_congr (off9_eq i) _ _
@[sl_canon] theorem slotK11 (hh hs) : (bufM.slice (Rect.unit (s := S3x32x42x16x128) (k0_off11 i) S1x32x42x8x128.size hh) hs).squeeze S32x42x8x128 squeezes_S1x32x42x8x128_S32x42x8x128 = rslot (Ring.sl 3 (i 0).val) 1 := rslot_congr (off11_eq i) _ _
@[sl_canon] theorem grpK3 (hk : (i 0).val + 2 < 32) (hh hs) : (aM.slice (Rect.unit (s := S1024x2x42x8x128) (k0_off3 i) S32x1x42x8x128.size hh) hs).squeeze S32x42x8x128 squeezes_S32x1x42x8x128_S32x42x8x128 = grp (Ring.bk 32 ((i 0).val + 2)) 0 := grp_congr (off3_eq i hk) _ _
@[sl_canon] theorem grpK5 (hk : (i 0).val + 2 < 32) (hh hs) : (aM.slice (Rect.unit (s := S1024x2x42x8x128) (k0_off5 i) S32x1x42x8x128.size hh) hs).squeeze S32x42x8x128 squeezes_S32x1x42x8x128_S32x42x8x128 = grp (Ring.bk 32 ((i 0).val + 2)) 1 := grp_congr (off5_eq i hk) _ _
@[sl_canon] theorem grpK10 (hh hs) : (aM.slice (Rect.unit (s := S1024x2x42x8x128) (k0_off10 i) S32x1x42x8x128.size hh) hs).squeeze S32x42x8x128 squeezes_S32x1x42x8x128_S32x42x8x128 = grp (Ring.bk 32 (i 0).val) 0 := grp_congr (off10_eq i) _ _
@[sl_canon] theorem grpK12 (hh hs) : (aM.slice (Rect.unit (s := S1024x2x42x8x128) (k0_off12 i) S32x1x42x8x128.size hh) hs).squeeze S32x42x8x128 squeezes_S32x1x42x8x128_S32x42x8x128 = grp (Ring.bk 32 (i 0).val) 1 := grp_congr (off12_eq i) _ _
end

/-! ## The pieces -/

section Pieces
variable (c : Dev nD) (XA : Buf (Elt F) (aM.view.loc (c : Thread nD τ)))

abbrev cellP (s : Fin 3) : sProp 𝕄 := semVal ((c : Thread nD τ), SemLoc.dma (csm s).sem) 0
/-- A half slot's contents, and a slot held half by half. -/
abbrev HB (c : Dev nD) := Buf (Elt F) (bufM.view.loc (c : Thread nD τ))
abbrev halfP (s : Fin 3) (h : Fin 2) (f : HB (F := F) c) : sProp 𝕄 :=
  (rslot s h).view.loc (c : Thread nD τ) ↦[(rslot s h).view.set]{fullShare} f
abbrev slotP (s : Fin 3) (f : HB (F := F) c × HB (F := F) c) : sProp 𝕄 := iprop(halfP c s 0 f.1 ∗ halfP c s 1 f.2)
/-- Half a block HOME, and a block home. -/
abbrev hhomeP (b : Fin 32) (h : Fin 2) : sProp 𝕄 := (grp b h).view.loc (c : Thread nD τ) ↦[(grp b h).view.set]{fullShare} XA
abbrev homeP (b : Fin 32) : sProp 𝕄 := iprop(hhomeP c XA b 0 ∗ hhomeP c XA b 1)
/-- What the transfer of half a block leaves in half a slot over prior contents. -/
abbrev landed (s : Fin 3) (b : Fin 32) (h : Fin 2) (f : HB (F := F) c) : HB (F := F) c :=
  (rslot s h).view.writes (Elt F) f [⟨Rect.whole S32x42x8x128, ReadAs.same.apply ((grp b h).view.read (Elt F) XA)⟩]
/-- What half `h`'s transfer delivers: the half landed, its source back. -/
def deliv (s : Fin 3) (b : Fin 32) (f : HB (F := F) c × HB (F := F) c) (h : Fin 2) : sProp 𝕄 :=
  iprop(halfP c s h (landed c XA s b h (if h = 0 then f.1 else f.2)) ∗ hhomeP c XA b h)
abbrev NN (s : Fin 3) : ℕ := (rslot s 0).view.amount (SemLoc.dma (csm s).sem)
/-- Slot `s` IN FLIGHT with block `b`: both transfers issued, none waited for. -/
abbrev flightP (s : Fin 3) (b : Fin 32) (f : HB (F := F) c × HB (F := F) c) : sProp 𝕄 :=
  Transfers.Batch countersEmb (c : Thread nD τ) (SemLoc.dma (csm s).sem) () (NN s) (deliv c XA s b f) 2 0

end Pieces

/-! ## The elements each name stands for -/

abbrev HS (s : Fin 3) (h : Fin 2) : Finset S3x32x42x16x128.Idx := (Rect.unit (s := S3x32x42x16x128) (halfOff s h) S1x32x42x8x128.size (halfOff_inb s h)).set
abbrev WS (s : Fin 3) : Finset S3x32x42x16x128.Idx := (Rect.unit (s := S3x32x42x16x128) (slotOff s) S1x32x42x16x128.size (slotOff_inb s)).set
abbrev GS (b : Fin 32) (h : Fin 2) : Finset S1024x2x42x8x128.Idx := (Rect.unit (s := S1024x2x42x8x128) (grpOff b h) S32x1x42x8x128.size (grpOff_inb b h)).set

theorem rslot_set (s : Fin 3) (h : Fin 2) : (rslot s h : Memref sig .tc .vmem _ _).view.set = HS s h := (View.set_reshape _ _).trans (View.set_slice_whole _ _)
theorem wslot_set (s : Fin 3) : (wslot s : Memref sig .tc .vmem _ _).view.set = WS s := (View.set_reshape _ _).trans (View.set_slice_whole _ _)
theorem grp_set (b : Fin 32) (h : Fin 2) : (grp b h : Memref sig .tc .hbm _ _).view.set = GS b h := (View.set_reshape _ _).trans (View.set_slice_whole _ _)

/-- The elements of half a slot. -/
theorem mem_HS (s : Fin 3) (h : Fin 2) (y : S3x32x42x16x128.Idx) : y ∈ HS s h ↔ (y 0).val = s.val ∧ (y 3).val / 8 = h.val := by
  rw [Rect.mem_set_unit]
  have h1 : (y 1).val < 32 := (y 1).isLt
  have h2 : (y 2).val < 42 := (y 2).isLt
  have h3 : (y 3).val < 16 := (y 3).isLt
  have h4 : (y 4).val < 128 := (y 4).isLt
  constructor
  · intro H
    have a0 : s.val ≤ (y 0).val ∧ (y 0).val < s.val + 1 := H 0
    have a3 : 8 * h.val ≤ (y 3).val ∧ (y 3).val < 8 * h.val + 8 := H 3
    omega
  · intro H i; fin_cases i
    · show s.val ≤ (y 0).val ∧ (y 0).val < s.val + 1; omega
    · show 0 ≤ (y 1).val ∧ (y 1).val < 0 + 32; omega
    · show 0 ≤ (y 2).val ∧ (y 2).val < 0 + 42; omega
    · show 8 * h.val ≤ (y 3).val ∧ (y 3).val < 8 * h.val + 8; omega
    · show 0 ≤ (y 4).val ∧ (y 4).val < 0 + 128; omega
/-- The elements of a slot. -/
theorem mem_WS (s : Fin 3) (y : S3x32x42x16x128.Idx) : y ∈ WS s ↔ (y 0).val = s.val := by
  rw [Rect.mem_set_unit]
  have h1 : (y 1).val < 32 := (y 1).isLt
  have h2 : (y 2).val < 42 := (y 2).isLt
  have h3 : (y 3).val < 16 := (y 3).isLt
  have h4 : (y 4).val < 128 := (y 4).isLt
  constructor
  · intro H
    have a0 : s.val ≤ (y 0).val ∧ (y 0).val < s.val + 1 := H 0
    omega
  · intro H i; fin_cases i
    · show s.val ≤ (y 0).val ∧ (y 0).val < s.val + 1; omega
    · show 0 ≤ (y 1).val ∧ (y 1).val < 0 + 32; omega
    · show 0 ≤ (y 2).val ∧ (y 2).val < 0 + 42; omega
    · show 0 ≤ (y 3).val ∧ (y 3).val < 0 + 16; omega
    · show 0 ≤ (y 4).val ∧ (y 4).val < 0 + 128; omega
/-- The elements of half a block of the weights. -/
theorem mem_GS (b : Fin 32) (h : Fin 2) (y : S1024x2x42x8x128.Idx) : y ∈ GS b h ↔ (y 0).val / 32 = b.val ∧ (y 1).val = h.val := by
  rw [Rect.mem_set_unit]
  have h2 : (y 2).val < 42 := (y 2).isLt
  have h3 : (y 3).val < 8 := (y 3).isLt
  have h4 : (y 4).val < 128 := (y 4).isLt
  constructor
  · intro H
    have a0 : 32 * b.val ≤ (y 0).val ∧ (y 0).val < 32 * b.val + 32 := H 0
    have a1 : h.val ≤ (y 1).val ∧ (y 1).val < h.val + 1 := H 1
    omega
  · intro H i; fin_cases i
    · show 32 * b.val ≤ (y 0).val ∧ (y 0).val < 32 * b.val + 32; omega
    · show h.val ≤ (y 1).val ∧ (y 1).val < h.val + 1; omega
    · show 0 ≤ (y 2).val ∧ (y 2).val < 0 + 42; omega
    · show 0 ≤ (y 3).val ∧ (y 3).val < 0 + 8; omega
    · show 0 ≤ (y 4).val ∧ (y 4).val < 0 + 128; omega

/-- The halves of a slot are disjoint. -/
theorem HS_disjoint (s : Fin 3) : ∀ h h' : Fin 2, h ≠ h' → Disjoint (HS s h) (HS s h') := by
  intro b b' hne; rw [Finset.disjoint_left]; intro y hy hy'; rw [mem_HS] at hy hy'; exact hne (Fin.ext (hy.2.symm.trans hy'.2))
/-- The halves of a slot make up the slot. -/
theorem HS_cover (s : Fin 3) : (Finset.univ : Finset (Fin 2)).biUnion (HS s) = WS s := by
  ext y; simp only [Finset.mem_biUnion, Finset.mem_univ, true_and, mem_WS, mem_HS]
  have h3 : (y 3).val < 16 := (y 3).isLt
  exact ⟨fun ⟨_, h, _⟩ => h, fun h => ⟨⟨(y 3).val / 8, by omega⟩, h, rfl⟩⟩
/-- The slots are disjoint. -/
theorem WS_disjoint : ∀ s s' : Fin 3, s ≠ s' → Disjoint (WS s) (WS s') := by
  intro b b' hne; rw [Finset.disjoint_left]; intro y hy hy'; rw [mem_WS] at hy hy'; exact hne (Fin.ext (hy.symm.trans hy'))
/-- The slots make up the buffer. -/
theorem WS_cover : (Finset.univ : Finset (Fin 3)).biUnion WS = Finset.univ := by
  ext y; simp only [Finset.mem_biUnion, Finset.mem_univ, true_and, iff_true]; exact ⟨(y 0).cast (by decide), by rw [mem_WS]; rfl⟩
/-- The halves of a block are disjoint. -/
theorem GS_disjoint (b : Fin 32) : ∀ h h' : Fin 2, h ≠ h' → Disjoint (GS b h) (GS b h') := by
  intro h h' hne; rw [Finset.disjoint_left]; intro y hy hy'; rw [mem_GS] at hy hy'; exact hne (Fin.ext (hy.2.symm.trans hy'.2))
/-- A block's elements: both halves'. -/
abbrev BS (b : Fin 32) : Finset S1024x2x42x8x128.Idx := (Finset.univ : Finset (Fin 2)).biUnion (GS b)
/-- The elements of a block of the weights. -/
theorem mem_BS (b : Fin 32) (y : S1024x2x42x8x128.Idx) : y ∈ BS b ↔ (y 0).val / 32 = b.val := by
  simp only [Finset.mem_biUnion, Finset.mem_univ, true_and, mem_GS]
  have h1 : (y 1).val < 2 := (y 1).isLt
  exact ⟨fun ⟨_, h, _⟩ => h, fun h => ⟨⟨(y 1).val, h1⟩, h, rfl⟩⟩
/-- The blocks are disjoint. -/
theorem BS_disjoint : ∀ b b' : Fin 32, b ≠ b' → Disjoint (BS b) (BS b') := by
  intro b b' hne; rw [Finset.disjoint_left]; intro y hy hy'; rw [mem_BS] at hy hy'; exact hne (Fin.ext (hy.symm.trans hy'))
/-- The blocks make up the array. -/
theorem BS_cover : (Finset.univ : Finset (Fin 32)).biUnion BS = Finset.univ := by
  ext y; rw [Finset.mem_biUnion]
  have h0 : (y 0).val < 1024 := (y 0).isLt
  exact ⟨fun _ => Finset.mem_univ _, fun _ => ⟨⟨(y 0).val / 32, by omega⟩, Finset.mem_univ _, by rw [mem_BS]⟩⟩

omit [BitOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ
omit [BitOps F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
omit [BitOps F] in
theorem entails_of_eq {P Q : sProp 𝕄} (e : P = Q) : P ⊢ Q := e ▸ .rfl

section Sets
variable (c : Dev nD) (XA : Buf (Elt F) (aM.view.loc (c : Thread nD τ)))
omit [BitOps F]

theorem halfP_eq (s : Fin 3) (h : Fin 2) (f : HB (F := F) c) :
    halfP c s h f = (((c : Thread nD τ).loc cc0_scratch5) ↦[HS s h]{fullShare} f : sProp 𝕄) :=
  congrArg (fun S => (_ ↦[S]{fullShare} f : sProp 𝕄)) (rslot_set s h)
theorem wslot_eq (s : Fin 3) (f : HB (F := F) c) :
    ((wslot s).view.loc (c : Thread nD τ) ↦[(wslot s).view.set]{fullShare} f : sProp 𝕄) = (((c : Thread nD τ).loc cc0_scratch5) ↦[WS s]{fullShare} f : sProp 𝕄) :=
  congrArg (fun S => (_ ↦[S]{fullShare} f : sProp 𝕄)) (wslot_set s)
/-- A slot held is its two halves held at the same contents. -/
theorem wslot_halves (s : Fin 3) (f : HB (F := F) c) :
    ((wslot s).view.loc (c : Thread nD τ) ↦[(wslot s).view.set]{fullShare} f : sProp 𝕄) = iprop(halfP c s 0 f ∗ halfP c s 1 f) := by
  rw [wslot_eq, Ring.pointsTo_sub_blocks (ℓ := (c : Thread nD τ).loc cc0_scratch5) (HS s) (HS_disjoint s) (WS s) (HS_cover s), bigSep_fin2, halfP_eq, halfP_eq]
/-- Two halves at contents of their own are the slot at some contents. -/
theorem wslot_join (s : Fin 3) (f g : HB (F := F) c) : iprop(halfP c s 0 f ∗ halfP c s 1 g) ⊢ (held c (wslot s) : sProp 𝕄) := by
  iintro ⟨H0, H1⟩
  ihave H := (Ring.pointsTo_sub_blocks_join_exists (ℓ := (c : Thread nD τ).loc cc0_scratch5) (HS s) (HS_disjoint s) (WS s) (HS_cover s) f) $$ [H0 H1]
  · irw [bigSep_fin2]
    isplitl [H0]
    · iexists f; iapply (entails_of_eq (halfP_eq c s 0 f)); iexact H0
    · iexists g; iapply (entails_of_eq (halfP_eq c s 1 g)); iexact H1
  icases H with ⟨%k, H⟩
  iexists k
  iapply (entails_of_eq (wslot_eq c s k).symm); iexact H
/-- A slot is held as its two halves. -/
theorem wslot_split (s : Fin 3) : (held c (wslot s) : sProp 𝕄) ⊢ iprop(∃ f, slotP c s f) := by
  iintro ⟨%f, H⟩
  iexists (f, f)
  iapply (entails_of_eq (wslot_halves c s f)); iexact H

/-- The ring buffer whole is its three slots, and back. -/
theorem buf_split :
    iprop(∃ f : Buf (Elt F) ((c : Thread nD τ).loc cc0_scratch5), ((c : Thread nD τ).loc cc0_scratch5) ↦{fullShare} f)
      ⊢ (iprop((∃ f, slotP c 0 f) ∗ (∃ f, slotP c 1 f) ∗ ∃ f, slotP c 2 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch5) WS WS_disjoint WS_cover f).trans (bigSep_fin3 _))) $$ H
  icases H2 with ⟨H0, H1, H2⟩
  isplitl [H0]
  · iexists (f, f); iapply (entails_of_eq ((wslot_eq c 0 f).symm.trans (wslot_halves c 0 f))); iexact H0
  isplitl [H1]
  · iexists (f, f); iapply (entails_of_eq ((wslot_eq c 1 f).symm.trans (wslot_halves c 1 f))); iexact H1
  · iexists (f, f); iapply (entails_of_eq ((wslot_eq c 2 f).symm.trans (wslot_halves c 2 f))); iexact H2
/-- A slot with some contents. -/
theorem slot_some (s : Fin 3) : iprop(∃ f, slotP c s f) ⊢ (iprop(∃ f, ((c : Thread nD τ).loc cc0_scratch5) ↦[WS s]{fullShare} f) : sProp 𝕄) := by
  iintro ⟨%f, H0, H1⟩
  ihave H := (wslot_join c s f.1 f.2) $$ [H0 H1]
  · isplitl [H0]; · iexact H0
    iexact H1
  icases H with ⟨%g, H⟩
  iexists g; iapply (entails_of_eq (wslot_eq c s g)); iexact H
/-- The slots together are the buffer. -/
theorem buf_join (f₀ : Buf (Elt F) ((c : Thread nD τ).loc cc0_scratch5)) :
    iprop((∃ f, slotP c 0 f) ∗ (∃ f, slotP c 1 f) ∗ ∃ f, slotP c 2 f)
      ⊢ (iprop(∃ f : Buf (Elt F) ((c : Thread nD τ).loc cc0_scratch5), ((c : Thread nD τ).loc cc0_scratch5) ↦{fullShare} f) : sProp 𝕄) := by
  iintro ⟨H0, H1, H2⟩
  iapply (Ring.pointsTo_blocks_join_exists (ℓ := (c : Thread nD τ).loc cc0_scratch5) WS WS_disjoint WS_cover f₀)
  irw [bigSep_fin3]
  isplitl [H0]; · iapply (slot_some c 0); iexact H0
  isplitl [H1]; · iapply (slot_some c 1); iexact H1
  iapply (slot_some c 2); iexact H2

/-- The weights whole in HBM are their thirty-two blocks home. -/
theorem a_eq :
    (((c : Thread nD τ).loc main_v1) ↦{fullShare} XA : sProp 𝕄) = bigSep Finset.univ (homeP c XA) := by
  rw [Ring.pointsTo_blocks (ℓ := (c : Thread nD τ).loc main_v1) BS BS_disjoint BS_cover]
  refine bigSep_congr fun b _ => ?_
  rw [Ring.pointsTo_sub_blocks (ℓ := (c : Thread nD τ).loc main_v1) (GS b) (GS_disjoint b) (BS b) rfl, bigSep_fin2]
  unfold homeP hhomeP
  rw [grp_set, grp_set]; rfl
end Sets

end Cert.Proof.K

end
-- ==== Proof.KBody.lean ====
/- One grid point of the printed kernel, contents not tracked: the point's transfers issued, its block waited for, the
   quantisation loops run; by the first point, a middle point, and the last two. -/
module

public import proofs.«01_k».proof.Proof.KRing

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]
local notation "𝕄" => MT nD τ sig Unit (Elt F) ℕ (UU nD τ) ℕ

/-- Ownership of part of a buffer can be kept in an invariant. -/
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance
instance deliv_storable (c : Dev nD) (XA : Buf (Elt F) (aM.view.loc (c : Thread nD τ))) (s : Fin 3) (b : Fin 32) (f : HB (F := F) c × HB (F := F) c) (h : Fin 2) :
    BI.Storable (upEmb : UEmb _ 𝕄) (deliv c XA s b f h) := by
  unfold deliv
  haveI h1 : BI.Storable (upEmb : UEmb _ 𝕄) (halfP c s h (landed c XA s b h (if h = 0 then f.1 else f.2))) := pts_storable _ _ _ _
  haveI h2 : BI.Storable (upEmb : UEmb _ 𝕄) (hhomeP c XA b h) := pts_storable _ _ _ _
  exact @Storable.sep _ _ _ _ _ _ _ _ h1 h2

/-- Where the slab of 128 scales lies at a point. -/
theorem off6_eq : ∀ i : grid0.Coords, k0_off6 i = ![0, 128 * ((i 0).val / 8)] := by decide +kernel
instance closedOff_off6 (i : grid0.Coords) : ClosedOff (k0_off6 i) := ⟨![0, 128 * ((i 0).val / 8)], off6_eq i⟩

section Body
variable (c : Dev nD) (XA : Buf (Elt F) (aM.view.loc (c : Thread nD τ))) (i : grid0.Coords)
  (arg1 : Memref sig .tc .vmem S112x512 .bf16) (harg1 : arg1.IsWhole) (arg3 : Memref sig .tc .vmem S112x5376 .bf16) (harg3 : arg3.IsWhole)
  (arg4 : Memref sig .tc .vmem S112x512 .fp8e4m3) (harg4 : arg4.IsWhole) (arg5 : Memref sig .tc .vmem S112x512 .f32) (harg5 : arg5.IsWhole)
  (arg6 : Memref sig .tc .vmem S512x5376 .fp8e4m3) (harg6 : arg6.IsWhole) (arg7 : Memref sig .tc .vmem S16x5376 .f32) (harg7 : arg7.IsWhole)

/-- The body on the given staging memrefs; the weights, the scratch and the cells its own. -/
abbrev bodyG : Prog (TpuEff nD τ sig (Elt F) Λ₀ .tc) PUnit :=
  cc0_mxfp8_requant_matmul i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6

/-- The windows' staging buffers but the product's, and the scratch buffers but the ring, each at some contents. -/
abbrev wins : sProp 𝕄 := iprop(held c arg1 ∗ held c arg4 ∗ held c arg5 ∗ held c arg6 ∗ held c arg7)
abbrev scr : sProp 𝕄 := iprop(heldW c accM ∗ heldW c xqM ∗ heldW c wqM ∗ heldW c stM ∗ heldW c pwM)

/-- The body's first conditional. -/
abbrev cond1 : Prop := Scalar.cmpi .ne (Scalar.extui (Scalar.cmpi .eq (BitVec.ofNat 32 (i 0).val) 0#32) : BitVec 32) 0#32 = 1#1

set_option maxRecDepth 8000 in
/-- The first point: blocks 0, 1 and 2 go out, block 0 is waited for. -/
theorem runFirst (hz : (i 0).val = 0) (h1 : cond1 i) (h2 : k0_cond2 i = 1#1) (h3 : ¬k0_cond3 i = 1#1) (hk : (i 0).val + 2 < 32) (W : Waits sig Unit)
    (f0 f1 f2 : HB (F := F) c × HB (F := F) c) (Q : PUnit → sProp 𝕄) :
    iprop((wins c arg1 arg4 arg5 arg6 arg7 ∗ scr c ∗ homeP c XA (Ring.bk 32 (i 0).val) ∗ homeP c XA (Ring.bk 32 ((i 0).val + 1)) ∗ homeP c XA (Ring.bk 32 ((i 0).val + 2)) ∗ cellP c (Ring.sl 3 (i 0).val) ∗ slotP c (Ring.sl 3 (i 0).val) f0 ∗ cellP c (Ring.sl 3 ((i 0).val + 1)) ∗ slotP c (Ring.sl 3 ((i 0).val + 1)) f1 ∗ cellP c (Ring.sl 3 ((i 0).val + 2)) ∗ slotP c (Ring.sl 3 ((i 0).val + 2)) f2 ∗ owes (c : Thread nD τ) 0 W)
      ∗ ((wins c arg1 arg4 arg5 arg6 arg7 ∗ scr c ∗ homeP c XA (Ring.bk 32 (i 0).val) ∗ cellP c (Ring.sl 3 (i 0).val) ∗ (∃ f, slotP c (Ring.sl 3 (i 0).val) f) ∗ (∃ f, flightP c XA (Ring.sl 3 ((i 0).val + 1)) (Ring.bk 32 ((i 0).val + 1)) f) ∗ (∃ f, flightP c XA (Ring.sl 3 ((i 0).val + 2)) (Ring.bk 32 ((i 0).val + 2)) f) ∗ ∃ W, owes (c : Thread nD τ) 0 W) -∗ Q ⟨⟩))
      ⊢ wp frame (wpE (defs₀ (F := F)) 𝒱₀ (c : Thread nD τ) none) Set.univ (bodyG i arg1 harg1 arg3 harg3 arg4 harg4 arg5 harg5 arg6 harg6 arg7 harg7) Q := by
  iintro ⟨⟨⟨⟨%g1, H1⟩, ⟨%g4, H4⟩, ⟨%g5, H5⟩, ⟨%g6, H6⟩, ⟨%g7, H7⟩⟩, ⟨⟨%ga, HA⟩, ⟨%gx, HX⟩, ⟨%gw, HQ⟩, ⟨%gs, HS⟩, ⟨%gp, HP⟩⟩, ⟨Hh0, Hh1⟩, ⟨Hh2, Hh3⟩, ⟨Hh4, Hh5⟩, HcHF, ⟨Hs0, Hs1⟩, HcHC, ⟨Hs2, Hs3⟩, HcHB, ⟨Hs4, Hs5⟩, HW⟩, Hk⟩
  have hs0 : (Ring.sl 3 (i 0).val : Fin 3) = 0 := by rw [hz]; rfl
  have hb0 : (Ring.bk 32 (i 0).val : Fin 32) = 0 := by rw [hz]; rfl
  have hcanonS0 : csm 0 = csm (Ring.sl 3 (i 0).val) := by rw [hs0]
  have hcanonR00 : rslot 0 0 = rslot (Ring.sl 3 (i 0).val) 0 := by rw [hs0]
  have hcanonG00 : grp 0 0 = grp (Ring.bk 32 (i 0).val) 0 := by rw [hb0]
  have hcanonR01 : rslot 0 1 = rslot (Ring.sl 3 (i 0).val) 1 := by rw [hs0]
  have hcanonG01 : grp 0 1 = grp (Ring.bk 32 (i 0).val) 1 := by rw [hb0]
  have hs1 : (Ring.sl 3 ((i 0).val + 1) : Fin 3) = 1 := by rw [hz]; rfl
  have hb1 : (Ring.bk 32 ((i 0).val + 1) : Fin 32) = 1 := by rw [hz]; rfl
  have hcanonS1 : csm 1 = csm (Ring.sl 3 ((i 0).val + 1)) := by rw [hs1]
  have hcanonR10 : rslot 1 0 = rslot (Ring.sl 3 ((i 0).val + 1)) 0 := by rw [hs1]
  have hcanonG10 : grp 1 0 = grp (Ring.bk 32 ((i 0).val + 1)) 0 := by rw [hb1]
  have hcanonR11 : rslot 1 1 = rslot (Ring.sl 3 ((i 0).val + 1)) 1 := by rw [hs1]
  have hcanonG11 : grp 1 1 = grp (Ring.bk 32 ((i 0).val + 1)) 1 := by rw [hb1]
  imod (Transfers.batch_alloc' (Lvl := ℕ) countersEmb (c : Thread nD τ) () (NN (Ring.sl 3 (i 0).val)) (deliv c XA (Ring.sl 3 (i 0).val) (Ring.bk 32 (i 0).val) f0) (sm := .dma (csm (Ring.sl 3 (i 0).val)).sem) (E := Set.univ)) $$ HcHF with HF
  imod (Transfers.batch_alloc' (Lvl := ℕ) countersEmb (c : Thread nD τ) () (NN (Ring.sl 3 ((i 0).val + 1))) (deliv c XA (Ring.sl 3 ((i 0).val + 1)) (Ring.bk 32 ((i 0).val + 1)) f1) (sm := .dma (csm (Ring.sl 3 ((i 0).val + 1))).sem) (E := Set.univ)) $$ HcHC with HC
  imod (Transfers.batch_alloc' (Lvl := ℕ) countersEmb (c : Thread nD τ) () (NN (Ring.sl 3 ((i 0).val + 2))) (deliv c XA (Ring.sl 3 ((i 0).val + 2)) (Ring.bk 32 ((i 0).val + 2)) f2) (sm := .dma (csm (Ring.sl 3 ((i 0).val + 2))).sem) (E := Set.univ)) $$ HcHB with HB
  unfold bodyG
  sl_unfold [cc0_mxfp8_requant_matmul]
  sl_exec
  ihave HWS := (wslot_join c (Ring.sl 3 (i 0).val) _ _) $$ [HF_dst0 HF_dst1]
  · isplitl [HF_dst0]; · iexact HF_dst0
    iexact HF_dst1
  icases HWS with ⟨%gW, HWS⟩
  sl_exec
  sl_step
  ihave HSP := (wslot_split c (Ring.sl 3 (i 0).val)) $$ [HWS]
  · iexists _; iexact HWS
  iapply Hk
  isplitl [H1 H4 H5 H6 H7]
  · isplitl [H1]; · iexists _; iexact H1
    isplitl [H4]; · iexists _; iexact H4
    isplitl [H5]; · iexists _; iexact H5
    isplitl [H6]; · iexists _; iexact H6
    iexists _; iexact H7
  isplitl [HA HX HQ HS HP]
  · isplitl [HA]; · iexists _; iexact HA
    isplitl [HX]; · iexists _; iexact HX
    isplitl [HQ]; · iexists _; iexact HQ
    isplitl [HS]; · iexists _; iexact HS
    iexists _; iexact HP
  isplitl [HF_src0 HF_src1]
  · isplitl [HF_src0]; · iexact HF_src0
    iexact HF_src1
  isplitl [HF]; · iexact HF
  isplitl [HSP]; · iexact HSP
  isplitl [HC]; · iexists _; iexact HC
  isplitl [HB]; · iexists _; iexact HB
  iexists _; iexact HW

set_option maxRecDepth 8000 in
/-- A middle point: block `i + 2` goes out, block `i` is waited for. -/
theorem runMid (h1 : ¬cond1 i) (h2 : k0_cond2 i = 1#1) (h3 : ¬k0_cond3 i = 1#1) (hk : (i 0).val + 2 < 32) (W : Waits sig Unit)
    (f0 f2 : HB (F := F) c × HB (F := F) c) (Q : PUnit → sProp 𝕄) :
    iprop((wins c arg1 arg4 arg5 arg6 arg7 ∗ scr c ∗ homeP c XA (Ring.bk 32 ((i 0).val + 2)) ∗ flightP c XA (Ring.sl 3 (i 0).val) (Ring.bk 32 (i 0).val) f0 ∗ cellP c (Ring.sl 3 ((i 0).val + 2)) ∗ slotP c (Ring.sl 3 ((i 0).val + 2)) f2 ∗ owes (c : Thread nD τ) 0 W)
      ∗ ((wins c arg1 arg4 arg5 arg6 arg7 ∗ scr c ∗ homeP c XA (Ring.bk 32 (i 0).val) ∗ cellP c (Ring.sl 3 (i 0).val) ∗ (∃ f, slotP c (Ring.sl 3 (i 0).val) f) ∗ (∃ f, flightP c XA (Ring.sl 3 ((i 0).val + 2)) (Ring.bk 32 ((i 0).val + 2)) f) ∗ ∃ W, owes (c : Thread nD τ) 0 W) -∗ Q ⟨⟩))
      ⊢ wp frame (wpE (defs₀ (F := F)) 𝒱₀ (c : Thread nD τ) none) Set.univ (bodyG i arg1 harg1 arg3 harg3 arg4 harg4 arg5 harg5 arg6 harg6 arg7 harg7) Q := by
  iintro ⟨⟨⟨⟨%g1, H1⟩, ⟨%g4, H4⟩, ⟨%g5, H5⟩, ⟨%g6, H6⟩, ⟨%g7, H7⟩⟩, ⟨⟨%ga, HA⟩, ⟨%gx, HX⟩, ⟨%gw, HQ⟩, ⟨%gs, HS⟩, ⟨%gp, HP⟩⟩, ⟨Hh0, Hh1⟩, HF, HcHB, ⟨Hs0, Hs1⟩, HW⟩, Hk⟩
  imod (Transfers.batch_alloc' (Lvl := ℕ) countersEmb (c : Thread nD τ) () (NN (Ring.sl 3 ((i 0).val + 2))) (deliv c XA (Ring.sl 3 ((i 0).val + 2)) (Ring.bk 32 ((i 0).val + 2)) f2) (sm := .dma (csm (Ring.sl 3 ((i 0).val + 2))).sem) (E := Set.univ)) $$ HcHB with HB
  unfold bodyG
  sl_unfold [cc0_mxfp8_requant_matmul]
  sl_exec
  ihave HWS := (wslot_join c (Ring.sl 3 (i 0).val) _ _) $$ [HF_dst0 HF_dst1]
  · isplitl [HF_dst0]; · iexact HF_dst0
    iexact HF_dst1
  icases HWS with ⟨%gW, HWS⟩
  sl_exec
  sl_step
  ihave HSP := (wslot_split c (Ring.sl 3 (i 0).val)) $$ [HWS]
  · iexists _; iexact HWS
  iapply Hk
  isplitl [H1 H4 H5 H6 H7]
  · isplitl [H1]; · iexists _; iexact H1
    isplitl [H4]; · iexists _; iexact H4
    isplitl [H5]; · iexists _; iexact H5
    isplitl [H6]; · iexists _; iexact H6
    iexists _; iexact H7
  isplitl [HA HX HQ HS HP]
  · isplitl [HA]; · iexists _; iexact HA
    isplitl [HX]; · iexists _; iexact HX
    isplitl [HQ]; · iexists _; iexact HQ
    isplitl [HS]; · iexists _; iexact HS
    iexists _; iexact HP
  isplitl [HF_src0 HF_src1]
  · isplitl [HF_src0]; · iexact HF_src0
    iexact HF_src1
  isplitl [HF]; · iexact HF
  isplitl [HSP]; · iexact HSP
  isplitl [HB]; · iexists _; iexact HB
  iexists _; iexact HW

set_option maxRecDepth 8000 in
/-- The last point but one: nothing goes out, block `i` is waited for. -/
theorem runTail (h1 : ¬cond1 i) (h2 : ¬k0_cond2 i = 1#1) (h3 : ¬k0_cond3 i = 1#1) (W : Waits sig Unit)
    (f0 : HB (F := F) c × HB (F := F) c) (Q : PUnit → sProp 𝕄) :
    iprop((wins c arg1 arg4 arg5 arg6 arg7 ∗ scr c ∗ flightP c XA (Ring.sl 3 (i 0).val) (Ring.bk 32 (i 0).val) f0 ∗ owes (c : Thread nD τ) 0 W)
      ∗ ((wins c arg1 arg4 arg5 arg6 arg7 ∗ scr c ∗ homeP c XA (Ring.bk 32 (i 0).val) ∗ cellP c (Ring.sl 3 (i 0).val) ∗ (∃ f, slotP c (Ring.sl 3 (i 0).val) f) ∗ ∃ W, owes (c : Thread nD τ) 0 W) -∗ Q ⟨⟩))
      ⊢ wp frame (wpE (defs₀ (F := F)) 𝒱₀ (c : Thread nD τ) none) Set.univ (bodyG i arg1 harg1 arg3 harg3 arg4 harg4 arg5 harg5 arg6 harg6 arg7 harg7) Q := by
  iintro ⟨⟨⟨⟨%g1, H1⟩, ⟨%g4, H4⟩, ⟨%g5, H5⟩, ⟨%g6, H6⟩, ⟨%g7, H7⟩⟩, ⟨⟨%ga, HA⟩, ⟨%gx, HX⟩, ⟨%gw, HQ⟩, ⟨%gs, HS⟩, ⟨%gp, HP⟩⟩, HF, HW⟩, Hk⟩
  unfold bodyG
  sl_unfold [cc0_mxfp8_requant_matmul]
  sl_exec
  ihave HWS := (wslot_join c (Ring.sl 3 (i 0).val) _ _) $$ [HF_dst0 HF_dst1]
  · isplitl [HF_dst0]; · iexact HF_dst0
    iexact HF_dst1
  icases HWS with ⟨%gW, HWS⟩
  sl_exec
  sl_step
  ihave HSP := (wslot_split c (Ring.sl 3 (i 0).val)) $$ [HWS]
  · iexists _; iexact HWS
  iapply Hk
  isplitl [H1 H4 H5 H6 H7]
  · isplitl [H1]; · iexists _; iexact H1
    isplitl [H4]; · iexists _; iexact H4
    isplitl [H5]; · iexists _; iexact H5
    isplitl [H6]; · iexists _; iexact H6
    iexists _; iexact H7
  isplitl [HA HX HQ HS HP]
  · isplitl [HA]; · iexists _; iexact HA
    isplitl [HX]; · iexists _; iexact HX
    isplitl [HQ]; · iexists _; iexact HQ
    isplitl [HS]; · iexists _; iexact HS
    iexists _; iexact HP
  isplitl [HF_src0 HF_src1]
  · isplitl [HF_src0]; · iexact HF_src0
    iexact HF_src1
  isplitl [HF]; · iexact HF
  isplitl [HSP]; · iexact HSP
  iexists _; iexact HW

set_option maxRecDepth 8000 in
/-- The last point: block `i` is waited for, and the product is written. -/
theorem runLast (h1 : ¬cond1 i) (h2 : ¬k0_cond2 i = 1#1) (h3 : k0_cond3 i = 1#1) (W : Waits sig Unit)
    (f0 : HB (F := F) c × HB (F := F) c) (Q : PUnit → sProp 𝕄) :
    iprop((wins c arg1 arg4 arg5 arg6 arg7 ∗ scr c ∗ flightP c XA (Ring.sl 3 (i 0).val) (Ring.bk 32 (i 0).val) f0 ∗ held c arg3 ∗ owes (c : Thread nD τ) 0 W)
      ∗ ((wins c arg1 arg4 arg5 arg6 arg7 ∗ scr c ∗ homeP c XA (Ring.bk 32 (i 0).val) ∗ cellP c (Ring.sl 3 (i 0).val) ∗ (∃ f, slotP c (Ring.sl 3 (i 0).val) f) ∗ held c arg3 ∗ ∃ W, owes (c : Thread nD τ) 0 W) -∗ Q ⟨⟩))
      ⊢ wp frame (wpE (defs₀ (F := F)) 𝒱₀ (c : Thread nD τ) none) Set.univ (bodyG i arg1 harg1 arg3 harg3 arg4 harg4 arg5 harg5 arg6 harg6 arg7 harg7) Q := by
  iintro ⟨⟨⟨⟨%g1, H1⟩, ⟨%g4, H4⟩, ⟨%g5, H5⟩, ⟨%g6, H6⟩, ⟨%g7, H7⟩⟩, ⟨⟨%ga, HA⟩, ⟨%gx, HX⟩, ⟨%gw, HQ⟩, ⟨%gs, HS⟩, ⟨%gp, HP⟩⟩, HF, ⟨%g3, H3⟩, HW⟩, Hk⟩
  unfold bodyG
  sl_unfold [cc0_mxfp8_requant_matmul]
  sl_exec
  ihave HWS := (wslot_join c (Ring.sl 3 (i 0).val) _ _) $$ [HF_dst0 HF_dst1]
  · isplitl [HF_dst0]; · iexact HF_dst0
    iexact HF_dst1
  icases HWS with ⟨%gW, HWS⟩
  sl_exec
  sl_step
  ihave HSP := (wslot_split c (Ring.sl 3 (i 0).val)) $$ [HWS]
  · iexists _; iexact HWS
  iapply Hk
  isplitl [H1 H4 H5 H6 H7]
  · isplitl [H1]; · iexists _; iexact H1
    isplitl [H4]; · iexists _; iexact H4
    isplitl [H5]; · iexists _; iexact H5
    isplitl [H6]; · iexists _; iexact H6
    iexists _; iexact H7
  isplitl [HA HX HQ HS HP]
  · isplitl [HA]; · iexists _; iexact HA
    isplitl [HX]; · iexists _; iexact HX
    isplitl [HQ]; · iexists _; iexact HQ
    isplitl [HS]; · iexists _; iexact HS
    iexists _; iexact HP
  isplitl [HF_src0 HF_src1]
  · isplitl [HF_src0]; · iexact HF_src0
    iexact HF_src1
  isplitl [HF]; · iexact HF
  isplitl [HSP]; · iexact HSP
  isplitl [H3]; · iexists _; iexact H3
  iexists _; iexact HW

end Body

end Cert.Proof.K

end
-- ==== Proof.KLaunch.lean ====
/- The printed kernel's frame: the ring of weight blocks before each grid point, one point of the grid from its ring to
   the next point's, and the launch. -/
module

public import proofs.«01_k».proof.Proof.KBody

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
local notation "𝕄" => MT nD τ sig Unit (Elt F) ℕ (UU nD τ) ℕ

/-- The first branch is taken at the first point. -/
theorem cond1_iff : ∀ i : grid0.Coords, cond1 i ↔ (i 0).val = 0 := by decide +kernel
/-- The second branch is taken while a block two ahead is left. -/
theorem cond2_iff : ∀ i : grid0.Coords, k0_cond2 i = 1#1 ↔ (i 0).val + 2 < 32 := by decide +kernel
/-- The third branch is taken at the last point. -/
theorem cond3_iff : ∀ i : grid0.Coords, k0_cond3 i = 1#1 ↔ (i 0).val = 31 := by decide +kernel
/-- A point's only coordinate is its number. -/
theorem coords_val : ∀ t : Fin grid0.N, (grid0.coords t 0).val = t.val := by decide +kernel

/-- The weights' ring before point `t`: all home and all slots free at first, then blocks `t`, `t + 1` in flight. -/
def ringP (c : Dev nD) (XA : Buf (Elt F) (aM.view.loc (c : Thread nD τ))) (t : ℕ) : sProp 𝕄 :=
  if t = 0 then Ring.At₀ (cellP c) (slotP c) (homeP c XA) else Ring.At 2 (cellP c) (slotP c) (homeP c XA) (flightP c XA) t
/-- The ring before the first point. -/
theorem ringP_zero (c : Dev nD) (XA : Buf (Elt F) (aM.view.loc (c : Thread nD τ))) (t : ℕ) (h : t = 0) :
    ringP c XA t = Ring.At₀ (cellP c) (slotP c) (homeP c XA) := if_pos h
/-- The ring before a later point. -/
theorem ringP_pos (c : Dev nD) (XA : Buf (Elt F) (aM.view.loc (c : Thread nD τ))) (t : ℕ) (h : t ≠ 0) :
    ringP c XA t = Ring.At 2 (cellP c) (slotP c) (homeP c XA) (flightP c XA) t := if_neg h

section Point
variable (c : Dev nD) (XA : Buf (Elt F) (aM.view.loc (c : Thread nD τ))) (i : grid0.Coords)
  (arg1 : Memref sig .tc .vmem S112x512 .bf16) (harg1 : arg1.IsWhole) (arg3 : Memref sig .tc .vmem S112x5376 .bf16) (harg3 : arg3.IsWhole)
  (arg4 : Memref sig .tc .vmem S112x512 .fp8e4m3) (harg4 : arg4.IsWhole) (arg5 : Memref sig .tc .vmem S112x512 .f32) (harg5 : arg5.IsWhole)
  (arg6 : Memref sig .tc .vmem S512x5376 .fp8e4m3) (harg6 : arg6.IsWhole) (arg7 : Memref sig .tc .vmem S16x5376 .f32) (harg7 : arg7.IsWhole)

/-- One grid point, from its ring to the next point's. -/
theorem bodyRun (W : Waits sig Unit) (Q : PUnit → sProp 𝕄) :
    iprop((wins c arg1 arg4 arg5 arg6 arg7 ∗ scr c ∗ held c arg3 ∗ ringP c XA (i 0).val ∗ owes (c : Thread nD τ) 0 W)
      ∗ ((wins c arg1 arg4 arg5 arg6 arg7 ∗ scr c ∗ held c arg3 ∗ ringP c XA ((i 0).val + 1) ∗ ∃ W, owes (c : Thread nD τ) 0 W) -∗ Q ⟨⟩))
      ⊢ wp frame (wpE (defs₀ (F := F)) 𝒱₀ (c : Thread nD τ) none) Set.univ (bodyG i arg1 harg1 arg3 harg3 arg4 harg4 arg5 harg5 arg6 harg6 arg7 harg7) Q := by
  have hlt : (i 0).val < 32 := (i 0).isLt
  rw [ringP_pos c XA ((i 0).val + 1) (by omega)]
  by_cases hz : (i 0).val = 0
  · rw [ringP_zero c XA _ hz, Ring.At₀_eq3' _ _ _ (i 0).val hz (by decide), Ring.At3_one' _ _ _ _ (i 0).val hz (by decide)]
    iintro ⟨⟨HWin, HScr, H3, ⟨⟨Hh0, Hh1, Hh2, HR⟩, ⟨Hc0, ⟨%f0, Hs0⟩⟩, ⟨Hc1, ⟨%f1, Hs1⟩⟩, ⟨Hc2, ⟨%f2, Hs2⟩⟩⟩, HW⟩, Hk⟩
    iapply (runFirst c XA i arg1 harg1 arg3 harg3 arg4 harg4 arg5 harg5 arg6 harg6 arg7 harg7 hz ((cond1_iff i).mpr hz) ((cond2_iff i).mpr (by omega))
      (fun h => by have := (cond3_iff i).mp h; omega) (by omega) W f0 f1 f2)
    isplitl [HWin HScr Hh0 Hh1 Hh2 Hc0 Hs0 Hc1 Hs1 Hc2 Hs2 HW]
    · isplitl [HWin]; · iexact HWin
      isplitl [HScr]; · iexact HScr
      isplitl [Hh0]; · iexact Hh0
      isplitl [Hh1]; · iexact Hh1
      isplitl [Hh2]; · iexact Hh2
      isplitl [Hc0]; · iexact Hc0
      isplitl [Hs0]; · iexact Hs0
      isplitl [Hc1]; · iexact Hc1
      isplitl [Hs1]; · iexact Hs1
      isplitl [Hc2]; · iexact Hc2
      isplitl [Hs2]; · iexact Hs2
      iexact HW
    · iintro ⟨HWin, HScr, Hh, Hc, Hs, HF1, HF2, HW⟩
      iapply Hk
      isplitl [HWin]; · iexact HWin
      isplitl [HScr]; · iexact HScr
      isplitl [H3]; · iexact H3
      isplitr [HW]
      · isplitl [Hh HR]
        · isplitl [Hh]; · iexact Hh
          iexact HR
        isplitl [HF1]; · iexact HF1
        isplitl [HF2]; · iexact HF2
        isplitl [Hc]; · iexact Hc
        iexact Hs
      iexact HW
  rw [ringP_pos c XA (i 0).val hz]
  by_cases hk : (i 0).val + 2 < 32
  · rw [Ring.At3_here _ _ _ _ (i 0).val hk, Ring.At3_next _ _ _ _ (i 0).val hk, Ring.slotAt3_next0 _ _ _ (i 0).val (by omega), Ring.slotAt3_next1 _ _ _ (i 0).val hk]
    iintro ⟨⟨HWin, HScr, H3, ⟨⟨Hh2, HR⟩, ⟨%f0, HF0⟩, HF1, ⟨Hc2, ⟨%f2, Hs2⟩⟩⟩, HW⟩, Hk⟩
    iapply (runMid c XA i arg1 harg1 arg3 harg3 arg4 harg4 arg5 harg5 arg6 harg6 arg7 harg7 (fun h => hz ((cond1_iff i).mp h)) ((cond2_iff i).mpr hk)
      (fun h => by have := (cond3_iff i).mp h; omega) hk W f0 f2)
    isplitl [HWin HScr Hh2 HF0 Hc2 Hs2 HW]
    · isplitl [HWin]; · iexact HWin
      isplitl [HScr]; · iexact HScr
      isplitl [Hh2]; · iexact Hh2
      isplitl [HF0]; · iexact HF0
      isplitl [Hc2]; · iexact Hc2
      isplitl [Hs2]; · iexact Hs2
      iexact HW
    · iintro ⟨HWin, HScr, Hh, Hc, Hs, HF2, HW⟩
      iapply Hk
      isplitl [HWin]; · iexact HWin
      isplitl [HScr]; · iexact HScr
      isplitl [H3]; · iexact H3
      isplitr [HW]
      · isplitl [Hh HR]
        · isplitl [Hh]; · iexact Hh
          iexact HR
        isplitl [HF1]; · iexact HF1
        isplitl [HF2]; · iexact HF2
        isplitl [Hc]; · iexact Hc
        iexact Hs
      iexact HW
  rw [Ring.At3_here_tail _ _ _ _ (i 0).val hlt, Ring.At3_next_tail _ _ _ _ (i 0).val (by omega) hlt, Ring.slotAt3_tail_role]
  by_cases h31 : (i 0).val = 31
  · iintro ⟨⟨HWin, HScr, H3, ⟨HR, ⟨%f0, HF0⟩, HF1, HF2⟩, HW⟩, Hk⟩
    iapply (runLast c XA i arg1 harg1 arg3 harg3 arg4 harg4 arg5 harg5 arg6 harg6 arg7 harg7 (fun h => hz ((cond1_iff i).mp h)) (fun h => hk ((cond2_iff i).mp h))
      ((cond3_iff i).mpr h31) W f0)
    isplitl [HWin HScr H3 HF0 HW]
    · isplitl [HWin]; · iexact HWin
      isplitl [HScr]; · iexact HScr
      isplitl [HF0]; · iexact HF0
      isplitl [H3]; · iexact H3
      iexact HW
    · iintro ⟨HWin, HScr, Hh, Hc, Hs, H3, HW⟩
      iapply Hk
      isplitl [HWin]; · iexact HWin
      isplitl [HScr]; · iexact HScr
      isplitl [H3]; · iexact H3
      isplitr [HW]
      · isplitl [Hh HR]
        · isplitl [Hh]; · iexact Hh
          iexact HR
        isplitl [HF1]; · iexact HF1
        isplitl [HF2]; · iexact HF2
        isplitl [Hc]; · iexact Hc
        iexact Hs
      iexact HW
  · iintro ⟨⟨HWin, HScr, H3, ⟨HR, ⟨%f0, HF0⟩, HF1, HF2⟩, HW⟩, Hk⟩
    iapply (runTail c XA i arg1 harg1 arg3 harg3 arg4 harg4 arg5 harg5 arg6 harg6 arg7 harg7 (fun h => hz ((cond1_iff i).mp h)) (fun h => hk ((cond2_iff i).mp h))
      (fun h => h31 ((cond3_iff i).mp h)) W f0)
    isplitl [HWin HScr HF0 HW]
    · isplitl [HWin]; · iexact HWin
      isplitl [HScr]; · iexact HScr
      isplitl [HF0]; · iexact HF0
      iexact HW
    · iintro ⟨HWin, HScr, Hh, Hc, Hs, HW⟩
      iapply Hk
      isplitl [HWin]; · iexact HWin
      isplitl [HScr]; · iexact HScr
      isplitl [H3]; · iexact H3
      isplitr [HW]
      · isplitl [Hh HR]
        · isplitl [Hh]; · iexact Hh
          iexact HR
        isplitl [HF1]; · iexact HF1
        isplitl [HF2]; · iexact HF2
        isplitl [Hc]; · iexact Hc
        iexact Hs
      iexact HW
end Point

/-! ## The launch -/

abbrev EP : Emb (UR sig nD τ) 𝕄 := embL
abbrev osem : Fin 3 → SemLoc sig := fun s => .dma (csm s).sem
/-- The copies' semaphores are the region's own. -/
theorem ownSemFacts : Pipeline.OwnSemFacts spec0 osem := by decide

/-- A staging buffer held at some contents is owned at what it reads there. -/
theorem held_owns (c : Dev nD) {s : Shape} {e : EltTy} (M : Memref sig .tc .vmem s e) :
    (held c M : sProp 𝕄) ⊢ iprop(∃ X, ∃ g, ⌜M.view.read (Elt F) g = X⌝ ∗ M.view.loc (c : Thread nD τ) ↦[M.view.set]{fullShare} g) := by
  iintro ⟨%g, H⟩
  iexists (M.view.read (Elt F) g); iexists g
  isplitr
  · ipureintro; rfl
  · iexact H

section Launch
variable (m : (ℓ : Loc nD τ sig) → Buf (Elt F) ℓ) (ρ : Dev nD → PrngReg)

/-- The weights as the region finds them. -/
abbrev XA (c : Dev nD) : Buf (Elt F) (aM.view.loc (c : Thread nD τ)) := V m c main_v1

/-- The region's own semaphores are the ring's three. -/
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2) := by
  unfold Pipeline.ownSems0; rw [bigSep_fin3]

/-- The body's invariant before point `t`: the ring, and the other scratch buffers at some contents. -/
def Φ (c : Dev nD) (t : ℕ) : sProp 𝕄 := iprop(ringP c (XA m c) t ∗ scr c)

/-- The proof data: every window's contents forgotten. -/
def dats (_ : Fin 1) (c : Dev nD) : Dat τ (Elt F) Unit ℕ (UU nD τ) ℕ cfg0 c where
  A w := V m c (Pipeline.arrRef spec0 w)
  after w t := (Classical.arbitrary _)
  Φ t := Φ m c t.val
  q _ := fullShare
  owed _ := 0

/-- What the name of the body stands for. -/
theorem defs_tc : (defs₀ (F := F)) .tc cfg0.body
    = fun a => bodyG (grid0.coords a.1) (win0_0.stage (a.2 0)) (hstage0_0 ((a.2 0).cast nbuf0_0)) (win0_1.stage (a.2 1)) (hstage0_1 ((a.2 1).cast nbuf0_1))
      (win0_2.stage (a.2 2)) (hstage0_2 ((a.2 2).cast nbuf0_2)) (win0_3.stage (a.2 3)) (hstage0_3 ((a.2 3).cast nbuf0_3))
      (win0_4.stage (a.2 4)) (hstage0_4 ((a.2 4).cast nbuf0_4)) (win0_5.stage (a.2 5)) (hstage0_5 ((a.2 5).cast nbuf0_5)) := rfl
/-- The body at a point, with its arguments. -/
theorem prog_eq (t : Fin cfg0.N) : (defs₀ (F := F)) .tc cfg0.body (cfg0.bodyArgs t (cfg0.slots t))
    = bodyG (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5)) :=
  (congrFun defs_tc _).trans rfl

set_option backward.isDefEq.respectTransparency.types false in
/-- The body obligation, every window forgotten. -/
theorem body_obligation (c : Dev nD) : BodyObligation (dats (F := F) m 0 c) (defs₀ (F := F)) 𝒱₀ () Set.univ (fun _ => true) := fun t => by
  rw [bigSep_W0]
  dsimp only
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ
  iintro ⟨⟨HR, HS⟩, ⟨%W, -, HW⟩, ⟨%d0, %g0, -, H0⟩, ⟨%d1, %g1, -, H1⟩, ⟨%d2, %g2, -, H2⟩, ⟨%d3, %g3, -, H3⟩, ⟨%d4, %g4, -, H4⟩, ⟨%d5, %g5, -, H5⟩⟩
  sl_rw [prog_eq t]
  have hR := bodyRun c (XA m c) (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5)) W
  rw [coords_val t] at hR
  iapply (hR _)
  isplitl [HR HS HW H0 H1 H2 H3 H4 H5]
  · isplitl [H0 H2 H3 H4 H5]
    · isplitl [H0]; · iexists _; iexact H0
      isplitl [H2]; · iexists _; iexact H2
      isplitl [H3]; · iexists _; iexact H3
      isplitl [H4]; · iexists _; iexact H4
      iexists _; iexact H5
    isplitl [HS]; · iexact HS
    isplitl [H1]; · iexists _; iexact H1
    isplitl [HR]; · iexact HR
    iexact HW
  · iintro ⟨⟨⟨%e0, H0⟩, ⟨%e2, H2⟩, ⟨%e3, H3⟩, ⟨%e4, H4⟩, ⟨%e5, H5⟩⟩, HS, ⟨%e1, H1⟩, HR, ⟨%W', HW⟩⟩
    isplitl [HR HS]
    · isplitl [HR]; · iexact HR
      iexact HS
    isplitl [HW]
    · iexists W'; isplitr; · ipureintro; exact fun _ _ => Or.inl trivial
      iexact HW
    isplitl [H0]; · iapply (held_owns c (st0_0 t)); iexists _; iexact H0
    isplitl [H1]; · iapply (held_owns c (st0_1 t)); iexists _; iexact H1
    isplitl [H2]; · iapply (held_owns c (st0_2 t)); iexists _; iexact H2
    isplitl [H3]; · iapply (held_owns c (st0_3 t)); iexists _; iexact H3
    isplitl [H4]; · iapply (held_owns c (st0_4 t)); iexists _; iexact H4
    iapply (held_owns c (st0_5 t)); iexists _; iexact H5

def intoΦ (c : Dev nD) : sProp 𝕄 := iprop(bigSep Finset.univ (homeP c (XA m c)) ∗ Pipeline.ownSems0 osem c)
def outOfΦ (c : Dev nD) : sProp 𝕄 := iprop((((c : Thread nD τ).loc main_arg0) ↦{fullShare} m ((c : Thread nD τ).loc main_arg0)) ∗ (((c : Thread nD τ).loc main_arg1) ↦{fullShare} m ((c : Thread nD τ).loc main_arg1)))
def u₀ : UU nD τ := (initOf (Pipeline.cells cfgs cellOf_inj) (Pipeline.launchToks cfgs cellOf_inj), 1)
def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)

set_option maxHeartbeats 800000 in
/-- The main program is the host operations, then the region. -/
theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every weakly fair execution of @main terminates, with the arguments unchanged and every semaphore counter at zero. -/
theorem run_main : θ_run defs (onTc (τ := τ) (main (F := F))) ⟨m, fun _ => 0, ρ⟩ (fun r => (∀ c, QY m c r.2) ∧ r.2.sem = fun _ => 0) :=
  Pipeline.θ_run_region_kit_forget_quiescent cfgs (dats m) () (0 : Fin 1) launch0 ownSemFacts EP defs₀ 𝒱₀ (fgt := fun _ => true) m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := intoΦ m) (Y := fun _ => iprop(emp)) (Z := outOfΦ m)
    (hX := fun c => by
      rw [unscopedRest0_eq, V_main_arg0, V_main_arg1, a_eq c (XA m c)]
      unfold intoΦ outOfΦ
      iintro ⟨⟨H0, H1, -, H3⟩, HS, -, -, -⟩; imodintro
      isplitl [H3 HS]
      · isplitl [H3]; · iexact H3
        iexact HS
      isplitl [H0]; · iexact H0
      iexact H1)
    (hin := fun c => by
      rw [scopedRest0_eq, show (dats m 0 c).Φ 0 = Φ m c 0 from rfl]
      unfold intoΦ Φ; rw [ownSems0_eq, ringP_zero _ _ _ rfl]; unfold Ring.At₀; rw [bigSep_fin3]
      iintro ⟨⟨H0, Hc0, Hc1, Hc2⟩, HA, HX, HQ, HS, HP, Hb⟩
      ihave Hs := (buf_split c) $$ Hb
      icases Hs with ⟨Hs0, Hs1, Hs2⟩
      isplitl [H0 Hc0 Hc1 Hc2 Hs0 Hs1 Hs2]
      · isplitl [H0]; · iexact H0
        isplitl [Hc0 Hs0]
        · isplitl [Hc0]; · iexact Hc0
          iexact Hs0
        isplitl [Hc1 Hs1]
        · isplitl [Hc1]; · iexact Hc1
          iexact Hs1
        isplitl [Hc2]; · iexact Hc2
        iexact Hs2
      isplitl [HA]; · iexact HA
      isplitl [HX]; · iexact HX
      isplitl [HQ]; · iexact HQ
      isplitl [HS]; · iexact HS
      iexact HP)
    (hout := fun c => by
      rw [scopedRest0_eq, show (dats m 0 c).Φ (Fin.last cfg0.N) = Φ m c 32 from congrArg (Φ m c) N_0, ownSems0_eq]
      unfold Φ; rw [ringP_pos _ _ _ (by decide)]
      iintro ⟨HR, HA, HX, HQ, HS, HP⟩
      ihave HR' := (Ring.free3_of_At_last (NB := 32) (homeP c (XA m c)) (cellP c) (slotP c) (flightP c (XA m c))) $$ HR
      icases HR' with ⟨-, ⟨Hc0, Hs0⟩, ⟨Hc1, Hs1⟩, ⟨Hc2, Hs2⟩⟩
      isplitr; · iempintro
      isplitl [Hc0 Hc1 Hc2]
      · isplitl [Hc0]; · iexact Hc0
        isplitl [Hc1]; · iexact Hc1
        iexact Hc2
      isplitl [HA]; · iexact HA
      isplitl [HX]; · iexact HX
      isplitl [HQ]; · iexact HQ
      isplitl [HS]; · iexact HS
      isplitl [HP]; · iexact HP
      iapply (buf_join c (Classical.arbitrary _))
      isplitl [Hs0]; · iexact Hs0
      isplitl [Hs1]; · iexact Hs1
      iexact Hs2)
    (QY := QY m)
    (hY := fun c s' => by
      unfold outOfΦ
      iintro ⟨-, ⟨H0, H1⟩, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun _ hh hz => ⟨fun c => (hh c).2, hz⟩)

end Launch

end Cert.Proof.K

end
-- ==== Proof.KILoops.lean ====
/- The printed kernel's inner counted loops, contents not tracked: what each trip touches is held at
   some contents before and after. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Batch
public import Idealize.ShloMosaic.Lib.Affine
public import Idealize.ShloMosaic.Lib.Tactic

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The pipeline library's algebra beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

/-- The weights in HBM, the weight ring, and the other scratch buffers, as the body receives them. -/
abbrev aM : Memref sig .tc .hbm S1024x2x42x8x128 .bf16 := Memref.whole main_v1
abbrev accM : Memref sig .tc .vmem S112x5376 .f32 := Memref.whole cc0_scratch0
abbrev xqM : Memref sig .tc .vmem S112x512 .bf16 := Memref.whole cc0_scratch1
abbrev wqM : Memref sig .tc .vmem S512x256 .bf16 := Memref.whole cc0_scratch2
abbrev stM : Memref sig .tc .vmem S8x72x2x128 .bf16 := Memref.whole cc0_scratch3
abbrev pwM : Memref sig .tc .vmem S8x16x128 .i32 := Memref.whole cc0_scratch4
abbrev bufM : Memref sig .tc .vmem S3x32x42x16x128 .bf16 := Memref.whole cc0_scratch5

/-- A memref held on its own elements at some contents. -/
abbrev held (c : Dev nD) {sp : Space} {S : Shape} {e : EltTy} (M : Memref sig .tc sp S e) : sProp 𝕄 :=
  iprop(∃ f, M.view.loc (c : Thread nD τ) ↦[M.view.set]{fullShare} f)

/-- A scratch memref's buffer held whole at some contents. -/
abbrev heldW (c : Dev nD) {sp : Space} {S : Shape} {e : EltTy} (M : Memref sig .tc sp S e) : sProp 𝕄 :=
  iprop(∃ f, M.view.loc (c : Thread nD τ) ↦{fullShare} f)

/-- Slot `s` of the weight ring, as the compute loops slice and squeeze it. -/
abbrev slotOff (s : Fin 3) : Fin 5 → Nat := ![s.val, 0, 0, 0, 0]
/-- Within the shape. -/
theorem slotOff_inb (s : Fin 3) : ∀ a, slotOff s a + S1x32x42x16x128.size a ≤ S3x32x42x16x128.size a := by
  revert s; decide
def wslot (s : Fin 3) : Memref sig .tc .vmem S32x42x16x128 .bf16 :=
  (bufM.slice (Rect.unit (s := S3x32x42x16x128) (slotOff s) S1x32x42x16x128.size (slotOff_inb s)) (fun _ => rfl)).squeeze S32x42x16x128 squeezes_S1x32x42x16x128_S32x42x16x128

/-- The offset, in closed form. -/
theorem off13_eq : ∀ i : grid0.Coords, k0_off13 i = slotOff (Ring.sl 3 (i 0).val) := by decide +kernel
/-- The offset, in closed form. -/
theorem off31_eq : ∀ i : grid0.Coords, k0_off31 i = slotOff (Ring.sl 3 (i 0).val) := by decide +kernel

/-- The same slot from the same offset. -/
theorem wslot_congr {off : Fin 5 → Nat} {s : Fin 3} (e : off = slotOff s) (hh hs) :
    (bufM.slice (Rect.unit (s := S3x32x42x16x128) off S1x32x42x16x128.size hh) hs).squeeze S32x42x16x128 squeezes_S1x32x42x16x128_S32x42x16x128 = wslot s :=
  congrArg (fun M : Memref sig .tc .vmem S1x32x42x16x128 .bf16 => M.squeeze S32x42x16x128 squeezes_S1x32x42x16x128_S32x42x16x128) (Memref.slice_unit_congr _ e _ _ _ _)
@[sl_canon] theorem slot13 (i : grid0.Coords) (hh hs) :
    (bufM.slice (Rect.unit (s := S3x32x42x16x128) (k0_off13 i) S1x32x42x16x128.size hh) hs).squeeze S32x42x16x128 squeezes_S1x32x42x16x128_S32x42x16x128 = wslot (Ring.sl 3 (i 0).val) :=
  wslot_congr (off13_eq i) _ _
@[sl_canon] theorem slot31 (i : grid0.Coords) (hh hs) :
    (bufM.slice (Rect.unit (s := S3x32x42x16x128) (k0_off31 i) S1x32x42x16x128.size hh) hs).squeeze S32x42x16x128 squeezes_S1x32x42x16x128_S32x42x16x128 = wslot (Ring.sl 3 (i 0).val) :=
  wslot_congr (off31_eq i) _ _

section Loops

variable (c : Dev nD) (i : grid0.Coords)
  (arg1 : Memref sig .tc .vmem S112x512 .bf16) (harg1 : arg1.IsWhole) (arg3 : Memref sig .tc .vmem S112x5376 .bf16) (harg3 : arg3.IsWhole)
  (arg4 : Memref sig .tc .vmem S112x512 .fp8e4m3) (harg4 : arg4.IsWhole) (arg5 : Memref sig .tc .vmem S112x512 .f32) (harg5 : arg5.IsWhole)
  (arg6 : Memref sig .tc .vmem S512x5376 .fp8e4m3) (harg6 : arg6.IsWhole) (arg7 : Memref sig .tc .vmem S16x5376 .f32) (harg7 : arg7.IsWhole)

set_option sl_exec.squeezeSlice true in
set_option warn.classDefReducibility false in
/-- The group loop that stores the group maxima: the statistics scratch and the ring slot at some contents. -/
@[sl_loop] def loopInv_k0_t4 (k0_t2 : Fin k0_t2_loop.trips) (v105 : BitVec 32) (k0_t3 : Fin k0_t3_loop.trips) (v137 v149 v153 v154 v163 : BitVec 32) :
    LoopInvTy_k0_t4 (F := F) Unit ℕ (UU nD τ) ℕ 𝒱₀ c none Set.univ i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6 k0_t2 v105 k0_t3 v137 v149 v153 v154 v163 where
  inv _ _ := iprop(heldW c stM ∗ held c (wslot (Ring.sl 3 (i 0).val)))
  step k _ := by
    iintro ⟨⟨%fs, HS⟩, ⟨%fw, HW⟩⟩
    sl_unfold [k0_t4_body]
    sl_exec
    sl_step
    isplitl [HS]; · iexists _; iexact HS
    iexists _; iexact HW

set_option sl_exec.squeezeSlice true in
set_option warn.classDefReducibility false in
/-- The group loop that stores the codes: the powers and the ring slot read, the codes' block and the dot's operand
    written, each at some contents. -/
@[sl_loop] def loopInv_k0_t5 (k0_t2 : Fin k0_t2_loop.trips) (k0_t3 : Fin k0_t3_loop.trips) (v149 v161 v163 : BitVec 32) (cst_140 : F .bf16) :
    LoopInvTy_k0_t5 (F := F) Unit ℕ (UU nD τ) ℕ 𝒱₀ c none Set.univ i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6 k0_t2 k0_t3 v149 v161 v163 cst_140 where
  inv _ _ := iprop(heldW c pwM ∗ held c (wslot (Ring.sl 3 (i 0).val)) ∗ held c arg6 ∗ heldW c wqM)
  step k _ := by
    iintro ⟨⟨%fp, HP⟩, ⟨%fw, HW⟩, ⟨%f6, H6⟩, ⟨%fq, HQ⟩⟩
    sl_unfold [k0_t5_body]
    sl_exec
    sl_step
    isplitl [HP]; · iexists _; iexact HP
    isplitl [HW]; · iexists _; iexact HW
    isplitl [H6]; · iexists _; iexact H6
    iexists _; iexact HQ

set_option sl_exec.squeezeSlice true in
set_option warn.classDefReducibility false in
/-- One quarter of a weight column tile: the group maxima, the scales, the codes. -/
@[sl_loop] def loopInv_k0_t3 (k0_t2 : Fin k0_t2_loop.trips) (v103 v105 : BitVec 32) :
    LoopInvTy_k0_t3 (F := F) Unit ℕ (UU nD τ) ℕ 𝒱₀ c none Set.univ i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6 k0_t2 v103 v105 where
  inv _ _ := iprop(heldW c stM ∗ heldW c pwM ∗ held c (wslot (Ring.sl 3 (i 0).val)) ∗ held c arg6 ∗ held c arg7 ∗ heldW c wqM)
  step k _ := by
    iintro ⟨⟨%fs, HS⟩, ⟨%fp, HP⟩, ⟨%fw, HW⟩, ⟨%f6, H6⟩, ⟨%f7, H7⟩, ⟨%fq, HQ⟩⟩
    sl_unfold [k0_t3_body]
    sl_exec
    sl_step
    isplitl [HS]; · iexists _; iexact HS
    isplitl [HP]; · iexists _; iexact HP
    isplitl [HW]; · iexists _; iexact HW
    isplitl [H6]; · iexists _; iexact H6
    isplitl [H7]; · iexists _; iexact H7
    iexists _; iexact HQ

set_option sl_exec.squeezeSlice true in
set_option warn.classDefReducibility false in
/-- One weight column tile: its four quarters, then the product added to the accumulator. -/
@[sl_loop] def loopInv_k0_t2 :
    LoopInvTy_k0_t2 (F := F) Unit ℕ (UU nD τ) ℕ 𝒱₀ c none Set.univ i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6 where
  inv _ _ := iprop(heldW c accM ∗ heldW c xqM ∗ heldW c stM ∗ heldW c pwM ∗ held c (wslot (Ring.sl 3 (i 0).val)) ∗ held c arg6 ∗ held c arg7 ∗ heldW c wqM)
  step k _ := by
    iintro ⟨⟨%fa, HA⟩, ⟨%fx, HX⟩, ⟨%fs, HS⟩, ⟨%fp, HP⟩, ⟨%fw, HW⟩, ⟨%f6, H6⟩, ⟨%f7, H7⟩, ⟨%fq, HQ⟩⟩
    sl_unfold [k0_t2_body]
    sl_exec
    sl_step
    isplitl [HA]; · iexists _; iexact HA
    isplitl [HX]; · iexists _; iexact HX
    isplitl [HS]; · iexists _; iexact HS
    isplitl [HP]; · iexists _; iexact HP
    isplitl [HW]; · iexists _; iexact HW
    isplitl [H6]; · iexists _; iexact H6
    isplitl [H7]; · iexists _; iexact H7
    iexists _; iexact HQ

set_option sl_exec.squeezeSlice true in
set_option warn.classDefReducibility false in
/-- The activation slab loop: the block read, its codes and the dot's left operand written, the scales' tile carried. -/
@[sl_loop] def loopInv_k0_t1 (arg0 : BitVec 32) (v7 v9 v27 : IVec S112x128 32) (c8_i32 v28 v33 v38 : BitVec 32) (init : FVec F S112x128 .f32) :
    LoopInvTy_k0_t1 (F := F) Unit ℕ (UU nD τ) ℕ 𝒱₀ c none Set.univ i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6 arg0 v7 v9 v27 c8_i32 v28 v33 v38 init where
  inv _ _ := iprop(held c arg1 ∗ held c arg4 ∗ heldW c xqM)
  step k _ := by
    iintro ⟨⟨%f1, H1⟩, ⟨%f4, H4⟩, ⟨%fx, HX⟩⟩
    sl_unfold [k0_t1_body]
    sl_exec
    sl_step
    isplitl [H1]; · iexists _; iexact H1
    isplitl [H4]; · iexists _; iexact H4
    iexists _; iexact HX

end Loops

end Cert.Proof.KI

end
-- ==== Proof.KIRing.lean ====
/- The weight ring of the printed kernel at the ideal floats: canonical names of its slots, halves, cells and of the weights' blocks in
   HBM, what a block's two transfers deliver, and the elements each name stands for. -/
module

public import proofs.«01_k».proof.Proof.KILoops

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## Names -/

/-- Half `h` of the weights' block `b` in HBM, half `h` of ring slot `s`, and slot `s`'s cell: their offsets. -/
abbrev grpOff (b : Fin 32) (h : Fin 2) : Fin 5 → Nat := ![32 * b.val, h.val, 0, 0, 0]
/-- Within the shape. -/
theorem grpOff_inb (b : Fin 32) (h : Fin 2) : ∀ a, grpOff b h a + S32x1x42x8x128.size a ≤ S1024x2x42x8x128.size a := by
  revert b h; decide +kernel
abbrev halfOff (s : Fin 3) (h : Fin 2) : Fin 5 → Nat := ![s.val, 0, 0, 8 * h.val, 0]
/-- Within the shape. -/
theorem halfOff_inb (s : Fin 3) (h : Fin 2) : ∀ a, halfOff s h a + S1x32x42x8x128.size a ≤ S3x32x42x16x128.size a := by
  revert s h; decide +kernel
abbrev semOff (s : Fin 3) : Fin 1 → Nat := ![s.val]
/-- Within the shape. -/
theorem semOff_inb (s : Fin 3) : ∀ a, semOff s a + S1.size a ≤ S3.size a := by revert s; decide

/-- Half `h` of the weights' block `b`, as the body slices and squeezes it; -/
def grp (b : Fin 32) (h : Fin 2) : Memref sig .tc .hbm S32x42x8x128 .bf16 :=
  (aM.slice (Rect.unit (s := S1024x2x42x8x128) (grpOff b h) S32x1x42x8x128.size (grpOff_inb b h)) (fun _ => rfl)).squeeze S32x42x8x128 squeezes_S32x1x42x8x128_S32x42x8x128
/-- half `h` of ring slot `s`; -/
def rslot (s : Fin 3) (h : Fin 2) : Memref sig .tc .vmem S32x42x8x128 .bf16 :=
  (bufM.slice (Rect.unit (s := S3x32x42x16x128) (halfOff s h) S1x32x42x8x128.size (halfOff_inb s h)) (fun _ => rfl)).squeeze S32x42x8x128 squeezes_S1x32x42x8x128_S32x42x8x128
/-- slot `s`'s cell. -/
def csm (s : Fin 3) : DmaSems sig S_ := (cc0_scratch6.slice (Rect.unit (s := S3) (semOff s) S1.size (semOff_inb s))).squeeze S_ squeezes_S1_S_

instance (s : Fin 3) (h : Fin 2) : ClosedOff (halfOff s h) := ⟨halfOff s h, rfl⟩
instance (b : Fin 32) (h : Fin 2) : ClosedOff (grpOff b h) := ⟨grpOff b h, rfl⟩

/-! ## The offsets the body computes -/

/-- The offset, in closed form. -/
theorem off1_eq : ∀ i : grid0.Coords, k0_off1 i = semOff (Ring.sl 3 ((i 0).val + 2)) := by decide +kernel
/-- The offset, in closed form. -/
theorem off2_eq : ∀ i : grid0.Coords, k0_off2 i = halfOff (Ring.sl 3 ((i 0).val + 2)) 0 := by decide +kernel
/-- The offset, in closed form. -/
theorem off4_eq : ∀ i : grid0.Coords, k0_off4 i = halfOff (Ring.sl 3 ((i 0).val + 2)) 1 := by decide +kernel
/-- The offset, in closed form. -/
theorem off3_eq : ∀ i : grid0.Coords, (i 0).val + 2 < 32 → k0_off3 i = grpOff (Ring.bk 32 ((i 0).val + 2)) 0 := by decide +kernel
/-- The offset, in closed form. -/
theorem off5_eq : ∀ i : grid0.Coords, (i 0).val + 2 < 32 → k0_off5 i = grpOff (Ring.bk 32 ((i 0).val + 2)) 1 := by decide +kernel
/-- The offset, in closed form. -/
theorem off8_eq : ∀ i : grid0.Coords, k0_off8 i = semOff (Ring.sl 3 (i 0).val) := by decide +kernel
/-- The offset, in closed form. -/
theorem off9_eq : ∀ i : grid0.Coords, k0_off9 i = halfOff (Ring.sl 3 (i 0).val) 0 := by decide +kernel
/-- The offset, in closed form. -/
theorem off11_eq : ∀ i : grid0.Coords, k0_off11 i = halfOff (Ring.sl 3 (i 0).val) 1 := by decide +kernel
/-- The offset, in closed form. -/
theorem off10_eq : ∀ i : grid0.Coords, k0_off10 i = grpOff (Ring.bk 32 (i 0).val) 0 := by decide +kernel
/-- The offset, in closed form. -/
theorem off12_eq : ∀ i : grid0.Coords, k0_off12 i = grpOff (Ring.bk 32 (i 0).val) 1 := by decide +kernel

/-! ## The canonical-name equations: the body's slices are `csm`, `rslot`, `grp` -/

theorem csm_congr {off : Fin 1 → Nat} {s : Fin 3} (e : off = semOff s) (hh) :
    (cc0_scratch6.slice (Rect.unit (s := S3) off S1.size hh)).squeeze S_ squeezes_S1_S_ = csm s :=
  congrArg (fun A : DmaSems sig S1 => A.squeeze S_ squeezes_S1_S_) (SemArray.slice_unit_congr _ e _ _)
theorem rslot_congr {off : Fin 5 → Nat} {s : Fin 3} {h : Fin 2} (e : off = halfOff s h) (hh hs) :
    (bufM.slice (Rect.unit (s := S3x32x42x16x128) off S1x32x42x8x128.size hh) hs).squeeze S32x42x8x128 squeezes_S1x32x42x8x128_S32x42x8x128 = rslot s h :=
  congrArg (fun M : Memref sig .tc .vmem S1x32x42x8x128 .bf16 => M.squeeze S32x42x8x128 squeezes_S1x32x42x8x128_S32x42x8x128) (Memref.slice_unit_congr _ e _ _ _ _)
theorem grp_congr {off : Fin 5 → Nat} {b : Fin 32} {h : Fin 2} (e : off = grpOff b h) (hh hs) :
    (aM.slice (Rect.unit (s := S1024x2x42x8x128) off S32x1x42x8x128.size hh) hs).squeeze S32x42x8x128 squeezes_S32x1x42x8x128_S32x42x8x128 = grp b h :=
  congrArg (fun M : Memref sig .tc .hbm S32x1x42x8x128 .bf16 => M.squeeze S32x42x8x128 squeezes_S32x1x42x8x128_S32x42x8x128) (Memref.slice_unit_congr _ e _ _ _ _)

/-- The first point's literal slices: cells, halves and blocks 0 and 1. -/
@[sl_canon] theorem semL0 (hh) : (cc0_scratch6.slice (Rect.unit (s := S3) ![0] S1.size hh)).squeeze S_ squeezes_S1_S_ = csm 0 := csm_congr (by decide) _
@[sl_canon] theorem semL1 (hh) : (cc0_scratch6.slice (Rect.unit (s := S3) ![1] S1.size hh)).squeeze S_ squeezes_S1_S_ = csm 1 := csm_congr (by decide) _
@[sl_canon] theorem slotL00 (hh hs) : (bufM.slice (Rect.unit (s := S3x32x42x16x128) ![0, 0, 0, 0, 0] S1x32x42x8x128.size hh) hs).squeeze S32x42x8x128 squeezes_S1x32x42x8x128_S32x42x8x128 = rslot 0 0 := rslot_congr (by decide) _ _
@[sl_canon] theorem grpL00 (hh hs) : (aM.slice (Rect.unit (s := S1024x2x42x8x128) ![0, 0, 0, 0, 0] S32x1x42x8x128.size hh) hs).squeeze S32x42x8x128 squeezes_S32x1x42x8x128_S32x42x8x128 = grp 0 0 := grp_congr (by decide) _ _
@[sl_canon] theorem slotL01 (hh hs) : (bufM.slice (Rect.unit (s := S3x32x42x16x128) ![0, 0, 0, 8, 0] S1x32x42x8x128.size hh) hs).squeeze S32x42x8x128 squeezes_S1x32x42x8x128_S32x42x8x128 = rslot 0 1 := rslot_congr (by decide) _ _
@[sl_canon] theorem grpL01 (hh hs) : (aM.slice (Rect.unit (s := S1024x2x42x8x128) ![0, 1, 0, 0, 0] S32x1x42x8x128.size hh) hs).squeeze S32x42x8x128 squeezes_S32x1x42x8x128_S32x42x8x128 = grp 0 1 := grp_congr (by decide) _ _
@[sl_canon] theorem slotL10 (hh hs) : (bufM.slice (Rect.unit (s := S3x32x42x16x128) ![1, 0, 0, 0, 0] S1x32x42x8x128.size hh) hs).squeeze S32x42x8x128 squeezes_S1x32x42x8x128_S32x42x8x128 = rslot 1 0 := rslot_congr (by decide) _ _
@[sl_canon] theorem grpL10 (hh hs) : (aM.slice (Rect.unit (s := S1024x2x42x8x128) ![32, 0, 0, 0, 0] S32x1x42x8x128.size hh) hs).squeeze S32x42x8x128 squeezes_S32x1x42x8x128_S32x42x8x128 = grp 1 0 := grp_congr (by decide) _ _
@[sl_canon] theorem slotL11 (hh hs) : (bufM.slice (Rect.unit (s := S3x32x42x16x128) ![1, 0, 0, 8, 0] S1x32x42x8x128.size hh) hs).squeeze S32x42x8x128 squeezes_S1x32x42x8x128_S32x42x8x128 = rslot 1 1 := rslot_congr (by decide) _ _
@[sl_canon] theorem grpL11 (hh hs) : (aM.slice (Rect.unit (s := S1024x2x42x8x128) ![32, 1, 0, 0, 0] S32x1x42x8x128.size hh) hs).squeeze S32x42x8x128 squeezes_S32x1x42x8x128_S32x42x8x128 = grp 1 1 := grp_congr (by decide) _ _

section
variable (i : grid0.Coords)
/-- What point `i` issues (block `i + 2`) and what it waits for (block `i`). -/
@[sl_canon] theorem semK1 (hh) : (cc0_scratch6.slice (Rect.unit (s := S3) (k0_off1 i) S1.size hh)).squeeze S_ squeezes_S1_S_ = csm (Ring.sl 3 ((i 0).val + 2)) := csm_congr (off1_eq i) _
@[sl_canon] theorem semK8 (hh) : (cc0_scratch6.slice (Rect.unit (s := S3) (k0_off8 i) S1.size hh)).squeeze S_ squeezes_S1_S_ = csm (Ring.sl 3 (i 0).val) := csm_congr (off8_eq i) _
@[sl_canon] theorem slotK2 (hh hs) : (bufM.slice (Rect.unit (s := S3x32x42x16x128) (k0_off2 i) S1x32x42x8x128.size hh) hs).squeeze S32x42x8x128 squeezes_S1x32x42x8x128_S32x42x8x128 = rslot (Ring.sl 3 ((i 0).val + 2)) 0 := rslot_congr (off2_eq i) _ _
@[sl_canon] theorem slotK4 (hh hs) : (bufM.slice (Rect.unit (s := S3x32x42x16x128) (k0_off4 i) S1x32x42x8x128.size hh) hs).squeeze S32x42x8x128 squeezes_S1x32x42x8x128_S32x42x8x128 = rslot (Ring.sl 3 ((i 0).val + 2)) 1 := rslot_congr (off4_eq i) _ _
@[sl_canon] theorem slotK9 (hh hs) : (bufM.slice (Rect.unit (s := S3x32x42x16x128) (k0_off9 i) S1x32x42x8x128.size hh) hs).squeeze S32x42x8x128 squeezes_S1x32x42x8x128_S32x42x8x128 = rslot (Ring.sl 3 (i 0).val) 0 := rslot_congr (off9_eq i) _ _
@[sl_canon] theorem slotK11 (hh hs) : (bufM.slice (Rect.unit (s := S3x32x42x16x128) (k0_off11 i) S1x32x42x8x128.size hh) hs).squeeze S32x42x8x128 squeezes_S1x32x42x8x128_S32x42x8x128 = rslot (Ring.sl 3 (i 0).val) 1 := rslot_congr (off11_eq i) _ _
@[sl_canon] theorem grpK3 (hk : (i 0).val + 2 < 32) (hh hs) : (aM.slice (Rect.unit (s := S1024x2x42x8x128) (k0_off3 i) S32x1x42x8x128.size hh) hs).squeeze S32x42x8x128 squeezes_S32x1x42x8x128_S32x42x8x128 = grp (Ring.bk 32 ((i 0).val + 2)) 0 := grp_congr (off3_eq i hk) _ _
@[sl_canon] theorem grpK5 (hk : (i 0).val + 2 < 32) (hh hs) : (aM.slice (Rect.unit (s := S1024x2x42x8x128) (k0_off5 i) S32x1x42x8x128.size hh) hs).squeeze S32x42x8x128 squeezes_S32x1x42x8x128_S32x42x8x128 = grp (Ring.bk 32 ((i 0).val + 2)) 1 := grp_congr (off5_eq i hk) _ _
@[sl_canon] theorem grpK10 (hh hs) : (aM.slice (Rect.unit (s := S1024x2x42x8x128) (k0_off10 i) S32x1x42x8x128.size hh) hs).squeeze S32x42x8x128 squeezes_S32x1x42x8x128_S32x42x8x128 = grp (Ring.bk 32 (i 0).val) 0 := grp_congr (off10_eq i) _ _
@[sl_canon] theorem grpK12 (hh hs) : (aM.slice (Rect.unit (s := S1024x2x42x8x128) (k0_off12 i) S32x1x42x8x128.size hh) hs).squeeze S32x42x8x128 squeezes_S32x1x42x8x128_S32x42x8x128 = grp (Ring.bk 32 (i 0).val) 1 := grp_congr (off12_eq i) _ _
end

/-! ## The pieces -/

section Pieces
variable (c : Dev nD) (XA : Buf (Elt F) (aM.view.loc (c : Thread nD τ)))

abbrev cellP (s : Fin 3) : sProp 𝕄 := semVal ((c : Thread nD τ), SemLoc.dma (csm s).sem) 0
/-- A half slot's contents, and a slot held half by half. -/
abbrev HB (c : Dev nD) := Buf (Elt F) (bufM.view.loc (c : Thread nD τ))
abbrev halfP (s : Fin 3) (h : Fin 2) (f : HB (F := F) c) : sProp 𝕄 :=
  (rslot s h).view.loc (c : Thread nD τ) ↦[(rslot s h).view.set]{fullShare} f
abbrev slotP (s : Fin 3) (f : HB (F := F) c × HB (F := F) c) : sProp 𝕄 := iprop(halfP c s 0 f.1 ∗ halfP c s 1 f.2)
/-- Half a block HOME, and a block home. -/
abbrev hhomeP (b : Fin 32) (h : Fin 2) : sProp 𝕄 := (grp b h).view.loc (c : Thread nD τ) ↦[(grp b h).view.set]{fullShare} XA
abbrev homeP (b : Fin 32) : sProp 𝕄 := iprop(hhomeP c XA b 0 ∗ hhomeP c XA b 1)
/-- What the transfer of half a block leaves in half a slot over prior contents. -/
abbrev landed (s : Fin 3) (b : Fin 32) (h : Fin 2) (f : HB (F := F) c) : HB (F := F) c :=
  (rslot s h).view.writes (Elt F) f [⟨Rect.whole S32x42x8x128, ReadAs.same.apply ((grp b h).view.read (Elt F) XA)⟩]
/-- What half `h`'s transfer delivers: the half landed, its source back. -/
def deliv (s : Fin 3) (b : Fin 32) (f : HB (F := F) c × HB (F := F) c) (h : Fin 2) : sProp 𝕄 :=
  iprop(halfP c s h (landed c XA s b h (if h = 0 then f.1 else f.2)) ∗ hhomeP c XA b h)
abbrev NN (s : Fin 3) : ℕ := (rslot s 0).view.amount (SemLoc.dma (csm s).sem)
/-- Slot `s` IN FLIGHT with block `b`: both transfers issued, none waited for. -/
abbrev flightP (s : Fin 3) (b : Fin 32) (f : HB (F := F) c × HB (F := F) c) : sProp 𝕄 :=
  Transfers.Batch countersEmb (c : Thread nD τ) (SemLoc.dma (csm s).sem) () (NN s) (deliv c XA s b f) 2 0

end Pieces

/-! ## The elements each name stands for -/

abbrev HS (s : Fin 3) (h : Fin 2) : Finset S3x32x42x16x128.Idx := (Rect.unit (s := S3x32x42x16x128) (halfOff s h) S1x32x42x8x128.size (halfOff_inb s h)).set
abbrev WS (s : Fin 3) : Finset S3x32x42x16x128.Idx := (Rect.unit (s := S3x32x42x16x128) (slotOff s) S1x32x42x16x128.size (slotOff_inb s)).set
abbrev GS (b : Fin 32) (h : Fin 2) : Finset S1024x2x42x8x128.Idx := (Rect.unit (s := S1024x2x42x8x128) (grpOff b h) S32x1x42x8x128.size (grpOff_inb b h)).set

theorem rslot_set (s : Fin 3) (h : Fin 2) : (rslot s h : Memref sig .tc .vmem _ _).view.set = HS s h := (View.set_reshape _ _).trans (View.set_slice_whole _ _)
theorem wslot_set (s : Fin 3) : (wslot s : Memref sig .tc .vmem _ _).view.set = WS s := (View.set_reshape _ _).trans (View.set_slice_whole _ _)
theorem grp_set (b : Fin 32) (h : Fin 2) : (grp b h : Memref sig .tc .hbm _ _).view.set = GS b h := (View.set_reshape _ _).trans (View.set_slice_whole _ _)

/-- The elements of half a slot. -/
theorem mem_HS (s : Fin 3) (h : Fin 2) (y : S3x32x42x16x128.Idx) : y ∈ HS s h ↔ (y 0).val = s.val ∧ (y 3).val / 8 = h.val := by
  rw [Rect.mem_set_unit]
  have h1 : (y 1).val < 32 := (y 1).isLt
  have h2 : (y 2).val < 42 := (y 2).isLt
  have h3 : (y 3).val < 16 := (y 3).isLt
  have h4 : (y 4).val < 128 := (y 4).isLt
  constructor
  · intro H
    have a0 : s.val ≤ (y 0).val ∧ (y 0).val < s.val + 1 := H 0
    have a3 : 8 * h.val ≤ (y 3).val ∧ (y 3).val < 8 * h.val + 8 := H 3
    omega
  · intro H i; fin_cases i
    · show s.val ≤ (y 0).val ∧ (y 0).val < s.val + 1; omega
    · show 0 ≤ (y 1).val ∧ (y 1).val < 0 + 32; omega
    · show 0 ≤ (y 2).val ∧ (y 2).val < 0 + 42; omega
    · show 8 * h.val ≤ (y 3).val ∧ (y 3).val < 8 * h.val + 8; omega
    · show 0 ≤ (y 4).val ∧ (y 4).val < 0 + 128; omega
/-- The elements of a slot. -/
theorem mem_WS (s : Fin 3) (y : S3x32x42x16x128.Idx) : y ∈ WS s ↔ (y 0).val = s.val := by
  rw [Rect.mem_set_unit]
  have h1 : (y 1).val < 32 := (y 1).isLt
  have h2 : (y 2).val < 42 := (y 2).isLt
  have h3 : (y 3).val < 16 := (y 3).isLt
  have h4 : (y 4).val < 128 := (y 4).isLt
  constructor
  · intro H
    have a0 : s.val ≤ (y 0).val ∧ (y 0).val < s.val + 1 := H 0
    omega
  · intro H i; fin_cases i
    · show s.val ≤ (y 0).val ∧ (y 0).val < s.val + 1; omega
    · show 0 ≤ (y 1).val ∧ (y 1).val < 0 + 32; omega
    · show 0 ≤ (y 2).val ∧ (y 2).val < 0 + 42; omega
    · show 0 ≤ (y 3).val ∧ (y 3).val < 0 + 16; omega
    · show 0 ≤ (y 4).val ∧ (y 4).val < 0 + 128; omega
/-- The elements of half a block of the weights. -/
theorem mem_GS (b : Fin 32) (h : Fin 2) (y : S1024x2x42x8x128.Idx) : y ∈ GS b h ↔ (y 0).val / 32 = b.val ∧ (y 1).val = h.val := by
  rw [Rect.mem_set_unit]
  have h2 : (y 2).val < 42 := (y 2).isLt
  have h3 : (y 3).val < 8 := (y 3).isLt
  have h4 : (y 4).val < 128 := (y 4).isLt
  constructor
  · intro H
    have a0 : 32 * b.val ≤ (y 0).val ∧ (y 0).val < 32 * b.val + 32 := H 0
    have a1 : h.val ≤ (y 1).val ∧ (y 1).val < h.val + 1 := H 1
    omega
  · intro H i; fin_cases i
    · show 32 * b.val ≤ (y 0).val ∧ (y 0).val < 32 * b.val + 32; omega
    · show h.val ≤ (y 1).val ∧ (y 1).val < h.val + 1; omega
    · show 0 ≤ (y 2).val ∧ (y 2).val < 0 + 42; omega
    · show 0 ≤ (y 3).val ∧ (y 3).val < 0 + 8; omega
    · show 0 ≤ (y 4).val ∧ (y 4).val < 0 + 128; omega

/-- The halves of a slot are disjoint. -/
theorem HS_disjoint (s : Fin 3) : ∀ h h' : Fin 2, h ≠ h' → Disjoint (HS s h) (HS s h') := by
  intro b b' hne; rw [Finset.disjoint_left]; intro y hy hy'; rw [mem_HS] at hy hy'; exact hne (Fin.ext (hy.2.symm.trans hy'.2))
/-- The halves of a slot make up the slot. -/
theorem HS_cover (s : Fin 3) : (Finset.univ : Finset (Fin 2)).biUnion (HS s) = WS s := by
  ext y; simp only [Finset.mem_biUnion, Finset.mem_univ, true_and, mem_WS, mem_HS]
  have h3 : (y 3).val < 16 := (y 3).isLt
  exact ⟨fun ⟨_, h, _⟩ => h, fun h => ⟨⟨(y 3).val / 8, by omega⟩, h, rfl⟩⟩
/-- The slots are disjoint. -/
theorem WS_disjoint : ∀ s s' : Fin 3, s ≠ s' → Disjoint (WS s) (WS s') := by
  intro b b' hne; rw [Finset.disjoint_left]; intro y hy hy'; rw [mem_WS] at hy hy'; exact hne (Fin.ext (hy.symm.trans hy'))
/-- The slots make up the buffer. -/
theorem WS_cover : (Finset.univ : Finset (Fin 3)).biUnion WS = Finset.univ := by
  ext y; simp only [Finset.mem_biUnion, Finset.mem_univ, true_and, iff_true]; exact ⟨(y 0).cast (by decide), by rw [mem_WS]; rfl⟩
/-- The halves of a block are disjoint. -/
theorem GS_disjoint (b : Fin 32) : ∀ h h' : Fin 2, h ≠ h' → Disjoint (GS b h) (GS b h') := by
  intro h h' hne; rw [Finset.disjoint_left]; intro y hy hy'; rw [mem_GS] at hy hy'; exact hne (Fin.ext (hy.2.symm.trans hy'.2))
/-- A block's elements: both halves'. -/
abbrev BS (b : Fin 32) : Finset S1024x2x42x8x128.Idx := (Finset.univ : Finset (Fin 2)).biUnion (GS b)
/-- The elements of a block of the weights. -/
theorem mem_BS (b : Fin 32) (y : S1024x2x42x8x128.Idx) : y ∈ BS b ↔ (y 0).val / 32 = b.val := by
  simp only [Finset.mem_biUnion, Finset.mem_univ, true_and, mem_GS]
  have h1 : (y 1).val < 2 := (y 1).isLt
  exact ⟨fun ⟨_, h, _⟩ => h, fun h => ⟨⟨(y 1).val, h1⟩, h, rfl⟩⟩
/-- The blocks are disjoint. -/
theorem BS_disjoint : ∀ b b' : Fin 32, b ≠ b' → Disjoint (BS b) (BS b') := by
  intro b b' hne; rw [Finset.disjoint_left]; intro y hy hy'; rw [mem_BS] at hy hy'; exact hne (Fin.ext (hy.symm.trans hy'))
/-- The blocks make up the array. -/
theorem BS_cover : (Finset.univ : Finset (Fin 32)).biUnion BS = Finset.univ := by
  ext y; rw [Finset.mem_biUnion]
  have h0 : (y 0).val < 1024 := (y 0).isLt
  exact ⟨fun _ => Finset.mem_univ _, fun _ => ⟨⟨(y 0).val / 32, by omega⟩, Finset.mem_univ _, by rw [mem_BS]⟩⟩

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
omit [FloatOps F] in
theorem entails_of_eq {P Q : sProp 𝕄} (e : P = Q) : P ⊢ Q := e ▸ .rfl

section Sets
variable (c : Dev nD) (XA : Buf (Elt F) (aM.view.loc (c : Thread nD τ)))
omit [FloatOps F]

theorem halfP_eq (s : Fin 3) (h : Fin 2) (f : HB (F := F) c) :
    halfP c s h f = (((c : Thread nD τ).loc cc0_scratch5) ↦[HS s h]{fullShare} f : sProp 𝕄) :=
  congrArg (fun S => (_ ↦[S]{fullShare} f : sProp 𝕄)) (rslot_set s h)
theorem wslot_eq (s : Fin 3) (f : HB (F := F) c) :
    ((wslot s).view.loc (c : Thread nD τ) ↦[(wslot s).view.set]{fullShare} f : sProp 𝕄) = (((c : Thread nD τ).loc cc0_scratch5) ↦[WS s]{fullShare} f : sProp 𝕄) :=
  congrArg (fun S => (_ ↦[S]{fullShare} f : sProp 𝕄)) (wslot_set s)
/-- A slot held is its two halves held at the same contents. -/
theorem wslot_halves (s : Fin 3) (f : HB (F := F) c) :
    ((wslot s).view.loc (c : Thread nD τ) ↦[(wslot s).view.set]{fullShare} f : sProp 𝕄) = iprop(halfP c s 0 f ∗ halfP c s 1 f) := by
  rw [wslot_eq, Ring.pointsTo_sub_blocks (ℓ := (c : Thread nD τ).loc cc0_scratch5) (HS s) (HS_disjoint s) (WS s) (HS_cover s), bigSep_fin2, halfP_eq, halfP_eq]
/-- Two halves at contents of their own are the slot at some contents. -/
theorem wslot_join (s : Fin 3) (f g : HB (F := F) c) : iprop(halfP c s 0 f ∗ halfP c s 1 g) ⊢ (held c (wslot s) : sProp 𝕄) := by
  iintro ⟨H0, H1⟩
  ihave H := (Ring.pointsTo_sub_blocks_join_exists (ℓ := (c : Thread nD τ).loc cc0_scratch5) (HS s) (HS_disjoint s) (WS s) (HS_cover s) f) $$ [H0 H1]
  · irw [bigSep_fin2]
    isplitl [H0]
    · iexists f; iapply (entails_of_eq (halfP_eq c s 0 f)); iexact H0
    · iexists g; iapply (entails_of_eq (halfP_eq c s 1 g)); iexact H1
  icases H with ⟨%k, H⟩
  iexists k
  iapply (entails_of_eq (wslot_eq c s k).symm); iexact H
/-- A slot is held as its two halves. -/
theorem wslot_split (s : Fin 3) : (held c (wslot s) : sProp 𝕄) ⊢ iprop(∃ f, slotP c s f) := by
  iintro ⟨%f, H⟩
  iexists (f, f)
  iapply (entails_of_eq (wslot_halves c s f)); iexact H

/-- The ring buffer whole is its three slots, and back. -/
theorem buf_split :
    iprop(∃ f : Buf (Elt F) ((c : Thread nD τ).loc cc0_scratch5), ((c : Thread nD τ).loc cc0_scratch5) ↦{fullShare} f)
      ⊢ (iprop((∃ f, slotP c 0 f) ∗ (∃ f, slotP c 1 f) ∗ ∃ f, slotP c 2 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch5) WS WS_disjoint WS_cover f).trans (bigSep_fin3 _))) $$ H
  icases H2 with ⟨H0, H1, H2⟩
  isplitl [H0]
  · iexists (f, f); iapply (entails_of_eq ((wslot_eq c 0 f).symm.trans (wslot_halves c 0 f))); iexact H0
  isplitl [H1]
  · iexists (f, f); iapply (entails_of_eq ((wslot_eq c 1 f).symm.trans (wslot_halves c 1 f))); iexact H1
  · iexists (f, f); iapply (entails_of_eq ((wslot_eq c 2 f).symm.trans (wslot_halves c 2 f))); iexact H2
/-- A slot with some contents. -/
theorem slot_some (s : Fin 3) : iprop(∃ f, slotP c s f) ⊢ (iprop(∃ f, ((c : Thread nD τ).loc cc0_scratch5) ↦[WS s]{fullShare} f) : sProp 𝕄) := by
  iintro ⟨%f, H0, H1⟩
  ihave H := (wslot_join c s f.1 f.2) $$ [H0 H1]
  · isplitl [H0]; · iexact H0
    iexact H1
  icases H with ⟨%g, H⟩
  iexists g; iapply (entails_of_eq (wslot_eq c s g)); iexact H
/-- The slots together are the buffer. -/
theorem buf_join (f₀ : Buf (Elt F) ((c : Thread nD τ).loc cc0_scratch5)) :
    iprop((∃ f, slotP c 0 f) ∗ (∃ f, slotP c 1 f) ∗ ∃ f, slotP c 2 f)
      ⊢ (iprop(∃ f : Buf (Elt F) ((c : Thread nD τ).loc cc0_scratch5), ((c : Thread nD τ).loc cc0_scratch5) ↦{fullShare} f) : sProp 𝕄) := by
  iintro ⟨H0, H1, H2⟩
  iapply (Ring.pointsTo_blocks_join_exists (ℓ := (c : Thread nD τ).loc cc0_scratch5) WS WS_disjoint WS_cover f₀)
  irw [bigSep_fin3]
  isplitl [H0]; · iapply (slot_some c 0); iexact H0
  isplitl [H1]; · iapply (slot_some c 1); iexact H1
  iapply (slot_some c 2); iexact H2

/-- The weights whole in HBM are their thirty-two blocks home. -/
theorem a_eq :
    (((c : Thread nD τ).loc main_v1) ↦{fullShare} XA : sProp 𝕄) = bigSep Finset.univ (homeP c XA) := by
  rw [Ring.pointsTo_blocks (ℓ := (c : Thread nD τ).loc main_v1) BS BS_disjoint BS_cover]
  refine bigSep_congr fun b _ => ?_
  rw [Ring.pointsTo_sub_blocks (ℓ := (c : Thread nD τ).loc main_v1) (GS b) (GS_disjoint b) (BS b) rfl, bigSep_fin2]
  unfold homeP hhomeP
  rw [grp_set, grp_set]; rfl
end Sets

end Cert.Proof.KI

end
-- ==== Proof.KIBody.lean ====
/- One grid point of the printed kernel, contents not tracked: the point's transfers issued, its block waited for, the
   quantisation loops run; by the first point, a middle point, and the last two. -/
module

public import proofs.«01_k».proof.Proof.KIRing

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- Ownership of part of a buffer can be kept in an invariant. -/
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance
instance deliv_storable (c : Dev nD) (XA : Buf (Elt F) (aM.view.loc (c : Thread nD τ))) (s : Fin 3) (b : Fin 32) (f : HB (F := F) c × HB (F := F) c) (h : Fin 2) :
    BI.Storable (upEmb : UEmb _ 𝕄) (deliv c XA s b f h) := by
  unfold deliv
  haveI h1 : BI.Storable (upEmb : UEmb _ 𝕄) (halfP c s h (landed c XA s b h (if h = 0 then f.1 else f.2))) := pts_storable _ _ _ _
  haveI h2 : BI.Storable (upEmb : UEmb _ 𝕄) (hhomeP c XA b h) := pts_storable _ _ _ _
  exact @Storable.sep _ _ _ _ _ _ _ _ h1 h2

/-- Where the slab of 128 scales lies at a point. -/
theorem off6_eq : ∀ i : grid0.Coords, k0_off6 i = ![0, 128 * ((i 0).val / 8)] := by decide +kernel
instance closedOff_off6 (i : grid0.Coords) : ClosedOff (k0_off6 i) := ⟨![0, 128 * ((i 0).val / 8)], off6_eq i⟩

section Body
variable (c : Dev nD) (XA : Buf (Elt F) (aM.view.loc (c : Thread nD τ))) (i : grid0.Coords)
  (arg1 : Memref sig .tc .vmem S112x512 .bf16) (harg1 : arg1.IsWhole) (arg3 : Memref sig .tc .vmem S112x5376 .bf16) (harg3 : arg3.IsWhole)
  (arg4 : Memref sig .tc .vmem S112x512 .fp8e4m3) (harg4 : arg4.IsWhole) (arg5 : Memref sig .tc .vmem S112x512 .f32) (harg5 : arg5.IsWhole)
  (arg6 : Memref sig .tc .vmem S512x5376 .fp8e4m3) (harg6 : arg6.IsWhole) (arg7 : Memref sig .tc .vmem S16x5376 .f32) (harg7 : arg7.IsWhole)

/-- The body on the given staging memrefs; the weights, the scratch and the cells its own. -/
abbrev bodyG : Prog (TpuEff nD τ sig (Elt F) Λ₀ .tc) PUnit :=
  cc0_mxfp8_requant_matmul i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6

/-- The windows' staging buffers but the product's, and the scratch buffers but the ring, each at some contents. -/
abbrev wins : sProp 𝕄 := iprop(held c arg1 ∗ held c arg4 ∗ held c arg5 ∗ held c arg6 ∗ held c arg7)
abbrev scr : sProp 𝕄 := iprop(heldW c accM ∗ heldW c xqM ∗ heldW c wqM ∗ heldW c stM ∗ heldW c pwM)

/-- The body's first conditional. -/
abbrev cond1 : Prop := Scalar.cmpi .ne (Scalar.extui (Scalar.cmpi .eq (BitVec.ofNat 32 (i 0).val) 0#32) : BitVec 32) 0#32 = 1#1

set_option maxRecDepth 8000 in
/-- The first point: blocks 0, 1 and 2 go out, block 0 is waited for. -/
theorem runFirst (hz : (i 0).val = 0) (h1 : cond1 i) (h2 : k0_cond2 i = 1#1) (h3 : ¬k0_cond3 i = 1#1) (hk : (i 0).val + 2 < 32) (W : Waits sig Unit)
    (f0 f1 f2 : HB (F := F) c × HB (F := F) c) (Q : PUnit → sProp 𝕄) :
    iprop((wins c arg1 arg4 arg5 arg6 arg7 ∗ scr c ∗ homeP c XA (Ring.bk 32 (i 0).val) ∗ homeP c XA (Ring.bk 32 ((i 0).val + 1)) ∗ homeP c XA (Ring.bk 32 ((i 0).val + 2)) ∗ cellP c (Ring.sl 3 (i 0).val) ∗ slotP c (Ring.sl 3 (i 0).val) f0 ∗ cellP c (Ring.sl 3 ((i 0).val + 1)) ∗ slotP c (Ring.sl 3 ((i 0).val + 1)) f1 ∗ cellP c (Ring.sl 3 ((i 0).val + 2)) ∗ slotP c (Ring.sl 3 ((i 0).val + 2)) f2 ∗ owes (c : Thread nD τ) 0 W)
      ∗ ((wins c arg1 arg4 arg5 arg6 arg7 ∗ scr c ∗ homeP c XA (Ring.bk 32 (i 0).val) ∗ cellP c (Ring.sl 3 (i 0).val) ∗ (∃ f, slotP c (Ring.sl 3 (i 0).val) f) ∗ (∃ f, flightP c XA (Ring.sl 3 ((i 0).val + 1)) (Ring.bk 32 ((i 0).val + 1)) f) ∗ (∃ f, flightP c XA (Ring.sl 3 ((i 0).val + 2)) (Ring.bk 32 ((i 0).val + 2)) f) ∗ ∃ W, owes (c : Thread nD τ) 0 W) -∗ Q ⟨⟩))
      ⊢ wp frame (wpE (defs₀ (F := F)) 𝒱₀ (c : Thread nD τ) none) Set.univ (bodyG i arg1 harg1 arg3 harg3 arg4 harg4 arg5 harg5 arg6 harg6 arg7 harg7) Q := by
  iintro ⟨⟨⟨⟨%g1, H1⟩, ⟨%g4, H4⟩, ⟨%g5, H5⟩, ⟨%g6, H6⟩, ⟨%g7, H7⟩⟩, ⟨⟨%ga, HA⟩, ⟨%gx, HX⟩, ⟨%gw, HQ⟩, ⟨%gs, HS⟩, ⟨%gp, HP⟩⟩, ⟨Hh0, Hh1⟩, ⟨Hh2, Hh3⟩, ⟨Hh4, Hh5⟩, HcHF, ⟨Hs0, Hs1⟩, HcHC, ⟨Hs2, Hs3⟩, HcHB, ⟨Hs4, Hs5⟩, HW⟩, Hk⟩
  have hs0 : (Ring.sl 3 (i 0).val : Fin 3) = 0 := by rw [hz]; rfl
  have hb0 : (Ring.bk 32 (i 0).val : Fin 32) = 0 := by rw [hz]; rfl
  have hcanonS0 : csm 0 = csm (Ring.sl 3 (i 0).val) := by rw [hs0]
  have hcanonR00 : rslot 0 0 = rslot (Ring.sl 3 (i 0).val) 0 := by rw [hs0]
  have hcanonG00 : grp 0 0 = grp (Ring.bk 32 (i 0).val) 0 := by rw [hb0]
  have hcanonR01 : rslot 0 1 = rslot (Ring.sl 3 (i 0).val) 1 := by rw [hs0]
  have hcanonG01 : grp 0 1 = grp (Ring.bk 32 (i 0).val) 1 := by rw [hb0]
  have hs1 : (Ring.sl 3 ((i 0).val + 1) : Fin 3) = 1 := by rw [hz]; rfl
  have hb1 : (Ring.bk 32 ((i 0).val + 1) : Fin 32) = 1 := by rw [hz]; rfl
  have hcanonS1 : csm 1 = csm (Ring.sl 3 ((i 0).val + 1)) := by rw [hs1]
  have hcanonR10 : rslot 1 0 = rslot (Ring.sl 3 ((i 0).val + 1)) 0 := by rw [hs1]
  have hcanonG10 : grp 1 0 = grp (Ring.bk 32 ((i 0).val + 1)) 0 := by rw [hb1]
  have hcanonR11 : rslot 1 1 = rslot (Ring.sl 3 ((i 0).val + 1)) 1 := by rw [hs1]
  have hcanonG11 : grp 1 1 = grp (Ring.bk 32 ((i 0).val + 1)) 1 := by rw [hb1]
  imod (Transfers.batch_alloc' (Lvl := ℕ) countersEmb (c : Thread nD τ) () (NN (Ring.sl 3 (i 0).val)) (deliv c XA (Ring.sl 3 (i 0).val) (Ring.bk 32 (i 0).val) f0) (sm := .dma (csm (Ring.sl 3 (i 0).val)).sem) (E := Set.univ)) $$ HcHF with HF
  imod (Transfers.batch_alloc' (Lvl := ℕ) countersEmb (c : Thread nD τ) () (NN (Ring.sl 3 ((i 0).val + 1))) (deliv c XA (Ring.sl 3 ((i 0).val + 1)) (Ring.bk 32 ((i 0).val + 1)) f1) (sm := .dma (csm (Ring.sl 3 ((i 0).val + 1))).sem) (E := Set.univ)) $$ HcHC with HC
  imod (Transfers.batch_alloc' (Lvl := ℕ) countersEmb (c : Thread nD τ) () (NN (Ring.sl 3 ((i 0).val + 2))) (deliv c XA (Ring.sl 3 ((i 0).val + 2)) (Ring.bk 32 ((i 0).val + 2)) f2) (sm := .dma (csm (Ring.sl 3 ((i 0).val + 2))).sem) (E := Set.univ)) $$ HcHB with HB
  unfold bodyG
  sl_unfold [cc0_mxfp8_requant_matmul]
  sl_exec
  ihave HWS := (wslot_join c (Ring.sl 3 (i 0).val) _ _) $$ [HF_dst0 HF_dst1]
  · isplitl [HF_dst0]; · iexact HF_dst0
    iexact HF_dst1
  icases HWS with ⟨%gW, HWS⟩
  sl_exec
  sl_step
  ihave HSP := (wslot_split c (Ring.sl 3 (i 0).val)) $$ [HWS]
  · iexists _; iexact HWS
  iapply Hk
  isplitl [H1 H4 H5 H6 H7]
  · isplitl [H1]; · iexists _; iexact H1
    isplitl [H4]; · iexists _; iexact H4
    isplitl [H5]; · iexists _; iexact H5
    isplitl [H6]; · iexists _; iexact H6
    iexists _; iexact H7
  isplitl [HA HX HQ HS HP]
  · isplitl [HA]; · iexists _; iexact HA
    isplitl [HX]; · iexists _; iexact HX
    isplitl [HQ]; · iexists _; iexact HQ
    isplitl [HS]; · iexists _; iexact HS
    iexists _; iexact HP
  isplitl [HF_src0 HF_src1]
  · isplitl [HF_src0]; · iexact HF_src0
    iexact HF_src1
  isplitl [HF]; · iexact HF
  isplitl [HSP]; · iexact HSP
  isplitl [HC]; · iexists _; iexact HC
  isplitl [HB]; · iexists _; iexact HB
  iexists _; iexact HW

set_option maxRecDepth 8000 in
/-- A middle point: block `i + 2` goes out, block `i` is waited for. -/
theorem runMid (h1 : ¬cond1 i) (h2 : k0_cond2 i = 1#1) (h3 : ¬k0_cond3 i = 1#1) (hk : (i 0).val + 2 < 32) (W : Waits sig Unit)
    (f0 f2 : HB (F := F) c × HB (F := F) c) (Q : PUnit → sProp 𝕄) :
    iprop((wins c arg1 arg4 arg5 arg6 arg7 ∗ scr c ∗ homeP c XA (Ring.bk 32 ((i 0).val + 2)) ∗ flightP c XA (Ring.sl 3 (i 0).val) (Ring.bk 32 (i 0).val) f0 ∗ cellP c (Ring.sl 3 ((i 0).val + 2)) ∗ slotP c (Ring.sl 3 ((i 0).val + 2)) f2 ∗ owes (c : Thread nD τ) 0 W)
      ∗ ((wins c arg1 arg4 arg5 arg6 arg7 ∗ scr c ∗ homeP c XA (Ring.bk 32 (i 0).val) ∗ cellP c (Ring.sl 3 (i 0).val) ∗ (∃ f, slotP c (Ring.sl 3 (i 0).val) f) ∗ (∃ f, flightP c XA (Ring.sl 3 ((i 0).val + 2)) (Ring.bk 32 ((i 0).val + 2)) f) ∗ ∃ W, owes (c : Thread nD τ) 0 W) -∗ Q ⟨⟩))
      ⊢ wp frame (wpE (defs₀ (F := F)) 𝒱₀ (c : Thread nD τ) none) Set.univ (bodyG i arg1 harg1 arg3 harg3 arg4 harg4 arg5 harg5 arg6 harg6 arg7 harg7) Q := by
  iintro ⟨⟨⟨⟨%g1, H1⟩, ⟨%g4, H4⟩, ⟨%g5, H5⟩, ⟨%g6, H6⟩, ⟨%g7, H7⟩⟩, ⟨⟨%ga, HA⟩, ⟨%gx, HX⟩, ⟨%gw, HQ⟩, ⟨%gs, HS⟩, ⟨%gp, HP⟩⟩, ⟨Hh0, Hh1⟩, HF, HcHB, ⟨Hs0, Hs1⟩, HW⟩, Hk⟩
  imod (Transfers.batch_alloc' (Lvl := ℕ) countersEmb (c : Thread nD τ) () (NN (Ring.sl 3 ((i 0).val + 2))) (deliv c XA (Ring.sl 3 ((i 0).val + 2)) (Ring.bk 32 ((i 0).val + 2)) f2) (sm := .dma (csm (Ring.sl 3 ((i 0).val + 2))).sem) (E := Set.univ)) $$ HcHB with HB
  unfold bodyG
  sl_unfold [cc0_mxfp8_requant_matmul]
  sl_exec
  ihave HWS := (wslot_join c (Ring.sl 3 (i 0).val) _ _) $$ [HF_dst0 HF_dst1]
  · isplitl [HF_dst0]; · iexact HF_dst0
    iexact HF_dst1
  icases HWS with ⟨%gW, HWS⟩
  sl_exec
  sl_step
  ihave HSP := (wslot_split c (Ring.sl 3 (i 0).val)) $$ [HWS]
  · iexists _; iexact HWS
  iapply Hk
  isplitl [H1 H4 H5 H6 H7]
  · isplitl [H1]; · iexists _; iexact H1
    isplitl [H4]; · iexists _; iexact H4
    isplitl [H5]; · iexists _; iexact H5
    isplitl [H6]; · iexists _; iexact H6
    iexists _; iexact H7
  isplitl [HA HX HQ HS HP]
  · isplitl [HA]; · iexists _; iexact HA
    isplitl [HX]; · iexists _; iexact HX
    isplitl [HQ]; · iexists _; iexact HQ
    isplitl [HS]; · iexists _; iexact HS
    iexists _; iexact HP
  isplitl [HF_src0 HF_src1]
  · isplitl [HF_src0]; · iexact HF_src0
    iexact HF_src1
  isplitl [HF]; · iexact HF
  isplitl [HSP]; · iexact HSP
  isplitl [HB]; · iexists _; iexact HB
  iexists _; iexact HW

set_option maxRecDepth 8000 in
/-- The last point but one: nothing goes out, block `i` is waited for. -/
theorem runTail (h1 : ¬cond1 i) (h2 : ¬k0_cond2 i = 1#1) (h3 : ¬k0_cond3 i = 1#1) (W : Waits sig Unit)
    (f0 : HB (F := F) c × HB (F := F) c) (Q : PUnit → sProp 𝕄) :
    iprop((wins c arg1 arg4 arg5 arg6 arg7 ∗ scr c ∗ flightP c XA (Ring.sl 3 (i 0).val) (Ring.bk 32 (i 0).val) f0 ∗ owes (c : Thread nD τ) 0 W)
      ∗ ((wins c arg1 arg4 arg5 arg6 arg7 ∗ scr c ∗ homeP c XA (Ring.bk 32 (i 0).val) ∗ cellP c (Ring.sl 3 (i 0).val) ∗ (∃ f, slotP c (Ring.sl 3 (i 0).val) f) ∗ ∃ W, owes (c : Thread nD τ) 0 W) -∗ Q ⟨⟩))
      ⊢ wp frame (wpE (defs₀ (F := F)) 𝒱₀ (c : Thread nD τ) none) Set.univ (bodyG i arg1 harg1 arg3 harg3 arg4 harg4 arg5 harg5 arg6 harg6 arg7 harg7) Q := by
  iintro ⟨⟨⟨⟨%g1, H1⟩, ⟨%g4, H4⟩, ⟨%g5, H5⟩, ⟨%g6, H6⟩, ⟨%g7, H7⟩⟩, ⟨⟨%ga, HA⟩, ⟨%gx, HX⟩, ⟨%gw, HQ⟩, ⟨%gs, HS⟩, ⟨%gp, HP⟩⟩, HF, HW⟩, Hk⟩
  unfold bodyG
  sl_unfold [cc0_mxfp8_requant_matmul]
  sl_exec
  ihave HWS := (wslot_join c (Ring.sl 3 (i 0).val) _ _) $$ [HF_dst0 HF_dst1]
  · isplitl [HF_dst0]; · iexact HF_dst0
    iexact HF_dst1
  icases HWS with ⟨%gW, HWS⟩
  sl_exec
  sl_step
  ihave HSP := (wslot_split c (Ring.sl 3 (i 0).val)) $$ [HWS]
  · iexists _; iexact HWS
  iapply Hk
  isplitl [H1 H4 H5 H6 H7]
  · isplitl [H1]; · iexists _; iexact H1
    isplitl [H4]; · iexists _; iexact H4
    isplitl [H5]; · iexists _; iexact H5
    isplitl [H6]; · iexists _; iexact H6
    iexists _; iexact H7
  isplitl [HA HX HQ HS HP]
  · isplitl [HA]; · iexists _; iexact HA
    isplitl [HX]; · iexists _; iexact HX
    isplitl [HQ]; · iexists _; iexact HQ
    isplitl [HS]; · iexists _; iexact HS
    iexists _; iexact HP
  isplitl [HF_src0 HF_src1]
  · isplitl [HF_src0]; · iexact HF_src0
    iexact HF_src1
  isplitl [HF]; · iexact HF
  isplitl [HSP]; · iexact HSP
  iexists _; iexact HW

set_option maxRecDepth 8000 in
/-- The last point: block `i` is waited for, and the product is written. -/
theorem runLast (h1 : ¬cond1 i) (h2 : ¬k0_cond2 i = 1#1) (h3 : k0_cond3 i = 1#1) (W : Waits sig Unit)
    (f0 : HB (F := F) c × HB (F := F) c) (Q : PUnit → sProp 𝕄) :
    iprop((wins c arg1 arg4 arg5 arg6 arg7 ∗ scr c ∗ flightP c XA (Ring.sl 3 (i 0).val) (Ring.bk 32 (i 0).val) f0 ∗ held c arg3 ∗ owes (c : Thread nD τ) 0 W)
      ∗ ((wins c arg1 arg4 arg5 arg6 arg7 ∗ scr c ∗ homeP c XA (Ring.bk 32 (i 0).val) ∗ cellP c (Ring.sl 3 (i 0).val) ∗ (∃ f, slotP c (Ring.sl 3 (i 0).val) f) ∗ held c arg3 ∗ ∃ W, owes (c : Thread nD τ) 0 W) -∗ Q ⟨⟩))
      ⊢ wp frame (wpE (defs₀ (F := F)) 𝒱₀ (c : Thread nD τ) none) Set.univ (bodyG i arg1 harg1 arg3 harg3 arg4 harg4 arg5 harg5 arg6 harg6 arg7 harg7) Q := by
  iintro ⟨⟨⟨⟨%g1, H1⟩, ⟨%g4, H4⟩, ⟨%g5, H5⟩, ⟨%g6, H6⟩, ⟨%g7, H7⟩⟩, ⟨⟨%ga, HA⟩, ⟨%gx, HX⟩, ⟨%gw, HQ⟩, ⟨%gs, HS⟩, ⟨%gp, HP⟩⟩, HF, ⟨%g3, H3⟩, HW⟩, Hk⟩
  unfold bodyG
  sl_unfold [cc0_mxfp8_requant_matmul]
  sl_exec
  ihave HWS := (wslot_join c (Ring.sl 3 (i 0).val) _ _) $$ [HF_dst0 HF_dst1]
  · isplitl [HF_dst0]; · iexact HF_dst0
    iexact HF_dst1
  icases HWS with ⟨%gW, HWS⟩
  sl_exec
  sl_step
  ihave HSP := (wslot_split c (Ring.sl 3 (i 0).val)) $$ [HWS]
  · iexists _; iexact HWS
  iapply Hk
  isplitl [H1 H4 H5 H6 H7]
  · isplitl [H1]; · iexists _; iexact H1
    isplitl [H4]; · iexists _; iexact H4
    isplitl [H5]; · iexists _; iexact H5
    isplitl [H6]; · iexists _; iexact H6
    iexists _; iexact H7
  isplitl [HA HX HQ HS HP]
  · isplitl [HA]; · iexists _; iexact HA
    isplitl [HX]; · iexists _; iexact HX
    isplitl [HQ]; · iexists _; iexact HQ
    isplitl [HS]; · iexists _; iexact HS
    iexists _; iexact HP
  isplitl [HF_src0 HF_src1]
  · isplitl [HF_src0]; · iexact HF_src0
    iexact HF_src1
  isplitl [HF]; · iexact HF
  isplitl [HSP]; · iexact HSP
  isplitl [H3]; · iexists _; iexact H3
  iexists _; iexact HW

end Body

end Cert.Proof.KI

end
-- ==== Proof.KILaunch.lean ====
/- The printed kernel's frame: the ring of weight blocks before each grid point, one point of the grid from its ring to
   the next point's, and the launch. -/
module

public import proofs.«01_k».proof.Proof.KIBody

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-- The first branch is taken at the first point. -/
theorem cond1_iff : ∀ i : grid0.Coords, cond1 i ↔ (i 0).val = 0 := by decide +kernel
/-- The second branch is taken while a block two ahead is left. -/
theorem cond2_iff : ∀ i : grid0.Coords, k0_cond2 i = 1#1 ↔ (i 0).val + 2 < 32 := by decide +kernel
/-- The third branch is taken at the last point. -/
theorem cond3_iff : ∀ i : grid0.Coords, k0_cond3 i = 1#1 ↔ (i 0).val = 31 := by decide +kernel
/-- A point's only coordinate is its number. -/
theorem coords_val : ∀ t : Fin grid0.N, (grid0.coords t 0).val = t.val := by decide +kernel

/-- The weights' ring before point `t`: all home and all slots free at first, then blocks `t`, `t + 1` in flight. -/
def ringP (c : Dev nD) (XA : Buf (Elt F) (aM.view.loc (c : Thread nD τ))) (t : ℕ) : sProp 𝕄 :=
  if t = 0 then Ring.At₀ (cellP c) (slotP c) (homeP c XA) else Ring.At 2 (cellP c) (slotP c) (homeP c XA) (flightP c XA) t
/-- The ring before the first point. -/
theorem ringP_zero (c : Dev nD) (XA : Buf (Elt F) (aM.view.loc (c : Thread nD τ))) (t : ℕ) (h : t = 0) :
    ringP c XA t = Ring.At₀ (cellP c) (slotP c) (homeP c XA) := if_pos h
/-- The ring before a later point. -/
theorem ringP_pos (c : Dev nD) (XA : Buf (Elt F) (aM.view.loc (c : Thread nD τ))) (t : ℕ) (h : t ≠ 0) :
    ringP c XA t = Ring.At 2 (cellP c) (slotP c) (homeP c XA) (flightP c XA) t := if_neg h

section Point
variable (c : Dev nD) (XA : Buf (Elt F) (aM.view.loc (c : Thread nD τ))) (i : grid0.Coords)
  (arg1 : Memref sig .tc .vmem S112x512 .bf16) (harg1 : arg1.IsWhole) (arg3 : Memref sig .tc .vmem S112x5376 .bf16) (harg3 : arg3.IsWhole)
  (arg4 : Memref sig .tc .vmem S112x512 .fp8e4m3) (harg4 : arg4.IsWhole) (arg5 : Memref sig .tc .vmem S112x512 .f32) (harg5 : arg5.IsWhole)
  (arg6 : Memref sig .tc .vmem S512x5376 .fp8e4m3) (harg6 : arg6.IsWhole) (arg7 : Memref sig .tc .vmem S16x5376 .f32) (harg7 : arg7.IsWhole)

/-- One grid point, from its ring to the next point's. -/
theorem bodyRun (W : Waits sig Unit) (Q : PUnit → sProp 𝕄) :
    iprop((wins c arg1 arg4 arg5 arg6 arg7 ∗ scr c ∗ held c arg3 ∗ ringP c XA (i 0).val ∗ owes (c : Thread nD τ) 0 W)
      ∗ ((wins c arg1 arg4 arg5 arg6 arg7 ∗ scr c ∗ held c arg3 ∗ ringP c XA ((i 0).val + 1) ∗ ∃ W, owes (c : Thread nD τ) 0 W) -∗ Q ⟨⟩))
      ⊢ wp frame (wpE (defs₀ (F := F)) 𝒱₀ (c : Thread nD τ) none) Set.univ (bodyG i arg1 harg1 arg3 harg3 arg4 harg4 arg5 harg5 arg6 harg6 arg7 harg7) Q := by
  have hlt : (i 0).val < 32 := (i 0).isLt
  rw [ringP_pos c XA ((i 0).val + 1) (by omega)]
  by_cases hz : (i 0).val = 0
  · rw [ringP_zero c XA _ hz, Ring.At₀_eq3' _ _ _ (i 0).val hz (by decide), Ring.At3_one' _ _ _ _ (i 0).val hz (by decide)]
    iintro ⟨⟨HWin, HScr, H3, ⟨⟨Hh0, Hh1, Hh2, HR⟩, ⟨Hc0, ⟨%f0, Hs0⟩⟩, ⟨Hc1, ⟨%f1, Hs1⟩⟩, ⟨Hc2, ⟨%f2, Hs2⟩⟩⟩, HW⟩, Hk⟩
    iapply (runFirst c XA i arg1 harg1 arg3 harg3 arg4 harg4 arg5 harg5 arg6 harg6 arg7 harg7 hz ((cond1_iff i).mpr hz) ((cond2_iff i).mpr (by omega))
      (fun h => by have := (cond3_iff i).mp h; omega) (by omega) W f0 f1 f2)
    isplitl [HWin HScr Hh0 Hh1 Hh2 Hc0 Hs0 Hc1 Hs1 Hc2 Hs2 HW]
    · isplitl [HWin]; · iexact HWin
      isplitl [HScr]; · iexact HScr
      isplitl [Hh0]; · iexact Hh0
      isplitl [Hh1]; · iexact Hh1
      isplitl [Hh2]; · iexact Hh2
      isplitl [Hc0]; · iexact Hc0
      isplitl [Hs0]; · iexact Hs0
      isplitl [Hc1]; · iexact Hc1
      isplitl [Hs1]; · iexact Hs1
      isplitl [Hc2]; · iexact Hc2
      isplitl [Hs2]; · iexact Hs2
      iexact HW
    · iintro ⟨HWin, HScr, Hh, Hc, Hs, HF1, HF2, HW⟩
      iapply Hk
      isplitl [HWin]; · iexact HWin
      isplitl [HScr]; · iexact HScr
      isplitl [H3]; · iexact H3
      isplitr [HW]
      · isplitl [Hh HR]
        · isplitl [Hh]; · iexact Hh
          iexact HR
        isplitl [HF1]; · iexact HF1
        isplitl [HF2]; · iexact HF2
        isplitl [Hc]; · iexact Hc
        iexact Hs
      iexact HW
  rw [ringP_pos c XA (i 0).val hz]
  by_cases hk : (i 0).val + 2 < 32
  · rw [Ring.At3_here _ _ _ _ (i 0).val hk, Ring.At3_next _ _ _ _ (i 0).val hk, Ring.slotAt3_next0 _ _ _ (i 0).val (by omega), Ring.slotAt3_next1 _ _ _ (i 0).val hk]
    iintro ⟨⟨HWin, HScr, H3, ⟨⟨Hh2, HR⟩, ⟨%f0, HF0⟩, HF1, ⟨Hc2, ⟨%f2, Hs2⟩⟩⟩, HW⟩, Hk⟩
    iapply (runMid c XA i arg1 harg1 arg3 harg3 arg4 harg4 arg5 harg5 arg6 harg6 arg7 harg7 (fun h => hz ((cond1_iff i).mp h)) ((cond2_iff i).mpr hk)
      (fun h => by have := (cond3_iff i).mp h; omega) hk W f0 f2)
    isplitl [HWin HScr Hh2 HF0 Hc2 Hs2 HW]
    · isplitl [HWin]; · iexact HWin
      isplitl [HScr]; · iexact HScr
      isplitl [Hh2]; · iexact Hh2
      isplitl [HF0]; · iexact HF0
      isplitl [Hc2]; · iexact Hc2
      isplitl [Hs2]; · iexact Hs2
      iexact HW
    · iintro ⟨HWin, HScr, Hh, Hc, Hs, HF2, HW⟩
      iapply Hk
      isplitl [HWin]; · iexact HWin
      isplitl [HScr]; · iexact HScr
      isplitl [H3]; · iexact H3
      isplitr [HW]
      · isplitl [Hh HR]
        · isplitl [Hh]; · iexact Hh
          iexact HR
        isplitl [HF1]; · iexact HF1
        isplitl [HF2]; · iexact HF2
        isplitl [Hc]; · iexact Hc
        iexact Hs
      iexact HW
  rw [Ring.At3_here_tail _ _ _ _ (i 0).val hlt, Ring.At3_next_tail _ _ _ _ (i 0).val (by omega) hlt, Ring.slotAt3_tail_role]
  by_cases h31 : (i 0).val = 31
  · iintro ⟨⟨HWin, HScr, H3, ⟨HR, ⟨%f0, HF0⟩, HF1, HF2⟩, HW⟩, Hk⟩
    iapply (runLast c XA i arg1 harg1 arg3 harg3 arg4 harg4 arg5 harg5 arg6 harg6 arg7 harg7 (fun h => hz ((cond1_iff i).mp h)) (fun h => hk ((cond2_iff i).mp h))
      ((cond3_iff i).mpr h31) W f0)
    isplitl [HWin HScr H3 HF0 HW]
    · isplitl [HWin]; · iexact HWin
      isplitl [HScr]; · iexact HScr
      isplitl [HF0]; · iexact HF0
      isplitl [H3]; · iexact H3
      iexact HW
    · iintro ⟨HWin, HScr, Hh, Hc, Hs, H3, HW⟩
      iapply Hk
      isplitl [HWin]; · iexact HWin
      isplitl [HScr]; · iexact HScr
      isplitl [H3]; · iexact H3
      isplitr [HW]
      · isplitl [Hh HR]
        · isplitl [Hh]; · iexact Hh
          iexact HR
        isplitl [HF1]; · iexact HF1
        isplitl [HF2]; · iexact HF2
        isplitl [Hc]; · iexact Hc
        iexact Hs
      iexact HW
  · iintro ⟨⟨HWin, HScr, H3, ⟨HR, ⟨%f0, HF0⟩, HF1, HF2⟩, HW⟩, Hk⟩
    iapply (runTail c XA i arg1 harg1 arg3 harg3 arg4 harg4 arg5 harg5 arg6 harg6 arg7 harg7 (fun h => hz ((cond1_iff i).mp h)) (fun h => hk ((cond2_iff i).mp h))
      (fun h => h31 ((cond3_iff i).mp h)) W f0)
    isplitl [HWin HScr HF0 HW]
    · isplitl [HWin]; · iexact HWin
      isplitl [HScr]; · iexact HScr
      isplitl [HF0]; · iexact HF0
      iexact HW
    · iintro ⟨HWin, HScr, Hh, Hc, Hs, HW⟩
      iapply Hk
      isplitl [HWin]; · iexact HWin
      isplitl [HScr]; · iexact HScr
      isplitl [H3]; · iexact H3
      isplitr [HW]
      · isplitl [Hh HR]
        · isplitl [Hh]; · iexact Hh
          iexact HR
        isplitl [HF1]; · iexact HF1
        isplitl [HF2]; · iexact HF2
        isplitl [Hc]; · iexact Hc
        iexact Hs
      iexact HW
end Point

/-! ## The launch -/

abbrev EP : Emb (UR sig nD τ) 𝕄 := embL
abbrev osem : Fin 3 → SemLoc sig := fun s => .dma (csm s).sem
/-- The copies' semaphores are the region's own. -/
theorem ownSemFacts : Pipeline.OwnSemFacts spec0 osem := by decide

/-- A staging buffer held at some contents is owned at what it reads there. -/
theorem held_owns (c : Dev nD) {s : Shape} {e : EltTy} (M : Memref sig .tc .vmem s e) :
    (held c M : sProp 𝕄) ⊢ iprop(∃ X, ∃ g, ⌜M.view.read (Elt F) g = X⌝ ∗ M.view.loc (c : Thread nD τ) ↦[M.view.set]{fullShare} g) := by
  iintro ⟨%g, H⟩
  iexists (M.view.read (Elt F) g); iexists g
  isplitr
  · ipureintro; rfl
  · iexact H

section Launch
variable (m : (ℓ : Loc nD τ sig) → Buf (Elt F) ℓ) (ρ : Dev nD → PrngReg)

/-- The weights as the region finds them. -/
abbrev XA (c : Dev nD) : Buf (Elt F) (aM.view.loc (c : Thread nD τ)) := V m c main_v1

/-- The region's own semaphores are the ring's three. -/
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2) := by
  unfold Pipeline.ownSems0; rw [bigSep_fin3]

/-- The body's invariant before point `t`: the ring, and the other scratch buffers at some contents. -/
def Φ (c : Dev nD) (t : ℕ) : sProp 𝕄 := iprop(ringP c (XA m c) t ∗ scr c)

/-- The proof data: every window's contents forgotten. -/
def dats (_ : Fin 1) (c : Dev nD) : Dat τ (Elt F) Unit ℕ (UU nD τ) ℕ cfg0 c where
  A w := V m c (Pipeline.arrRef spec0 w)
  after w t := (Classical.arbitrary _)
  Φ t := Φ m c t.val
  q _ := fullShare
  owed _ := 0

/-- What the name of the body stands for. -/
theorem defs_tc : (defs₀ (F := F)) .tc cfg0.body
    = fun a => bodyG (grid0.coords a.1) (win0_0.stage (a.2 0)) (hstage0_0 ((a.2 0).cast nbuf0_0)) (win0_1.stage (a.2 1)) (hstage0_1 ((a.2 1).cast nbuf0_1))
      (win0_2.stage (a.2 2)) (hstage0_2 ((a.2 2).cast nbuf0_2)) (win0_3.stage (a.2 3)) (hstage0_3 ((a.2 3).cast nbuf0_3))
      (win0_4.stage (a.2 4)) (hstage0_4 ((a.2 4).cast nbuf0_4)) (win0_5.stage (a.2 5)) (hstage0_5 ((a.2 5).cast nbuf0_5)) := rfl
/-- The body at a point, with its arguments. -/
theorem prog_eq (t : Fin cfg0.N) : (defs₀ (F := F)) .tc cfg0.body (cfg0.bodyArgs t (cfg0.slots t))
    = bodyG (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5)) :=
  (congrFun defs_tc _).trans rfl

set_option backward.isDefEq.respectTransparency.types false in
/-- The body obligation, every window forgotten. -/
theorem body_obligation (c : Dev nD) : BodyObligation (dats (F := F) m 0 c) (defs₀ (F := F)) 𝒱₀ () Set.univ (fun _ => true) := fun t => by
  rw [bigSep_W0]
  dsimp only
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ
  iintro ⟨⟨HR, HS⟩, ⟨%W, -, HW⟩, ⟨%d0, %g0, -, H0⟩, ⟨%d1, %g1, -, H1⟩, ⟨%d2, %g2, -, H2⟩, ⟨%d3, %g3, -, H3⟩, ⟨%d4, %g4, -, H4⟩, ⟨%d5, %g5, -, H5⟩⟩
  sl_rw [prog_eq t]
  have hR := bodyRun c (XA m c) (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5)) W
  rw [coords_val t] at hR
  iapply (hR _)
  isplitl [HR HS HW H0 H1 H2 H3 H4 H5]
  · isplitl [H0 H2 H3 H4 H5]
    · isplitl [H0]; · iexists _; iexact H0
      isplitl [H2]; · iexists _; iexact H2
      isplitl [H3]; · iexists _; iexact H3
      isplitl [H4]; · iexists _; iexact H4
      iexists _; iexact H5
    isplitl [HS]; · iexact HS
    isplitl [H1]; · iexists _; iexact H1
    isplitl [HR]; · iexact HR
    iexact HW
  · iintro ⟨⟨⟨%e0, H0⟩, ⟨%e2, H2⟩, ⟨%e3, H3⟩, ⟨%e4, H4⟩, ⟨%e5, H5⟩⟩, HS, ⟨%e1, H1⟩, HR, ⟨%W', HW⟩⟩
    isplitl [HR HS]
    · isplitl [HR]; · iexact HR
      iexact HS
    isplitl [HW]
    · iexists W'; isplitr; · ipureintro; exact fun _ _ => Or.inl trivial
      iexact HW
    isplitl [H0]; · iapply (held_owns c (st0_0 t)); iexists _; iexact H0
    isplitl [H1]; · iapply (held_owns c (st0_1 t)); iexists _; iexact H1
    isplitl [H2]; · iapply (held_owns c (st0_2 t)); iexists _; iexact H2
    isplitl [H3]; · iapply (held_owns c (st0_3 t)); iexists _; iexact H3
    isplitl [H4]; · iapply (held_owns c (st0_4 t)); iexists _; iexact H4
    iapply (held_owns c (st0_5 t)); iexists _; iexact H5

def intoΦ (c : Dev nD) : sProp 𝕄 := iprop(bigSep Finset.univ (homeP c (XA m c)) ∗ Pipeline.ownSems0 osem c)
def outOfΦ (c : Dev nD) : sProp 𝕄 := iprop((((c : Thread nD τ).loc main_arg0) ↦{fullShare} m ((c : Thread nD τ).loc main_arg0)) ∗ (((c : Thread nD τ).loc main_arg1) ↦{fullShare} m ((c : Thread nD τ).loc main_arg1)))
def u₀ : UU nD τ := (initOf (Pipeline.cells cfgs cellOf_inj) (Pipeline.launchToks cfgs cellOf_inj), 1)
def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)

set_option maxHeartbeats 800000 in
/-- The main program is the host operations, then the region. -/
theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every weakly fair execution of @main terminates, with the arguments unchanged and every semaphore counter at zero. -/
theorem run_main : θ_run defs (onTc (τ := τ) (main (F := F))) ⟨m, fun _ => 0, ρ⟩ (fun r => (∀ c, QY m c r.2) ∧ r.2.sem = fun _ => 0) :=
  Pipeline.θ_run_region_kit_forget_quiescent cfgs (dats m) () (0 : Fin 1) launch0 ownSemFacts EP defs₀ 𝒱₀ (fgt := fun _ => true) m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := intoΦ m) (Y := fun _ => iprop(emp)) (Z := outOfΦ m)
    (hX := fun c => by
      rw [unscopedRest0_eq, V_main_arg0, V_main_arg1, a_eq c (XA m c)]
      unfold intoΦ outOfΦ
      iintro ⟨⟨H0, H1, -, H3⟩, HS, -, -, -⟩; imodintro
      isplitl [H3 HS]
      · isplitl [H3]; · iexact H3
        iexact HS
      isplitl [H0]; · iexact H0
      iexact H1)
    (hin := fun c => by
      rw [scopedRest0_eq, show (dats m 0 c).Φ 0 = Φ m c 0 from rfl]
      unfold intoΦ Φ; rw [ownSems0_eq, ringP_zero _ _ _ rfl]; unfold Ring.At₀; rw [bigSep_fin3]
      iintro ⟨⟨H0, Hc0, Hc1, Hc2⟩, HA, HX, HQ, HS, HP, Hb⟩
      ihave Hs := (buf_split c) $$ Hb
      icases Hs with ⟨Hs0, Hs1, Hs2⟩
      isplitl [H0 Hc0 Hc1 Hc2 Hs0 Hs1 Hs2]
      · isplitl [H0]; · iexact H0
        isplitl [Hc0 Hs0]
        · isplitl [Hc0]; · iexact Hc0
          iexact Hs0
        isplitl [Hc1 Hs1]
        · isplitl [Hc1]; · iexact Hc1
          iexact Hs1
        isplitl [Hc2]; · iexact Hc2
        iexact Hs2
      isplitl [HA]; · iexact HA
      isplitl [HX]; · iexact HX
      isplitl [HQ]; · iexact HQ
      isplitl [HS]; · iexact HS
      iexact HP)
    (hout := fun c => by
      rw [scopedRest0_eq, show (dats m 0 c).Φ (Fin.last cfg0.N) = Φ m c 32 from congrArg (Φ m c) N_0, ownSems0_eq]
      unfold Φ; rw [ringP_pos _ _ _ (by decide)]
      iintro ⟨HR, HA, HX, HQ, HS, HP⟩
      ihave HR' := (Ring.free3_of_At_last (NB := 32) (homeP c (XA m c)) (cellP c) (slotP c) (flightP c (XA m c))) $$ HR
      icases HR' with ⟨-, ⟨Hc0, Hs0⟩, ⟨Hc1, Hs1⟩, ⟨Hc2, Hs2⟩⟩
      isplitr; · iempintro
      isplitl [Hc0 Hc1 Hc2]
      · isplitl [Hc0]; · iexact Hc0
        isplitl [Hc1]; · iexact Hc1
        iexact Hc2
      isplitl [HA]; · iexact HA
      isplitl [HX]; · iexact HX
      isplitl [HQ]; · iexact HQ
      isplitl [HS]; · iexact HS
      isplitl [HP]; · iexact HP
      iapply (buf_join c (Classical.arbitrary _))
      isplitl [Hs0]; · iexact Hs0
      isplitl [Hs1]; · iexact Hs1
      iexact Hs2)
    (QY := QY m)
    (hY := fun c s' => by
      unfold outOfΦ
      iintro ⟨-, ⟨H0, H1⟩, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun _ hh hz => ⟨fun c => (hh c).2, hz⟩)

end Launch

end Cert.Proof.KI

end
-- ==== Proof.KVPay.lean ====
/- What the kernel's pure steps compute at one element, at the extended reals: the exponent search, the
   group maximum, the codes, and the weight slab's dequantised values. -/
module

public import proofs.«01_k».proof.Defs
public import proofs.«01_k».proof.Proof.Gen.KernelIdeal
public import proofs.«01_k».proof.Proof.Gen.KernelIdeal.Skeleton
public import Idealize.ShloMosaic.Lib.Pipeline.Value
public import Idealize.ShloMosaic.Lib.Bf16PairInverse
public import Idealize.ShloMosaic.Lib.BitcastPair
public import Idealize.ShloMosaic.Lib.Pointwise
public import Idealize.ShloMosaic.Lib.ValueIdx

@[expose] public section

noncomputable section

namespace Cert.Proof.KV

open Cert.KernelIdeal Cert.KernelIdeal.Gen
open Idealize.ShloMosaic

/-- One step of the exponent search: the candidate `e + b` is kept when `f` reaches its power of two. -/
def kstep (f : EReal) (b e : BitVec 32) : BitVec 32 :=
  Scalar.select (Ideal.cmp .oge f (Ideal.ofBits .f32 (IntOp.shli .vector (IntOp.addi e b) 23#32))) (IntOp.addi e b) e

/-- The eight steps: the largest exponent field whose power of two is at most `f`, as the kernel searches it. -/
def kE (f : EReal) : BitVec 32 :=
  kstep f 1#32 (kstep f 2#32 (kstep f 4#32 (kstep f 8#32 (kstep f 16#32 (kstep f 32#32 (kstep f 64#32 (kstep f 128#32 0#32)))))))

/-- The scale's exponent field from the searched one. -/
def kS (f : EReal) : BitVec 32 :=
  Scalar.select (IntOp.ori (IntOp.cmpi .eq (kE f) 0#32) (IntOp.cmpi .eq (kE f) 255#32)) 127#32 (IntOp.addi (kE f) 1#32)

/-- The factor 1/448 as the kernel holds it. -/
def c448 : EReal := Ideal.ofBits .f32 0x3B124925#32

/-- The scale of a group of largest magnitude `a`, and its inverse, read as f32. -/
def scV (a : EReal) : EReal := Ideal.ofBits .f32 (IntOp.shli .vector (kS (a * c448)) 23#32)
def inV (a : EReal) : EReal := Ideal.ofBits .f32 (IntOp.shli .vector (IntOp.subi 254#32 (kS (a * c448))) 23#32)

/-- An exponent field packed twice in a word, as two bf16 powers of two. -/
def packW (s : BitVec 32) : BitVec 32 :=
  IntOp.ori (IntOp.shli .vector s 23#32) (IntOp.shrui .vector (IntOp.shli .vector s 23#32) 16#32)

/-- The bf16 value of either half of such a word. -/
def halfV (s : BitVec 32) : EReal := Ideal.ofBits .bf16 (((s <<< 23) >>> 16).setWidth 16)

/-- Each half of a packed pair. -/
theorem packW_half (s : BitVec 32) (p : Nat) (hp : p < 2) :
    (packW s).extractLsb' (16 * p) 16 = ((s <<< 23) >>> 16).setWidth 16 := by
  have e : packW s = (s <<< 23) ||| ((s <<< 23) >>> 16) := by
    unfold packW IntOp.ori IntOp.shli IntOp.shrui
    simp
  rw [e]
  apply BitVec.eq_of_getLsbD_eq
  intro i hi
  have h : p = 0 ∨ p = 1 := by omega
  rcases h with rfl | rfl
  · simp only [BitVec.getLsbD_extractLsb', BitVec.getLsbD_or, BitVec.getLsbD_shiftLeft, BitVec.getLsbD_ushiftRight, BitVec.getLsbD_setWidth]
    have h1 : (16 * 0 + i) < 23 := by omega
    simp [h1, hi]
    intros; omega
  · simp only [BitVec.getLsbD_extractLsb', BitVec.getLsbD_or, BitVec.getLsbD_shiftLeft, BitVec.getLsbD_ushiftRight, BitVec.getLsbD_setWidth]
    have h2 : ¬ (16 + (16 * 1 + i) < 32) := by omega
    simp [hi]
    intros; omega

/-! ### The weight side -/

theorem pay29_apply (v : FVec Ideal S8x128 .f32) (v221 : IVec S8x128 32) (j : S8x128.Idx)
    (h : v221 j = kstep (v j) 128#32 0#32) :
    k0_pay29 v (k0_pay26 v v221) (k0_pay27 v v221) (k0_pay28 v v221) j = kS (v j) := by
  unfold kS kE
  rw [← h]
  rfl

/-- The maximum of packed rows, row by row. -/
theorem maxf_rows {s t : Shape} (p : Fin 2) (x y : FVec Ideal s .bf16) (h : s.Bitcasts 16 t 32) :
    rowsOfParity p t (maximumf x y) h = maximumf (rowsOfParity p t x h) (rowsOfParity p t y h) := rfl

/-- The two 8-row shape casts of a loaded 8-row block of pairs, at a row and lane. -/
theorem pairRow_apply (r : Vec Ideal S1x8x2x128 .bf16) (p : Fin 2) (j : S8x128.Idx) :
    shapeCast S8x128 (shapeCast S1x8x128 (rowsOfParity p S1x8x1x128 r bitcasts_S1x8x2x128_w16_S1x8x1x128_w32) shapeCasts_S1x8x1x128_S1x8x128) shapeCasts_S1x8x128_S8x128 j
      = r (ix4 0 (j 0) p (j 1)) := by
  refine (shapeCast_apply _ _ j (ix3 0 (j 0) (j 1) : S1x8x128.Idx) ?_).trans ?_
  · rw [Shape.rowMajor_val_three, Shape.rowMajor_val_two]
    show (0 * 8 + (j 0).val) * 128 + (j 1).val = (j 0).val * 128 + (j 1).val
    omega
  refine (shapeCast_apply _ _ _ (ix4 0 (j 0) 0 (j 1) : S1x8x1x128.Idx) ?_).trans ?_
  · rw [Shape.rowMajor_val_four, Shape.rowMajor_val_three]
    show ((0 * 8 + (j 0).val) * 1 + 0) * 128 + (j 1).val = (0 * 8 + (j 0).val) * 128 + (j 1).val
    omega
  unfold rowsOfParity
  refine congrArg r (funext fun a => Fin.ext ?_)
  fin_cases a
  · rfl
  · rfl
  · show 2 * 0 + p.val = p.val
    omega
  · rfl

/-- The largest of the eight loaded blocks at a row, a half and a lane. -/
def mx8 (r0 r1 r2 r3 r4 r5 r6 r7 : Vec Ideal S1x8x2x128 .bf16) (y : S1x8x2x128.Idx) : EReal :=
  max (max (max (r0 y) (r1 y)) (max (r2 y) (r3 y))) (max (max (r4 y) (r5 y)) (max (r6 y) (r7 y)))

theorem pay24_apply (r0 r1 r2 r3 r4 r5 r6 r7 : Vec Ideal S1x8x2x128 .bf16) (j : S8x128.Idx) :
    k0_pay24 (k0_pay18 r0) (k0_pay19 r1) (k0_pay20 r2) (k0_pay21 r3) (k0_pay22 r4) (k0_pay23 r4) r5 r6 r7 j
      = max (mx8 r0 r1 r2 r3 r4 r5 r6 r7 (ix4 0 (j 0) 1 (j 1))) (mx8 r0 r1 r2 r3 r4 r5 r6 r7 (ix4 0 (j 0) 0 (j 1))) * c448 := by
  unfold k0_pay24 k0_pay18 k0_pay19 k0_pay20 k0_pay21 k0_pay22 k0_pay23
  dsimp only
  simp only [maxf_rows, rowsOfParity_zero_interleaveRows, rowsOfParity_one_interleaveRows]
  unfold mx8
  rw [← pairRow_apply r0 1 j, ← pairRow_apply r1 1 j, ← pairRow_apply r2 1 j, ← pairRow_apply r3 1 j, ← pairRow_apply r4 1 j, ← pairRow_apply r5 1 j, ← pairRow_apply r6 1 j, ← pairRow_apply r7 1 j, ← pairRow_apply r0 0 j, ← pairRow_apply r1 0 j, ← pairRow_apply r2 0 j, ← pairRow_apply r3 0 j, ← pairRow_apply r4 0 j, ← pairRow_apply r5 0 j, ← pairRow_apply r6 0 j, ← pairRow_apply r7 0 j]
  rfl

theorem pay25_apply (r0 r1 r2 r3 r4 r5 r6 r7 : Vec Ideal S1x8x2x128 .bf16) (j : S8x128.Idx) :
    k0_pay25 (k0_pay18 r0) (k0_pay19 r1) (k0_pay20 r2) (k0_pay21 r3) (k0_pay22 r4) (k0_pay23 r4) r5 r6 r7 j
      = kstep (k0_pay24 (k0_pay18 r0) (k0_pay19 r1) (k0_pay20 r2) (k0_pay21 r3) (k0_pay22 r4) (k0_pay23 r4) r5 r6 r7 j) 128#32 0#32 := by
  unfold k0_pay25
  generalize k0_pay24 (k0_pay18 r0) (k0_pay19 r1) (k0_pay20 r2) (k0_pay21 r3) (k0_pay22 r4) (k0_pay23 r4) r5 r6 r7 = v
  unfold kstep
  simp only [pointwise]

theorem pay30_apply (v : FVec Ideal S8x128 .f32) (v221 : IVec S8x128 32) (j : S8x128.Idx)
    (h : v221 j = kstep (v j) 128#32 0#32) :
    k0_pay30 v (k0_pay26 v v221) (k0_pay27 v v221) (k0_pay28 v v221) j = Ideal.ofBits .f32 (IntOp.shli .vector (kS (v j)) 23#32) := by
  rw [← pay29_apply v v221 j h]; rfl

theorem pay39_apply (v : FVec Ideal S8x128 .f32) (v221 : IVec S8x128 32) (j : S1x8x128.Idx)
    (h : v221 (ix2 (j 1) (j 2)) = kstep (v (ix2 (j 1) (j 2))) 128#32 0#32) :
    k0_pay39 (k0_pay31 v (k0_pay26 v v221) (k0_pay27 v v221) (k0_pay28 v v221)) j = packW (IntOp.subi 254#32 (kS (v (ix2 (j 1) (j 2))))) := by
  rw [← pay29_apply v v221 _ h]
  unfold k0_pay39
  refine (shapeCast_apply _ _ j (ix2 (j 1) (j 2) : S8x128.Idx) ?_).trans rfl
  rw [Shape.rowMajor_val_three, Shape.rowMajor_val_two]
  have h0 : (j 0).val < 1 := (j 0).isLt
  show (j 1).val * 128 + (j 2).val = ((j 0).val * 8 + (j 1).val) * 128 + (j 2).val
  omega

theorem pay40_apply (v : FVec Ideal S8x128 .f32) (v221 : IVec S8x128 32) (j : S1x8x128.Idx)
    (h : v221 (ix2 (j 1) (j 2)) = kstep (v (ix2 (j 1) (j 2))) 128#32 0#32) :
    k0_pay40 (k0_pay29 v (k0_pay26 v v221) (k0_pay27 v v221) (k0_pay28 v v221)) j = packW (kS (v (ix2 (j 1) (j 2)))) := by
  rw [← pay29_apply v v221 _ h]
  unfold k0_pay40
  refine (shapeCast_apply _ _ j (ix2 (j 1) (j 2) : S8x128.Idx) ?_).trans rfl
  rw [Shape.rowMajor_val_three, Shape.rowMajor_val_two]
  have h0 : (j 0).val < 1 := (j 0).isLt
  show (j 1).val * 128 + (j 2).val = ((j 0).val * 8 + (j 1).val) * 128 + (j 2).val
  omega

/-- A magnitude, as the kernel computes it. -/
def magV (x : EReal) : EReal := max x (-x)

theorem row_apply (a : FVec Ideal S1x1x16x128 .bf16) (j : S16x128.Idx) :
    shapeCast S16x128 a shapeCasts_S1x1x16x128_S16x128 j = a (ix4 0 0 (j 0) (j 1)) := by
  refine shapeCast_apply _ _ j (ix4 0 0 (j 0) (j 1) : S1x1x16x128.Idx) ?_
  rw [Shape.rowMajor_val_four, Shape.rowMajor_val_two]
  show ((0 * 1 + 0) * 16 + (j 0).val) * 128 + (j 1).val = (j 0).val * 128 + (j 1).val
  omega

theorem row2_lt (y : S8x2x128.Idx) : 2 * (y 0).val + (y 1).val < 16 := by
  have h0 : (y 0).val < 8 := (y 0).isLt
  have h1 : (y 1).val < 2 := (y 1).isLt
  omega

/-- The larger magnitude of the two 16-row halves, laid out as 8 rows of pairs. -/
theorem pay17_apply (a b : Vec Ideal S1x1x16x128 .bf16) (y : S8x2x128.Idx) :
    k0_pay17 (k0_pay13 a) b y
      = max (magV (a (ix4 0 0 ⟨2 * (y 0).val + (y 1).val, row2_lt y⟩ (y 2)))) (magV (b (ix4 0 0 ⟨2 * (y 0).val + (y 1).val, row2_lt y⟩ (y 2)))) := by
  have h0 : (y 0).val < 8 := (y 0).isLt
  have h1 : (y 1).val < 2 := (y 1).isLt
  have key : ∀ v : FVec Ideal S16x128 .bf16,
      interleaveRows S8x2x128 (shapeCast S8x1x128 (rowsOfParity 0 S8x128 v bitcasts_S16x128_w16_S8x128_w32) shapeCasts_S8x128_S8x1x128)
        (shapeCast S8x1x128 (rowsOfParity 1 S8x128 v bitcasts_S16x128_w16_S8x128_w32) shapeCasts_S8x128_S8x1x128) bitcasts_S8x2x128_w16_S8x1x128_w32 y
        = v (ix2 ⟨2 * (y 0).val + (y 1).val, row2_lt y⟩ (y 2)) := by
    intro v
    unfold interleaveRows
    have hrow : S8x2x128.row y = (y 1).val := rfl
    dsimp only
    rw [hrow]
    split
    · next hp =>
      refine (shapeCast_apply _ _ _ (ix2 (y 0) (y 2) : S8x128.Idx) ?_).trans ?_
      · rw [Shape.rowMajor_val_three, Shape.rowMajor_val_two]
        show (y 0).val * 128 + (y 2).val = ((y 0).val * 1 + (y 1).val / 2) * 128 + (y 2).val
        omega
      · unfold rowsOfParity
        refine congrArg v (funext fun a => Fin.ext ?_)
        fin_cases a
        · show 2 * (y 0).val + 0 = 2 * (y 0).val + (y 1).val
          omega
        · rfl
    · next hp =>
      refine (shapeCast_apply _ _ _ (ix2 (y 0) (y 2) : S8x128.Idx) ?_).trans ?_
      · rw [Shape.rowMajor_val_three, Shape.rowMajor_val_two]
        show (y 0).val * 128 + (y 2).val = ((y 0).val * 1 + (y 1).val / 2) * 128 + (y 2).val
        omega
      · unfold rowsOfParity
        refine congrArg v (funext fun a => Fin.ext ?_)
        fin_cases a
        · show 2 * (y 0).val + 1 = 2 * (y 0).val + (y 1).val
          omega
        · rfl
  unfold k0_pay17 k0_pay13
  simp only [interleaveRows_rowsOfParity]
  refine (key _).trans ?_
  exact congrArg₂ max (congrArg magV (row_apply a (ix2 ⟨2 * (y 0).val + (y 1).val, row2_lt y⟩ (y 2)))) (congrArg magV (row_apply b (ix2 ⟨2 * (y 0).val + (y 1).val, row2_lt y⟩ (y 2))))

/-- The bf16 powers of two read back from a packed word, broadcast over rows. -/
theorem pay14_apply (w : Vec Ideal S1x1x128 .i32) (s : BitVec 32) (j : S16x128.Idx) (h : w (ix3 0 0 (j 1)) = packW s) :
    k0_pay14 w j = halfV s := by
  unfold k0_pay14 halfV
  have hx : ∀ k : S8x128.Idx, (k 1).val = (j 1).val → broadcastTo S8x128 (shapeCast S1x128 (shapeCast S1x128 w shapeCasts_S1x1x128_S1x128) shapeCasts_S1x128_S1x128)
      broadcasts_S1x128_S8x128 k = packW s := by
    intro k hk
    have hk' : (k 1 : Fin 128) = j 1 := Fin.ext hk
    refine (broadcastTo_apply _ _ k (ix2 0 (k 1) : S1x128.Idx) ?_).trans ?_
    · intro a
      fin_cases a <;> rfl
    refine (shapeCast_apply _ _ _ (ix2 0 (k 1) : S1x128.Idx) rfl).trans ?_
    refine (shapeCast_apply _ _ _ (ix3 0 0 (k 1) : S1x1x128.Idx) ?_).trans ?_
    · rw [Shape.rowMajor_val_three, Shape.rowMajor_val_two]; simp [ix2, ix3]
    · rw [← h]; exact congrArg w (congrArg (ix3 0 0) hk')
  have hb := bitcast_32_16 (broadcastTo S8x128 (shapeCast S1x128 (shapeCast S1x128 w shapeCasts_S1x1x128_S1x128) shapeCasts_S1x128_S1x128)
      broadcasts_S1x128_S8x128) bitcasts_S8x128_w32_S16x128_w16 j
  refine congrArg (Ideal.ofBits .bf16) (hb.trans ?_)
  rw [hx _ rfl]
  exact packW_half s _ (Nat.mod_lt _ (by decide))

theorem pay15_apply (w : Vec Ideal S1x1x128 .i32) (s : BitVec 32) (j : S32x128.Idx) (h : w (ix3 0 0 (j 1)) = packW s) :
    k0_pay15 w j = halfV s := by
  have hb : k0_pay15 w = concatenate S32x128 0 [⟨S16x128, k0_pay14 w⟩, ⟨S16x128, k0_pay14 w⟩] concatenates_S16x128_S16x128_S32x128_d0 := rfl
  rw [hb]
  have h0 : (j 0).val < 32 := (j 0).isLt
  by_cases hj : (j 0).val < 16
  · rw [concatenate_pair_apply_left (s₁ := S16x128) (s₂ := S16x128) 0 _ _ _ j rfl (ix2 ⟨(j 0).val, hj⟩ (j 1) : S16x128.Idx) (by intro b; fin_cases b <;> rfl)]
    exact pay14_apply w s _ h
  · rw [concatenate_pair_apply_right (s₁ := S16x128) (s₂ := S16x128) 0 _ _ _ j rfl rfl (ix2 ⟨(j 0).val - 16, by omega⟩ (j 1) : S16x128.Idx) (by intro b hb; match b, hb with | ⟨0, _⟩, hb => exact absurd rfl hb | ⟨1, _⟩, _ => rfl) (by show (j 0).val - 16 + 16 = _; omega)]
    exact pay14_apply w s _ h

/-- The kernel's clamp to the code range. -/
def clampV (x : EReal) : EReal := min (max x (Ideal.ofBits .bf16 0xC3E0#16)) (Ideal.ofBits .bf16 0x43E0#16)

/-- The codes of 32 rows from two 16-row loads. -/
theorem pay41_apply (w : FVec Ideal S16x128 .bf16) (a b : Vec Ideal S1x1x16x128 .bf16) (s : BitVec 32) (j : S32x128.Idx)
    (hw : ∀ i : S16x128.Idx, (i 1).val = (j 1).val → w i = halfV s) (v : EReal)
    (ha : ∀ r : Fin 16, r.val = (j 0).val → a (ix4 0 0 r (j 1)) = v)
    (hb : ∀ r : Fin 16, r.val + 16 = (j 0).val → b (ix4 0 0 r (j 1)) = v) :
    k0_pay41 w (k0_pay16 (Scalar.ofBits .bf16 0x43E0#16) w a) b j = clampV (v * halfV s) := by
  unfold k0_pay41
  have h0 : (j 0).val < 32 := (j 0).isLt
  by_cases hj : (j 0).val < 16
  · refine (concatenate_pair_apply_left (s₁ := S16x128) (s₂ := S16x128) 0 _ _ concatenates_S16x128_S16x128_S32x128_d0 j rfl (ix2 ⟨(j 0).val, hj⟩ (j 1) : S16x128.Idx) (by intro b; fin_cases b <;> rfl)).trans ?_
    unfold k0_pay16
    exact congrArg clampV (congrArg₂ (· * ·) ((row_apply a _).trans (ha ⟨(j 0).val, hj⟩ rfl)) (hw (ix2 ⟨(j 0).val, hj⟩ (j 1) : S16x128.Idx) rfl))
  · refine (concatenate_pair_apply_right (s₁ := S16x128) (s₂ := S16x128) 0 _ _ concatenates_S16x128_S16x128_S32x128_d0 j rfl rfl (ix2 ⟨(j 0).val - 16, by omega⟩ (j 1) : S16x128.Idx) (by intro b hb; match b, hb with | ⟨0, _⟩, hb => exact absurd rfl hb | ⟨1, _⟩, _ => rfl) (by show (j 0).val - 16 + 16 = _; omega)).trans ?_
    have e : (j 0).val - 16 + 16 = (j 0).val := by omega
    exact congrArg clampV (congrArg₂ (· * ·) ((row_apply b _).trans (hb ⟨(j 0).val - 16, by omega⟩ e)) (hw (ix2 ⟨(j 0).val - 16, by omega⟩ (j 1) : S16x128.Idx) rfl))

theorem pay42_apply (w : FVec Ideal S16x128 .bf16) (z : FVec Ideal S32x128 .bf16) (a b : Vec Ideal S1x1x16x128 .bf16) (j : S32x128.Idx) :
    k0_pay42 w z (k0_pay16 (Scalar.ofBits .bf16 0x43E0#16) w a) b j = k0_pay41 w (k0_pay16 (Scalar.ofBits .bf16 0x43E0#16) w a) b j * z j := by
  unfold k0_pay42
  rw [shapeCast_apply _ _ j j rfl]
  rfl

end Cert.Proof.KV

end
-- ==== Proof.KVStat.lean ====
/- The printed kernel's inner counted loops, contents not tracked: what each trip touches is held at
   some contents before and after. -/
module

public import proofs.«01_k».proof.Defs
public import proofs.«01_k».proof.Proof.KVPay
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Batch
public import Idealize.ShloMosaic.Lib.Affine
public import Idealize.ShloMosaic.Lib.Tactic

@[expose] public section

noncomputable section

namespace Cert.Proof.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The pipeline library's algebra beside the counters the kernel's own transfers ride on. -/
abbrev UU (nD : Nat) (τ : Topo) : Type := UR sig nD τ × Counters
local notation "𝕄" => MT nD τ sig Unit (Elt Ideal) ℕ (UU nD τ) ℕ
abbrev 𝒱₀ : Variants := Variants.none

/-- The weights in HBM, the weight ring, and the other scratch buffers, as the body receives them. -/
abbrev aM : Memref sig .tc .hbm S1024x2x42x8x128 .bf16 := Memref.whole main_v1
abbrev accM : Memref sig .tc .vmem S112x5376 .f32 := Memref.whole cc0_scratch0
abbrev xqM : Memref sig .tc .vmem S112x512 .bf16 := Memref.whole cc0_scratch1
abbrev wqM : Memref sig .tc .vmem S512x256 .bf16 := Memref.whole cc0_scratch2
abbrev stM : Memref sig .tc .vmem S8x72x2x128 .bf16 := Memref.whole cc0_scratch3
abbrev pwM : Memref sig .tc .vmem S8x16x128 .i32 := Memref.whole cc0_scratch4
abbrev bufM : Memref sig .tc .vmem S3x32x42x16x128 .bf16 := Memref.whole cc0_scratch5

/-- A memref held on its own elements at some contents. -/
abbrev held (c : Dev nD) {sp : Space} {S : Shape} {e : EltTy} (M : Memref sig .tc sp S e) : sProp 𝕄 :=
  iprop(∃ f, M.view.loc (c : Thread nD τ) ↦[M.view.set]{fullShare} f)

/-- A scratch memref's buffer held whole at some contents. -/
abbrev heldW (c : Dev nD) {sp : Space} {S : Shape} {e : EltTy} (M : Memref sig .tc sp S e) : sProp 𝕄 :=
  iprop(∃ f, M.view.loc (c : Thread nD τ) ↦{fullShare} f)

/-- Slot `s` of the weight ring, as the compute loops slice and squeeze it. -/
abbrev slotOff (s : Fin 3) : Fin 5 → Nat := ![s.val, 0, 0, 0, 0]
/-- Within the shape. -/
theorem slotOff_inb (s : Fin 3) : ∀ a, slotOff s a + S1x32x42x16x128.size a ≤ S3x32x42x16x128.size a := by
  revert s; decide
def wslot (s : Fin 3) : Memref sig .tc .vmem S32x42x16x128 .bf16 :=
  (bufM.slice (Rect.unit (s := S3x32x42x16x128) (slotOff s) S1x32x42x16x128.size (slotOff_inb s)) (fun _ => rfl)).squeeze S32x42x16x128 squeezes_S1x32x42x16x128_S32x42x16x128

/-- The offset, in closed form. -/
theorem off13_eq : ∀ i : grid0.Coords, k0_off13 i = slotOff (Ring.sl 3 (i 0).val) := by decide +kernel
/-- The offset, in closed form. -/
theorem off31_eq : ∀ i : grid0.Coords, k0_off31 i = slotOff (Ring.sl 3 (i 0).val) := by decide +kernel

/-- The same slot from the same offset. -/
theorem wslot_congr {off : Fin 5 → Nat} {s : Fin 3} (e : off = slotOff s) (hh hs) :
    (bufM.slice (Rect.unit (s := S3x32x42x16x128) off S1x32x42x16x128.size hh) hs).squeeze S32x42x16x128 squeezes_S1x32x42x16x128_S32x42x16x128 = wslot s :=
  congrArg (fun M : Memref sig .tc .vmem S1x32x42x16x128 .bf16 => M.squeeze S32x42x16x128 squeezes_S1x32x42x16x128_S32x42x16x128) (Memref.slice_unit_congr _ e _ _ _ _)
@[sl_canon] theorem slot13 (i : grid0.Coords) (hh hs) :
    (bufM.slice (Rect.unit (s := S3x32x42x16x128) (k0_off13 i) S1x32x42x16x128.size hh) hs).squeeze S32x42x16x128 squeezes_S1x32x42x16x128_S32x42x16x128 = wslot (Ring.sl 3 (i 0).val) :=
  wslot_congr (off13_eq i) _ _
@[sl_canon] theorem slot31 (i : grid0.Coords) (hh hs) :
    (bufM.slice (Rect.unit (s := S3x32x42x16x128) (k0_off31 i) S1x32x42x16x128.size hh) hs).squeeze S32x42x16x128 squeezes_S1x32x42x16x128_S32x42x16x128 = wslot (Ring.sl 3 (i 0).val) :=
  wslot_congr (off31_eq i) _ _

/-! ### Reading and writing through a rectangle -/

theorem readAt_unit_eq {κ : Kind} {sp : Space} {s : Shape} {e : EltTy} (v : View sig κ sp s e) (f : v.ty.Contents (Elt Ideal))
    {off off' size : Fin s.rank → ℕ} (inb : ∀ a, off a + size a ≤ s.size a) (x : (Rect.unit off size inb).shape.Idx) (y : s.Idx)
    (heq : off = off') (hx : ∀ a, (y a).val = off' a + (x a).val) :
    View.readAt (Elt Ideal) v (Rect.unit off size inb).toLoadRect f x = v.read (Elt Ideal) f y := by
  subst heq
  have hy : (Rect.unit off size inb).emb x = y := funext fun a => Fin.ext (by
    show off a + 1 * (x a).val = (y a).val
    rw [hx a, Nat.one_mul])
  rw [← hy]; rfl

/-- Reading where a write through a slice of a reshaped slice landed: the payload. -/
theorem read_write_sq_hit {κ : Kind} {sp : Space} {s s1 : Shape} {e : EltTy} (v : View sig κ sp s e) (r1 : Rect s) (h : s1.numel = r1.shape.numel) (r2 : Rect s1)
    (f : v.ty.Contents (Elt Ideal)) (w : r2.shape.Idx → Elt Ideal e) (x : r2.shape.Idx) :
    v.read (Elt Ideal) ((((v.slice r1).reshape s1 h).slice r2).write (Elt Ideal) f w Finset.univ) (r1.emb (Shape.reshapeEquiv h (r2.emb x))) = w x := by
  rw [View.read_apply, show v.emb (r1.emb (Shape.reshapeEquiv h (r2.emb x))) = (((v.slice r1).reshape s1 h).slice r2).emb x from rfl,
    View.write_emb_of_mem _ _ (Finset.mem_univ x), cast_cast, cast_eq]

/-- Reading where such a write did not land: the old contents. -/
theorem read_write_sq_miss {κ : Kind} {sp : Space} {s s1 : Shape} {e : EltTy} (v : View sig κ sp s e) (r1 : Rect s) (h : s1.numel = r1.shape.numel) (r2 : Rect s1)
    (f : v.ty.Contents (Elt Ideal)) (w : r2.shape.Idx → Elt Ideal e) (y : s.Idx) (hy : ∀ x, r1.emb (Shape.reshapeEquiv h (r2.emb x)) ≠ y) :
    v.read (Elt Ideal) ((((v.slice r1).reshape s1 h).slice r2).write (Elt Ideal) f w Finset.univ) y = v.read (Elt Ideal) f y := by
  have hn : v.emb y ∉ (((v.slice r1).reshape s1 h).slice r2).setOn Finset.univ := fun hm => by
    obtain ⟨x, -, hx⟩ := Finset.mem_map.mp hm
    exact hy x (v.emb.injective hx)
  rw [View.read_apply, View.read_apply, View.write_of_not_mem _ _ _ hn]

/-! ### The weight block's layout -/

/-- The ring slot's contents, read through the slot, are the block `W` tiled 16 rows by 128 columns. -/
def SlotHas (W : ℕ → ℕ → EReal) {s : Fin 3} {c : Dev nD} (fw : Buf (Elt Ideal) ((wslot s).view.loc (c : Thread nD τ))) : Prop :=
  ∀ y : S32x42x16x128.Idx, (wslot s).view.read (Elt Ideal) fw y = W (16 * (y 0).val + (y 2).val) (128 * (y 1).val + (y 3).val)

abbrev T2 := Fin k0_t2_loop.trips
abbrev T3 := Fin k0_t3_loop.trips
abbrev T4 := Fin k0_t4_loop.trips

/-- Within its range. -/
theorem t2_lt (t : T2) : t.val < 21 := t.isLt
/-- Within its range. -/
theorem t3_lt (t : T3) : t.val < 4 := t.isLt
/-- Within its range. -/
theorem t4_lt (t : T4) : t.val < 8 := t.isLt

/-- The offset, in closed form. -/
theorem off14_eq : ∀ (t2 : T2) (t3 : T3) (k : T4), k0_off14 t2 t3 k = ![t3.val % 2 * 16 + 2 * k.val, 2 * t2.val + t3.val / 2, 0, 0] := by decide +kernel
/-- The offset, in closed form. -/
theorem off15_eq : ∀ (t2 : T2) (t3 : T3) (k : T4), k0_off15 t2 t3 k = ![t3.val % 2 * 16 + 2 * k.val + 1, 2 * t2.val + t3.val / 2, 0, 0] := by decide +kernel
/-- The offset, in closed form. -/
theorem off16_eq : ∀ (t2 : T2) (t3 : T3), k0_off16 t2 t3 = ![(4 * t2.val + t3.val) % 8, 0, 0, 0] := by decide +kernel
/-- The offset, in closed form. -/
theorem off17_eq : ∀ (k : T4), k0_off17 k = ![k.val, 0, 0] := by decide +kernel

/-- What the statistics scratch holds at row `9 s + g`, half `p`, lane `l` for the quarter `t3` of column tile `t2`. -/
def statV (W : ℕ → ℕ → EReal) (t2 t3 s g p l : ℕ) : EReal :=
  max (magV (W (t3 % 2 * 256 + 32 * g + (2 * s + p)) (128 * (2 * t2 + t3 / 2) + l)))
    (magV (W (t3 % 2 * 256 + 32 * g + 16 + (2 * s + p)) (128 * (2 * t2 + t3 / 2) + l)))

/-- The first `n` groups of the quarter are in the statistics scratch. -/
def StatP (W : ℕ → ℕ → EReal) (t2 t3 n : ℕ) {c : Dev nD} (f : Buf (Elt Ideal) (stM.view.loc (c : Thread nD τ))) : Prop :=
  ∀ y : S8x72x2x128.Idx, (y 0).val = (4 * t2 + t3) % 8 → ∀ s g, s < 8 → g < n → (y 1).val = 9 * s + g →
    stM.view.read (Elt Ideal) f y = statV W t2 t3 s g (y 2).val (y 3).val

/-- One group's running maximum stored in the scratch. -/
theorem statP_step (W : ℕ → ℕ → EReal) {s : Fin 3} {c : Dev nD} (fw : Buf (Elt Ideal) ((wslot s).view.loc (c : Thread nD τ))) (hW : SlotHas W fw)
    (t2 : T2) (t3 : T3) (k : T4) (f : Buf (Elt Ideal) (stM.view.loc (c : Thread nD τ))) (hf : StatP W t2.val t3.val k.val f)
    (h1 h2 h3 h4 h5 h6) :
    StatP W t2.val t3.val (k.val + 1) (c := c) (View.write (Elt Ideal)
      (((stM.slice (Rect.unit (s := S8x72x2x128) (k0_off16 t2 t3) S1x72x2x128.size h1) h2).squeeze S72x2x128
            squeezes_S1x72x2x128_S72x2x128).access
        { off := k0_off17 k, size := S8x2x128.size, stride := ![9, 1, 1], inb := h3, stride_pos := h4 })
      f
      (k0_pay17
        (k0_pay13
          (View.readAt (Elt Ideal) (wslot s).view
            (Rect.unit (s := S32x42x16x128) (k0_off14 t2 t3 k) S1x1x16x128.size h5).toLoadRect fw))
        (View.readAt (Elt Ideal) (wslot s).view
          (Rect.unit (s := S32x42x16x128) (k0_off15 t2 t3 k) S1x1x16x128.size h6).toLoadRect fw))
      Finset.univ) := by
  intro y hy0 s' g hs' hg hy1
  have hk := t4_lt k
  have hy2 : (y 2).val < 2 := (y 2).isLt
  have hy3 : (y 3).val < 128 := (y 3).isLt
  have hemb : ∀ x : S8x2x128.Idx,
      (Rect.unit (s := S8x72x2x128) (k0_off16 t2 t3) S1x72x2x128.size h1).emb (Shape.reshapeEquiv (squeezes_S1x72x2x128_S72x2x128).numel_eq
        (({ off := k0_off17 k, size := S8x2x128.size, stride := ![9, 1, 1], inb := h3, stride_pos := h4 } : Rect S72x2x128).emb x))
      = ix4 ⟨(4 * t2.val + t3.val) % 8, Nat.mod_lt _ (by decide)⟩ ⟨9 * (x 0).val + k.val, by have : (x 0).val < 8 := (x 0).isLt; omega⟩ (x 1) (x 2) := by
    intro x
    have hx0 : (x 0).val < 8 := (x 0).isLt
    have hr : Shape.reshapeEquiv (squeezes_S1x72x2x128_S72x2x128).numel_eq
        (({ off := k0_off17 k, size := S8x2x128.size, stride := ![9, 1, 1], inb := h3, stride_pos := h4 } : Rect S72x2x128).emb x)
        = (ix4 0 ⟨9 * (x 0).val + k.val, by omega⟩ (x 1) (x 2) : S1x72x2x128.Idx) := by
      refine Shape.reshapeEquiv_eq_of_rowMajor _ ?_
      rw [Shape.rowMajor_val_four, Shape.rowMajor_val_three]
      show ((0 * 72 + (9 * (x 0).val + k.val)) * 2 + (x 1).val) * 128 + (x 2).val
        = ((k0_off17 k 0 + 9 * (x 0).val) * 2 + (k0_off17 k 1 + 1 * (x 1).val)) * 128 + (k0_off17 k 2 + 1 * (x 2).val)
      rw [off17_eq k]
      show ((0 * 72 + (9 * (x 0).val + k.val)) * 2 + (x 1).val) * 128 + (x 2).val
        = ((k.val + 9 * (x 0).val) * 2 + (0 + 1 * (x 1).val)) * 128 + (0 + 1 * (x 2).val)
      omega
    refine (congrArg (Rect.unit (s := S8x72x2x128) (k0_off16 t2 t3) S1x72x2x128.size h1).emb hr).trans ?_
    refine funext fun a => Fin.ext ?_
    have ho := off16_eq t2 t3
    match a with
    | ⟨0, _⟩ => show k0_off16 t2 t3 0 + 1 * 0 = _; rw [ho]; rfl
    | ⟨1, _⟩ => show k0_off16 t2 t3 1 + 1 * (9 * (x 0).val + k.val) = 9 * (x 0).val + k.val; rw [ho]; show 0 + _ = _; omega
    | ⟨2, _⟩ => show k0_off16 t2 t3 2 + 1 * (x 1).val = (x 1).val; rw [ho]; show 0 + _ = _; omega
    | ⟨3, _⟩ => show k0_off16 t2 t3 3 + 1 * (x 2).val = (x 2).val; rw [ho]; show 0 + _ = _; omega
  by_cases hgk : g = k.val
  · subst hgk
    have hyx : y = ix4 ⟨(4 * t2.val + t3.val) % 8, Nat.mod_lt _ (by decide)⟩ ⟨9 * s' + k.val, by omega⟩ (y 2) (y 3) :=
      funext fun a => Fin.ext (by
        match a with
        | ⟨0, _⟩ => exact hy0
        | ⟨1, _⟩ => exact hy1
        | ⟨2, _⟩ => rfl
        | ⟨3, _⟩ => rfl)
    have hx := (hemb (ix3 ⟨s', hs'⟩ (y 2) (y 3) : S8x2x128.Idx)).trans hyx.symm
    refine (congrArg (stM.view.read (Elt Ideal) _) hx.symm).trans ?_
    refine (read_write_sq_hit stM.view (Rect.unit (s := S8x72x2x128) (k0_off16 t2 t3) S1x72x2x128.size h1) (squeezes_S1x72x2x128_S72x2x128).numel_eq ({ off := k0_off17 k, size := S8x2x128.size, stride := ![9, 1, 1], inb := h3, stride_pos := h4 } : Rect S72x2x128) f _ (ix3 ⟨s', hs'⟩ (y 2) (y 3) : S8x2x128.Idx)).trans ?_
    refine (pay17_apply _ _ _).trans ?_
    unfold statV
    have e14 := off14_eq t2 t3 k
    have e15 := off15_eq t2 t3 k
    have h2' := t2_lt t2
    have h3' := t3_lt t3
    refine congrArg₂ max (congrArg magV ?_) (congrArg magV ?_)
    · refine (readAt_unit_eq _ _ _ _ (ix4 ⟨t3.val % 2 * 16 + 2 * k.val, by omega⟩ ⟨2 * t2.val + t3.val / 2, by omega⟩ ⟨2 * s' + (y 2).val, by omega⟩ (y 3) : S32x42x16x128.Idx) e14 ?_).trans ((hW _).trans ?_)
      · intro a
        match a with
        | ⟨0, _⟩ => rfl
        | ⟨1, _⟩ => rfl
        | ⟨2, _⟩ => show 2 * s' + (y 2).val = 0 + (2 * s' + (y 2).val); omega
        | ⟨3, _⟩ => show (y 3).val = 0 + (y 3).val; omega
      · refine congrArg₂ W ?_ rfl
        show 16 * (t3.val % 2 * 16 + 2 * k.val) + (2 * s' + (y 2).val) = _
        omega
    · refine (readAt_unit_eq _ _ _ _ (ix4 ⟨t3.val % 2 * 16 + 2 * k.val + 1, by omega⟩ ⟨2 * t2.val + t3.val / 2, by omega⟩ ⟨2 * s' + (y 2).val, by omega⟩ (y 3) : S32x42x16x128.Idx) e15 ?_).trans ((hW _).trans ?_)
      · intro a
        match a with
        | ⟨0, _⟩ => rfl
        | ⟨1, _⟩ => rfl
        | ⟨2, _⟩ => show 2 * s' + (y 2).val = 0 + (2 * s' + (y 2).val); omega
        | ⟨3, _⟩ => show (y 3).val = 0 + (y 3).val; omega
      · refine congrArg₂ W ?_ rfl
        show 16 * (t3.val % 2 * 16 + 2 * k.val + 1) + (2 * s' + (y 2).val) = _
        omega
  · refine Eq.trans ?_ (hf y hy0 s' g hs' (by omega) hy1)
    refine read_write_sq_miss stM.view (Rect.unit (s := S8x72x2x128) (k0_off16 t2 t3) S1x72x2x128.size h1) (squeezes_S1x72x2x128_S72x2x128).numel_eq ({ off := k0_off17 k, size := S8x2x128.size, stride := ![9, 1, 1], inb := h3, stride_pos := h4 } : Rect S72x2x128) f _ y ?_
    intro x hx
    have h1' : 9 * (x 0).val + k.val = (y 1).val := congrArg (fun z : S8x72x2x128.Idx => (z 1).val) ((hemb x).symm.trans hx)
    have hx0 : (x 0).val < 8 := (x 0).isLt
    omega

section Loops

variable (c : Dev nD) (i : grid0.Coords)
  (arg1 : Memref sig .tc .vmem S112x512 .bf16) (harg1 : arg1.IsWhole) (arg3 : Memref sig .tc .vmem S112x5376 .bf16) (harg3 : arg3.IsWhole)
  (arg4 : Memref sig .tc .vmem S112x512 .fp8e4m3) (harg4 : arg4.IsWhole) (arg5 : Memref sig .tc .vmem S112x512 .f32) (harg5 : arg5.IsWhole)
  (arg6 : Memref sig .tc .vmem S512x5376 .fp8e4m3) (harg6 : arg6.IsWhole) (arg7 : Memref sig .tc .vmem S16x5376 .f32) (harg7 : arg7.IsWhole)

set_option sl_exec.squeezeSlice true in
set_option warn.classDefReducibility false in
/-- The group-maximum loop: the ring slot read, the statistics scratch's rows filled group by group. -/
@[reducible] def loopInv_k0_t4 (W : ℕ → ℕ → EReal) (fw : Buf (Elt Ideal) ((wslot (Ring.sl 3 (i 0).val)).view.loc (c : Thread nD τ))) (hW : SlotHas W fw) (k0_t2 : Fin k0_t2_loop.trips) (v105 : BitVec 32) (k0_t3 : Fin k0_t3_loop.trips) (v137 v149 v153 v154 v163 : BitVec 32) :
    LoopInvTy_k0_t4 (F := Ideal) Unit ℕ (UU nD τ) ℕ 𝒱₀ c none Set.univ i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6 k0_t2 v105 k0_t3 v137 v149 v153 v154 v163 where
  inv n _ := iprop((∃ f, ⌜StatP W k0_t2.val k0_t3.val n f⌝ ∗ stM.view.loc (c : Thread nD τ) ↦{fullShare} f) ∗ ((wslot (Ring.sl 3 (i 0).val)).view.loc (c : Thread nD τ) ↦[(wslot (Ring.sl 3 (i 0).val)).view.set]{fullShare} fw))
  step k _ := by
    iintro ⟨⟨%fs, %hfs, HS⟩, HW⟩
    sl_unfold [k0_t4_body]
    sl_exec
    sl_step
    sl_unfold_run_names
    isplitl [HS]
    · iexists _
      isplitr
      swap
      · iexact HS
      · ipureintro
        exact statP_step W fw hW k0_t2 k0_t3 k fs hfs _ _ _ _ _ _
    iexact HW

end Loops

end Cert.Proof.KV

end
-- ==== Proof.KVQuant.lean ====
/- The weight slab's codes and dequantised values, block by block. -/
module

public import proofs.«01_k».proof.Defs
public import proofs.«01_k».proof.Proof.KVStat
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Batch
public import Idealize.ShloMosaic.Lib.Affine
public import Idealize.ShloMosaic.Lib.Tactic

@[expose] public section

noncomputable section

namespace Cert.Proof.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UU nD τ) ℕ

/-! ### Plain rectangles -/

/-- Reading where a store landed: the stored value. -/
theorem read_write_unit_hit {κ : Kind} {sp : Space} {s : Shape} {e : EltTy} (v : View sig κ sp s e) (f : v.ty.Contents (Elt Ideal))
    {off size : Fin s.rank → ℕ} (inb : ∀ a, off a + size a ≤ s.size a) (w : (Rect.unit off size inb).shape.Idx → Elt Ideal e)
    (off' : Fin s.rank → ℕ) (heq : off = off') (x : (Rect.unit off size inb).shape.Idx) (y : s.Idx)
    (hx : ∀ a, (y a).val = off' a + (x a).val) :
    v.read (Elt Ideal) ((v.slice (Rect.unit off size inb)).write (Elt Ideal) f w Finset.univ) y = w x := by
  subst heq
  have hy : (Rect.unit off size inb).emb x = y := funext fun a => Fin.ext (by
    show off a + 1 * (x a).val = (y a).val
    rw [hx a, Nat.one_mul])
  rw [← hy]
  exact View.read_slice_write_emb (Rect.unit off size inb) f w (Finset.mem_univ x)

/-- Reading where a store did not land: the old value. -/
theorem read_write_unit_miss {κ : Kind} {sp : Space} {s : Shape} {e : EltTy} (v : View sig κ sp s e) (f : v.ty.Contents (Elt Ideal))
    {off size : Fin s.rank → ℕ} (inb : ∀ a, off a + size a ≤ s.size a) (w : (Rect.unit off size inb).shape.Idx → Elt Ideal e)
    (off' : Fin s.rank → ℕ) (heq : off = off') (y : s.Idx) (a : Fin s.rank) (hx : (y a).val < off' a ∨ off' a + size a ≤ (y a).val) :
    v.read (Elt Ideal) ((v.slice (Rect.unit off size inb)).write (Elt Ideal) f w Finset.univ) y = v.read (Elt Ideal) f y := by
  subst heq
  refine View.read_slice_write_of_not_mem (Rect.unit off size inb) f w Finset.univ ?_
  intro hm
  obtain ⟨x, -, hx'⟩ := Finset.mem_map.mp hm
  have h1 : off a + 1 * (x a).val = (y a).val := congrArg (fun z : s.Idx => (z a).val) hx'
  have h2 : (x a).val < size a := (x a).isLt
  omega

/-! ### The weight block's values -/

abbrev T5 := Fin k0_t5_loop.trips
/-- Within its range. -/
theorem t5_lt (t : T5) : t.val < 8 := t.isLt

/-- The offset, in closed form. -/
theorem off29_eq : ∀ (t2 : T2) (t3 : T3) (k : T5), k0_off29 t2 t3 k = ![(4 * t2.val + t3.val) % 8, k.val, 0] := by decide +kernel
/-- The offset, in closed form. -/
theorem off30_eq : ∀ (t2 : T2) (t3 : T3) (k : T5), k0_off30 t2 t3 k = ![(4 * t2.val + t3.val) % 8, 8 + k.val, 0] := by decide +kernel
/-- The offset, in closed form. -/
theorem off32_eq : ∀ (t2 : T2) (t3 : T3) (k : T5), k0_off32 t2 t3 k = ![t3.val % 2 * 16 + 2 * k.val, 2 * t2.val + t3.val / 2, 0, 0] := by decide +kernel
/-- The offset, in closed form. -/
theorem off33_eq : ∀ (t2 : T2) (t3 : T3) (k : T5), k0_off33 t2 t3 k = ![t3.val % 2 * 16 + 2 * k.val + 1, 2 * t2.val + t3.val / 2, 0, 0] := by decide +kernel
/-- The offset, in closed form. -/
theorem off34_eq : ∀ (t2 : T2) (t3 : T3) (k : T5), k0_off34 t2 t3 k = ![t3.val % 2 * 256 + 32 * k.val, 128 * (2 * t2.val + t3.val / 2)] := by decide +kernel
/-- The offset, in closed form. -/
theorem off35_eq : ∀ (t3 : T3) (k : T5), k0_off35 t3 k = ![t3.val % 2 * 256 + 32 * k.val, 128 * (t3.val / 2)] := by decide +kernel

/-- The largest magnitude of 32 rows of a column, from row `r`. -/
def gmx (W : ℕ → ℕ → EReal) (r c : ℕ) : EReal := Finset.univ.sup fun i : Fin 32 => magV (W (r + i.val) c)

/-- The scale's exponent field of the group of row `r` in column `c`. -/
def eW (W : ℕ → ℕ → EReal) (r c : ℕ) : BitVec 32 := kS (gmx W (32 * (r / 32)) c * c448)

/-- The code, the dequantised value and the scale. -/
def wcV (W : ℕ → ℕ → EReal) (r c : ℕ) : EReal := clampV (W r c * halfV (IntOp.subi 254#32 (eW W r c)))
def wqV (W : ℕ → ℕ → EReal) (r c : ℕ) : EReal := wcV W r c * halfV (eW W r c)
def wsV (W : ℕ → ℕ → EReal) (R c : ℕ) : EReal := Ideal.ofBits .f32 (IntOp.shli .vector (eW W (32 * R) c) 23#32)

/-- The packed powers of two of the quarter are in the scratch. -/
def PowP (W : ℕ → ℕ → EReal) (t2 t3 : ℕ) {c : Dev nD} (f : Buf (Elt Ideal) (pwM.view.loc (c : Thread nD τ))) : Prop :=
  ∀ y : S8x16x128.Idx, (y 0).val = (4 * t2 + t3) % 8 →
    pwM.view.read (Elt Ideal) f y = if (y 1).val < 8
      then packW (IntOp.subi 254#32 (eW W (t3 % 2 * 256 + 32 * (y 1).val) (128 * (2 * t2 + t3 / 2) + (y 2).val)))
      else packW (eW W (t3 % 2 * 256 + 32 * ((y 1).val - 8)) (128 * (2 * t2 + t3 / 2) + (y 2).val))

/-- The order in which the blocks of 32 rows by 128 columns are written. -/
def wkey (r c : ℕ) : ℕ := 32 * (c / 256) + (8 * (2 * (c / 128 % 2) + r / 256) + r / 32 % 8)

def WcP (W : ℕ → ℕ → EReal) (N : ℕ) (M : Memref sig .tc .vmem S512x5376 .fp8e4m3) {c : Dev nD} (f : Buf (Elt Ideal) (M.view.loc (c : Thread nD τ))) : Prop :=
  ∀ y : S512x5376.Idx, wkey (y 0).val (y 1).val < N → M.view.read (Elt Ideal) f y = wcV W (y 0).val (y 1).val

def WqP (W : ℕ → ℕ → EReal) (t2 N : ℕ) {c : Dev nD} (f : Buf (Elt Ideal) (wqM.view.loc (c : Thread nD τ))) : Prop :=
  ∀ y : S512x256.Idx, wkey (y 0).val (y 1).val < N → wqM.view.read (Elt Ideal) f y = wqV W (y 0).val (256 * t2 + (y 1).val)

/-- The codes of one block, at an element: from the ring's rows and the packed inverse scales. -/
theorem code_block (W : ℕ → ℕ → EReal) {s : Fin 3} {c : Dev nD} (fw : Buf (Elt Ideal) ((wslot s).view.loc (c : Thread nD τ))) (hW : SlotHas W fw)
    (t2 : T2) (t3 : T3) (k : T5) (fp : Buf (Elt Ideal) (pwM.view.loc (c : Thread nD τ))) (hp : PowP W t2.val t3.val fp)
    (h1 h2 h3) (x : S32x128.Idx) :
    k0_pay41 (k0_pay14 (View.readAt (Elt Ideal) pwM.view (Rect.unit (s := S8x16x128) (k0_off29 t2 t3 k) S1x1x128.size h1).toLoadRect fp))
      (k0_pay16 (Scalar.ofBits .bf16 0x43E0#16) (k0_pay14 (View.readAt (Elt Ideal) pwM.view (Rect.unit (s := S8x16x128) (k0_off29 t2 t3 k) S1x1x128.size h1).toLoadRect fp))
        (View.readAt (Elt Ideal) (wslot s).view (Rect.unit (s := S32x42x16x128) (k0_off32 t2 t3 k) S1x1x16x128.size h2).toLoadRect fw))
      (View.readAt (Elt Ideal) (wslot s).view (Rect.unit (s := S32x42x16x128) (k0_off33 t2 t3 k) S1x1x16x128.size h3).toLoadRect fw) x
      = wcV W (t3.val % 2 * 256 + 32 * k.val + (x 0).val) (128 * (2 * t2.val + t3.val / 2) + (x 1).val) := by
  have hk := t5_lt k
  have h2' := t2_lt t2
  have h3' := t3_lt t3
  have hx0 : (x 0).val < 32 := (x 0).isLt
  have hx1 : (x 1).val < 128 := (x 1).isLt
  have er : 32 * ((t3.val % 2 * 256 + 32 * k.val + (x 0).val) / 32) = 32 * ((t3.val % 2 * 256 + 32 * k.val) / 32) := by omega
  have ee : ∀ cc, eW W (t3.val % 2 * 256 + 32 * k.val + (x 0).val) cc = eW W (t3.val % 2 * 256 + 32 * k.val) cc := by
    intro cc; unfold eW; rw [er]
  refine (pay41_apply _ _ _ (IntOp.subi 254#32 (eW W (t3.val % 2 * 256 + 32 * k.val) (128 * (2 * t2.val + t3.val / 2) + (x 1).val))) x ?_
    (W (t3.val % 2 * 256 + 32 * k.val + (x 0).val) (128 * (2 * t2.val + t3.val / 2) + (x 1).val)) ?_ ?_).trans ?_
  · intro i hi
    refine pay14_apply _ _ _ ?_
    refine (readAt_unit_eq _ _ _ _ (ix3 ⟨(4 * t2.val + t3.val) % 8, by omega⟩ ⟨k.val, by omega⟩ (i 1) : S8x16x128.Idx) (off29_eq t2 t3 k) ?_).trans ?_
    · intro a
      match a with
      | ⟨0, _⟩ => rfl
      | ⟨1, _⟩ => rfl
      | ⟨2, _⟩ => show (i 1).val = 0 + (i 1).val; omega
    refine (hp _ rfl).trans ?_
    refine (if_pos (show k.val < 8 from hk)).trans ?_
    show packW (IntOp.subi 254#32 (eW W (t3.val % 2 * 256 + 32 * k.val) (128 * (2 * t2.val + t3.val / 2) + (i 1).val))) = _
    rw [hi]
  · intro r hr
    refine (readAt_unit_eq _ _ _ _ (ix4 ⟨t3.val % 2 * 16 + 2 * k.val, by omega⟩ ⟨2 * t2.val + t3.val / 2, by omega⟩ r (x 1) : S32x42x16x128.Idx) (off32_eq t2 t3 k) ?_).trans ((hW _).trans ?_)
    · intro a
      match a with
      | ⟨0, _⟩ => rfl
      | ⟨1, _⟩ => rfl
      | ⟨2, _⟩ => show r.val = 0 + r.val; omega
      | ⟨3, _⟩ => show (x 1).val = 0 + (x 1).val; omega
    · refine congrArg₂ W ?_ rfl
      show 16 * (t3.val % 2 * 16 + 2 * k.val) + r.val = _
      omega
  · intro r hr
    refine (readAt_unit_eq _ _ _ _ (ix4 ⟨t3.val % 2 * 16 + 2 * k.val + 1, by omega⟩ ⟨2 * t2.val + t3.val / 2, by omega⟩ r (x 1) : S32x42x16x128.Idx) (off33_eq t2 t3 k) ?_).trans ((hW _).trans ?_)
    · intro a
      match a with
      | ⟨0, _⟩ => rfl
      | ⟨1, _⟩ => rfl
      | ⟨2, _⟩ => show r.val = 0 + r.val; omega
      | ⟨3, _⟩ => show (x 1).val = 0 + (x 1).val; omega
    · refine congrArg₂ W ?_ rfl
      show 16 * (t3.val % 2 * 16 + 2 * k.val + 1) + r.val = _
      omega
  · unfold wcV; rw [ee]

/-- The packed scales, read back and broadcast over the block. -/
theorem scale_block (W : ℕ → ℕ → EReal) {c : Dev nD}
    (t2 : T2) (t3 : T3) (k : T5) (fp : Buf (Elt Ideal) (pwM.view.loc (c : Thread nD τ))) (hp : PowP W t2.val t3.val fp) (h1) (x : S32x128.Idx) :
    k0_pay15 (View.readAt (Elt Ideal) pwM.view (Rect.unit (s := S8x16x128) (k0_off30 t2 t3 k) S1x1x128.size h1).toLoadRect fp) x
      = halfV (eW W (t3.val % 2 * 256 + 32 * k.val + (x 0).val) (128 * (2 * t2.val + t3.val / 2) + (x 1).val)) := by
  have hk := t5_lt k
  have hx0 : (x 0).val < 32 := (x 0).isLt
  have er : 32 * ((t3.val % 2 * 256 + 32 * k.val + (x 0).val) / 32) = 32 * ((t3.val % 2 * 256 + 32 * k.val) / 32) := by omega
  refine pay15_apply _ _ _ ?_
  refine (readAt_unit_eq _ _ _ _ (ix3 ⟨(4 * t2.val + t3.val) % 8, by omega⟩ ⟨8 + k.val, by omega⟩ (x 1) : S8x16x128.Idx) (off30_eq t2 t3 k) ?_).trans ?_
  · intro a
    match a with
    | ⟨0, _⟩ => rfl
    | ⟨1, _⟩ => rfl
    | ⟨2, _⟩ => show (x 1).val = 0 + (x 1).val; omega
  refine (hp _ rfl).trans ?_
  refine (if_neg (show ¬ (8 + k.val < 8) by omega)).trans ?_
  show packW (eW W (t3.val % 2 * 256 + 32 * (8 + k.val - 8)) (128 * (2 * t2.val + t3.val / 2) + (x 1).val)) = _
  unfold eW
  rw [er, Nat.add_sub_cancel_left]

/-- One more block of codes. -/
theorem wcP_step (W : ℕ → ℕ → EReal) {c : Dev nD} (M : Memref sig .tc .vmem S512x5376 .fp8e4m3) (t2 : T2) (t3 : T3) (k : T5)
    (f : Buf (Elt Ideal) (M.view.loc (c : Thread nD τ))) (hf : WcP W (32 * t2.val + (8 * t3.val + k.val)) M f) (h) (w : S32x128.Idx → Elt Ideal .fp8e4m3)
    (hw : ∀ x : S32x128.Idx, w x = wcV W (t3.val % 2 * 256 + 32 * k.val + (x 0).val) (128 * (2 * t2.val + t3.val / 2) + (x 1).val)) :
    WcP W (32 * t2.val + (8 * t3.val + (k.val + 1))) M (c := c) (View.write (Elt Ideal) (M.access (Rect.unit (s := S512x5376) (k0_off34 t2 t3 k) S32x128.size h)) f w Finset.univ) := by
  intro y hy
  have hk := t5_lt k
  have h2' := t2_lt t2
  have h3' := t3_lt t3
  have hy0 : (y 0).val < 512 := (y 0).isLt
  have hy1 : (y 1).val < 5376 := (y 1).isLt
  unfold wkey at hy
  by_cases hin : (y 0).val / 32 = t3.val % 2 * 8 + k.val ∧ (y 1).val / 128 = 2 * t2.val + t3.val / 2
  · obtain ⟨ha, hb⟩ := hin
    refine (read_write_unit_hit M.view f h w _ (off34_eq t2 t3 k) (ix2 ⟨(y 0).val % 32, Nat.mod_lt _ (by decide)⟩ ⟨(y 1).val % 128, Nat.mod_lt _ (by decide)⟩ : S32x128.Idx) y ?_).trans ?_
    · intro a
      match a with
      | ⟨0, _⟩ => show (y 0).val = t3.val % 2 * 256 + 32 * k.val + (y 0).val % 32; omega
      | ⟨1, _⟩ => show (y 1).val = 128 * (2 * t2.val + t3.val / 2) + (y 1).val % 128; omega
    · refine (hw _).trans (congrArg₂ (wcV W) ?_ ?_)
      · show t3.val % 2 * 256 + 32 * k.val + (y 0).val % 32 = (y 0).val; omega
      · show 128 * (2 * t2.val + t3.val / 2) + (y 1).val % 128 = (y 1).val; omega
  · have hold : M.view.read (Elt Ideal) f y = wcV W (y 0).val (y 1).val := hf y (by unfold wkey; omega)
    refine Eq.trans ?_ hold
    by_cases ha : (y 0).val / 32 = t3.val % 2 * 8 + k.val
    · have hb : (y 1).val / 128 ≠ 2 * t2.val + t3.val / 2 := fun hb => hin ⟨ha, hb⟩
      refine read_write_unit_miss M.view f h w _ (off34_eq t2 t3 k) y 1 ?_
      show (y 1).val < 128 * (2 * t2.val + t3.val / 2) ∨ 128 * (2 * t2.val + t3.val / 2) + 128 ≤ (y 1).val
      omega
    · refine read_write_unit_miss M.view f h w _ (off34_eq t2 t3 k) y 0 ?_
      show (y 0).val < t3.val % 2 * 256 + 32 * k.val ∨ t3.val % 2 * 256 + 32 * k.val + 32 ≤ (y 0).val
      omega

/-- One more block of the dot's right operand. -/
theorem wqP_step (W : ℕ → ℕ → EReal) {c : Dev nD} (t2 : T2) (t3 : T3) (k : T5)
    (f : Buf (Elt Ideal) (wqM.view.loc (c : Thread nD τ))) (hf : WqP W t2.val (8 * t3.val + k.val) f) (h) (w : S32x128.Idx → Elt Ideal .bf16)
    (hw : ∀ x : S32x128.Idx, w x = wqV W (t3.val % 2 * 256 + 32 * k.val + (x 0).val) (128 * (2 * t2.val + t3.val / 2) + (x 1).val)) :
    WqP W t2.val (8 * t3.val + (k.val + 1)) (c := c) (View.write (Elt Ideal) (wqM.access (Rect.unit (s := S512x256) (k0_off35 t3 k) S32x128.size h)) f w Finset.univ) := by
  intro y hy
  have hk := t5_lt k
  have h3' := t3_lt t3
  have hy0 : (y 0).val < 512 := (y 0).isLt
  have hy1 : (y 1).val < 256 := (y 1).isLt
  unfold wkey at hy
  by_cases hin : (y 0).val / 32 = t3.val % 2 * 8 + k.val ∧ (y 1).val / 128 = t3.val / 2
  · obtain ⟨ha, hb⟩ := hin
    refine (read_write_unit_hit wqM.view f h w _ (off35_eq t3 k) (ix2 ⟨(y 0).val % 32, Nat.mod_lt _ (by decide)⟩ ⟨(y 1).val % 128, Nat.mod_lt _ (by decide)⟩ : S32x128.Idx) y ?_).trans ?_
    · intro a
      match a with
      | ⟨0, _⟩ => show (y 0).val = t3.val % 2 * 256 + 32 * k.val + (y 0).val % 32; omega
      | ⟨1, _⟩ => show (y 1).val = 128 * (t3.val / 2) + (y 1).val % 128; omega
    · refine (hw _).trans (congrArg₂ (wqV W) ?_ ?_)
      · show t3.val % 2 * 256 + 32 * k.val + (y 0).val % 32 = (y 0).val; omega
      · show 128 * (2 * t2.val + t3.val / 2) + (y 1).val % 128 = 256 * t2.val + (y 1).val; omega
  · have hold : wqM.view.read (Elt Ideal) f y = wqV W (y 0).val (256 * t2.val + (y 1).val) := hf y (by unfold wkey; omega)
    refine Eq.trans ?_ hold
    by_cases ha : (y 0).val / 32 = t3.val % 2 * 8 + k.val
    · have hb : (y 1).val / 128 ≠ t3.val / 2 := fun hb => hin ⟨ha, hb⟩
      refine read_write_unit_miss wqM.view f h w _ (off35_eq t3 k) y 1 ?_
      show (y 1).val < 128 * (t3.val / 2) ∨ 128 * (t3.val / 2) + 128 ≤ (y 1).val
      omega
    · refine read_write_unit_miss wqM.view f h w _ (off35_eq t3 k) y 0 ?_
      show (y 0).val < t3.val % 2 * 256 + 32 * k.val ∨ t3.val % 2 * 256 + 32 * k.val + 32 ≤ (y 0).val
      omega

section Loops

variable (c : Dev nD) (i : grid0.Coords)
  (arg1 : Memref sig .tc .vmem S112x512 .bf16) (harg1 : arg1.IsWhole) (arg3 : Memref sig .tc .vmem S112x5376 .bf16) (harg3 : arg3.IsWhole)
  (arg4 : Memref sig .tc .vmem S112x512 .fp8e4m3) (harg4 : arg4.IsWhole) (arg5 : Memref sig .tc .vmem S112x512 .f32) (harg5 : arg5.IsWhole)
  (arg6 : Memref sig .tc .vmem S512x5376 .fp8e4m3) (harg6 : arg6.IsWhole) (arg7 : Memref sig .tc .vmem S16x5376 .f32) (harg7 : arg7.IsWhole)

set_option sl_exec.squeezeSlice true in
set_option warn.classDefReducibility false in
/-- The code loop: blocks of 32 rows quantised with the packed scales. -/
@[reducible] def loopInv_k0_t5 (W : ℕ → ℕ → EReal) (fw : Buf (Elt Ideal) ((wslot (Ring.sl 3 (i 0).val)).view.loc (c : Thread nD τ))) (hW : SlotHas W fw)
    (k0_t2 : Fin k0_t2_loop.trips) (k0_t3 : Fin k0_t3_loop.trips) (v149 v161 v163 : BitVec 32) :
    LoopInvTy_k0_t5 (F := Ideal) Unit ℕ (UU nD τ) ℕ 𝒱₀ c none Set.univ i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6 k0_t2 k0_t3 v149 v161 v163 (Scalar.ofBits .bf16 0x43E0#16) where
  inv n _ := iprop((∃ f, ⌜PowP W k0_t2.val k0_t3.val f⌝ ∗ pwM.view.loc (c : Thread nD τ) ↦{fullShare} f) ∗ ((wslot (Ring.sl 3 (i 0).val)).view.loc (c : Thread nD τ) ↦[(wslot (Ring.sl 3 (i 0).val)).view.set]{fullShare} fw)
    ∗ (∃ f, ⌜WcP W (32 * k0_t2.val + (8 * k0_t3.val + n)) arg6 f⌝ ∗ arg6.view.loc (c : Thread nD τ) ↦[arg6.view.set]{fullShare} f)
    ∗ (∃ f, ⌜WqP W k0_t2.val (8 * k0_t3.val + n) f⌝ ∗ wqM.view.loc (c : Thread nD τ) ↦{fullShare} f))
  step k _ := by
    iintro ⟨⟨%fp, %hp, HP⟩, HW, ⟨%f6, %h6, H6⟩, ⟨%fq, %hq, HQ⟩⟩
    sl_unfold [k0_t5_body]
    sl_exec
    sl_step
    sl_unfold_run_names
    isplitl [HP]
    · iexists fp
      isplitr
      · ipureintro; exact hp
      iexact HP
    isplitl [HW]; · iexact HW
    isplitl [H6]
    · iexists _
      isplitr
      swap
      · iexact H6
      · ipureintro
        exact wcP_step W arg6 k0_t2 k0_t3 k f6 h6 (k0_off34_inb k0_t2 k0_t3 k) _ (fun x => code_block W fw hW k0_t2 k0_t3 k fp hp _ _ _ x)
    · iexists _
      isplitr
      swap
      · iexact HQ
      · ipureintro
        refine wqP_step W k0_t2 k0_t3 k fq hq (k0_off35_inb k0_t3 k) _ (fun x => (pay42_apply _ _ _ _ x).trans ?_)
        exact congrArg₂ (· * ·) (code_block W fw hW k0_t2 k0_t3 k fp hp _ _ _ x) (scale_block W k0_t2 k0_t3 k fp hp _ x)

end Loops

end Cert.Proof.KV

end
-- ==== Proof.KVTile.lean ====
/- One quarter of a weight column tile: group maxima, scales, codes. -/
module

public import proofs.«01_k».proof.Defs
public import proofs.«01_k».proof.Proof.KVQuant
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Batch
public import Idealize.ShloMosaic.Lib.Affine
public import Idealize.ShloMosaic.Lib.Tactic

@[expose] public section

noncomputable section

namespace Cert.Proof.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UU nD τ) ℕ

/-- The offset, in closed form. -/
theorem off18_eq : ∀ (t2 : T2) (t3 : T3), k0_off18 t2 t3 = ![(4 * t2.val + t3.val) % 8, 9 * 0, 0, 0] := by decide +kernel
/-- The offset, in closed form. -/
theorem off19_eq : ∀ (t2 : T2) (t3 : T3), k0_off19 t2 t3 = ![(4 * t2.val + t3.val) % 8, 9 * 1, 0, 0] := by decide +kernel
/-- The offset, in closed form. -/
theorem off20_eq : ∀ (t2 : T2) (t3 : T3), k0_off20 t2 t3 = ![(4 * t2.val + t3.val) % 8, 9 * 2, 0, 0] := by decide +kernel
/-- The offset, in closed form. -/
theorem off21_eq : ∀ (t2 : T2) (t3 : T3), k0_off21 t2 t3 = ![(4 * t2.val + t3.val) % 8, 9 * 3, 0, 0] := by decide +kernel
/-- The offset, in closed form. -/
theorem off22_eq : ∀ (t2 : T2) (t3 : T3), k0_off22 t2 t3 = ![(4 * t2.val + t3.val) % 8, 9 * 4, 0, 0] := by decide +kernel
/-- The offset, in closed form. -/
theorem off23_eq : ∀ (t2 : T2) (t3 : T3), k0_off23 t2 t3 = ![(4 * t2.val + t3.val) % 8, 9 * 5, 0, 0] := by decide +kernel
/-- The offset, in closed form. -/
theorem off24_eq : ∀ (t2 : T2) (t3 : T3), k0_off24 t2 t3 = ![(4 * t2.val + t3.val) % 8, 9 * 6, 0, 0] := by decide +kernel
/-- The offset, in closed form. -/
theorem off25_eq : ∀ (t2 : T2) (t3 : T3), k0_off25 t2 t3 = ![(4 * t2.val + t3.val) % 8, 9 * 7, 0, 0] := by decide +kernel
/-- The offset, in closed form. -/
theorem off26_eq : ∀ (t2 : T2) (t3 : T3), k0_off26 t2 t3 = ![t3.val % 2 * 8, 128 * (2 * t2.val + t3.val / 2)] := by decide +kernel
/-- The offset, in closed form. -/
theorem off27_eq : ∀ (t2 : T2) (t3 : T3), k0_off27 t2 t3 = ![(4 * t2.val + t3.val) % 8, 0, 0] := by decide +kernel
/-- The offset, in closed form. -/
theorem off28_eq : ∀ (t2 : T2) (t3 : T3), k0_off28 t2 t3 = ![(4 * t2.val + t3.val) % 8, 8, 0] := by decide +kernel

/-- Eight statistics rows of both halves hold the group's largest magnitude. -/
theorem stat_max (W : ℕ → ℕ → EReal) (t2 t3 g l : ℕ) (r : Fin 8 → Fin 2 → EReal) (hr : ∀ s p, r s p = statV W t2 t3 s.val g p.val l) :
    max (max (max (max (r 0 1) (r 1 1)) (max (r 2 1) (r 3 1))) (max (max (r 4 1) (r 5 1)) (max (r 6 1) (r 7 1))))
      (max (max (max (r 0 0) (r 1 0)) (max (r 2 0) (r 3 0))) (max (max (r 4 0) (r 5 0)) (max (r 6 0) (r 7 0))))
      = gmx W (t3 % 2 * 256 + 32 * g) (128 * (2 * t2 + t3 / 2) + l) := by
  have key : ∀ z : EReal, (∀ s p, r s p ≤ z) ↔ ∀ i : Fin 32, magV (W (t3 % 2 * 256 + 32 * g + i.val) (128 * (2 * t2 + t3 / 2) + l)) ≤ z := by
    intro z
    constructor
    · intro h i
      have hi := i.isLt
      have hs := h ⟨i.val % 16 / 2, by omega⟩ ⟨i.val % 2, by omega⟩
      rw [hr] at hs
      unfold statV at hs
      by_cases h16 : i.val < 16
      · refine le_trans (le_of_eq ?_) (le_trans (le_max_left _ _) hs)
        congr 2
        show _ = t3 % 2 * 256 + 32 * g + (2 * (i.val % 16 / 2) + i.val % 2)
        omega
      · refine le_trans (le_of_eq ?_) (le_trans (le_max_right _ _) hs)
        congr 2
        show _ = t3 % 2 * 256 + 32 * g + 16 + (2 * (i.val % 16 / 2) + i.val % 2)
        omega
    · intro h s p
      rw [hr]
      unfold statV
      have hs := s.isLt
      have hp := p.isLt
      refine max_le ?_ ?_
      · exact h ⟨2 * s.val + p.val, by omega⟩
      · refine le_trans (le_of_eq ?_) (h ⟨16 + (2 * s.val + p.val), by omega⟩)
        congr 2
        show _ = t3 % 2 * 256 + 32 * g + (16 + (2 * s.val + p.val))
        omega
  refine eq_of_forall_ge_iff fun z => ?_
  unfold gmx
  rw [Finset.sup_le_iff]
  refine Iff.trans ?_ ((key z).trans (by simp))
  simp only [max_le_iff, Fin.forall_fin_succ, Fin.forall_fin_two]
  constructor
  · intro h
    simp_all
  · intro h
    simp_all

/-- One load of the statistics scratch. -/
theorem stat_read (W : ℕ → ℕ → EReal) {c : Dev nD} (t2 : T2) (t3 : T3) (f : Buf (Elt Ideal) (stM.view.loc (c : Thread nD τ))) (hf : StatP W t2.val t3.val 8 f)
    (s : ℕ) (hs : s < 8) (off : Fin 4 → ℕ) (ho : off = ![(4 * t2.val + t3.val) % 8, 9 * s, 0, 0]) (inb) (y : S1x8x2x128.Idx) :
    View.readAt (Elt Ideal) stM.view (Rect.unit (s := S8x72x2x128) off S1x8x2x128.size inb).toLoadRect f y
      = statV W t2.val t3.val s (y 1).val (y 2).val (y 3).val := by
  have hy1 : (y 1).val < 8 := (y 1).isLt
  have hy0 : (y 0).val < 1 := (y 0).isLt
  refine (readAt_unit_eq _ _ _ _ (ix4 ⟨(4 * t2.val + t3.val) % 8, by omega⟩ ⟨9 * s + (y 1).val, by omega⟩ (y 2) (y 3) : S8x72x2x128.Idx) ho ?_).trans ?_
  · intro a
    match a with
    | ⟨0, _⟩ => show (4 * t2.val + t3.val) % 8 = (4 * t2.val + t3.val) % 8 + (y 0).val; omega
    | ⟨1, _⟩ => rfl
    | ⟨2, _⟩ => show (y 2).val = 0 + (y 2).val; omega
    | ⟨3, _⟩ => show (y 3).val = 0 + (y 3).val; omega
  · exact hf _ rfl s (y 1).val hs hy1 rfl

/-- The scaled group maximum. -/
theorem fval (W : ℕ → ℕ → EReal) (t2 t3 : ℕ) (r0 r1 r2 r3 r4 r5 r6 r7 : Vec Ideal S1x8x2x128 .bf16)
    (h0 : ∀ y, r0 y = statV W t2 t3 0 (y 1).val (y 2).val (y 3).val) (h1 : ∀ y, r1 y = statV W t2 t3 1 (y 1).val (y 2).val (y 3).val)
    (h2 : ∀ y, r2 y = statV W t2 t3 2 (y 1).val (y 2).val (y 3).val) (h3 : ∀ y, r3 y = statV W t2 t3 3 (y 1).val (y 2).val (y 3).val)
    (h4 : ∀ y, r4 y = statV W t2 t3 4 (y 1).val (y 2).val (y 3).val) (h5 : ∀ y, r5 y = statV W t2 t3 5 (y 1).val (y 2).val (y 3).val)
    (h6 : ∀ y, r6 y = statV W t2 t3 6 (y 1).val (y 2).val (y 3).val) (h7 : ∀ y, r7 y = statV W t2 t3 7 (y 1).val (y 2).val (y 3).val) (j : S8x128.Idx) :
    k0_pay24 (k0_pay18 r0) (k0_pay19 r1) (k0_pay20 r2) (k0_pay21 r3) (k0_pay22 r4) (k0_pay23 r4) r5 r6 r7 j
      = gmx W (t3 % 2 * 256 + 32 * (j 0).val) (128 * (2 * t2 + t3 / 2) + (j 1).val) * c448 := by
  refine (pay24_apply r0 r1 r2 r3 r4 r5 r6 r7 j).trans (congrArg (· * c448) ?_)
  refine stat_max W t2 t3 (j 0).val (j 1).val (fun s p => (![r0, r1, r2, r3, r4, r5, r6, r7] : Fin 8 → Vec Ideal S1x8x2x128 .bf16) s (ix4 0 (j 0) p (j 1) : S1x8x2x128.Idx)) ?_
  intro s p
  match s with
  | 0 => exact h0 _
  | 1 => exact h1 _
  | 2 => exact h2 _
  | 3 => exact h3 _
  | 4 => exact h4 _
  | 5 => exact h5 _
  | 6 => exact h6 _
  | 7 => exact h7 _

/-- The exponent field of a group of weights, from its maximum. -/
theorem eW_eq (W : ℕ → ℕ → EReal) (t3 g cc : ℕ) : kS (gmx W (t3 % 2 * 256 + 32 * g) cc * c448) = eW W (t3 % 2 * 256 + 32 * g) cc := by
  unfold eW
  rw [show 32 * ((t3 % 2 * 256 + 32 * g) / 32) = t3 % 2 * 256 + 32 * g by omega]

/-- The scales written so far. -/
def WsP (W : ℕ → ℕ → EReal) (N : ℕ) (M : Memref sig .tc .vmem S16x5376 .f32) {c : Dev nD} (f : Buf (Elt Ideal) (M.view.loc (c : Thread nD τ))) : Prop :=
  ∀ y : S16x5376.Idx, 4 * ((y 1).val / 256) + (2 * ((y 1).val / 128 % 2) + (y 0).val / 8) < N → M.view.read (Elt Ideal) f y = wsV W (y 0).val (y 1).val

/-- One slab's eight rows of scales stored. -/
theorem wsP_step (W : ℕ → ℕ → EReal) {c : Dev nD} (M : Memref sig .tc .vmem S16x5376 .f32) (t2 : T2) (t3 : T3)
    (f : Buf (Elt Ideal) (M.view.loc (c : Thread nD τ))) (hf : WsP W (4 * t2.val + t3.val) M f) (h) (w : S8x128.Idx → Elt Ideal .f32)
    (hw : ∀ x : S8x128.Idx, w x = Ideal.ofBits .f32 (IntOp.shli .vector (eW W (t3.val % 2 * 256 + 32 * (x 0).val) (128 * (2 * t2.val + t3.val / 2) + (x 1).val)) 23#32)) :
    WsP W (4 * t2.val + (t3.val + 1)) M (c := c) (View.write (Elt Ideal) (M.access (Rect.unit (s := S16x5376) (k0_off26 t2 t3) S8x128.size h)) f w Finset.univ) := by
  intro y hy
  have h2' := t2_lt t2
  have h3' := t3_lt t3
  have hy0 : (y 0).val < 16 := (y 0).isLt
  have hy1 : (y 1).val < 5376 := (y 1).isLt
  by_cases hin : (y 0).val / 8 = t3.val % 2 ∧ (y 1).val / 128 = 2 * t2.val + t3.val / 2
  · obtain ⟨ha, hb⟩ := hin
    refine (read_write_unit_hit M.view f h w _ (off26_eq t2 t3) (ix2 ⟨(y 0).val % 8, Nat.mod_lt _ (by decide)⟩ ⟨(y 1).val % 128, Nat.mod_lt _ (by decide)⟩ : S8x128.Idx) y ?_).trans ?_
    · intro a
      match a with
      | ⟨0, _⟩ => show (y 0).val = t3.val % 2 * 8 + (y 0).val % 8; omega
      | ⟨1, _⟩ => show (y 1).val = 128 * (2 * t2.val + t3.val / 2) + (y 1).val % 128; omega
    · refine (hw _).trans ?_
      unfold wsV
      show Ideal.ofBits .f32 (IntOp.shli .vector (eW W (t3.val % 2 * 256 + 32 * ((y 0).val % 8)) (128 * (2 * t2.val + t3.val / 2) + (y 1).val % 128)) 23#32) = _
      rw [show t3.val % 2 * 256 + 32 * ((y 0).val % 8) = 32 * (y 0).val by omega, show 128 * (2 * t2.val + t3.val / 2) + (y 1).val % 128 = (y 1).val by omega]
  · have hold : M.view.read (Elt Ideal) f y = wsV W (y 0).val (y 1).val := hf y (by omega)
    refine Eq.trans ?_ hold
    by_cases ha : (y 0).val / 8 = t3.val % 2
    · have hb : (y 1).val / 128 ≠ 2 * t2.val + t3.val / 2 := fun hb => hin ⟨ha, hb⟩
      refine read_write_unit_miss M.view f h w _ (off26_eq t2 t3) y 1 ?_
      show (y 1).val < 128 * (2 * t2.val + t3.val / 2) ∨ 128 * (2 * t2.val + t3.val / 2) + 128 ≤ (y 1).val
      omega
    · refine read_write_unit_miss M.view f h w _ (off26_eq t2 t3) y 0 ?_
      show (y 0).val < t3.val % 2 * 8 ∨ t3.val % 2 * 8 + 8 ≤ (y 0).val
      omega

/-- The scales and their inverses stored as pairs. -/
theorem powP_stores (W : ℕ → ℕ → EReal) {c : Dev nD} (t2 : T2) (t3 : T3) (f : Buf (Elt Ideal) (pwM.view.loc (c : Thread nD τ))) (h h') (w w' : S1x8x128.Idx → Elt Ideal .i32)
    (hw : ∀ x : S1x8x128.Idx, w x = packW (IntOp.subi 254#32 (eW W (t3.val % 2 * 256 + 32 * (x 1).val) (128 * (2 * t2.val + t3.val / 2) + (x 2).val))))
    (hw' : ∀ x : S1x8x128.Idx, w' x = packW (eW W (t3.val % 2 * 256 + 32 * (x 1).val) (128 * (2 * t2.val + t3.val / 2) + (x 2).val))) :
    PowP W t2.val t3.val (c := c) (View.write (Elt Ideal) (pwM.access (Rect.unit (s := S8x16x128) (k0_off28 t2 t3) S1x8x128.size h'))
      (View.write (Elt Ideal) (pwM.access (Rect.unit (s := S8x16x128) (k0_off27 t2 t3) S1x8x128.size h)) f w Finset.univ) w' Finset.univ) := by
  intro y hy
  have hy1 : (y 1).val < 16 := (y 1).isLt
  by_cases h8 : (y 1).val < 8
  · rw [if_pos h8]
    refine (read_write_unit_miss pwM.view _ h' w' _ (off28_eq t2 t3) y 1 (Or.inl ?_)).trans ?_
    · exact h8
    refine (read_write_unit_hit pwM.view _ h w _ (off27_eq t2 t3) (ix3 0 ⟨(y 1).val, h8⟩ (y 2) : S1x8x128.Idx) y ?_).trans (hw _)
    intro a
    match a with
    | ⟨0, _⟩ => exact hy
    | ⟨1, _⟩ => show (y 1).val = 0 + (y 1).val; omega
    | ⟨2, _⟩ => show (y 2).val = 0 + (y 2).val; omega
  · rw [if_neg h8]
    refine (read_write_unit_hit pwM.view _ h' w' _ (off28_eq t2 t3) (ix3 0 ⟨(y 1).val - 8, by omega⟩ (y 2) : S1x8x128.Idx) y ?_).trans (hw' _)
    intro a
    match a with
    | ⟨0, _⟩ => exact hy
    | ⟨1, _⟩ => show (y 1).val = 8 + ((y 1).val - 8); omega
    | ⟨2, _⟩ => show (y 2).val = 0 + (y 2).val; omega

section Vals
variable (W : ℕ → ℕ → EReal) (t2 t3 : ℕ) (r0 r1 r2 r3 r4 r5 r6 r7 : Vec Ideal S1x8x2x128 .bf16)
    (h0 : ∀ y, r0 y = statV W t2 t3 0 (y 1).val (y 2).val (y 3).val)
    (h1 : ∀ y, r1 y = statV W t2 t3 1 (y 1).val (y 2).val (y 3).val)
    (h2 : ∀ y, r2 y = statV W t2 t3 2 (y 1).val (y 2).val (y 3).val)
    (h3 : ∀ y, r3 y = statV W t2 t3 3 (y 1).val (y 2).val (y 3).val)
    (h4 : ∀ y, r4 y = statV W t2 t3 4 (y 1).val (y 2).val (y 3).val)
    (h5 : ∀ y, r5 y = statV W t2 t3 5 (y 1).val (y 2).val (y 3).val)
    (h6 : ∀ y, r6 y = statV W t2 t3 6 (y 1).val (y 2).val (y 3).val)
    (h7 : ∀ y, r7 y = statV W t2 t3 7 (y 1).val (y 2).val (y 3).val)
include h0 h1 h2 h3 h4 h5 h6 h7

/-- The scales of a slab of weights, as stored. -/
theorem ws_val (j : S8x128.Idx) : k0_pay30 (k0_pay24 (k0_pay18 r0) (k0_pay19 r1) (k0_pay20 r2) (k0_pay21 r3) (k0_pay22 r4) (k0_pay23 r4) r5 r6 r7) (k0_pay26 (k0_pay24 (k0_pay18 r0) (k0_pay19 r1) (k0_pay20 r2) (k0_pay21 r3) (k0_pay22 r4) (k0_pay23 r4) r5 r6 r7) (k0_pay25 (k0_pay18 r0) (k0_pay19 r1) (k0_pay20 r2) (k0_pay21 r3) (k0_pay22 r4) (k0_pay23 r4) r5 r6 r7)) (k0_pay27 (k0_pay24 (k0_pay18 r0) (k0_pay19 r1) (k0_pay20 r2) (k0_pay21 r3) (k0_pay22 r4) (k0_pay23 r4) r5 r6 r7) (k0_pay25 (k0_pay18 r0) (k0_pay19 r1) (k0_pay20 r2) (k0_pay21 r3) (k0_pay22 r4) (k0_pay23 r4) r5 r6 r7)) (k0_pay28 (k0_pay24 (k0_pay18 r0) (k0_pay19 r1) (k0_pay20 r2) (k0_pay21 r3) (k0_pay22 r4) (k0_pay23 r4) r5 r6 r7) (k0_pay25 (k0_pay18 r0) (k0_pay19 r1) (k0_pay20 r2) (k0_pay21 r3) (k0_pay22 r4) (k0_pay23 r4) r5 r6 r7)) j
    = Ideal.ofBits .f32 (IntOp.shli .vector (eW W (t3 % 2 * 256 + 32 * (j 0).val) (128 * (2 * t2 + t3 / 2) + (j 1).val)) 23#32) := by
  rw [pay30_apply _ _ j (pay25_apply r0 r1 r2 r3 r4 r5 r6 r7 j), fval W t2 t3 r0 r1 r2 r3 r4 r5 r6 r7 h0 h1 h2 h3 h4 h5 h6 h7 j, eW_eq]

/-- The inverse scales of a slab of weights, as stored. -/
theorem pow_inv_val (j : S1x8x128.Idx) : k0_pay39 (k0_pay31 (k0_pay24 (k0_pay18 r0) (k0_pay19 r1) (k0_pay20 r2) (k0_pay21 r3) (k0_pay22 r4) (k0_pay23 r4) r5 r6 r7) (k0_pay26 (k0_pay24 (k0_pay18 r0) (k0_pay19 r1) (k0_pay20 r2) (k0_pay21 r3) (k0_pay22 r4) (k0_pay23 r4) r5 r6 r7) (k0_pay25 (k0_pay18 r0) (k0_pay19 r1) (k0_pay20 r2) (k0_pay21 r3) (k0_pay22 r4) (k0_pay23 r4) r5 r6 r7)) (k0_pay27 (k0_pay24 (k0_pay18 r0) (k0_pay19 r1) (k0_pay20 r2) (k0_pay21 r3) (k0_pay22 r4) (k0_pay23 r4) r5 r6 r7) (k0_pay25 (k0_pay18 r0) (k0_pay19 r1) (k0_pay20 r2) (k0_pay21 r3) (k0_pay22 r4) (k0_pay23 r4) r5 r6 r7)) (k0_pay28 (k0_pay24 (k0_pay18 r0) (k0_pay19 r1) (k0_pay20 r2) (k0_pay21 r3) (k0_pay22 r4) (k0_pay23 r4) r5 r6 r7) (k0_pay25 (k0_pay18 r0) (k0_pay19 r1) (k0_pay20 r2) (k0_pay21 r3) (k0_pay22 r4) (k0_pay23 r4) r5 r6 r7))) j
    = packW (IntOp.subi 254#32 (eW W (t3 % 2 * 256 + 32 * (j 1).val) (128 * (2 * t2 + t3 / 2) + (j 2).val))) := by
  refine (pay39_apply _ _ j (pay25_apply r0 r1 r2 r3 r4 r5 r6 r7 _)).trans ?_
  refine congrArg packW (congrArg (IntOp.subi 254#32) ?_)
  exact (congrArg kS (fval W t2 t3 r0 r1 r2 r3 r4 r5 r6 r7 h0 h1 h2 h3 h4 h5 h6 h7 (ix2 (j 1) (j 2) : S8x128.Idx))).trans (eW_eq W t3 (j 1).val _)

/-- The scales of a slab of weights, as stored in pairs. -/
theorem pow_val (j : S1x8x128.Idx) : k0_pay40 (k0_pay29 (k0_pay24 (k0_pay18 r0) (k0_pay19 r1) (k0_pay20 r2) (k0_pay21 r3) (k0_pay22 r4) (k0_pay23 r4) r5 r6 r7) (k0_pay26 (k0_pay24 (k0_pay18 r0) (k0_pay19 r1) (k0_pay20 r2) (k0_pay21 r3) (k0_pay22 r4) (k0_pay23 r4) r5 r6 r7) (k0_pay25 (k0_pay18 r0) (k0_pay19 r1) (k0_pay20 r2) (k0_pay21 r3) (k0_pay22 r4) (k0_pay23 r4) r5 r6 r7)) (k0_pay27 (k0_pay24 (k0_pay18 r0) (k0_pay19 r1) (k0_pay20 r2) (k0_pay21 r3) (k0_pay22 r4) (k0_pay23 r4) r5 r6 r7) (k0_pay25 (k0_pay18 r0) (k0_pay19 r1) (k0_pay20 r2) (k0_pay21 r3) (k0_pay22 r4) (k0_pay23 r4) r5 r6 r7)) (k0_pay28 (k0_pay24 (k0_pay18 r0) (k0_pay19 r1) (k0_pay20 r2) (k0_pay21 r3) (k0_pay22 r4) (k0_pay23 r4) r5 r6 r7) (k0_pay25 (k0_pay18 r0) (k0_pay19 r1) (k0_pay20 r2) (k0_pay21 r3) (k0_pay22 r4) (k0_pay23 r4) r5 r6 r7))) j
    = packW (eW W (t3 % 2 * 256 + 32 * (j 1).val) (128 * (2 * t2 + t3 / 2) + (j 2).val)) := by
  refine (pay40_apply _ _ j (pay25_apply r0 r1 r2 r3 r4 r5 r6 r7 _)).trans ?_
  refine congrArg packW ?_
  exact (congrArg kS (fval W t2 t3 r0 r1 r2 r3 r4 r5 r6 r7 h0 h1 h2 h3 h4 h5 h6 h7 (ix2 (j 1) (j 2) : S8x128.Idx))).trans (eW_eq W t3 (j 1).val _)

end Vals

/-- A counted loop at the head of a program, by an invariant named as it is used: what holds before, what holds after. -/
theorem run_of {M : Type*} [RA.URA M] {Mask : Sort*} {E : Type → Type*} (Fr : Mask → sProp M) (wpE : Mask → ∀ ⦃β : Type⦄, E β → sWPT M β) (Es : Mask)
    [∀ ⦃β : Type⦄ (e : E β), sWPT.Frameable (wpE Es e)]
    {w : Nat} {σ : Type} (lb ub st : BitVec w) (hok : Scf.OK lb ub st) (init : σ)
    (body : Fin (Scf.trips lb ub st) → σ → Prog E σ) (L : LoopInv Fr wpE Es lb ub st hok init body)
    {β : Type} {kk : σ → Prog E β} {Q : β → sProp M} (A : sProp M) (B : σ → sProp M) (hA : A = L.inv 0 init) (hB : L.inv (Scf.trips lb ub st) = B) :
    A ⊢ iprop((∀ acc, B acc -∗ wp Fr wpE Es (kk acc) Q)
      -∗ wp Fr wpE Es (Scf.for lb ub st hok init body >>= kk) Q) := by
  subst hA; subst hB
  exact exec_loop Fr wpE Es lb ub st hok init body L

section Loops

variable (c : Dev nD) (i : grid0.Coords)
  (arg1 : Memref sig .tc .vmem S112x512 .bf16) (harg1 : arg1.IsWhole) (arg3 : Memref sig .tc .vmem S112x5376 .bf16) (harg3 : arg3.IsWhole)
  (arg4 : Memref sig .tc .vmem S112x512 .fp8e4m3) (harg4 : arg4.IsWhole) (arg5 : Memref sig .tc .vmem S112x512 .f32) (harg5 : arg5.IsWhole)
  (arg6 : Memref sig .tc .vmem S512x5376 .fp8e4m3) (harg6 : arg6.IsWhole) (arg7 : Memref sig .tc .vmem S16x5376 .f32) (harg7 : arg7.IsWhole)

set_option sl_exec.squeezeSlice true in
set_option warn.classDefReducibility false in
/-- One quarter of a weight column tile: the group maxima, the scales, the codes. -/
@[reducible] def loopInv_k0_t3 (W : ℕ → ℕ → EReal) (fw : Buf (Elt Ideal) ((wslot (Ring.sl 3 (i 0).val)).view.loc (c : Thread nD τ))) (hW : SlotHas W fw) (k0_t2 : Fin k0_t2_loop.trips) (v103 v105 : BitVec 32) :
    LoopInvTy_k0_t3 (F := Ideal) Unit ℕ (UU nD τ) ℕ 𝒱₀ c none Set.univ i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6 k0_t2 v103 v105 where
  inv n _ := iprop((∃ f, stM.view.loc (c : Thread nD τ) ↦{fullShare} f) ∗ (∃ f, pwM.view.loc (c : Thread nD τ) ↦{fullShare} f) ∗ ((wslot (Ring.sl 3 (i 0).val)).view.loc (c : Thread nD τ) ↦[(wslot (Ring.sl 3 (i 0).val)).view.set]{fullShare} fw)
    ∗ (∃ f, ⌜WcP W (32 * k0_t2.val + 8 * n) arg6 f⌝ ∗ arg6.view.loc (c : Thread nD τ) ↦[arg6.view.set]{fullShare} f)
    ∗ (∃ f, ⌜WsP W (4 * k0_t2.val + n) arg7 f⌝ ∗ arg7.view.loc (c : Thread nD τ) ↦[arg7.view.set]{fullShare} f)
    ∗ (∃ f, ⌜WqP W k0_t2.val (8 * n) f⌝ ∗ wqM.view.loc (c : Thread nD τ) ↦{fullShare} f))
  step k _ := by
    iintro ⟨⟨%fs, HS⟩, ⟨%fp, HP⟩, HW, ⟨%f6, %h6, H6⟩, ⟨%f7, %h7, H7⟩, ⟨%fq, %hq, HQ⟩⟩
    sl_unfold [k0_t3_body]
    sl_exec
    iapply (run_of _ _ _ _ _ _ _ _ _ (loopInv_k0_t4 c i arg1 harg1 arg3 harg3 arg4 harg4 arg5 harg5 arg6 harg6 arg7 harg7 W fw hW k0_t2 v105 k _ _ _ _ _)
      iprop((∃ f, ⌜StatP W k0_t2.val k.val 0 f⌝ ∗ stM.view.loc (c : Thread nD τ) ↦{fullShare} f) ∗ ((wslot (Ring.sl 3 (i 0).val)).view.loc (c : Thread nD τ) ↦[(wslot (Ring.sl 3 (i 0).val)).view.set]{fullShare} fw))
      (fun _ => iprop((∃ f, ⌜StatP W k0_t2.val k.val 8 f⌝ ∗ stM.view.loc (c : Thread nD τ) ↦{fullShare} f) ∗ ((wslot (Ring.sl 3 (i 0).val)).view.loc (c : Thread nD τ) ↦[(wslot (Ring.sl 3 (i 0).val)).view.set]{fullShare} fw)))
      rfl rfl) $$ [HS HW]
    · isplitl [HS]
      · iexists fs
        isplitr
        · ipureintro; intro y _ s g _ hg; exact absurd hg (Nat.not_lt_zero _)
        iexact HS
      iexact HW
    iintro %acc ⟨⟨%fs', %hs', HS⟩, HW⟩
    sl_exec
    sl_unfold_run_names
    iapply (run_of _ _ _ _ _ _ _ _ _ (loopInv_k0_t5 c i arg1 harg1 arg3 harg3 arg4 harg4 arg5 harg5 arg6 harg6 arg7 harg7 W fw hW k0_t2 k _ _ _)
      iprop((∃ f, ⌜PowP W k0_t2.val k.val f⌝ ∗ pwM.view.loc (c : Thread nD τ) ↦{fullShare} f) ∗ ((wslot (Ring.sl 3 (i 0).val)).view.loc (c : Thread nD τ) ↦[(wslot (Ring.sl 3 (i 0).val)).view.set]{fullShare} fw)
        ∗ (∃ f, ⌜WcP W (32 * k0_t2.val + (8 * k.val + 0)) arg6 f⌝ ∗ arg6.view.loc (c : Thread nD τ) ↦[arg6.view.set]{fullShare} f)
        ∗ (∃ f, ⌜WqP W k0_t2.val (8 * k.val + 0) f⌝ ∗ wqM.view.loc (c : Thread nD τ) ↦{fullShare} f))
      (fun _ => iprop((∃ f, ⌜PowP W k0_t2.val k.val f⌝ ∗ pwM.view.loc (c : Thread nD τ) ↦{fullShare} f) ∗ ((wslot (Ring.sl 3 (i 0).val)).view.loc (c : Thread nD τ) ↦[(wslot (Ring.sl 3 (i 0).val)).view.set]{fullShare} fw)
        ∗ (∃ f, ⌜WcP W (32 * k0_t2.val + (8 * k.val + 8)) arg6 f⌝ ∗ arg6.view.loc (c : Thread nD τ) ↦[arg6.view.set]{fullShare} f)
        ∗ (∃ f, ⌜WqP W k0_t2.val (8 * k.val + 8) f⌝ ∗ wqM.view.loc (c : Thread nD τ) ↦{fullShare} f)))
      rfl rfl) $$ [HP HW H6 HQ]
    · isplitl [HP]
      · iexists _
        isplitr
        swap
        · iexact HP
        · ipureintro
          exact powP_stores W k0_t2 k fp (k0_off27_inb k0_t2 k) (k0_off28_inb k0_t2 k) _ _
            (fun x => pow_inv_val W k0_t2.val k.val _ _ _ _ _ _ _ _ (fun y => stat_read W k0_t2 k fs' hs' 0 (by decide) _ (off18_eq k0_t2 k) _ y) (fun y => stat_read W k0_t2 k fs' hs' 1 (by decide) _ (off19_eq k0_t2 k) _ y) (fun y => stat_read W k0_t2 k fs' hs' 2 (by decide) _ (off20_eq k0_t2 k) _ y) (fun y => stat_read W k0_t2 k fs' hs' 3 (by decide) _ (off21_eq k0_t2 k) _ y) (fun y => stat_read W k0_t2 k fs' hs' 4 (by decide) _ (off22_eq k0_t2 k) _ y) (fun y => stat_read W k0_t2 k fs' hs' 5 (by decide) _ (off23_eq k0_t2 k) _ y) (fun y => stat_read W k0_t2 k fs' hs' 6 (by decide) _ (off24_eq k0_t2 k) _ y) (fun y => stat_read W k0_t2 k fs' hs' 7 (by decide) _ (off25_eq k0_t2 k) _ y) x)
            (fun x => pow_val W k0_t2.val k.val _ _ _ _ _ _ _ _ (fun y => stat_read W k0_t2 k fs' hs' 0 (by decide) _ (off18_eq k0_t2 k) _ y) (fun y => stat_read W k0_t2 k fs' hs' 1 (by decide) _ (off19_eq k0_t2 k) _ y) (fun y => stat_read W k0_t2 k fs' hs' 2 (by decide) _ (off20_eq k0_t2 k) _ y) (fun y => stat_read W k0_t2 k fs' hs' 3 (by decide) _ (off21_eq k0_t2 k) _ y) (fun y => stat_read W k0_t2 k fs' hs' 4 (by decide) _ (off22_eq k0_t2 k) _ y) (fun y => stat_read W k0_t2 k fs' hs' 5 (by decide) _ (off23_eq k0_t2 k) _ y) (fun y => stat_read W k0_t2 k fs' hs' 6 (by decide) _ (off24_eq k0_t2 k) _ y) (fun y => stat_read W k0_t2 k fs' hs' 7 (by decide) _ (off25_eq k0_t2 k) _ y) x)
      isplitl [HW]; · iexact HW
      isplitl [H6]
      · iexists f6
        isplitr
        · ipureintro; exact h6
        iexact H6
      · iexists fq
        isplitr
        · ipureintro; exact hq
        iexact HQ
    iintro %acc' ⟨⟨%fp', %hp', HP⟩, HW, ⟨%f6', %h6', H6⟩, ⟨%fq', %hq', HQ⟩⟩
    sl_exec
    sl_step
    sl_unfold_run_names
    isplitl [HS]; · iexists _; iexact HS
    isplitl [HP]; · iexists _; iexact HP
    isplitl [HW]; · iexact HW
    isplitl [H6]
    · iexists f6'
      isplitr
      · ipureintro; exact h6'
      iexact H6
    isplitl [H7]
    · iexists _
      isplitr
      swap
      · iexact H7
      · ipureintro
        exact wsP_step W arg7 k0_t2 k f7 h7 (k0_off26_inb k0_t2 k) _ (fun x => ws_val W k0_t2.val k.val _ _ _ _ _ _ _ _ (fun y => stat_read W k0_t2 k fs' hs' 0 (by decide) _ (off18_eq k0_t2 k) _ y) (fun y => stat_read W k0_t2 k fs' hs' 1 (by decide) _ (off19_eq k0_t2 k) _ y) (fun y => stat_read W k0_t2 k fs' hs' 2 (by decide) _ (off20_eq k0_t2 k) _ y) (fun y => stat_read W k0_t2 k fs' hs' 3 (by decide) _ (off21_eq k0_t2 k) _ y) (fun y => stat_read W k0_t2 k fs' hs' 4 (by decide) _ (off22_eq k0_t2 k) _ y) (fun y => stat_read W k0_t2 k fs' hs' 5 (by decide) _ (off23_eq k0_t2 k) _ y) (fun y => stat_read W k0_t2 k fs' hs' 6 (by decide) _ (off24_eq k0_t2 k) _ y) (fun y => stat_read W k0_t2 k fs' hs' 7 (by decide) _ (off25_eq k0_t2 k) _ y) x)
    · iexists fq'
      isplitr
      · ipureintro; exact hq'
      iexact HQ

end Loops

end Cert.Proof.KV

end
-- ==== Proof.KVCol.lean ====
/- One weight column tile and the product added to the accumulator. -/
module

public import proofs.«01_k».proof.Defs
public import proofs.«01_k».proof.Proof.KVTile
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Batch
public import Idealize.ShloMosaic.Lib.Affine
public import Idealize.ShloMosaic.Lib.Tactic

@[expose] public section

noncomputable section

namespace Cert.Proof.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UU nD τ) ℕ

/-- Where a tile of 256 columns lies in the accumulator. -/
theorem off36_eq : ∀ t2 : T2, k0_off36 t2 = ![0, 256 * t2.val] := by decide +kernel

/-- The product added to the accumulator's tile, at an element. -/
theorem pay43_apply (a : Vec Ideal S112x256 .f32) (x : Vec Ideal S112x512 .bf16) (w : Vec Ideal S512x256 .bf16) (j : S112x256.Idx) :
    k0_pay43 a x w j = a j + ∑ k : Fin 512, x (ix2 (j 0) k : S112x512.Idx) * w (ix2 k (j 1) : S512x256.Idx) := by
  have h : matmul (F := Ideal) (φ₁ := .bf16) (φ₂ := .bf16) dot_S112x512_S512x256_S112x256_1_0_0_1_n_n none x w (constant S112x256 .f32 0x00000000#32) j
      = ∑ k : Fin 512, x (ix2 (j 0) k : S112x512.Idx) * w (ix2 k (j 1) : S512x256.Idx) := by
    simp only [pointwise]
    exact zero_add _
  unfold k0_pay43
  refine (shapeCast_apply _ _ j j rfl).trans ?_
  exact congrArg (a j + ·) h

/-- The products of row `r` of the block's left operand with column `c` of its right operand. -/
def dotV (X W : ℕ → ℕ → EReal) (r c : ℕ) : EReal := ∑ k : Fin 512, X r k.val * wqV W k.val c

/-- The accumulator after the first `n` column tiles of a block. -/
def AccP (A0 X W : ℕ → ℕ → EReal) (n : ℕ) {c : Dev nD} (f : Buf (Elt Ideal) (accM.view.loc (c : Thread nD τ))) : Prop :=
  ∀ y : S112x5376.Idx, accM.view.read (Elt Ideal) f y = if (y 1).val < 256 * n then A0 (y 0).val (y 1).val + dotV X W (y 0).val (y 1).val else A0 (y 0).val (y 1).val

def XqP (X : ℕ → ℕ → EReal) {c : Dev nD} (f : Buf (Elt Ideal) (xqM.view.loc (c : Thread nD τ))) : Prop :=
  ∀ y : S112x512.Idx, xqM.view.read (Elt Ideal) f y = X (y 0).val (y 1).val

/-- One column tile's product added to the accumulator. -/
theorem accP_step (A0 X W : ℕ → ℕ → EReal) {c : Dev nD} (t2 : T2) (fa : Buf (Elt Ideal) (accM.view.loc (c : Thread nD τ))) (ha : AccP A0 X W t2.val fa)
    (fx : Buf (Elt Ideal) (xqM.view.loc (c : Thread nD τ))) (hx : XqP X fx) (fq : Buf (Elt Ideal) (wqM.view.loc (c : Thread nD τ))) (hq : WqP W t2.val 32 fq) (h h' h2 h4) :
    AccP A0 X W (t2.val + 1) (c := c) (View.write (Elt Ideal) (accM.access (Rect.unit (s := S112x5376) (k0_off36 t2) S112x256.size h)) fa
      (k0_pay43 (View.readAt (Elt Ideal) accM.view (Rect.unit (s := S112x5376) (k0_off36 t2) S112x256.size h').toLoadRect fa)
        (View.readAt (Elt Ideal) xqM.view (Rect.unit (s := S112x512) ![0, 0] S112x512.size h2).toLoadRect fx)
        (View.readAt (Elt Ideal) wqM.view (Rect.unit (s := S512x256) ![0, 0] S512x256.size h4).toLoadRect fq)) Finset.univ) := by
  intro y
  have h2' := t2_lt t2
  have hy1 : (y 1).val < 5376 := (y 1).isLt
  have hold := ha y
  by_cases hin : (y 1).val / 256 = t2.val
  · have e1 : (y 1).val - 256 * t2.val < 256 := by omega
    have e2 : ¬ (y 1).val < 256 * t2.val := by omega
    rw [if_neg e2] at hold
    rw [if_pos (by omega)]
    refine (read_write_unit_hit accM.view fa h _ _ (off36_eq t2) (ix2 (y 0) ⟨(y 1).val - 256 * t2.val, e1⟩ : S112x256.Idx) y ?_).trans ?_
    · intro a
      match a with
      | ⟨0, _⟩ => show (y 0).val = 0 + (y 0).val; omega
      | ⟨1, _⟩ => show (y 1).val = 256 * t2.val + ((y 1).val - 256 * t2.val); omega
    refine (pay43_apply _ _ _ _).trans ?_
    refine congrArg₂ (· + ·) ?_ ?_
    · refine (readAt_unit_eq _ _ _ _ y (off36_eq t2) ?_).trans hold
      intro a
      match a with
      | ⟨0, _⟩ => show (y 0).val = 0 + (y 0).val; omega
      | ⟨1, _⟩ => show (y 1).val = 256 * t2.val + ((y 1).val - 256 * t2.val); omega
    · refine Finset.sum_congr rfl fun k _ => congrArg₂ (· * ·) ?_ ?_
      · refine (readAt_unit_eq _ _ _ _ (ix2 (y 0) k : S112x512.Idx) rfl ?_).trans (hx _)
        intro a
        match a with
        | ⟨0, _⟩ => show (y 0).val = 0 + (y 0).val; omega
        | ⟨1, _⟩ => show k.val = 0 + k.val; omega
      · have hk := k.isLt
        refine (readAt_unit_eq _ _ _ _ (ix2 k ⟨(y 1).val - 256 * t2.val, e1⟩ : S512x256.Idx) rfl ?_).trans ((hq _ ?_).trans ?_)
        · intro a
          match a with
          | ⟨0, _⟩ => show k.val = 0 + k.val; omega
          | ⟨1, _⟩ => show (y 1).val - 256 * t2.val = 0 + ((y 1).val - 256 * t2.val); omega
        · show wkey k.val ((y 1).val - 256 * t2.val) < 32
          unfold wkey; omega
        · refine congrArg (wqV W k.val) ?_
          show 256 * t2.val + ((y 1).val - 256 * t2.val) = (y 1).val
          omega
  · refine (read_write_unit_miss accM.view fa h _ _ (off36_eq t2) y 1 ?_).trans (hold.trans ?_)
    · show (y 1).val < 256 * t2.val ∨ 256 * t2.val + 256 ≤ (y 1).val
      omega
    · by_cases hl : (y 1).val < 256 * t2.val
      · rw [if_pos hl, if_pos (by omega)]
      · rw [if_neg hl, if_neg (by omega)]

section Loops

variable (c : Dev nD) (i : grid0.Coords)
  (arg1 : Memref sig .tc .vmem S112x512 .bf16) (harg1 : arg1.IsWhole) (arg3 : Memref sig .tc .vmem S112x5376 .bf16) (harg3 : arg3.IsWhole)
  (arg4 : Memref sig .tc .vmem S112x512 .fp8e4m3) (harg4 : arg4.IsWhole) (arg5 : Memref sig .tc .vmem S112x512 .f32) (harg5 : arg5.IsWhole)
  (arg6 : Memref sig .tc .vmem S512x5376 .fp8e4m3) (harg6 : arg6.IsWhole) (arg7 : Memref sig .tc .vmem S16x5376 .f32) (harg7 : arg7.IsWhole)

set_option sl_exec.squeezeSlice true in
set_option warn.classDefReducibility false in
/-- One weight column tile: its four quarters, then the product added to the accumulator. -/
@[reducible] def loopInv_k0_t2 (A0 X W : ℕ → ℕ → EReal) (fw : Buf (Elt Ideal) ((wslot (Ring.sl 3 (i 0).val)).view.loc (c : Thread nD τ))) (hW : SlotHas W fw)
    (fx : Buf (Elt Ideal) (xqM.view.loc (c : Thread nD τ))) (hX : XqP X fx) :
    LoopInvTy_k0_t2 (F := Ideal) Unit ℕ (UU nD τ) ℕ 𝒱₀ c none Set.univ i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6 where
  inv n _ := iprop((∃ f, ⌜AccP A0 X W n f⌝ ∗ accM.view.loc (c : Thread nD τ) ↦{fullShare} f) ∗ (xqM.view.loc (c : Thread nD τ) ↦{fullShare} fx)
    ∗ (∃ f, stM.view.loc (c : Thread nD τ) ↦{fullShare} f) ∗ (∃ f, pwM.view.loc (c : Thread nD τ) ↦{fullShare} f) ∗ ((wslot (Ring.sl 3 (i 0).val)).view.loc (c : Thread nD τ) ↦[(wslot (Ring.sl 3 (i 0).val)).view.set]{fullShare} fw)
    ∗ (∃ f, ⌜WcP W (32 * n) arg6 f⌝ ∗ arg6.view.loc (c : Thread nD τ) ↦[arg6.view.set]{fullShare} f)
    ∗ (∃ f, ⌜WsP W (4 * n) arg7 f⌝ ∗ arg7.view.loc (c : Thread nD τ) ↦[arg7.view.set]{fullShare} f)
    ∗ (∃ f, wqM.view.loc (c : Thread nD τ) ↦{fullShare} f))
  step k _ := by
    iintro ⟨⟨%fa, %ha, HA⟩, HX, HS, HP, HW, ⟨%f6, %h6, H6⟩, ⟨%f7, %h7, H7⟩, ⟨%fq, HQ⟩⟩
    sl_unfold [k0_t2_body]
    sl_exec
    iapply (run_of _ _ _ _ _ _ _ _ _ (loopInv_k0_t3 c i arg1 harg1 arg3 harg3 arg4 harg4 arg5 harg5 arg6 harg6 arg7 harg7 W fw hW k _ _)
      iprop((∃ f, stM.view.loc (c : Thread nD τ) ↦{fullShare} f) ∗ (∃ f, pwM.view.loc (c : Thread nD τ) ↦{fullShare} f) ∗ ((wslot (Ring.sl 3 (i 0).val)).view.loc (c : Thread nD τ) ↦[(wslot (Ring.sl 3 (i 0).val)).view.set]{fullShare} fw)
    ∗ (∃ f, ⌜WcP W (32 * k.val + 8 * 0) arg6 f⌝ ∗ arg6.view.loc (c : Thread nD τ) ↦[arg6.view.set]{fullShare} f)
    ∗ (∃ f, ⌜WsP W (4 * k.val + 0) arg7 f⌝ ∗ arg7.view.loc (c : Thread nD τ) ↦[arg7.view.set]{fullShare} f)
    ∗ (∃ f, ⌜WqP W k.val (8 * 0) f⌝ ∗ wqM.view.loc (c : Thread nD τ) ↦{fullShare} f))
      (fun _ => iprop((∃ f, stM.view.loc (c : Thread nD τ) ↦{fullShare} f) ∗ (∃ f, pwM.view.loc (c : Thread nD τ) ↦{fullShare} f) ∗ ((wslot (Ring.sl 3 (i 0).val)).view.loc (c : Thread nD τ) ↦[(wslot (Ring.sl 3 (i 0).val)).view.set]{fullShare} fw)
    ∗ (∃ f, ⌜WcP W (32 * k.val + 8 * 4) arg6 f⌝ ∗ arg6.view.loc (c : Thread nD τ) ↦[arg6.view.set]{fullShare} f)
    ∗ (∃ f, ⌜WsP W (4 * k.val + 4) arg7 f⌝ ∗ arg7.view.loc (c : Thread nD τ) ↦[arg7.view.set]{fullShare} f)
    ∗ (∃ f, ⌜WqP W k.val (8 * 4) f⌝ ∗ wqM.view.loc (c : Thread nD τ) ↦{fullShare} f)))
      rfl rfl) $$ [HS HP HW H6 H7 HQ]
    · isplitl [HS]; · iexact HS
      isplitl [HP]; · iexact HP
      isplitl [HW]; · iexact HW
      isplitl [H6]
      · iexists f6
        isplitr
        · ipureintro; exact h6
        iexact H6

      isplitl [H7]
      · iexists f7
        isplitr
        · ipureintro; exact h7
        iexact H7

      · iexists fq
        isplitr
        · ipureintro; intro y hy; exact absurd hy (Nat.not_lt_zero _)
        iexact HQ
    iintro %acc ⟨⟨%fs', HS⟩, ⟨%fp', HP⟩, HW, ⟨%f6', %h6', H6⟩, ⟨%f7', %h7', H7⟩, ⟨%fq', %hq', HQ⟩⟩
    sl_exec
    sl_step
    sl_unfold_run_names
    isplitl [HA]
    · iexists _
      isplitr
      swap
      · iexact HA
      · ipureintro
        exact accP_step A0 X W k fa ha fx hX fq' hq' (k0_off36_inb k) (k0_off36_inb k) _ _
    isplitl [HX]; · iexact HX
    isplitl [HS]; · iexists _; iexact HS
    isplitl [HP]; · iexists _; iexact HP
    isplitl [HW]; · iexact HW
    isplitl [H6]
    · iexists f6'
      isplitr
      · ipureintro; exact h6'
      iexact H6
    isplitl [H7]
    · iexists f7'
      isplitr
      · ipureintro; exact h7'
      iexact H7
    iexists _; iexact HQ

end Loops

end Cert.Proof.KV

end
-- ==== Proof.KVRing.lean ====
/- The weight ring with its values: canonical names of its slots, halves, cells and of the weights' blocks in
   HBM, what a block's two transfers deliver, and the elements each name stands for. -/
module

public import proofs.«01_k».proof.Proof.KVCol

@[expose] public section

noncomputable section

namespace Cert.Proof.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UU nD τ) ℕ

/-! ## Names -/

/-- Half `h` of the weights' block `b` in HBM, half `h` of ring slot `s`, and slot `s`'s cell: their offsets. -/
abbrev grpOff (b : Fin 32) (h : Fin 2) : Fin 5 → Nat := ![32 * b.val, h.val, 0, 0, 0]
/-- Within the shape. -/
theorem grpOff_inb (b : Fin 32) (h : Fin 2) : ∀ a, grpOff b h a + S32x1x42x8x128.size a ≤ S1024x2x42x8x128.size a := by
  revert b h; decide +kernel
abbrev halfOff (s : Fin 3) (h : Fin 2) : Fin 5 → Nat := ![s.val, 0, 0, 8 * h.val, 0]
/-- Within the shape. -/
theorem halfOff_inb (s : Fin 3) (h : Fin 2) : ∀ a, halfOff s h a + S1x32x42x8x128.size a ≤ S3x32x42x16x128.size a := by
  revert s h; decide +kernel
abbrev semOff (s : Fin 3) : Fin 1 → Nat := ![s.val]
/-- Within the shape. -/
theorem semOff_inb (s : Fin 3) : ∀ a, semOff s a + S1.size a ≤ S3.size a := by revert s; decide

/-- Half `h` of the weights' block `b`, as the body slices and squeezes it; -/
def grp (b : Fin 32) (h : Fin 2) : Memref sig .tc .hbm S32x42x8x128 .bf16 :=
  (aM.slice (Rect.unit (s := S1024x2x42x8x128) (grpOff b h) S32x1x42x8x128.size (grpOff_inb b h)) (fun _ => rfl)).squeeze S32x42x8x128 squeezes_S32x1x42x8x128_S32x42x8x128
/-- half `h` of ring slot `s`; -/
def rslot (s : Fin 3) (h : Fin 2) : Memref sig .tc .vmem S32x42x8x128 .bf16 :=
  (bufM.slice (Rect.unit (s := S3x32x42x16x128) (halfOff s h) S1x32x42x8x128.size (halfOff_inb s h)) (fun _ => rfl)).squeeze S32x42x8x128 squeezes_S1x32x42x8x128_S32x42x8x128
/-- slot `s`'s cell. -/
def csm (s : Fin 3) : DmaSems sig S_ := (cc0_scratch6.slice (Rect.unit (s := S3) (semOff s) S1.size (semOff_inb s))).squeeze S_ squeezes_S1_S_

instance (s : Fin 3) (h : Fin 2) : ClosedOff (halfOff s h) := ⟨halfOff s h, rfl⟩
instance (b : Fin 32) (h : Fin 2) : ClosedOff (grpOff b h) := ⟨grpOff b h, rfl⟩

/-! ## The offsets the body computes -/

/-- The offset, in closed form. -/
theorem off1_eq : ∀ i : grid0.Coords, k0_off1 i = semOff (Ring.sl 3 ((i 0).val + 2)) := by decide +kernel
/-- The offset, in closed form. -/
theorem off2_eq : ∀ i : grid0.Coords, k0_off2 i = halfOff (Ring.sl 3 ((i 0).val + 2)) 0 := by decide +kernel
/-- The offset, in closed form. -/
theorem off4_eq : ∀ i : grid0.Coords, k0_off4 i = halfOff (Ring.sl 3 ((i 0).val + 2)) 1 := by decide +kernel
/-- The offset, in closed form. -/
theorem off3_eq : ∀ i : grid0.Coords, (i 0).val + 2 < 32 → k0_off3 i = grpOff (Ring.bk 32 ((i 0).val + 2)) 0 := by decide +kernel
/-- The offset, in closed form. -/
theorem off5_eq : ∀ i : grid0.Coords, (i 0).val + 2 < 32 → k0_off5 i = grpOff (Ring.bk 32 ((i 0).val + 2)) 1 := by decide +kernel
/-- The offset, in closed form. -/
theorem off8_eq : ∀ i : grid0.Coords, k0_off8 i = semOff (Ring.sl 3 (i 0).val) := by decide +kernel
/-- The offset, in closed form. -/
theorem off9_eq : ∀ i : grid0.Coords, k0_off9 i = halfOff (Ring.sl 3 (i 0).val) 0 := by decide +kernel
/-- The offset, in closed form. -/
theorem off11_eq : ∀ i : grid0.Coords, k0_off11 i = halfOff (Ring.sl 3 (i 0).val) 1 := by decide +kernel
/-- The offset, in closed form. -/
theorem off10_eq : ∀ i : grid0.Coords, k0_off10 i = grpOff (Ring.bk 32 (i 0).val) 0 := by decide +kernel
/-- The offset, in closed form. -/
theorem off12_eq : ∀ i : grid0.Coords, k0_off12 i = grpOff (Ring.bk 32 (i 0).val) 1 := by decide +kernel

/-! ## The canonical-name equations: the body's slices are `csm`, `rslot`, `grp` -/

theorem csm_congr {off : Fin 1 → Nat} {s : Fin 3} (e : off = semOff s) (hh) :
    (cc0_scratch6.slice (Rect.unit (s := S3) off S1.size hh)).squeeze S_ squeezes_S1_S_ = csm s :=
  congrArg (fun A : DmaSems sig S1 => A.squeeze S_ squeezes_S1_S_) (SemArray.slice_unit_congr _ e _ _)
theorem rslot_congr {off : Fin 5 → Nat} {s : Fin 3} {h : Fin 2} (e : off = halfOff s h) (hh hs) :
    (bufM.slice (Rect.unit (s := S3x32x42x16x128) off S1x32x42x8x128.size hh) hs).squeeze S32x42x8x128 squeezes_S1x32x42x8x128_S32x42x8x128 = rslot s h :=
  congrArg (fun M : Memref sig .tc .vmem S1x32x42x8x128 .bf16 => M.squeeze S32x42x8x128 squeezes_S1x32x42x8x128_S32x42x8x128) (Memref.slice_unit_congr _ e _ _ _ _)
theorem grp_congr {off : Fin 5 → Nat} {b : Fin 32} {h : Fin 2} (e : off = grpOff b h) (hh hs) :
    (aM.slice (Rect.unit (s := S1024x2x42x8x128) off S32x1x42x8x128.size hh) hs).squeeze S32x42x8x128 squeezes_S32x1x42x8x128_S32x42x8x128 = grp b h :=
  congrArg (fun M : Memref sig .tc .hbm S32x1x42x8x128 .bf16 => M.squeeze S32x42x8x128 squeezes_S32x1x42x8x128_S32x42x8x128) (Memref.slice_unit_congr _ e _ _ _ _)

/-- The first point's literal slices: cells, halves and blocks 0 and 1. -/
@[sl_canon] theorem semL0 (hh) : (cc0_scratch6.slice (Rect.unit (s := S3) ![0] S1.size hh)).squeeze S_ squeezes_S1_S_ = csm 0 := csm_congr (by decide) _
@[sl_canon] theorem semL1 (hh) : (cc0_scratch6.slice (Rect.unit (s := S3) ![1] S1.size hh)).squeeze S_ squeezes_S1_S_ = csm 1 := csm_congr (by decide) _
@[sl_canon] theorem slotL00 (hh hs) : (bufM.slice (Rect.unit (s := S3x32x42x16x128) ![0, 0, 0, 0, 0] S1x32x42x8x128.size hh) hs).squeeze S32x42x8x128 squeezes_S1x32x42x8x128_S32x42x8x128 = rslot 0 0 := rslot_congr (by decide) _ _
@[sl_canon] theorem grpL00 (hh hs) : (aM.slice (Rect.unit (s := S1024x2x42x8x128) ![0, 0, 0, 0, 0] S32x1x42x8x128.size hh) hs).squeeze S32x42x8x128 squeezes_S32x1x42x8x128_S32x42x8x128 = grp 0 0 := grp_congr (by decide) _ _
@[sl_canon] theorem slotL01 (hh hs) : (bufM.slice (Rect.unit (s := S3x32x42x16x128) ![0, 0, 0, 8, 0] S1x32x42x8x128.size hh) hs).squeeze S32x42x8x128 squeezes_S1x32x42x8x128_S32x42x8x128 = rslot 0 1 := rslot_congr (by decide) _ _
@[sl_canon] theorem grpL01 (hh hs) : (aM.slice (Rect.unit (s := S1024x2x42x8x128) ![0, 1, 0, 0, 0] S32x1x42x8x128.size hh) hs).squeeze S32x42x8x128 squeezes_S32x1x42x8x128_S32x42x8x128 = grp 0 1 := grp_congr (by decide) _ _
@[sl_canon] theorem slotL10 (hh hs) : (bufM.slice (Rect.unit (s := S3x32x42x16x128) ![1, 0, 0, 0, 0] S1x32x42x8x128.size hh) hs).squeeze S32x42x8x128 squeezes_S1x32x42x8x128_S32x42x8x128 = rslot 1 0 := rslot_congr (by decide) _ _
@[sl_canon] theorem grpL10 (hh hs) : (aM.slice (Rect.unit (s := S1024x2x42x8x128) ![32, 0, 0, 0, 0] S32x1x42x8x128.size hh) hs).squeeze S32x42x8x128 squeezes_S32x1x42x8x128_S32x42x8x128 = grp 1 0 := grp_congr (by decide) _ _
@[sl_canon] theorem slotL11 (hh hs) : (bufM.slice (Rect.unit (s := S3x32x42x16x128) ![1, 0, 0, 8, 0] S1x32x42x8x128.size hh) hs).squeeze S32x42x8x128 squeezes_S1x32x42x8x128_S32x42x8x128 = rslot 1 1 := rslot_congr (by decide) _ _
@[sl_canon] theorem grpL11 (hh hs) : (aM.slice (Rect.unit (s := S1024x2x42x8x128) ![32, 1, 0, 0, 0] S32x1x42x8x128.size hh) hs).squeeze S32x42x8x128 squeezes_S32x1x42x8x128_S32x42x8x128 = grp 1 1 := grp_congr (by decide) _ _

section
variable (i : grid0.Coords)
/-- What point `i` issues (block `i + 2`) and what it waits for (block `i`). -/
@[sl_canon] theorem semK1 (hh) : (cc0_scratch6.slice (Rect.unit (s := S3) (k0_off1 i) S1.size hh)).squeeze S_ squeezes_S1_S_ = csm (Ring.sl 3 ((i 0).val + 2)) := csm_congr (off1_eq i) _
@[sl_canon] theorem semK8 (hh) : (cc0_scratch6.slice (Rect.unit (s := S3) (k0_off8 i) S1.size hh)).squeeze S_ squeezes_S1_S_ = csm (Ring.sl 3 (i 0).val) := csm_congr (off8_eq i) _
@[sl_canon] theorem slotK2 (hh hs) : (bufM.slice (Rect.unit (s := S3x32x42x16x128) (k0_off2 i) S1x32x42x8x128.size hh) hs).squeeze S32x42x8x128 squeezes_S1x32x42x8x128_S32x42x8x128 = rslot (Ring.sl 3 ((i 0).val + 2)) 0 := rslot_congr (off2_eq i) _ _
@[sl_canon] theorem slotK4 (hh hs) : (bufM.slice (Rect.unit (s := S3x32x42x16x128) (k0_off4 i) S1x32x42x8x128.size hh) hs).squeeze S32x42x8x128 squeezes_S1x32x42x8x128_S32x42x8x128 = rslot (Ring.sl 3 ((i 0).val + 2)) 1 := rslot_congr (off4_eq i) _ _
@[sl_canon] theorem slotK9 (hh hs) : (bufM.slice (Rect.unit (s := S3x32x42x16x128) (k0_off9 i) S1x32x42x8x128.size hh) hs).squeeze S32x42x8x128 squeezes_S1x32x42x8x128_S32x42x8x128 = rslot (Ring.sl 3 (i 0).val) 0 := rslot_congr (off9_eq i) _ _
@[sl_canon] theorem slotK11 (hh hs) : (bufM.slice (Rect.unit (s := S3x32x42x16x128) (k0_off11 i) S1x32x42x8x128.size hh) hs).squeeze S32x42x8x128 squeezes_S1x32x42x8x128_S32x42x8x128 = rslot (Ring.sl 3 (i 0).val) 1 := rslot_congr (off11_eq i) _ _
@[sl_canon] theorem grpK3 (hk : (i 0).val + 2 < 32) (hh hs) : (aM.slice (Rect.unit (s := S1024x2x42x8x128) (k0_off3 i) S32x1x42x8x128.size hh) hs).squeeze S32x42x8x128 squeezes_S32x1x42x8x128_S32x42x8x128 = grp (Ring.bk 32 ((i 0).val + 2)) 0 := grp_congr (off3_eq i hk) _ _
@[sl_canon] theorem grpK5 (hk : (i 0).val + 2 < 32) (hh hs) : (aM.slice (Rect.unit (s := S1024x2x42x8x128) (k0_off5 i) S32x1x42x8x128.size hh) hs).squeeze S32x42x8x128 squeezes_S32x1x42x8x128_S32x42x8x128 = grp (Ring.bk 32 ((i 0).val + 2)) 1 := grp_congr (off5_eq i hk) _ _
@[sl_canon] theorem grpK10 (hh hs) : (aM.slice (Rect.unit (s := S1024x2x42x8x128) (k0_off10 i) S32x1x42x8x128.size hh) hs).squeeze S32x42x8x128 squeezes_S32x1x42x8x128_S32x42x8x128 = grp (Ring.bk 32 (i 0).val) 0 := grp_congr (off10_eq i) _ _
@[sl_canon] theorem grpK12 (hh hs) : (aM.slice (Rect.unit (s := S1024x2x42x8x128) (k0_off12 i) S32x1x42x8x128.size hh) hs).squeeze S32x42x8x128 squeezes_S32x1x42x8x128_S32x42x8x128 = grp (Ring.bk 32 (i 0).val) 1 := grp_congr (off12_eq i) _ _
end

/-! ## The pieces -/

section Pieces
variable (c : Dev nD) (XA : Buf (Elt Ideal) (aM.view.loc (c : Thread nD τ)))

abbrev cellP (s : Fin 3) : sProp 𝕄 := semVal ((c : Thread nD τ), SemLoc.dma (csm s).sem) 0
/-- A half slot's contents, and a slot held half by half. -/
abbrev HB (c : Dev nD) := Buf (Elt Ideal) (bufM.view.loc (c : Thread nD τ))
abbrev halfP (s : Fin 3) (h : Fin 2) (f : HB c) : sProp 𝕄 :=
  (rslot s h).view.loc (c : Thread nD τ) ↦[(rslot s h).view.set]{fullShare} f
abbrev slotP (s : Fin 3) (f : HB c × HB c) : sProp 𝕄 := iprop(halfP c s 0 f.1 ∗ halfP c s 1 f.2)
/-- Half a block HOME, and a block home. -/
abbrev hhomeP (b : Fin 32) (h : Fin 2) : sProp 𝕄 := (grp b h).view.loc (c : Thread nD τ) ↦[(grp b h).view.set]{fullShare} XA
abbrev homeP (b : Fin 32) : sProp 𝕄 := iprop(hhomeP c XA b 0 ∗ hhomeP c XA b 1)
/-- What the transfer of half a block leaves in half a slot over prior contents. -/
abbrev landed (s : Fin 3) (b : Fin 32) (h : Fin 2) (f : HB c) : HB c :=
  (rslot s h).view.writes (Elt Ideal) f [⟨Rect.whole S32x42x8x128, ReadAs.same.apply ((grp b h).view.read (Elt Ideal) XA)⟩]
/-- What half `h`'s transfer delivers: the half landed, its source back. -/
def deliv (s : Fin 3) (b : Fin 32) (f : HB c × HB c) (h : Fin 2) : sProp 𝕄 :=
  iprop(halfP c s h (landed c XA s b h (if h = 0 then f.1 else f.2)) ∗ hhomeP c XA b h)
abbrev NN (s : Fin 3) : ℕ := (rslot s 0).view.amount (SemLoc.dma (csm s).sem)
/-- Slot `s` IN FLIGHT with block `b`: both transfers issued, none waited for. -/
abbrev flightP (s : Fin 3) (b : Fin 32) (f : HB c × HB c) : sProp 𝕄 :=
  Transfers.Batch countersEmb (c : Thread nD τ) (SemLoc.dma (csm s).sem) () (NN s) (deliv c XA s b f) 2 0

end Pieces

/-! ## The elements each name stands for -/

abbrev HS (s : Fin 3) (h : Fin 2) : Finset S3x32x42x16x128.Idx := (Rect.unit (s := S3x32x42x16x128) (halfOff s h) S1x32x42x8x128.size (halfOff_inb s h)).set
abbrev WS (s : Fin 3) : Finset S3x32x42x16x128.Idx := (Rect.unit (s := S3x32x42x16x128) (slotOff s) S1x32x42x16x128.size (slotOff_inb s)).set
abbrev GS (b : Fin 32) (h : Fin 2) : Finset S1024x2x42x8x128.Idx := (Rect.unit (s := S1024x2x42x8x128) (grpOff b h) S32x1x42x8x128.size (grpOff_inb b h)).set

theorem rslot_set (s : Fin 3) (h : Fin 2) : (rslot s h : Memref sig .tc .vmem _ _).view.set = HS s h := (View.set_reshape _ _).trans (View.set_slice_whole _ _)
theorem wslot_set (s : Fin 3) : (wslot s : Memref sig .tc .vmem _ _).view.set = WS s := (View.set_reshape _ _).trans (View.set_slice_whole _ _)
theorem grp_set (b : Fin 32) (h : Fin 2) : (grp b h : Memref sig .tc .hbm _ _).view.set = GS b h := (View.set_reshape _ _).trans (View.set_slice_whole _ _)

/-- The elements of half a slot. -/
theorem mem_HS (s : Fin 3) (h : Fin 2) (y : S3x32x42x16x128.Idx) : y ∈ HS s h ↔ (y 0).val = s.val ∧ (y 3).val / 8 = h.val := by
  rw [Rect.mem_set_unit]
  have h1 : (y 1).val < 32 := (y 1).isLt
  have h2 : (y 2).val < 42 := (y 2).isLt
  have h3 : (y 3).val < 16 := (y 3).isLt
  have h4 : (y 4).val < 128 := (y 4).isLt
  constructor
  · intro H
    have a0 : s.val ≤ (y 0).val ∧ (y 0).val < s.val + 1 := H 0
    have a3 : 8 * h.val ≤ (y 3).val ∧ (y 3).val < 8 * h.val + 8 := H 3
    omega
  · intro H i; fin_cases i
    · show s.val ≤ (y 0).val ∧ (y 0).val < s.val + 1; omega
    · show 0 ≤ (y 1).val ∧ (y 1).val < 0 + 32; omega
    · show 0 ≤ (y 2).val ∧ (y 2).val < 0 + 42; omega
    · show 8 * h.val ≤ (y 3).val ∧ (y 3).val < 8 * h.val + 8; omega
    · show 0 ≤ (y 4).val ∧ (y 4).val < 0 + 128; omega
/-- The elements of a slot. -/
theorem mem_WS (s : Fin 3) (y : S3x32x42x16x128.Idx) : y ∈ WS s ↔ (y 0).val = s.val := by
  rw [Rect.mem_set_unit]
  have h1 : (y 1).val < 32 := (y 1).isLt
  have h2 : (y 2).val < 42 := (y 2).isLt
  have h3 : (y 3).val < 16 := (y 3).isLt
  have h4 : (y 4).val < 128 := (y 4).isLt
  constructor
  · intro H
    have a0 : s.val ≤ (y 0).val ∧ (y 0).val < s.val + 1 := H 0
    omega
  · intro H i; fin_cases i
    · show s.val ≤ (y 0).val ∧ (y 0).val < s.val + 1; omega
    · show 0 ≤ (y 1).val ∧ (y 1).val < 0 + 32; omega
    · show 0 ≤ (y 2).val ∧ (y 2).val < 0 + 42; omega
    · show 0 ≤ (y 3).val ∧ (y 3).val < 0 + 16; omega
    · show 0 ≤ (y 4).val ∧ (y 4).val < 0 + 128; omega
/-- The elements of half a block of the weights. -/
theorem mem_GS (b : Fin 32) (h : Fin 2) (y : S1024x2x42x8x128.Idx) : y ∈ GS b h ↔ (y 0).val / 32 = b.val ∧ (y 1).val = h.val := by
  rw [Rect.mem_set_unit]
  have h2 : (y 2).val < 42 := (y 2).isLt
  have h3 : (y 3).val < 8 := (y 3).isLt
  have h4 : (y 4).val < 128 := (y 4).isLt
  constructor
  · intro H
    have a0 : 32 * b.val ≤ (y 0).val ∧ (y 0).val < 32 * b.val + 32 := H 0
    have a1 : h.val ≤ (y 1).val ∧ (y 1).val < h.val + 1 := H 1
    omega
  · intro H i; fin_cases i
    · show 32 * b.val ≤ (y 0).val ∧ (y 0).val < 32 * b.val + 32; omega
    · show h.val ≤ (y 1).val ∧ (y 1).val < h.val + 1; omega
    · show 0 ≤ (y 2).val ∧ (y 2).val < 0 + 42; omega
    · show 0 ≤ (y 3).val ∧ (y 3).val < 0 + 8; omega
    · show 0 ≤ (y 4).val ∧ (y 4).val < 0 + 128; omega

/-- The halves of a slot are disjoint. -/
theorem HS_disjoint (s : Fin 3) : ∀ h h' : Fin 2, h ≠ h' → Disjoint (HS s h) (HS s h') := by
  intro b b' hne; rw [Finset.disjoint_left]; intro y hy hy'; rw [mem_HS] at hy hy'; exact hne (Fin.ext (hy.2.symm.trans hy'.2))
/-- The halves of a slot make up the slot. -/
theorem HS_cover (s : Fin 3) : (Finset.univ : Finset (Fin 2)).biUnion (HS s) = WS s := by
  ext y; simp only [Finset.mem_biUnion, Finset.mem_univ, true_and, mem_WS, mem_HS]
  have h3 : (y 3).val < 16 := (y 3).isLt
  exact ⟨fun ⟨_, h, _⟩ => h, fun h => ⟨⟨(y 3).val / 8, by omega⟩, h, rfl⟩⟩
/-- The slots are disjoint. -/
theorem WS_disjoint : ∀ s s' : Fin 3, s ≠ s' → Disjoint (WS s) (WS s') := by
  intro b b' hne; rw [Finset.disjoint_left]; intro y hy hy'; rw [mem_WS] at hy hy'; exact hne (Fin.ext (hy.symm.trans hy'))
/-- The slots make up the buffer. -/
theorem WS_cover : (Finset.univ : Finset (Fin 3)).biUnion WS = Finset.univ := by
  ext y; simp only [Finset.mem_biUnion, Finset.mem_univ, true_and, iff_true]; exact ⟨(y 0).cast (by decide), by rw [mem_WS]; rfl⟩
/-- The halves of a block are disjoint. -/
theorem GS_disjoint (b : Fin 32) : ∀ h h' : Fin 2, h ≠ h' → Disjoint (GS b h) (GS b h') := by
  intro h h' hne; rw [Finset.disjoint_left]; intro y hy hy'; rw [mem_GS] at hy hy'; exact hne (Fin.ext (hy.2.symm.trans hy'.2))
/-- A block's elements: both halves'. -/
abbrev BS (b : Fin 32) : Finset S1024x2x42x8x128.Idx := (Finset.univ : Finset (Fin 2)).biUnion (GS b)
/-- The elements of a block of the weights. -/
theorem mem_BS (b : Fin 32) (y : S1024x2x42x8x128.Idx) : y ∈ BS b ↔ (y 0).val / 32 = b.val := by
  simp only [Finset.mem_biUnion, Finset.mem_univ, true_and, mem_GS]
  have h1 : (y 1).val < 2 := (y 1).isLt
  exact ⟨fun ⟨_, h, _⟩ => h, fun h => ⟨⟨(y 1).val, h1⟩, h, rfl⟩⟩
/-- The blocks are disjoint. -/
theorem BS_disjoint : ∀ b b' : Fin 32, b ≠ b' → Disjoint (BS b) (BS b') := by
  intro b b' hne; rw [Finset.disjoint_left]; intro y hy hy'; rw [mem_BS] at hy hy'; exact hne (Fin.ext (hy.symm.trans hy'))
/-- The blocks make up the array. -/
theorem BS_cover : (Finset.univ : Finset (Fin 32)).biUnion BS = Finset.univ := by
  ext y; rw [Finset.mem_biUnion]
  have h0 : (y 0).val < 1024 := (y 0).isLt
  exact ⟨fun _ => Finset.mem_univ _, fun _ => ⟨⟨(y 0).val / 32, by omega⟩, Finset.mem_univ _, by rw [mem_BS]⟩⟩

theorem bigSep_fin2 (Φ : Fin 2 → sProp 𝕄) : bigSep Finset.univ Φ = iprop(Φ 0 ∗ Φ 1) :=
  bigSep_univ_eq_bigSepL [(0 : Fin 2), (1 : Fin 2)] (by decide) (by decide) Φ
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
theorem entails_of_eq {P Q : sProp 𝕄} (e : P = Q) : P ⊢ Q := e ▸ .rfl

section Sets
variable (c : Dev nD) (XA : Buf (Elt Ideal) (aM.view.loc (c : Thread nD τ)))

theorem halfP_eq (s : Fin 3) (h : Fin 2) (f : HB c) :
    halfP c s h f = (((c : Thread nD τ).loc cc0_scratch5) ↦[HS s h]{fullShare} f : sProp 𝕄) :=
  congrArg (fun S => (_ ↦[S]{fullShare} f : sProp 𝕄)) (rslot_set s h)
theorem wslot_eq (s : Fin 3) (f : HB c) :
    ((wslot s).view.loc (c : Thread nD τ) ↦[(wslot s).view.set]{fullShare} f : sProp 𝕄) = (((c : Thread nD τ).loc cc0_scratch5) ↦[WS s]{fullShare} f : sProp 𝕄) :=
  congrArg (fun S => (_ ↦[S]{fullShare} f : sProp 𝕄)) (wslot_set s)
/-- A slot held is its two halves held at the same contents. -/
theorem wslot_halves (s : Fin 3) (f : HB c) :
    ((wslot s).view.loc (c : Thread nD τ) ↦[(wslot s).view.set]{fullShare} f : sProp 𝕄) = iprop(halfP c s 0 f ∗ halfP c s 1 f) := by
  rw [wslot_eq, Ring.pointsTo_sub_blocks (ℓ := (c : Thread nD τ).loc cc0_scratch5) (HS s) (HS_disjoint s) (WS s) (HS_cover s), bigSep_fin2, halfP_eq, halfP_eq]
/-- Two halves at contents of their own are the slot at some contents. -/
theorem wslot_join (s : Fin 3) (f g : HB c) : iprop(halfP c s 0 f ∗ halfP c s 1 g) ⊢ (held c (wslot s) : sProp 𝕄) := by
  iintro ⟨H0, H1⟩
  ihave H := (Ring.pointsTo_sub_blocks_join_exists (ℓ := (c : Thread nD τ).loc cc0_scratch5) (HS s) (HS_disjoint s) (WS s) (HS_cover s) f) $$ [H0 H1]
  · irw [bigSep_fin2]
    isplitl [H0]
    · iexists f; iapply (entails_of_eq (halfP_eq c s 0 f)); iexact H0
    · iexists g; iapply (entails_of_eq (halfP_eq c s 1 g)); iexact H1
  icases H with ⟨%k, H⟩
  iexists k
  iapply (entails_of_eq (wslot_eq c s k).symm); iexact H
/-- A slot is held as its two halves. -/
theorem wslot_split (s : Fin 3) : (held c (wslot s) : sProp 𝕄) ⊢ iprop(∃ f, slotP c s f) := by
  iintro ⟨%f, H⟩
  iexists (f, f)
  iapply (entails_of_eq (wslot_halves c s f)); iexact H

/-- The ring buffer whole is its three slots, and back. -/
theorem buf_split :
    iprop(∃ f : Buf (Elt Ideal) ((c : Thread nD τ).loc cc0_scratch5), ((c : Thread nD τ).loc cc0_scratch5) ↦{fullShare} f)
      ⊢ (iprop((∃ f, slotP c 0 f) ∗ (∃ f, slotP c 1 f) ∗ ∃ f, slotP c 2 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch5) WS WS_disjoint WS_cover f).trans (bigSep_fin3 _))) $$ H
  icases H2 with ⟨H0, H1, H2⟩
  isplitl [H0]
  · iexists (f, f); iapply (entails_of_eq ((wslot_eq c 0 f).symm.trans (wslot_halves c 0 f))); iexact H0
  isplitl [H1]
  · iexists (f, f); iapply (entails_of_eq ((wslot_eq c 1 f).symm.trans (wslot_halves c 1 f))); iexact H1
  · iexists (f, f); iapply (entails_of_eq ((wslot_eq c 2 f).symm.trans (wslot_halves c 2 f))); iexact H2
/-- A slot with some contents. -/
theorem slot_some (s : Fin 3) : iprop(∃ f, slotP c s f) ⊢ (iprop(∃ f, ((c : Thread nD τ).loc cc0_scratch5) ↦[WS s]{fullShare} f) : sProp 𝕄) := by
  iintro ⟨%f, H0, H1⟩
  ihave H := (wslot_join c s f.1 f.2) $$ [H0 H1]
  · isplitl [H0]; · iexact H0
    iexact H1
  icases H with ⟨%g, H⟩
  iexists g; iapply (entails_of_eq (wslot_eq c s g)); iexact H
/-- The slots together are the buffer. -/
theorem buf_join (f₀ : Buf (Elt Ideal) ((c : Thread nD τ).loc cc0_scratch5)) :
    iprop((∃ f, slotP c 0 f) ∗ (∃ f, slotP c 1 f) ∗ ∃ f, slotP c 2 f)
      ⊢ (iprop(∃ f : Buf (Elt Ideal) ((c : Thread nD τ).loc cc0_scratch5), ((c : Thread nD τ).loc cc0_scratch5) ↦{fullShare} f) : sProp 𝕄) := by
  iintro ⟨H0, H1, H2⟩
  iapply (Ring.pointsTo_blocks_join_exists (ℓ := (c : Thread nD τ).loc cc0_scratch5) WS WS_disjoint WS_cover f₀)
  irw [bigSep_fin3]
  isplitl [H0]; · iapply (slot_some c 0); iexact H0
  isplitl [H1]; · iapply (slot_some c 1); iexact H1
  iapply (slot_some c 2); iexact H2

/-- The weights whole in HBM are their thirty-two blocks home. -/
theorem a_eq :
    (((c : Thread nD τ).loc main_v1) ↦{fullShare} XA : sProp 𝕄) = bigSep Finset.univ (homeP c XA) := by
  rw [Ring.pointsTo_blocks (ℓ := (c : Thread nD τ).loc main_v1) BS BS_disjoint BS_cover]
  refine bigSep_congr fun b _ => ?_
  rw [Ring.pointsTo_sub_blocks (ℓ := (c : Thread nD τ).loc main_v1) (GS b) (GS_disjoint b) (BS b) rfl, bigSep_fin2]
  unfold homeP hhomeP
  rw [grp_set, grp_set]; rfl
end Sets

/-- Block `b` of the weights, as the ring brings it: its row and column in the transposed operand. -/
def WB (XA : ℕ → ℕ → ℕ → ℕ → ℕ → EReal) (b r c : ℕ) : EReal := XA (32 * b + r / 16) (r % 16 / 8) (c / 128) (r % 8) (c % 128)

/-- The contents `XA` of the weights' buffer are `A`. -/
def AHas (A : ℕ → ℕ → ℕ → ℕ → ℕ → EReal) {c : Dev nD} (XA : Buf (Elt Ideal) (aM.view.loc (c : Thread nD τ))) : Prop :=
  ∀ y : S1024x2x42x8x128.Idx, XA y = A (y 0).val (y 1).val (y 2).val (y 3).val (y 4).val

/-- What lies in a slot after both copies of a block have landed. -/
theorem landed_emb (c : Dev nD) (XA : Buf (Elt Ideal) (aM.view.loc (c : Thread nD τ))) (s : Fin 3) (b : Fin 32) (h : Fin 2) (f : HB c) (x : S32x42x8x128.Idx) :
    landed c XA s b h f ((rslot s h).view.emb x) = (grp b h).view.read (Elt Ideal) XA x := by
  have e : (rslot s h).view.emb x = ((rslot s h).view.slice (Rect.whole S32x42x8x128)).emb x := by
    show _ = (rslot s h).view.emb ((Rect.whole S32x42x8x128).emb x)
    refine congrArg _ (funext fun a => Fin.ext ?_)
    show (x a).val = 0 + 1 * (x a).val
    omega
  rw [e]
  exact (View.write_emb_of_mem _ _ (Finset.mem_univ x)).trans (cast_eq _ _)

/-- Where an element of half a slot lies in the buffer. -/
theorem rslot_emb (s : Fin 3) (h : Fin 2) (x : S32x42x8x128.Idx) (y : S3x32x42x16x128.Idx) (h0 : (y 0).val = s.val) (h1 : (y 1).val = (x 0).val)
    (h2 : (y 2).val = (x 1).val) (h3 : (y 3).val = 8 * h.val + (x 2).val) (h4 : (y 4).val = (x 3).val) : (rslot s h).view.emb x = y := by
  show (Rect.unit (s := S3x32x42x16x128) (halfOff s h) S1x32x42x8x128.size (halfOff_inb s h)).emb (Shape.reshapeEquiv _ x) = y
  have hr : Shape.reshapeEquiv (s := S1x32x42x8x128) (s' := S32x42x8x128) (by decide) x = (ix5 0 (x 0) (x 1) (x 2) (x 3) : S1x32x42x8x128.Idx) := by
    refine Shape.reshapeEquiv_eq_of_rowMajor _ ?_
    rw [Shape.rowMajor_val_five, Shape.rowMajor_val_four]
    show (((0 * 32 + (x 0).val) * 42 + (x 1).val) * 8 + (x 2).val) * 128 + (x 3).val = ((((x 0).val) * 42 + (x 1).val) * 8 + (x 2).val) * 128 + (x 3).val
    omega
  refine (congrArg _ hr).trans (funext fun a => Fin.ext ?_)
  fin_cases a
  · show s.val + 1 * 0 = (y 0).val; omega
  · show 0 + 1 * (x 0).val = (y 1).val; omega
  · show 0 + 1 * (x 1).val = (y 2).val; omega
  · show 8 * h.val + 1 * (x 2).val = (y 3).val; omega
  · show 0 + 1 * (x 3).val = (y 4).val; omega

/-- Where an element of half a block lies in the array. -/
theorem grp_emb (b : Fin 32) (h : Fin 2) (x : S32x42x8x128.Idx) (y : S1024x2x42x8x128.Idx) (h0 : (y 0).val = 32 * b.val + (x 0).val) (h1 : (y 1).val = h.val)
    (h2 : (y 2).val = (x 1).val) (h3 : (y 3).val = (x 2).val) (h4 : (y 4).val = (x 3).val) : (grp b h).view.emb x = y := by
  show (Rect.unit (s := S1024x2x42x8x128) (grpOff b h) S32x1x42x8x128.size (grpOff_inb b h)).emb (Shape.reshapeEquiv _ x) = y
  have hr : Shape.reshapeEquiv (s := S32x1x42x8x128) (s' := S32x42x8x128) (by decide) x = (ix5 (x 0) 0 (x 1) (x 2) (x 3) : S32x1x42x8x128.Idx) := by
    refine Shape.reshapeEquiv_eq_of_rowMajor _ ?_
    rw [Shape.rowMajor_val_five, Shape.rowMajor_val_four]
    show ((((x 0).val * 1 + 0) * 42 + (x 1).val) * 8 + (x 2).val) * 128 + (x 3).val = ((((x 0).val) * 42 + (x 1).val) * 8 + (x 2).val) * 128 + (x 3).val
    omega
  refine (congrArg _ hr).trans (funext fun a => Fin.ext ?_)
  fin_cases a
  · show 32 * b.val + 1 * (x 0).val = (y 0).val; omega
  · show h.val + 1 * 0 = (y 1).val; omega
  · show 0 + 1 * (x 1).val = (y 2).val; omega
  · show 0 + 1 * (x 2).val = (y 3).val; omega
  · show 0 + 1 * (x 3).val = (y 4).val; omega

/-- Where an element of a slot lies in the buffer. -/
theorem wslot_emb (s : Fin 3) (x : S32x42x16x128.Idx) (y : S3x32x42x16x128.Idx) (h0 : (y 0).val = s.val) (h1 : (y 1).val = (x 0).val)
    (h2 : (y 2).val = (x 1).val) (h3 : (y 3).val = (x 2).val) (h4 : (y 4).val = (x 3).val) : (wslot s).view.emb x = y := by
  show (Rect.unit (s := S3x32x42x16x128) (slotOff s) S1x32x42x16x128.size (slotOff_inb s)).emb (Shape.reshapeEquiv _ x) = y
  have hr : Shape.reshapeEquiv (s := S1x32x42x16x128) (s' := S32x42x16x128) (by decide) x = (ix5 0 (x 0) (x 1) (x 2) (x 3) : S1x32x42x16x128.Idx) := by
    refine Shape.reshapeEquiv_eq_of_rowMajor _ ?_
    rw [Shape.rowMajor_val_five, Shape.rowMajor_val_four]
    show (((0 * 32 + (x 0).val) * 42 + (x 1).val) * 16 + (x 2).val) * 128 + (x 3).val = ((((x 0).val) * 42 + (x 1).val) * 16 + (x 2).val) * 128 + (x 3).val
    omega
  refine (congrArg _ hr).trans (funext fun a => Fin.ext ?_)
  fin_cases a
  · show s.val + 1 * 0 = (y 0).val; omega
  · show 0 + 1 * (x 0).val = (y 1).val; omega
  · show 0 + 1 * (x 1).val = (y 2).val; omega
  · show 0 + 1 * (x 2).val = (y 3).val; omega
  · show 0 + 1 * (x 3).val = (y 4).val; omega

/-- Both halves landed are the slot holding the block. -/
theorem wslot_join_val (A : ℕ → ℕ → ℕ → ℕ → ℕ → EReal) (c : Dev nD) (XA : Buf (Elt Ideal) (aM.view.loc (c : Thread nD τ))) (hA : AHas A XA) (s : Fin 3) (b : Fin 32) (f g : HB c) :
    iprop(halfP c s 0 (landed c XA s b 0 f) ∗ halfP c s 1 (landed c XA s b 1 g))
      ⊢ (iprop(∃ fw, ⌜SlotHas (WB A b.val) (s := s) (c := c) fw⌝ ∗ (wslot s).view.loc (c : Thread nD τ) ↦[(wslot s).view.set]{fullShare} fw) : sProp 𝕄) := by
  let fw : HB c := fun ix : S3x32x42x16x128.Idx => if (ix 3).val < 8 then landed c XA s b 0 f ix else landed c XA s b 1 g ix
  have e0 : halfP c s 0 (landed c XA s b 0 f) = halfP c s 0 fw := by
    rw [halfP_eq, halfP_eq]
    refine pointsTo_congr fun ix hix => ?_
    have := ((mem_HS s 0 ix).mp hix).2
    have h3 : (ix 3).val < 8 := by
      have : (ix 3).val / 8 = 0 := this
      omega
    exact (if_pos h3).symm
  have e1 : halfP c s 1 (landed c XA s b 1 g) = halfP c s 1 fw := by
    rw [halfP_eq, halfP_eq]
    refine pointsTo_congr fun ix hix => ?_
    have := ((mem_HS s 1 ix).mp hix).2
    have h3 : ¬ (ix 3).val < 8 := by
      have : (ix 3).val / 8 = 1 := this
      omega
    exact (if_neg h3).symm
  rw [e0, e1, ← wslot_halves]
  iintro H
  iexists fw
  isplitr
  · ipureintro
    intro y
    have y0 : (y 0).val < 32 := (y 0).isLt
    have y1 : (y 1).val < 42 := (y 1).isLt
    have y2 : (y 2).val < 16 := (y 2).isLt
    have y3 : (y 3).val < 128 := (y 3).isLt
    have hw := wslot_emb s y (ix5 s (y 0) (y 1) (y 2) (y 3) : S3x32x42x16x128.Idx) rfl rfl rfl rfl rfl
    refine (show (wslot s).view.read (Elt Ideal) fw y = fw ((wslot s).view.emb y) from rfl).trans ?_
    refine (congrArg fw hw).trans ?_
    have key : ∀ (h : Fin 2) (q : HB c), (y 2).val / 8 = h.val → landed c XA s b h q (ix5 s (y 0) (y 1) (y 2) (y 3) : S3x32x42x16x128.Idx)
        = WB A b.val (16 * (y 0).val + (y 2).val) (128 * (y 1).val + (y 3).val) := by
      intro h q hh
      let x : S32x42x8x128.Idx := ix4 (y 0) (y 1) ⟨(y 2).val % 8, by omega⟩ (y 3)
      have e := rslot_emb s h x (ix5 s (y 0) (y 1) (y 2) (y 3) : S3x32x42x16x128.Idx) rfl rfl rfl (by show (y 2).val = 8 * h.val + (y 2).val % 8; omega) rfl
      refine (congrArg _ e.symm).trans ((landed_emb c XA s b h q x).trans ?_)
      have hb := b.isLt
      have e2 := grp_emb b h x (ix5 ⟨32 * b.val + (y 0).val, by omega⟩ h (y 1) ⟨(y 2).val % 8, by omega⟩ (y 3) : S1024x2x42x8x128.Idx) rfl rfl rfl rfl rfl
      refine (show (grp b h).view.read (Elt Ideal) XA x = XA ((grp b h).view.emb x) from rfl).trans ?_
      refine (congrArg XA e2).trans ((hA _).trans ?_)
      show A (32 * b.val + (y 0).val) h.val (y 1).val ((y 2).val % 8) (y 3).val = _
      unfold WB
      have a1 : (16 * (y 0).val + (y 2).val) / 16 = (y 0).val := by omega
      have a2 : (16 * (y 0).val + (y 2).val) % 16 / 8 = h.val := by omega
      have a3 : (128 * (y 1).val + (y 3).val) / 128 = (y 1).val := by omega
      have a4 : (16 * (y 0).val + (y 2).val) % 8 = (y 2).val % 8 := by omega
      have a5 : (128 * (y 1).val + (y 3).val) % 128 = (y 3).val := by omega
      rw [a1, a2, a3, a4, a5]
    show (if (y 2).val < 8 then landed c XA s b 0 f (ix5 s (y 0) (y 1) (y 2) (y 3) : S3x32x42x16x128.Idx) else landed c XA s b 1 g (ix5 s (y 0) (y 1) (y 2) (y 3) : S3x32x42x16x128.Idx)) = _
    by_cases h8 : (y 2).val < 8
    · rw [if_pos h8]; exact key 0 f (by show (y 2).val / 8 = 0; omega)
    · rw [if_neg h8]; exact key 1 g (by show (y 2).val / 8 = 1; omega)
  iexact H

end Cert.Proof.KV

end
-- ==== Proof.KVAct.lean ====
/- The activation slab loop with its values. -/
module

public import proofs.«01_k».proof.Defs
public import proofs.«01_k».proof.Proof.KVRing
public import Idealize.ShloMosaic.Lib.KernelVsHost
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Batch
public import Idealize.ShloMosaic.Lib.Affine
public import Idealize.ShloMosaic.Lib.Tactic

@[expose] public section

noncomputable section

namespace Cert.Proof.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UU nD τ) ℕ

/-! ### The activation side -/

abbrev laneIota : IVec S112x128 32 := iota .tc S112x128 32 [1] iota_S112x128_d1_w32

/-- The gather's lane is the last of its group of 32. -/
theorem lane31 (j : S112x128.Idx) : (k0_pay4 k0_pay34 j).toNat % 128 = 32 * ((j 1).val / 32) + 31 := by
  have h : ∀ l : Fin 128, (k0_pay4 k0_pay34 (ix2 (0 : Fin 112) l : S112x128.Idx)).toNat % 128 = 32 * (l.val / 32) + 31 := by decide +kernel
  exact h (j 1)

theorem rot_rows (s : BitVec 32) (v : FVec Ideal S112x128 .bf16) :
    interleaveRows S112x128 (dynamicRotate 1 s none (rowsOfParity 0 S56x128 v bitcasts_S112x128_w16_S56x128_w32) rotates_S56x128_d1)
      (dynamicRotate 1 s none (rowsOfParity 1 S56x128 v bitcasts_S112x128_w16_S56x128_w32) rotates_S56x128_d1) bitcasts_S112x128_w16_S56x128_w32
      = dynamicRotate 1 s none v (by decide : S112x128.Rotates 1 none) := by
  have h : ∀ p : Fin 2, dynamicRotate 1 s none (rowsOfParity p S56x128 v bitcasts_S112x128_w16_S56x128_w32) rotates_S56x128_d1
      = rowsOfParity p S56x128 (dynamicRotate 1 s none v (by decide : S112x128.Rotates 1 none)) bitcasts_S112x128_w16_S56x128_w32 := by
    intro p
    funext j
    simp only [pointwise]
    rfl
  rw [h 0, h 1, interleaveRows_rowsOfParity]

/-- One rolling step on the packed halves. -/
def rollV (s : BitVec 32) (v : FVec Ideal S112x128 .bf16) : FVec Ideal S112x128 .bf16 :=
  maximumf (interleaveRows S112x128 (rowsOfParity 0 S56x128 v bitcasts_S112x128_w16_S56x128_w32) (rowsOfParity 1 S56x128 v bitcasts_S112x128_w16_S56x128_w32) bitcasts_S112x128_w16_S56x128_w32)
    (interleaveRows S112x128 (dynamicRotate 1 s none (rowsOfParity 0 S56x128 v bitcasts_S112x128_w16_S56x128_w32) rotates_S56x128_d1)
      (dynamicRotate 1 s none (rowsOfParity 1 S56x128 v bitcasts_S112x128_w16_S56x128_w32) rotates_S56x128_d1) bitcasts_S112x128_w16_S56x128_w32)
theorem rollV_eq (s : BitVec 32) (v : FVec Ideal S112x128 .bf16) : rollV s v = maximumf v (dynamicRotate 1 s none v (by decide : S112x128.Rotates 1 none)) := by
  unfold rollV
  rw [rot_rows, interleaveRows_rowsOfParity]

/-- One rolling step: the larger of a lane and the lane `s` before it. -/
def roll1 (s : ℕ) (f : ℕ → EReal) (l : ℕ) : EReal := max (f l) (f ((l + 128 - s) % 128))

/-- One rotation and maximum. -/
theorem roll_apply (s : BitVec 32) (v : FVec Ideal S112x128 .bf16) (r : Fin 112) (f : ℕ → EReal) (hf : ∀ l : Fin 128, v (ix2 r l : S112x128.Idx) = f l.val) (hs : s.toNat < 128) (l : Fin 128) :
    (rollV s v) (ix2 r l : S112x128.Idx) = roll1 s.toNat f l.val := by
  rw [rollV_eq]
  have h := dynamicRotate_apply (1 : Fin S112x128.rank) s v (by decide : S112x128.Rotates 1 none) (ix2 r l : S112x128.Idx) (ix2 r ⟨(l.val + 128 - s.toNat % 128) % 128, Nat.mod_lt _ (by decide)⟩ : S112x128.Idx) (by
    intro b
    match b with
    | ⟨0, _⟩ => rfl
    | ⟨1, _⟩ => rfl)
  show max (v (ix2 r l : S112x128.Idx)) (dynamicRotate 1 s none v (by decide : S112x128.Rotates 1 none) (ix2 r l : S112x128.Idx)) = _
  rw [h, hf, hf]
  unfold roll1
  rw [Nat.mod_eq_of_lt hs]

/-- After five rotations the last lane of a group holds the group's maximum. -/
theorem roll_max (f : ℕ → EReal) (q : ℕ) (hq : q < 4) :
    roll1 16 (roll1 8 (roll1 4 (roll1 2 (roll1 1 f)))) (32 * q + 31) = Finset.univ.sup (fun i : Fin 32 => f (32 * q + i.val)) := by
  have key : ∀ (g : ℕ → EReal) (n s l : ℕ), s + n ≤ l + 1 → l < 128 → 0 < n → s = n →
      (∀ l', l' < 128 → n ≤ l' + 1 → ∀ z, g l' ≤ z ↔ ∀ i, i < n → f (l' - i) ≤ z) → ∀ z, roll1 s g l ≤ z ↔ ∀ i, i < n + n → f (l - i) ≤ z := by
    intro g n s l h1 hl hn hs hg z
    unfold roll1
    have e : (l + 128 - s) % 128 = l - s := by omega
    rw [e, max_le_iff, hg l hl (by omega), hg (l - s) (by omega) (by omega)]
    constructor
    · rintro ⟨ha, hb⟩ i hi
      by_cases h : i < n
      · exact ha i h
      · have := hb (i - n) (by omega)
        rwa [show l - s - (i - n) = l - i by omega] at this
    · intro h
      refine ⟨fun i hi => h i (by omega), fun i hi => ?_⟩
      have := h (i + n) (by omega)
      rwa [show l - (i + n) = l - s - i by omega] at this
  have g0 : ∀ l', l' < 128 → 1 ≤ l' + 1 → ∀ z, f l' ≤ z ↔ ∀ i, i < 1 → f (l' - i) ≤ z := by
    intro l' _ _ z
    exact ⟨fun h i hi => by rw [show l' - i = l' by omega]; exact h, fun h => h 0 (by omega)⟩
  have g1 := fun l' (h : l' < 128) (h' : 2 ≤ l' + 1) => key f 1 1 l' (by omega) h (by omega) rfl g0
  have g2 := fun l' (h : l' < 128) (h' : 4 ≤ l' + 1) => key _ 2 2 l' (by omega) h (by omega) rfl g1
  have g3 := fun l' (h : l' < 128) (h' : 8 ≤ l' + 1) => key _ 4 4 l' (by omega) h (by omega) rfl g2
  have g4 := fun l' (h : l' < 128) (h' : 16 ≤ l' + 1) => key _ 8 8 l' (by omega) h (by omega) rfl g3
  have g5 := key _ 16 16 (32 * q + 31) (by omega) (by omega) (by omega) rfl g4
  refine eq_of_forall_ge_iff fun z => ?_
  rw [g5, Finset.sup_le_iff]
  constructor
  · intro h i _
    have := h (31 - i.val) (by omega)
    rwa [show 32 * q + 31 - (31 - i.val) = 32 * q + i.val by omega] at this
  · intro h i hi
    have := h ⟨31 - i, by omega⟩ (Finset.mem_univ _)
    rwa [show 32 * q + (⟨31 - i, by omega⟩ : Fin 32).val = 32 * q + 31 - i by show 32 * q + (31 - i) = _; omega] at this

/-- The rolling maximum at the last lane of a group of 32: the group's largest magnitude. -/
theorem pay3_apply (v : Vec Ideal S112x128 .bf16) (r : Fin 112) (l : Fin 128) (h : l.val % 32 = 31) (f : ℕ → EReal) (hf : ∀ l : Fin 128, v (ix2 r l : S112x128.Idx) = f l.val) :
    k0_pay3 v (ix2 r l : S112x128.Idx) = Finset.univ.sup (fun i : Fin 32 => magV (f (32 * (l.val / 32) + i.val))) := by
  have hl := l.isLt
  have e : k0_pay3 v (ix2 r l : S112x128.Idx) = (rollV 16#32 (rollV 8#32 (rollV 4#32 (rollV 2#32 (rollV 1#32 (absf (shapeCast S112x128 v shapeCasts_S112x128_S112x128)))))) : FVec Ideal S112x128 .bf16) (ix2 r l : S112x128.Idx) := by
    unfold k0_pay3 k0_pay2
    dsimp only
    rw [interleaveRows_rowsOfParity]
    rfl
  rw [e]
  refine Eq.trans ?_ (roll_max (fun l => magV (f l)) (l.val / 32) (by omega))
  have e0 : ∀ l : Fin 128, (absf (shapeCast S112x128 v shapeCasts_S112x128_S112x128) : FVec Ideal S112x128 .bf16) (ix2 r l : S112x128.Idx) = magV (f l.val) := by
    intro l
    rw [← hf l]
    exact congrArg magV (shapeCast_apply _ _ (ix2 r l : S112x128.Idx) (ix2 r l : S112x128.Idx) rfl)
  have e1 := roll_apply 1#32 (absf (shapeCast S112x128 v shapeCasts_S112x128_S112x128)) r (fun l => magV (f l)) e0 (by decide)
  have e2 := roll_apply 2#32 _ r _ e1 (by decide)
  have e3 := roll_apply 4#32 _ r _ e2 (by decide)
  have e4 := roll_apply 8#32 _ r _ e3 (by decide)
  have e5 := roll_apply 16#32 _ r _ e4 (by decide) l
  refine e5.trans ?_
  rw [show 32 * (l.val / 32) + 31 = l.val by omega]
  rfl

/-- A gathered lane, by the index word it reads. -/
theorem gather_apply (v : FVec Ideal S112x128 .f32) (ix : IVec S112x128 32) (j : S112x128.Idx) (k : Fin 128) (h : (ix j).toNat % 128 = k.val) :
    dynamicGather 1 v (shapeCast S112x128 (shapeCast S112x128x1 ix shapeCasts_S112x128_S112x128x1) shapeCasts_S112x128x1_S112x128) j = v (ix2 (j 0) k : S112x128.Idx) := by
  have e : shapeCast S112x128 (shapeCast S112x128x1 ix shapeCasts_S112x128_S112x128x1) shapeCasts_S112x128x1_S112x128 = ix := by
    funext j
    refine (shapeCast_apply _ _ j (ix3 (j 0) (j 1) 0 : S112x128x1.Idx) ?_).trans ?_
    · rw [Shape.rowMajor_val_three, Shape.rowMajor_val_two]
      show ((j 0).val * 128 + (j 1).val) * 1 + 0 = (j 0).val * 128 + (j 1).val
      omega
    refine shapeCast_apply _ _ _ j ?_
    rw [Shape.rowMajor_val_three, Shape.rowMajor_val_two]
    show (j 0).val * 128 + (j 1).val = ((j 0).val * 128 + (j 1).val) * 1 + 0
    omega
  rw [e]
  refine congrArg v (funext fun b => Fin.ext ?_)
  match b with
  | ⟨0, _⟩ => rfl
  | ⟨1, _⟩ => exact h

/-- The largest magnitude of lane `k`'s group of 32 in row `r`; the scale's exponent field; the code; the dequantised value; a group's scale. -/
def gmxX (X : ℕ → ℕ → EReal) (r k : ℕ) : EReal := Finset.univ.sup (fun i : Fin 32 => magV (X r (k + i.val)))
def eX (X : ℕ → ℕ → EReal) (r k : ℕ) : BitVec 32 := kS (gmxX X r (32 * (k / 32)) * c448)
def xcV (X : ℕ → ℕ → EReal) (r k : ℕ) : EReal :=
  min (Ideal.ofBits .f32 0x43E00000#32) (max (Ideal.ofBits .f32 0xC3E00000#32) (X r k * Ideal.ofBits .f32 (IntOp.shli .vector (IntOp.subi 254#32 (eX X r k)) 23#32)))
def xqV (X : ℕ → ℕ → EReal) (r k : ℕ) : EReal := xcV X r k * Ideal.ofBits .f32 (IntOp.shli .vector (eX X r k) 23#32)
def xsV (X : ℕ → ℕ → EReal) (r g : ℕ) : EReal := Ideal.ofBits .f32 (IntOp.shli .vector (eX X r (32 * g)) 23#32)

abbrev p5 (v : Vec Ideal S112x128 .bf16) : FVec Ideal S112x128 .f32 := k0_pay5 (k0_pay3 v) (k0_pay4 k0_pay34)
abbrev p6 (v : Vec Ideal S112x128 .bf16) : IVec S112x128 32 := k0_pay6 (k0_pay3 v) (k0_pay4 k0_pay34)
abbrev p7 (v : Vec Ideal S112x128 .bf16) : IVec S112x128 32 := k0_pay7 (k0_pay3 v) (k0_pay4 k0_pay34)
abbrev p8 (v : Vec Ideal S112x128 .bf16) : FVec Ideal S112x128 .f32 := k0_pay8 (k0_pay3 v) (k0_pay4 k0_pay34)

/-- The gathered maxima. -/
theorem p5_apply (X : ℕ → ℕ → EReal) (t : ℕ) (v : Vec Ideal S112x128 .bf16) (hv : ∀ j : S112x128.Idx, v j = X (j 0).val (128 * t + (j 1).val)) (j : S112x128.Idx) :
    p5 v j = gmxX X (j 0).val (32 * ((128 * t + (j 1).val) / 32)) * c448 := by
  have hj : (j 1).val < 128 := (j 1).isLt
  refine (show p5 v j = dynamicGather 1 (k0_pay3 v) (shapeCast S112x128 (shapeCast S112x128x1 (k0_pay4 k0_pay34) shapeCasts_S112x128_S112x128x1) shapeCasts_S112x128x1_S112x128) j * c448 from rfl).trans ?_
  refine congrArg (· * c448) ?_
  refine (gather_apply _ _ j ⟨32 * ((j 1).val / 32) + 31, by omega⟩ (lane31 j)).trans ?_
  refine (pay3_apply v (j 0) _ (by show (32 * ((j 1).val / 32) + 31) % 32 = 31; omega) (fun l => X (j 0).val (128 * t + l)) (fun l => hv _)).trans ?_
  unfold gmxX
  refine congrArg (Finset.univ.sup) (funext fun i => congrArg magV (congrArg (X (j 0).val) ?_))
  show 128 * t + (32 * ((32 * ((j 1).val / 32) + 31) / 32) + i.val) = _
  omega

/-- The scale's exponent field, computed. -/
theorem p9_apply (v : Vec Ideal S112x128 .bf16) (j : S112x128.Idx) : k0_pay9 (p5 v) (p6 v) (p7 v) (p8 v) j = kS (p5 v j) := by
  unfold p6 p7 p8 k0_pay9 k0_pay8 k0_pay7 k0_pay6
  generalize hw : p5 v = w
  unfold p5 at hw
  rw [hw]
  unfold kS kE kstep
  simp only [pointwise]

/-- The exponent field of a slab's scale. -/
theorem pay9_val (X : ℕ → ℕ → EReal) (t : ℕ) (v : Vec Ideal S112x128 .bf16) (hv : ∀ j : S112x128.Idx, v j = X (j 0).val (128 * t + (j 1).val)) (j : S112x128.Idx) :
    k0_pay9 (p5 v) (p6 v) (p7 v) (p8 v) j = eX X (j 0).val (128 * t + (j 1).val) := by
  rw [p9_apply, p5_apply X t v hv]; rfl

/-- The codes of a slab. -/
theorem pay10_val (X : ℕ → ℕ → EReal) (t : ℕ) (v : Vec Ideal S112x128 .bf16) (hv : ∀ j : S112x128.Idx, v j = X (j 0).val (128 * t + (j 1).val)) (j : S112x128.Idx) :
    k0_pay10 (p5 v) (p6 v) (p7 v) (p8 v) j = Ideal.ofBits .f32 (IntOp.shli .vector (eX X (j 0).val (128 * t + (j 1).val)) 23#32) := by
  rw [← pay9_val X t v hv j]; rfl

/-- The dequantised slab. -/
theorem pay11_val (X : ℕ → ℕ → EReal) (t : ℕ) (v : Vec Ideal S112x128 .bf16) (hv : ∀ j : S112x128.Idx, v j = X (j 0).val (128 * t + (j 1).val)) (j : S112x128.Idx) :
    k0_pay11 (k0_pay2 v) (p5 v) (p6 v) (p7 v) (p8 v) j = xcV X (j 0).val (128 * t + (j 1).val) := by
  unfold xcV
  rw [← pay9_val X t v hv j, ← hv j, ← (shapeCast_apply v shapeCasts_S112x128_S112x128 j j rfl)]
  rfl

/-- The scales of a slab. -/
theorem pay37_val (X : ℕ → ℕ → EReal) (t : ℕ) (v : Vec Ideal S112x128 .bf16) (hv : ∀ j : S112x128.Idx, v j = X (j 0).val (128 * t + (j 1).val)) (j : S112x128.Idx) :
    k0_pay37 (k0_pay12 (k0_pay2 v) (p5 v) (p6 v) (p7 v) (p8 v)) j = xqV X (j 0).val (128 * t + (j 1).val) := by
  unfold xqV
  rw [← pay10_val X t v hv j, ← pay11_val X t v hv j]
  unfold k0_pay37
  exact (shapeCast_apply _ _ j j rfl).trans rfl

/-- The word a lane compares with the carried tile's quarter, the quarter's word, and the lane a group's scale is gathered from. -/
def laneW : IVec S112x128 32 :=
  have v245 : IVec S112x128 32 := divsi laneIota (broadcast S112x128 4#32)
  have v248 : IVec S112x128 32 := extui 32 (cmpi .sgt laneIota (broadcast S112x128 0#32)) natLt_1_32
  have v251 : IVec S112x128 32 := extui 32 (cmpi .slt laneIota (broadcast S112x128 0#32)) natLt_1_32
  have v252 : IVec S112x128 32 := subi v248 v251
  let v257 : BitVec 32 := Scalar.subi (Scalar.extui (Scalar.cmpi .sgt 4#32 0#32)) (Scalar.extui (Scalar.cmpi .slt 4#32 0#32))
  have v259 : IVec S112x128 1 := cmpi .ne v252 (broadcast S112x128 v257)
  have v263 : IVec S112x128 1 := cmpi .ne (remsi laneIota (broadcast S112x128 4#32)) (broadcast S112x128 0#32)
  select (andi v259 v263) (subi v245 (broadcast S112x128 1#32)) v245
def quartW (arg0 arg15 : BitVec 32) : BitVec 32 :=
  let v47 : BitVec 1 := Scalar.cmpi .eq 8#32 0#32
  let v48 : BitVec 32 := Scalar.select v47 1#32 8#32
  let v49 : BitVec 32 := Scalar.remsi arg0 v48
  let v50 : BitVec 1 := Scalar.cmpi .ne v49 0#32
  let v51 : BitVec 1 := Scalar.cmpi .slt v49 0#32
  let v52 : BitVec 1 := Scalar.cmpi .slt v48 0#32
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.muli v56 4#32
  Scalar.addi v57 arg15
def gathW : IVec S112x128 32 :=
  select (cmpi .slt k0_pay35 (broadcast S112x128 0#32)) (addi k0_pay35 (broadcast S112x128 128#32)) k0_pay35

theorem laneW_apply (j : S112x128.Idx) : laneW j = BitVec.ofNat 32 ((j 1).val / 4) := by
  have h : ∀ l : Fin 128, laneW (ix2 (0 : Fin 112) l : S112x128.Idx) = BitVec.ofNat 32 (l.val / 4) := by decide +kernel
  exact h (j 1)
theorem gathW_apply (j : S112x128.Idx) : (gathW j).toNat % 128 = 32 * ((j 1).val % 4) := by
  have h : ∀ l : Fin 128, (gathW (ix2 (0 : Fin 112) l : S112x128.Idx)).toNat % 128 = 32 * (l.val % 4) := by decide +kernel
  exact h (j 1)
theorem quartW_eq : ∀ (t : Fin 32) (k : Fin 4), quartW (BitVec.ofNat 32 t.val) (BitVec.ofNat 32 k.val) = BitVec.ofNat 32 (4 * (t.val % 8) + k.val) := by decide +kernel

theorem pay38_eq (arg0 arg15 : BitVec 32) (acc v216 : FVec Ideal S112x128 .f32) :
    k0_pay38 arg0 laneIota k0_pay35 acc arg15 v216
      = select (cmpi .eq laneW (broadcast S112x128 (quartW arg0 arg15))) (dynamicGather 1 v216 (shapeCast S112x128 (shapeCast S112x128x1 gathW shapeCasts_S112x128_S112x128x1) shapeCasts_S112x128x1_S112x128)) acc := rfl

/-- The scales of a slab put in their lanes. -/
theorem pay38_apply (t : Fin 32) (k : Fin 4) (acc : FVec Ideal S112x128 .f32) (v216 : FVec Ideal S112x128 .f32) (j : S112x128.Idx) :
    k0_pay38 (BitVec.ofNat 32 t.val) laneIota k0_pay35 acc (BitVec.ofNat 32 k.val) v216 j
      = if (j 1).val / 4 = 4 * (t.val % 8) + k.val then v216 (ix2 (j 0) ⟨32 * ((j 1).val % 4), by omega⟩ : S112x128.Idx) else acc j := by
  have hj : (j 1).val < 128 := (j 1).isLt
  have hk := k.isLt
  rw [pay38_eq, quartW_eq]
  show Scalar.select (IntOp.cmpi .eq (laneW j) (BitVec.ofNat 32 (4 * (t.val % 8) + k.val))) _ _ = _
  rw [laneW_apply, gather_apply _ _ j ⟨32 * ((j 1).val % 4), by omega⟩ (gathW_apply j)]
  by_cases h : (j 1).val / 4 = 4 * (t.val % 8) + k.val
  · rw [if_pos h, h]
    simp [IntOp.cmpi, Scalar.select]
  · rw [if_neg h]
    have hne : ¬ BitVec.ofNat 32 ((j 1).val / 4) = BitVec.ofNat 32 (4 * (t.val % 8) + k.val) := fun e => h (by
      have := congrArg BitVec.toNat e
      rw [BitVec.toNat_ofNat, BitVec.toNat_ofNat] at this
      omega)
    have hb := beq_eq_false_iff_ne.mpr hne
    simp [IntOp.cmpi, Scalar.select, hb]

/-! ### What the slab loop leaves -/

abbrev T1 := Fin k0_t1_loop.trips
/-- Within its range. -/
theorem t1_lt (t : T1) : t.val < 4 := t.isLt
theorem iv_word : ∀ k : T1, Scf.iv 0#32 1#32 k.val = BitVec.ofNat 32 k.val := by decide
/-- The offset, in closed form. -/
theorem off7_eq : ∀ t1 : T1, k0_off7 t1 = ![0, 128 * t1.val] := by decide +kernel

/-- The first `n` slabs' codes; the first `n` slabs of the dot's left operand; the carried tile after `n` slabs. -/
def XcP (X : ℕ → ℕ → EReal) (n : ℕ) (M : Memref sig .tc .vmem S112x512 .fp8e4m3) {c : Dev nD} (f : Buf (Elt Ideal) (M.view.loc (c : Thread nD τ))) : Prop :=
  ∀ y : S112x512.Idx, (y 1).val < 128 * n → M.view.read (Elt Ideal) f y = xcV X (y 0).val (y 1).val
def XqN (X : ℕ → ℕ → EReal) (n : ℕ) {c : Dev nD} (f : Buf (Elt Ideal) (xqM.view.loc (c : Thread nD τ))) : Prop :=
  ∀ y : S112x512.Idx, (y 1).val < 128 * n → xqM.view.read (Elt Ideal) f y = xqV X (y 0).val (y 1).val
def XsN (X : ℕ → ℕ → EReal) (init : FVec Ideal S112x128 .f32) (t n : ℕ) (acc : FVec Ideal S112x128 .f32) : Prop :=
  ∀ j : S112x128.Idx, acc j = if 16 * (t % 8) ≤ (j 1).val ∧ (j 1).val < 16 * (t % 8) + 4 * n then xsV X (j 0).val ((j 1).val - 16 * (t % 8)) else init j
def XHas (X : ℕ → ℕ → EReal) (M : Memref sig .tc .vmem S112x512 .bf16) {c : Dev nD} (f : Buf (Elt Ideal) (M.view.loc (c : Thread nD τ))) : Prop :=
  ∀ y : S112x512.Idx, M.view.read (Elt Ideal) f y = X (y 0).val (y 1).val

/-- A slab of the block of activations as loaded. -/
theorem slab_read (X : ℕ → ℕ → EReal) {c : Dev nD} (M : Memref sig .tc .vmem S112x512 .bf16) (f : Buf (Elt Ideal) (M.view.loc (c : Thread nD τ))) (hf : XHas X M f) (t1 : T1) (h) (j : S112x128.Idx) :
    (View.readAt (Elt Ideal) M.view (Rect.unit (s := S112x512) (k0_off7 t1) S112x128.size h).toLoadRect f : Vec Ideal S112x128 .bf16) j = X (j 0).val (128 * t1.val + (j 1).val) := by
  have h1 := t1_lt t1
  have hj : (j 1).val < 128 := (j 1).isLt
  refine (readAt_unit_eq _ _ _ _ (ix2 (j 0) ⟨128 * t1.val + (j 1).val, by omega⟩ : S112x512.Idx) (off7_eq t1) ?_).trans (hf _)
  intro a
  match a with
  | ⟨0, _⟩ => show (j 0).val = 0 + (j 0).val; omega
  | ⟨1, _⟩ => rfl

/-- A slab stored leaves the other slabs. -/
theorem slab_write {e : EltTy} {c : Dev nD} (M : Memref sig .tc .vmem S112x512 e) (f : Buf (Elt Ideal) (M.view.loc (c : Thread nD τ))) (t1 : T1) (h) (w : S112x128.Idx → Elt Ideal e)
    (V : ℕ → ℕ → Elt Ideal e) (hw : ∀ j : S112x128.Idx, w j = V (j 0).val (128 * t1.val + (j 1).val))
    (hf : ∀ y : S112x512.Idx, (y 1).val < 128 * t1.val → M.view.read (Elt Ideal) f y = V (y 0).val (y 1).val) (y : S112x512.Idx) (hy : (y 1).val < 128 * (t1.val + 1)) :
    M.view.read (Elt Ideal) (View.write (Elt Ideal) (M.access (Rect.unit (s := S112x512) (k0_off7 t1) S112x128.size h)) f w Finset.univ) y = V (y 0).val (y 1).val := by
  by_cases hin : (y 1).val < 128 * t1.val
  · refine (read_write_unit_miss M.view f h _ _ (off7_eq t1) y 1 ?_).trans (hf y hin)
    show (y 1).val < 128 * t1.val ∨ 128 * t1.val + 128 ≤ (y 1).val
    omega
  · refine (read_write_unit_hit M.view f h _ _ (off7_eq t1) (ix2 (y 0) ⟨(y 1).val - 128 * t1.val, by omega⟩ : S112x128.Idx) y ?_).trans ?_
    · intro a
      match a with
      | ⟨0, _⟩ => show (y 0).val = 0 + (y 0).val; omega
      | ⟨1, _⟩ => show (y 1).val = 128 * t1.val + ((y 1).val - 128 * t1.val); omega
    refine (hw _).trans (congrArg (V (y 0).val) ?_)
    show 128 * t1.val + ((y 1).val - 128 * t1.val) = (y 1).val
    omega

/-- One slab more in the carried scales. -/
theorem carry_step (X : ℕ → ℕ → EReal) (init acc : FVec Ideal S112x128 .f32) (i : grid0.Coords) (t1 : T1) (h : XsN X init (i 0).val t1.val acc) (kw : BitVec 32) (hkw : kw = BitVec.ofNat 32 t1.val)
    (v : Vec Ideal S112x128 .bf16) (hv : ∀ j : S112x128.Idx, v j = X (j 0).val (128 * t1.val + (j 1).val)) :
    XsN X init (i 0).val (t1.val + 1) (k0_pay38 (BitVec.ofNat 32 (i 0).val) laneIota k0_pay35 acc kw (k0_pay10 (p5 v) (p6 v) (p7 v) (p8 v))) := by
  intro j
  have h1 := t1_lt t1
  have hj : (j 1).val < 128 := (j 1).isLt
  rw [hkw, pay38_apply (i 0) t1]
  have hh := h j
  by_cases hq : (j 1).val / 4 = 4 * ((i 0).val % 8) + t1.val
  · rw [if_pos hq, pay10_val X t1.val v hv, if_pos (by omega)]
    unfold xsV
    refine congrArg (fun z => Ideal.ofBits .f32 (IntOp.shli .vector (eX X (j 0).val z) 23#32)) ?_
    show 128 * t1.val + 32 * ((j 1).val % 4) = 32 * ((j 1).val - 16 * ((i 0).val % 8))
    omega
  · rw [if_neg hq, hh]
    by_cases hr : 16 * ((i 0).val % 8) ≤ (j 1).val ∧ (j 1).val < 16 * ((i 0).val % 8) + 4 * t1.val
    · rw [if_pos hr, if_pos (by omega)]
    · rw [if_neg hr, if_neg (by omega)]

section Loops
variable (c : Dev nD) (i : grid0.Coords)
  (arg1 : Memref sig .tc .vmem S112x512 .bf16) (harg1 : arg1.IsWhole) (arg3 : Memref sig .tc .vmem S112x5376 .bf16) (harg3 : arg3.IsWhole)
  (arg4 : Memref sig .tc .vmem S112x512 .fp8e4m3) (harg4 : arg4.IsWhole) (arg5 : Memref sig .tc .vmem S112x512 .f32) (harg5 : arg5.IsWhole)
  (arg6 : Memref sig .tc .vmem S512x5376 .fp8e4m3) (harg6 : arg6.IsWhole) (arg7 : Memref sig .tc .vmem S16x5376 .f32) (harg7 : arg7.IsWhole)

set_option sl_exec.squeezeSlice true in
set_option warn.classDefReducibility false in
/-- The activation slab loop: the block read, its codes and the dot's left operand written, the scales' tile carried. -/
@[reducible] def loopInv_k0_t1 (X : ℕ → ℕ → EReal) (f1 : Buf (Elt Ideal) (arg1.view.loc (c : Thread nD τ))) (h1 : XHas X arg1 f1) (arg0 : BitVec 32) (h0 : arg0 = BitVec.ofNat 32 (i 0).val) (c8_i32 v28 v33 v38 : BitVec 32) (init : FVec Ideal S112x128 .f32) :
    LoopInvTy_k0_t1 (F := Ideal) Unit ℕ (UU nD τ) ℕ 𝒱₀ c none Set.univ i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6 arg0 laneIota k0_pay34 k0_pay35 c8_i32 v28 v33 v38 init where
  inv n acc := iprop(⌜XsN X init (i 0).val n acc⌝ ∗ (arg1.view.loc (c : Thread nD τ) ↦[arg1.view.set]{fullShare} f1)
    ∗ (∃ f, ⌜XcP X n arg4 f⌝ ∗ arg4.view.loc (c : Thread nD τ) ↦[arg4.view.set]{fullShare} f)
    ∗ (∃ f, ⌜XqN X n f⌝ ∗ xqM.view.loc (c : Thread nD τ) ↦{fullShare} f))
  step k acc := by
    iintro ⟨%hacc, H1, ⟨%f4, %h4, H4⟩, ⟨%fx, %hx, HX⟩⟩
    sl_unfold [k0_t1_body]
    sl_exec
    sl_step
    sl_unfold_run_names
    isplitr
    · ipureintro
      subst h0
      exact carry_step X init acc i k hacc _ (iv_word k) _ (slab_read X arg1 f1 h1 k (k0_off7_inb k))
    isplitl [H1]; · iexact H1
    isplitl [H4]
    · iexists _
      isplitr
      swap
      · iexact H4
      · ipureintro
        exact slab_write arg4 f4 k (k0_off7_inb k) _ (xcV X) (fun j => pay11_val X k.val _ (slab_read X arg1 f1 h1 k (k0_off7_inb k)) j) h4
    · iexists _
      isplitr
      swap
      · iexact HX
      · ipureintro
        exact slab_write xqM fx k (k0_off7_inb k) _ (xqV X) (fun j => pay37_val X k.val _ (slab_read X arg1 f1 h1 k (k0_off7_inb k)) j) hx

/-- The whole slab loop at the head of a program. -/
theorem t1_run (X : ℕ → ℕ → EReal) (f1 : Buf (Elt Ideal) (arg1.view.loc (c : Thread nD τ))) (h1 : XHas X arg1 f1) (c8_i32 v28 v33 v38 : BitVec 32) (init : FVec Ideal S112x128 .f32)
    {β : Type} {kk : FVec Ideal S112x128 .f32 → Prog (TpuEff nD τ sig (Elt Ideal) Λ₀ .tc) β} {Q : β → sProp 𝕄} :
    iprop(⌜XsN X init (i 0).val 0 init⌝ ∗ (arg1.view.loc (c : Thread nD τ) ↦[arg1.view.set]{fullShare} f1)
    ∗ (∃ f, ⌜XcP X 0 arg4 f⌝ ∗ arg4.view.loc (c : Thread nD τ) ↦[arg4.view.set]{fullShare} f)
    ∗ (∃ f, ⌜XqN X 0 f⌝ ∗ xqM.view.loc (c : Thread nD τ) ↦{fullShare} f))
    ⊢ iprop((∀ acc, iprop(⌜XsN X init (i 0).val 4 acc⌝ ∗ (arg1.view.loc (c : Thread nD τ) ↦[arg1.view.set]{fullShare} f1)
    ∗ (∃ f, ⌜XcP X 4 arg4 f⌝ ∗ arg4.view.loc (c : Thread nD τ) ↦[arg4.view.set]{fullShare} f)
    ∗ (∃ f, ⌜XqN X 4 f⌝ ∗ xqM.view.loc (c : Thread nD τ) ↦{fullShare} f)) -∗ wp frame (wpE (defs₀ (F := Ideal)) 𝒱₀ (c : Thread nD τ) none) Set.univ (kk acc) Q)
      -∗ wp frame (wpE (defs₀ (F := Ideal)) 𝒱₀ (c : Thread nD τ) none) Set.univ (Scf.for k0_t1_loop.lb k0_t1_loop.ub k0_t1_loop.st k0_t1_ok init (k0_t1_body (F := Ideal) i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6 (BitVec.ofNat 32 (i 0).val) laneIota k0_pay34 k0_pay35 c8_i32 v28 v33 v38) >>= kk) Q) :=
  run_of _ _ _ _ _ _ _ _ _ (loopInv_k0_t1 c i arg1 harg1 arg3 harg3 arg4 harg4 arg5 harg5 arg6 harg6 arg7 harg7 X f1 h1 _ rfl c8_i32 v28 v33 v38 init) _ _ rfl rfl

/-- The whole column tile loop at the head of a program. -/
theorem t2_run (A0 X W : ℕ → ℕ → EReal) (fw : Buf (Elt Ideal) ((wslot (Ring.sl 3 (i 0).val)).view.loc (c : Thread nD τ))) (hW : SlotHas W fw)
    (fx : Buf (Elt Ideal) (xqM.view.loc (c : Thread nD τ))) (hX : XqP X fx)
    {β : Type} {kk : Unit → Prog (TpuEff nD τ sig (Elt Ideal) Λ₀ .tc) β} {Q : β → sProp 𝕄} :
    iprop((∃ f, ⌜AccP A0 X W 0 f⌝ ∗ accM.view.loc (c : Thread nD τ) ↦{fullShare} f) ∗ (xqM.view.loc (c : Thread nD τ) ↦{fullShare} fx)
    ∗ (∃ f, stM.view.loc (c : Thread nD τ) ↦{fullShare} f) ∗ (∃ f, pwM.view.loc (c : Thread nD τ) ↦{fullShare} f) ∗ ((wslot (Ring.sl 3 (i 0).val)).view.loc (c : Thread nD τ) ↦[(wslot (Ring.sl 3 (i 0).val)).view.set]{fullShare} fw)
    ∗ (∃ f, ⌜WcP W (32 * 0) arg6 f⌝ ∗ arg6.view.loc (c : Thread nD τ) ↦[arg6.view.set]{fullShare} f)
    ∗ (∃ f, ⌜WsP W (4 * 0) arg7 f⌝ ∗ arg7.view.loc (c : Thread nD τ) ↦[arg7.view.set]{fullShare} f)
    ∗ (∃ f, wqM.view.loc (c : Thread nD τ) ↦{fullShare} f))
    ⊢ iprop((∀ acc, iprop((∃ f, ⌜AccP A0 X W 21 f⌝ ∗ accM.view.loc (c : Thread nD τ) ↦{fullShare} f) ∗ (xqM.view.loc (c : Thread nD τ) ↦{fullShare} fx)
    ∗ (∃ f, stM.view.loc (c : Thread nD τ) ↦{fullShare} f) ∗ (∃ f, pwM.view.loc (c : Thread nD τ) ↦{fullShare} f) ∗ ((wslot (Ring.sl 3 (i 0).val)).view.loc (c : Thread nD τ) ↦[(wslot (Ring.sl 3 (i 0).val)).view.set]{fullShare} fw)
    ∗ (∃ f, ⌜WcP W (32 * 21) arg6 f⌝ ∗ arg6.view.loc (c : Thread nD τ) ↦[arg6.view.set]{fullShare} f)
    ∗ (∃ f, ⌜WsP W (4 * 21) arg7 f⌝ ∗ arg7.view.loc (c : Thread nD τ) ↦[arg7.view.set]{fullShare} f)
    ∗ (∃ f, wqM.view.loc (c : Thread nD τ) ↦{fullShare} f)) -∗ wp frame (wpE (defs₀ (F := Ideal)) 𝒱₀ (c : Thread nD τ) none) Set.univ (kk acc) Q)
      -∗ wp frame (wpE (defs₀ (F := Ideal)) 𝒱₀ (c : Thread nD τ) none) Set.univ (Scf.for k0_t2_loop.lb k0_t2_loop.ub k0_t2_loop.st k0_t2_ok () (k0_t2_body (F := Ideal) i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6) >>= kk) Q) :=
  run_of _ _ _ _ _ _ _ _ _ (loopInv_k0_t2 c i arg1 harg1 arg3 harg3 arg4 harg4 arg5 harg5 arg6 harg6 arg7 harg7 A0 X W fw hW fx hX) _ _ rfl rfl

end Loops

end Cert.Proof.KV

end
-- ==== Proof.KVBody.lean ====
/- One grid point of the printed kernel, with what its windows and its accumulator hold: the point's transfers issued, its block waited for, the
   quantisation loops run; by the first point, a middle point, and the last two. -/
module

public import proofs.«01_k».proof.Proof.KVAct

@[expose] public section

noncomputable section

namespace Cert.Proof.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UU nD τ) ℕ

/-- Ownership of part of a buffer can be kept in an invariant. -/
theorem pts_storable (ℓ : Loc nD τ sig) (I : Finset (Idx ℓ)) (q : PosShare TreeShare) (f : Buf (Elt Ideal) ℓ) :
    BI.Storable (upEmb : UEmb _ 𝕄) (ℓ ↦[I]{q} f : sProp 𝕄) := inferInstance
instance deliv_storable (c : Dev nD) (XA : Buf (Elt Ideal) (aM.view.loc (c : Thread nD τ))) (s : Fin 3) (b : Fin 32) (f : HB c × HB c) (h : Fin 2) :
    BI.Storable (upEmb : UEmb _ 𝕄) (deliv c XA s b f h) := by
  unfold deliv
  haveI h1 : BI.Storable (upEmb : UEmb _ 𝕄) (halfP c s h (landed c XA s b h (if h = 0 then f.1 else f.2))) := pts_storable _ _ _ _
  haveI h2 : BI.Storable (upEmb : UEmb _ 𝕄) (hhomeP c XA b h) := pts_storable _ _ _ _
  exact @Storable.sep _ _ _ _ _ _ _ _ h1 h2

/-- Where the slab of 128 scales lies at a point. -/
theorem off6_eq : ∀ i : grid0.Coords, k0_off6 i = ![0, 128 * ((i 0).val / 8)] := by decide +kernel
instance closedOff_off6 (i : grid0.Coords) : ClosedOff (k0_off6 i) := ⟨![0, 128 * ((i 0).val / 8)], off6_eq i⟩

/-- The accumulator holds `A0`. -/
def AccS (A0 : ℕ → ℕ → EReal) {c : Dev nD} (f : Buf (Elt Ideal) (accM.view.loc (c : Thread nD τ))) : Prop :=
  ∀ y : S112x5376.Idx, accM.view.read (Elt Ideal) f y = A0 (y 0).val (y 1).val
/-- The activation scales' window holds `S`. -/
def XsS (S : ℕ → ℕ → EReal) (M : Memref sig .tc .vmem S112x512 .f32) {c : Dev nD} (f : Buf (Elt Ideal) (M.view.loc (c : Thread nD τ))) : Prop :=
  ∀ y : S112x512.Idx, M.view.read (Elt Ideal) f y = S (y 0).val (y 1).val
/-- The activation scales once point `t` has put its sixteen columns over `S`. -/
def xsNew (X S : ℕ → ℕ → EReal) (t r g : ℕ) : EReal := if 16 * t ≤ g ∧ g < 16 * t + 16 then xsV X r (g - 16 * t) else S r g
/-- The accumulator once a block has been added to `A0`. -/
def accNew (A0 X W : ℕ → ℕ → EReal) (r c : ℕ) : EReal := A0 r c + dotV (xqV X) W r c

theorem accP_zero {A0 X W : ℕ → ℕ → EReal} {c : Dev nD} {f : Buf (Elt Ideal) (accM.view.loc (c : Thread nD τ))} (h : AccS A0 f) : AccP A0 X W 0 f :=
  fun y => by rw [if_neg (by omega)]; exact h y
theorem accP_all {A0 X W : ℕ → ℕ → EReal} {c : Dev nD} {f : Buf (Elt Ideal) (accM.view.loc (c : Thread nD τ))} (h : AccP A0 (xqV X) W 21 f) : AccS (accNew A0 X W) f :=
  fun y => by rw [h y, if_pos (by have h5 : (y 1).val < 5376 := (y 1).isLt; omega)]; rfl
theorem xqN_all {X : ℕ → ℕ → EReal} {c : Dev nD} {f : Buf (Elt Ideal) (xqM.view.loc (c : Thread nD τ))} (h : XqN X 4 f) : XqP (xqV X) f :=
  fun y => h y (by have h5 : (y 1).val < 512 := (y 1).isLt; omega)
theorem xqN_zero {X : ℕ → ℕ → EReal} {c : Dev nD} {f : Buf (Elt Ideal) (xqM.view.loc (c : Thread nD τ))} : XqN X 0 f :=
  fun y h => absurd h (by omega)
theorem xcP_zero {X : ℕ → ℕ → EReal} {M : Memref sig .tc .vmem S112x512 .fp8e4m3} {c : Dev nD} {f : Buf (Elt Ideal) (M.view.loc (c : Thread nD τ))} : XcP X 0 M f :=
  fun y h => absurd h (by omega)
theorem wcP_zero {W : ℕ → ℕ → EReal} {M : Memref sig .tc .vmem S512x5376 .fp8e4m3} {c : Dev nD} {f : Buf (Elt Ideal) (M.view.loc (c : Thread nD τ))} : WcP W (32 * 0) M f :=
  fun y h => absurd h (by omega)
theorem wsP_zero {W : ℕ → ℕ → EReal} {M : Memref sig .tc .vmem S16x5376 .f32} {c : Dev nD} {f : Buf (Elt Ideal) (M.view.loc (c : Thread nD τ))} : WsP W (4 * 0) M f :=
  fun y h => absurd h (by omega)
theorem xsN_zero {X : ℕ → ℕ → EReal} {t : ℕ} {init : FVec Ideal S112x128 .f32} : XsN X init t 0 init :=
  fun j => by rw [if_neg (by omega)]

/-- The accumulator cast to bf16 is itself. -/
theorem pay36_apply (v : Vec Ideal S112x128 .f32) (j : S112x128.Idx) : k0_pay36 (F := Ideal) v j = v j := by
  unfold k0_pay36
  exact congrFun (shapeCast_self _ _) j

/-- The sixteen columns put back over the activation scales. -/
theorem xs_store {X S : ℕ → ℕ → EReal} (i : grid0.Coords) {M : Memref sig .tc .vmem S112x512 .f32} {c : Dev nD} {f : Buf (Elt Ideal) (M.view.loc (c : Thread nD τ))}
    (h : XsS S M f) (acc : FVec Ideal S112x128 .f32) (h1 h2)
    (ha : XsN X (k0_pay36 (F := Ideal) (View.readAt (Elt Ideal) M.view (Rect.unit (s := S112x512) (k0_off6 i) S112x128.size h1).toLoadRect f)) (i 0).val 4 acc) :
    XsS (c := c) (xsNew X S (i 0).val) M (View.write (Elt Ideal) (M.access (Rect.unit (s := S112x512) (k0_off6 i) S112x128.size h2)) f acc Finset.univ) := by
  intro y
  have ht : (i 0).val < 32 := (i 0).isLt
  have hy : (y 1).val < 512 := (y 1).isLt
  unfold xsNew
  by_cases hin : 128 * ((i 0).val / 8) ≤ (y 1).val ∧ (y 1).val < 128 * ((i 0).val / 8) + 128
  · refine (read_write_unit_hit M.view f h2 _ _ (off6_eq i) (ix2 (y 0) ⟨(y 1).val - 128 * ((i 0).val / 8), by omega⟩ : S112x128.Idx) y ?_).trans ?_
    · intro a
      match a with
      | ⟨0, _⟩ => show (y 0).val = 0 + (y 0).val; omega
      | ⟨1, _⟩ => show (y 1).val = 128 * ((i 0).val / 8) + ((y 1).val - 128 * ((i 0).val / 8)); omega
    by_cases hq : 16 * (i 0).val ≤ (y 1).val ∧ (y 1).val < 16 * (i 0).val + 16
    · rw [if_pos hq]
      refine ((ha _).trans (if_pos (show 16 * ((i 0).val % 8) ≤ (y 1).val - 128 * ((i 0).val / 8) ∧ (y 1).val - 128 * ((i 0).val / 8) < 16 * ((i 0).val % 8) + 4 * 4 by omega))).trans ?_
      refine congrArg (xsV X (y 0).val) ?_
      show (y 1).val - 128 * ((i 0).val / 8) - 16 * ((i 0).val % 8) = (y 1).val - 16 * (i 0).val
      omega
    · rw [if_neg hq]
      refine ((ha _).trans (if_neg (show ¬(16 * ((i 0).val % 8) ≤ (y 1).val - 128 * ((i 0).val / 8) ∧ (y 1).val - 128 * ((i 0).val / 8) < 16 * ((i 0).val % 8) + 4 * 4) by omega))).trans ?_
      refine (pay36_apply _ _).trans ?_
      refine (readAt_unit_eq _ _ _ _ y (off6_eq i) ?_).trans (h y)
      intro a
      match a with
      | ⟨0, _⟩ => show (y 0).val = 0 + (y 0).val; omega
      | ⟨1, _⟩ => show (y 1).val = 128 * ((i 0).val / 8) + ((y 1).val - 128 * ((i 0).val / 8)); omega
  · rw [if_neg (by omega)]
    refine (read_write_unit_miss M.view f h2 _ _ (off6_eq i) y 1 ?_).trans (h y)
    show (y 1).val < 128 * ((i 0).val / 8) ∨ 128 * ((i 0).val / 8) + 128 ≤ (y 1).val
    omega

/-- A store over the whole of a matrix leaves what was stored. -/
theorem whole_store {κ : Kind} {sp : Space} {n0 n1 : ℕ} {e : EltTy} (v : View sig κ sp ⟨2, ![n0, n1]⟩ e) (f : v.ty.Contents (Elt Ideal)) (h) (w : (⟨2, ![n0, n1]⟩ : Shape).Idx → Elt Ideal e) (y : (⟨2, ![n0, n1]⟩ : Shape).Idx) :
    v.read (Elt Ideal) ((v.slice (Rect.unit (s := ⟨2, ![n0, n1]⟩) ![0, 0] (⟨2, ![n0, n1]⟩ : Shape).size h)).write (Elt Ideal) f w Finset.univ) y = w y := by
  refine read_write_unit_hit v f h w _ rfl y y fun a => ?_
  match a with
  | ⟨0, _⟩ => show (y 0).val = 0 + (y 0).val; omega
  | ⟨1, _⟩ => show (y 1).val = 0 + (y 1).val; omega
/-- A load of the whole of the accumulator reads it. -/
theorem acc_load {c : Dev nD} (f : Buf (Elt Ideal) (accM.view.loc (c : Thread nD τ))) (h) (y : S112x5376.Idx) :
    View.readAt (Elt Ideal) accM.view (Rect.unit (s := S112x5376) ![0, 0] S112x5376.size h).toLoadRect f y = accM.view.read (Elt Ideal) f y := by
  refine readAt_unit_eq _ _ _ _ y rfl fun a => ?_
  match a with
  | ⟨0, _⟩ => show (y 0).val = 0 + (y 0).val; omega
  | ⟨1, _⟩ => show (y 1).val = 0 + (y 1).val; omega
/-- The word 0 is zero. -/
theorem zero_word : Ideal.ofBits .f32 0x00000000#32 = 0 := by
  simp [Ideal.ofBits, Ideal.ieee]
/-- The accumulator starts at zero. -/
theorem pay32_apply (y : S112x5376.Idx) : k0_pay32 (F := Ideal) y = 0 := by
  unfold k0_pay32
  exact (congrFun (shapeCast_self _ _) y).trans zero_word
/-- The zero accumulator the first point stores. -/
theorem acc_zero {c : Dev nD} (f : Buf (Elt Ideal) (accM.view.loc (c : Thread nD τ))) (h) :
    AccS (c := c) (fun _ _ => 0) (View.write (Elt Ideal) (accM.access (Rect.unit (s := S112x5376) ![0, 0] S112x5376.size h)) f (k0_pay32 (F := Ideal)) Finset.univ) :=
  fun y => (whole_store (e := .f32) accM.view f h (k0_pay32 (F := Ideal)) y).trans (pay32_apply y)
/-- The zero scales the first point stores. -/
theorem xs_zero {M : Memref sig .tc .vmem S112x512 .f32} {c : Dev nD} (f : Buf (Elt Ideal) (M.view.loc (c : Thread nD τ))) (h) :
    XsS (c := c) (fun _ _ => 0) M (View.write (Elt Ideal) (M.access (Rect.unit (s := S112x512) ![0, 0] S112x512.size h)) f (k0_pay33 (F := Ideal)) Finset.univ) :=
  fun y => (whole_store (e := .f32) M.view f h (k0_pay33 (F := Ideal)) y).trans zero_word
/-- The product the last point stores. -/
theorem y_store {A0 X W : ℕ → ℕ → EReal} {M : Memref sig .tc .vmem S112x5376 .bf16} {c : Dev nD} (f : Buf (Elt Ideal) (M.view.loc (c : Thread nD τ))) {fa : Buf (Elt Ideal) (accM.view.loc (c : Thread nD τ))}
    (ha : AccP A0 (xqV X) W 21 fa) (h h') (y : S112x5376.Idx) :
    M.view.read (Elt Ideal) (View.write (Elt Ideal) (M.access (Rect.unit (s := S112x5376) ![0, 0] S112x5376.size h)) f
      (k0_pay1 (View.readAt (Elt Ideal) accM.view (Rect.unit (s := S112x5376) ![0, 0] S112x5376.size h').toLoadRect fa)) Finset.univ) y = accNew A0 X W (y 0).val (y 1).val :=
  (whole_store M.view f h _ y).trans ((acc_load fa h' y).trans (accP_all ha y))

section Body
variable (c : Dev nD) (XA : Buf (Elt Ideal) (aM.view.loc (c : Thread nD τ))) (i : grid0.Coords)
  (arg1 : Memref sig .tc .vmem S112x512 .bf16) (harg1 : arg1.IsWhole) (arg3 : Memref sig .tc .vmem S112x5376 .bf16) (harg3 : arg3.IsWhole)
  (arg4 : Memref sig .tc .vmem S112x512 .fp8e4m3) (harg4 : arg4.IsWhole) (arg5 : Memref sig .tc .vmem S112x512 .f32) (harg5 : arg5.IsWhole)
  (arg6 : Memref sig .tc .vmem S512x5376 .fp8e4m3) (harg6 : arg6.IsWhole) (arg7 : Memref sig .tc .vmem S16x5376 .f32) (harg7 : arg7.IsWhole)

/-- The body on the given staging memrefs; the weights, the scratch and the cells its own. -/
abbrev bodyG : Prog (TpuEff nD τ sig (Elt Ideal) Λ₀ .tc) PUnit :=
  cc0_mxfp8_requant_matmul i arg1 harg1 aM (Memref.isWhole_whole _) arg3 harg3 arg4 harg4 arg5 harg5 arg6 harg6 arg7 harg7 accM (Memref.isWhole_whole _) xqM (Memref.isWhole_whole _) wqM (Memref.isWhole_whole _) stM (Memref.isWhole_whole _) pwM (Memref.isWhole_whole _) bufM (Memref.isWhole_whole _) cc0_scratch6

/-- The windows' staging buffers but the product's before a point: the activations and the scales known. -/
abbrev wpre (X S : ℕ → ℕ → EReal) : sProp 𝕄 := iprop((∃ f, ⌜XHas X arg1 f⌝ ∗ arg1.view.loc (c : Thread nD τ) ↦[arg1.view.set]{fullShare} f) ∗ held c arg4 ∗ (∃ f, ⌜XsS S arg5 f⌝ ∗ arg5.view.loc (c : Thread nD τ) ↦[arg5.view.set]{fullShare} f) ∗ held c arg6 ∗ held c arg7)
/-- Before the first point: the scales' buffer at some contents. -/
abbrev wpre0 (X : ℕ → ℕ → EReal) : sProp 𝕄 := iprop((∃ f, ⌜XHas X arg1 f⌝ ∗ arg1.view.loc (c : Thread nD τ) ↦[arg1.view.set]{fullShare} f) ∗ held c arg4 ∗ held c arg5 ∗ held c arg6 ∗ held c arg7)
/-- After a point: all of them known. -/
abbrev wpost (X S W : ℕ → ℕ → EReal) : sProp 𝕄 := iprop((∃ f, ⌜XHas X arg1 f⌝ ∗ arg1.view.loc (c : Thread nD τ) ↦[arg1.view.set]{fullShare} f) ∗ (∃ f, ⌜XcP X 4 arg4 f⌝ ∗ arg4.view.loc (c : Thread nD τ) ↦[arg4.view.set]{fullShare} f) ∗ (∃ f, ⌜XsS S arg5 f⌝ ∗ arg5.view.loc (c : Thread nD τ) ↦[arg5.view.set]{fullShare} f) ∗ (∃ f, ⌜WcP W (32 * 21) arg6 f⌝ ∗ arg6.view.loc (c : Thread nD τ) ↦[arg6.view.set]{fullShare} f) ∗ (∃ f, ⌜WsP W (4 * 21) arg7 f⌝ ∗ arg7.view.loc (c : Thread nD τ) ↦[arg7.view.set]{fullShare} f))
/-- The scratch buffers but the ring: the accumulator at some contents, or at `A0`. -/
abbrev scr0 : sProp 𝕄 := iprop(heldW c accM ∗ heldW c xqM ∗ heldW c wqM ∗ heldW c stM ∗ heldW c pwM)
abbrev scr (A0 : ℕ → ℕ → EReal) : sProp 𝕄 := iprop((∃ f, ⌜AccS A0 f⌝ ∗ accM.view.loc (c : Thread nD τ) ↦{fullShare} f) ∗ heldW c xqM ∗ heldW c wqM ∗ heldW c stM ∗ heldW c pwM)

/-- The body's first conditional. -/
abbrev cond1 : Prop := Scalar.cmpi .ne (Scalar.extui (Scalar.cmpi .eq (BitVec.ofNat 32 (i 0).val) 0#32) : BitVec 32) 0#32 = 1#1

set_option maxRecDepth 8000 in
/-- The first point: blocks 0, 1 and 2 go out, block 0 is waited for. -/
theorem runFirst (A : ℕ → ℕ → ℕ → ℕ → ℕ → EReal) (hA : AHas A XA) (X : ℕ → ℕ → EReal) (hz : (i 0).val = 0) (h1 : cond1 i) (h2 : k0_cond2 i = 1#1) (h3 : ¬k0_cond3 i = 1#1) (hk : (i 0).val + 2 < 32) (W : Waits sig Unit)
    (f0 f1 f2 : HB c × HB c) (Q : PUnit → sProp 𝕄) :
    iprop((wpre0 c arg1 arg4 arg5 arg6 arg7 X ∗ scr0 c ∗ homeP c XA (Ring.bk 32 (i 0).val) ∗ homeP c XA (Ring.bk 32 ((i 0).val + 1)) ∗ homeP c XA (Ring.bk 32 ((i 0).val + 2)) ∗ cellP c (Ring.sl 3 (i 0).val) ∗ slotP c (Ring.sl 3 (i 0).val) f0 ∗ cellP c (Ring.sl 3 ((i 0).val + 1)) ∗ slotP c (Ring.sl 3 ((i 0).val + 1)) f1 ∗ cellP c (Ring.sl 3 ((i 0).val + 2)) ∗ slotP c (Ring.sl 3 ((i 0).val + 2)) f2 ∗ owes (c : Thread nD τ) 0 W)
      ∗ ((wpost c arg1 arg4 arg5 arg6 arg7 X (xsNew X (fun _ _ => 0) (i 0).val) (WB A (Ring.bk 32 (i 0).val : Fin 32).val) ∗ scr c (accNew (fun _ _ => 0) X (WB A (Ring.bk 32 (i 0).val : Fin 32).val)) ∗ homeP c XA (Ring.bk 32 (i 0).val) ∗ cellP c (Ring.sl 3 (i 0).val) ∗ (∃ f, slotP c (Ring.sl 3 (i 0).val) f) ∗ (∃ f, flightP c XA (Ring.sl 3 ((i 0).val + 1)) (Ring.bk 32 ((i 0).val + 1)) f) ∗ (∃ f, flightP c XA (Ring.sl 3 ((i 0).val + 2)) (Ring.bk 32 ((i 0).val + 2)) f) ∗ ∃ W, owes (c : Thread nD τ) 0 W) -∗ Q ⟨⟩))
      ⊢ wp frame (wpE (defs₀ (F := Ideal)) 𝒱₀ (c : Thread nD τ) none) Set.univ (bodyG i arg1 harg1 arg3 harg3 arg4 harg4 arg5 harg5 arg6 harg6 arg7 harg7) Q := by
  iintro ⟨⟨⟨⟨%g1, %hg1, H1⟩, ⟨%g4, H4⟩, ⟨%g5, H5⟩, ⟨%g6, H6⟩, ⟨%g7, H7⟩⟩, ⟨⟨%ga, HA⟩, ⟨%gx, HX⟩, ⟨%gw, HQ⟩, ⟨%gs, HS⟩, ⟨%gp, HP⟩⟩, ⟨Hh0, Hh1⟩, ⟨Hh2, Hh3⟩, ⟨Hh4, Hh5⟩, HcHF, ⟨Hs0, Hs1⟩, HcHC, ⟨Hs2, Hs3⟩, HcHB, ⟨Hs4, Hs5⟩, HW⟩, Hk⟩
  have hs0 : (Ring.sl 3 (i 0).val : Fin 3) = 0 := by rw [hz]; rfl
  have hb0 : (Ring.bk 32 (i 0).val : Fin 32) = 0 := by rw [hz]; rfl
  have hcanonS0 : csm 0 = csm (Ring.sl 3 (i 0).val) := by rw [hs0]
  have hcanonR00 : rslot 0 0 = rslot (Ring.sl 3 (i 0).val) 0 := by rw [hs0]
  have hcanonG00 : grp 0 0 = grp (Ring.bk 32 (i 0).val) 0 := by rw [hb0]
  have hcanonR01 : rslot 0 1 = rslot (Ring.sl 3 (i 0).val) 1 := by rw [hs0]
  have hcanonG01 : grp 0 1 = grp (Ring.bk 32 (i 0).val) 1 := by rw [hb0]
  have hs1 : (Ring.sl 3 ((i 0).val + 1) : Fin 3) = 1 := by rw [hz]; rfl
  have hb1 : (Ring.bk 32 ((i 0).val + 1) : Fin 32) = 1 := by rw [hz]; rfl
  have hcanonS1 : csm 1 = csm (Ring.sl 3 ((i 0).val + 1)) := by rw [hs1]
  have hcanonR10 : rslot 1 0 = rslot (Ring.sl 3 ((i 0).val + 1)) 0 := by rw [hs1]
  have hcanonG10 : grp 1 0 = grp (Ring.bk 32 ((i 0).val + 1)) 0 := by rw [hb1]
  have hcanonR11 : rslot 1 1 = rslot (Ring.sl 3 ((i 0).val + 1)) 1 := by rw [hs1]
  have hcanonG11 : grp 1 1 = grp (Ring.bk 32 ((i 0).val + 1)) 1 := by rw [hb1]
  imod (Transfers.batch_alloc' (Lvl := ℕ) countersEmb (c : Thread nD τ) () (NN (Ring.sl 3 (i 0).val)) (deliv c XA (Ring.sl 3 (i 0).val) (Ring.bk 32 (i 0).val) f0) (sm := .dma (csm (Ring.sl 3 (i 0).val)).sem) (E := Set.univ)) $$ HcHF with HF
  imod (Transfers.batch_alloc' (Lvl := ℕ) countersEmb (c : Thread nD τ) () (NN (Ring.sl 3 ((i 0).val + 1))) (deliv c XA (Ring.sl 3 ((i 0).val + 1)) (Ring.bk 32 ((i 0).val + 1)) f1) (sm := .dma (csm (Ring.sl 3 ((i 0).val + 1))).sem) (E := Set.univ)) $$ HcHC with HC
  imod (Transfers.batch_alloc' (Lvl := ℕ) countersEmb (c : Thread nD τ) () (NN (Ring.sl 3 ((i 0).val + 2))) (deliv c XA (Ring.sl 3 ((i 0).val + 2)) (Ring.bk 32 ((i 0).val + 2)) f2) (sm := .dma (csm (Ring.sl 3 ((i 0).val + 2))).sem) (E := Set.univ)) $$ HcHB with HB
  unfold bodyG
  sl_unfold [cc0_mxfp8_requant_matmul]
  sl_exec
  iapply (t1_run c i arg1 harg1 arg3 harg3 arg4 harg4 arg5 harg5 arg6 harg6 arg7 harg7 X _ hg1) $$ [H1 H4 HX]
  · isplitr; · ipureintro; exact xsN_zero
    isplitl [H1]; · iexact H1
    isplitl [H4]
    · iexists _; isplitr; swap; · iexact H4
      ipureintro; exact xcP_zero
    iexists _; isplitr; swap; · iexact HX
    ipureintro; exact xqN_zero
  iintro %acc ⟨%hacc, H1, ⟨%g4', %hg4, H4⟩, ⟨%gx', %hgx, HX⟩⟩
  sl_exec
  ihave HWS := (wslot_join_val A c XA hA (Ring.sl 3 (i 0).val) (Ring.bk 32 (i 0).val) _ _) $$ [HF_dst0 HF_dst1]
  · isplitl [HF_dst0]; · iexact HF_dst0
    iexact HF_dst1
  icases HWS with ⟨%gW, %hgW, HWS⟩
  iapply (t2_run c i arg1 harg1 arg3 harg3 arg4 harg4 arg5 harg5 arg6 harg6 arg7 harg7 (fun _ _ => 0) (xqV X) _ gW hgW _ (xqN_all hgx)) $$ [HA HX HS HP HWS H6 H7 HQ]
  · isplitl [HA]
    · iexists _; isplitr; swap; · iexact HA
      ipureintro; exact accP_zero (acc_zero _ inb_S112x5376_S112x5376_0_0)
    isplitl [HX]; · iexact HX
    isplitl [HS]; · iexists _; iexact HS
    isplitl [HP]; · iexists _; iexact HP
    isplitl [HWS]; · iexact HWS
    isplitl [H6]
    · iexists _; isplitr; swap; · iexact H6
      ipureintro; exact wcP_zero
    isplitl [H7]
    · iexists _; isplitr; swap; · iexact H7
      ipureintro; exact wsP_zero
    iexists _; iexact HQ
  iintro %acc2 ⟨⟨%ga', %hga', HA⟩, HX, ⟨%gs', HS⟩, ⟨%gp', HP⟩, HWS, ⟨%g6', %hg6, H6⟩, ⟨%g7', %hg7, H7⟩, ⟨%gq', HQ⟩⟩
  sl_exec
  sl_step
  ihave HSP := (wslot_split c (Ring.sl 3 (i 0).val)) $$ [HWS]
  · iexists _; iexact HWS
  iapply Hk
  isplitl [H1 H4 H5 H6 H7]
  · isplitl [H1]
    · iexists _; isplitr; swap; · iexact H1
      ipureintro; exact hg1
    isplitl [H4]
    · iexists _; isplitr; swap; · iexact H4
      ipureintro; exact hg4
    isplitl [H5]
    · iexists _; isplitr; swap; · iexact H5
      ipureintro; exact xs_store i (xs_zero _ inb_S112x512_S112x512_0_0) acc _ (k0_off6_inb i) hacc
    isplitl [H6]
    · iexists _; isplitr; swap; · iexact H6
      ipureintro; exact hg6
    iexists _; isplitr; swap; · iexact H7
    ipureintro; exact hg7
  isplitl [HA HX HQ HS HP]
  · isplitl [HA]
    · iexists _; isplitr; swap; · iexact HA
      ipureintro; exact accP_all hga'
    isplitl [HX]; · iexists _; iexact HX
    isplitl [HQ]; · iexists _; iexact HQ
    isplitl [HS]; · iexists _; iexact HS
    iexists _; iexact HP
  isplitl [HF_src0 HF_src1]
  · isplitl [HF_src0]; · iexact HF_src0
    iexact HF_src1
  isplitl [HF]; · iexact HF
  isplitl [HSP]; · iexact HSP
  isplitl [HC]; · iexists _; iexact HC
  isplitl [HB]; · iexists _; iexact HB
  iexists _; iexact HW

set_option maxRecDepth 8000 in
/-- A middle point: block `i + 2` goes out, block `i` is waited for. -/
theorem runMid (A : ℕ → ℕ → ℕ → ℕ → ℕ → EReal) (hA : AHas A XA) (X S A0 : ℕ → ℕ → EReal) (h1 : ¬cond1 i) (h2 : k0_cond2 i = 1#1) (h3 : ¬k0_cond3 i = 1#1) (hk : (i 0).val + 2 < 32) (W : Waits sig Unit)
    (f0 f2 : HB c × HB c) (Q : PUnit → sProp 𝕄) :
    iprop((wpre c arg1 arg4 arg5 arg6 arg7 X S ∗ scr c A0 ∗ homeP c XA (Ring.bk 32 ((i 0).val + 2)) ∗ flightP c XA (Ring.sl 3 (i 0).val) (Ring.bk 32 (i 0).val) f0 ∗ cellP c (Ring.sl 3 ((i 0).val + 2)) ∗ slotP c (Ring.sl 3 ((i 0).val + 2)) f2 ∗ owes (c : Thread nD τ) 0 W)
      ∗ ((wpost c arg1 arg4 arg5 arg6 arg7 X (xsNew X S (i 0).val) (WB A (Ring.bk 32 (i 0).val : Fin 32).val) ∗ scr c (accNew A0 X (WB A (Ring.bk 32 (i 0).val : Fin 32).val)) ∗ homeP c XA (Ring.bk 32 (i 0).val) ∗ cellP c (Ring.sl 3 (i 0).val) ∗ (∃ f, slotP c (Ring.sl 3 (i 0).val) f) ∗ (∃ f, flightP c XA (Ring.sl 3 ((i 0).val + 2)) (Ring.bk 32 ((i 0).val + 2)) f) ∗ ∃ W, owes (c : Thread nD τ) 0 W) -∗ Q ⟨⟩))
      ⊢ wp frame (wpE (defs₀ (F := Ideal)) 𝒱₀ (c : Thread nD τ) none) Set.univ (bodyG i arg1 harg1 arg3 harg3 arg4 harg4 arg5 harg5 arg6 harg6 arg7 harg7) Q := by
  iintro ⟨⟨⟨⟨%g1, %hg1, H1⟩, ⟨%g4, H4⟩, ⟨%g5, %hg5, H5⟩, ⟨%g6, H6⟩, ⟨%g7, H7⟩⟩, ⟨⟨%ga, %hga, HA⟩, ⟨%gx, HX⟩, ⟨%gw, HQ⟩, ⟨%gs, HS⟩, ⟨%gp, HP⟩⟩, ⟨Hh0, Hh1⟩, HF, HcHB, ⟨Hs0, Hs1⟩, HW⟩, Hk⟩
  imod (Transfers.batch_alloc' (Lvl := ℕ) countersEmb (c : Thread nD τ) () (NN (Ring.sl 3 ((i 0).val + 2))) (deliv c XA (Ring.sl 3 ((i 0).val + 2)) (Ring.bk 32 ((i 0).val + 2)) f2) (sm := .dma (csm (Ring.sl 3 ((i 0).val + 2))).sem) (E := Set.univ)) $$ HcHB with HB
  unfold bodyG
  sl_unfold [cc0_mxfp8_requant_matmul]
  sl_exec
  iapply (t1_run c i arg1 harg1 arg3 harg3 arg4 harg4 arg5 harg5 arg6 harg6 arg7 harg7 X _ hg1) $$ [H1 H4 HX]
  · isplitr; · ipureintro; exact xsN_zero
    isplitl [H1]; · iexact H1
    isplitl [H4]
    · iexists _; isplitr; swap; · iexact H4
      ipureintro; exact xcP_zero
    iexists _; isplitr; swap; · iexact HX
    ipureintro; exact xqN_zero
  iintro %acc ⟨%hacc, H1, ⟨%g4', %hg4, H4⟩, ⟨%gx', %hgx, HX⟩⟩
  sl_exec
  ihave HWS := (wslot_join_val A c XA hA (Ring.sl 3 (i 0).val) (Ring.bk 32 (i 0).val) _ _) $$ [HF_dst0 HF_dst1]
  · isplitl [HF_dst0]; · iexact HF_dst0
    iexact HF_dst1
  icases HWS with ⟨%gW, %hgW, HWS⟩
  iapply (t2_run c i arg1 harg1 arg3 harg3 arg4 harg4 arg5 harg5 arg6 harg6 arg7 harg7 A0 (xqV X) _ gW hgW _ (xqN_all hgx)) $$ [HA HX HS HP HWS H6 H7 HQ]
  · isplitl [HA]
    · iexists _; isplitr; swap; · iexact HA
      ipureintro; exact accP_zero hga
    isplitl [HX]; · iexact HX
    isplitl [HS]; · iexists _; iexact HS
    isplitl [HP]; · iexists _; iexact HP
    isplitl [HWS]; · iexact HWS
    isplitl [H6]
    · iexists _; isplitr; swap; · iexact H6
      ipureintro; exact wcP_zero
    isplitl [H7]
    · iexists _; isplitr; swap; · iexact H7
      ipureintro; exact wsP_zero
    iexists _; iexact HQ
  iintro %acc2 ⟨⟨%ga', %hga', HA⟩, HX, ⟨%gs', HS⟩, ⟨%gp', HP⟩, HWS, ⟨%g6', %hg6, H6⟩, ⟨%g7', %hg7, H7⟩, ⟨%gq', HQ⟩⟩
  sl_exec
  sl_step
  ihave HSP := (wslot_split c (Ring.sl 3 (i 0).val)) $$ [HWS]
  · iexists _; iexact HWS
  iapply Hk
  isplitl [H1 H4 H5 H6 H7]
  · isplitl [H1]
    · iexists _; isplitr; swap; · iexact H1
      ipureintro; exact hg1
    isplitl [H4]
    · iexists _; isplitr; swap; · iexact H4
      ipureintro; exact hg4
    isplitl [H5]
    · iexists _; isplitr; swap; · iexact H5
      ipureintro; exact xs_store i hg5 acc _ (k0_off6_inb i) hacc
    isplitl [H6]
    · iexists _; isplitr; swap; · iexact H6
      ipureintro; exact hg6
    iexists _; isplitr; swap; · iexact H7
    ipureintro; exact hg7
  isplitl [HA HX HQ HS HP]
  · isplitl [HA]
    · iexists _; isplitr; swap; · iexact HA
      ipureintro; exact accP_all hga'
    isplitl [HX]; · iexists _; iexact HX
    isplitl [HQ]; · iexists _; iexact HQ
    isplitl [HS]; · iexists _; iexact HS
    iexists _; iexact HP
  isplitl [HF_src0 HF_src1]
  · isplitl [HF_src0]; · iexact HF_src0
    iexact HF_src1
  isplitl [HF]; · iexact HF
  isplitl [HSP]; · iexact HSP
  isplitl [HB]; · iexists _; iexact HB
  iexists _; iexact HW

set_option maxRecDepth 8000 in
/-- The last point but one: nothing goes out, block `i` is waited for. -/
theorem runTail (A : ℕ → ℕ → ℕ → ℕ → ℕ → EReal) (hA : AHas A XA) (X S A0 : ℕ → ℕ → EReal) (h1 : ¬cond1 i) (h2 : ¬k0_cond2 i = 1#1) (h3 : ¬k0_cond3 i = 1#1) (W : Waits sig Unit)
    (f0 : HB c × HB c) (Q : PUnit → sProp 𝕄) :
    iprop((wpre c arg1 arg4 arg5 arg6 arg7 X S ∗ scr c A0 ∗ flightP c XA (Ring.sl 3 (i 0).val) (Ring.bk 32 (i 0).val) f0 ∗ owes (c : Thread nD τ) 0 W)
      ∗ ((wpost c arg1 arg4 arg5 arg6 arg7 X (xsNew X S (i 0).val) (WB A (Ring.bk 32 (i 0).val : Fin 32).val) ∗ scr c (accNew A0 X (WB A (Ring.bk 32 (i 0).val : Fin 32).val)) ∗ homeP c XA (Ring.bk 32 (i 0).val) ∗ cellP c (Ring.sl 3 (i 0).val) ∗ (∃ f, slotP c (Ring.sl 3 (i 0).val) f) ∗ ∃ W, owes (c : Thread nD τ) 0 W) -∗ Q ⟨⟩))
      ⊢ wp frame (wpE (defs₀ (F := Ideal)) 𝒱₀ (c : Thread nD τ) none) Set.univ (bodyG i arg1 harg1 arg3 harg3 arg4 harg4 arg5 harg5 arg6 harg6 arg7 harg7) Q := by
  iintro ⟨⟨⟨⟨%g1, %hg1, H1⟩, ⟨%g4, H4⟩, ⟨%g5, %hg5, H5⟩, ⟨%g6, H6⟩, ⟨%g7, H7⟩⟩, ⟨⟨%ga, %hga, HA⟩, ⟨%gx, HX⟩, ⟨%gw, HQ⟩, ⟨%gs, HS⟩, ⟨%gp, HP⟩⟩, HF, HW⟩, Hk⟩
  unfold bodyG
  sl_unfold [cc0_mxfp8_requant_matmul]
  sl_exec
  iapply (t1_run c i arg1 harg1 arg3 harg3 arg4 harg4 arg5 harg5 arg6 harg6 arg7 harg7 X _ hg1) $$ [H1 H4 HX]
  · isplitr; · ipureintro; exact xsN_zero
    isplitl [H1]; · iexact H1
    isplitl [H4]
    · iexists _; isplitr; swap; · iexact H4
      ipureintro; exact xcP_zero
    iexists _; isplitr; swap; · iexact HX
    ipureintro; exact xqN_zero
  iintro %acc ⟨%hacc, H1, ⟨%g4', %hg4, H4⟩, ⟨%gx', %hgx, HX⟩⟩
  sl_exec
  ihave HWS := (wslot_join_val A c XA hA (Ring.sl 3 (i 0).val) (Ring.bk 32 (i 0).val) _ _) $$ [HF_dst0 HF_dst1]
  · isplitl [HF_dst0]; · iexact HF_dst0
    iexact HF_dst1
  icases HWS with ⟨%gW, %hgW, HWS⟩
  iapply (t2_run c i arg1 harg1 arg3 harg3 arg4 harg4 arg5 harg5 arg6 harg6 arg7 harg7 A0 (xqV X) _ gW hgW _ (xqN_all hgx)) $$ [HA HX HS HP HWS H6 H7 HQ]
  · isplitl [HA]
    · iexists _; isplitr; swap; · iexact HA
      ipureintro; exact accP_zero hga
    isplitl [HX]; · iexact HX
    isplitl [HS]; · iexists _; iexact HS
    isplitl [HP]; · iexists _; iexact HP
    isplitl [HWS]; · iexact HWS
    isplitl [H6]
    · iexists _; isplitr; swap; · iexact H6
      ipureintro; exact wcP_zero
    isplitl [H7]
    · iexists _; isplitr; swap; · iexact H7
      ipureintro; exact wsP_zero
    iexists _; iexact HQ
  iintro %acc2 ⟨⟨%ga', %hga', HA⟩, HX, ⟨%gs', HS⟩, ⟨%gp', HP⟩, HWS, ⟨%g6', %hg6, H6⟩, ⟨%g7', %hg7, H7⟩, ⟨%gq', HQ⟩⟩
  sl_exec
  sl_step
  ihave HSP := (wslot_split c (Ring.sl 3 (i 0).val)) $$ [HWS]
  · iexists _; iexact HWS
  iapply Hk
  isplitl [H1 H4 H5 H6 H7]
  · isplitl [H1]
    · iexists _; isplitr; swap; · iexact H1
      ipureintro; exact hg1
    isplitl [H4]
    · iexists _; isplitr; swap; · iexact H4
      ipureintro; exact hg4
    isplitl [H5]
    · iexists _; isplitr; swap; · iexact H5
      ipureintro; exact xs_store i hg5 acc _ (k0_off6_inb i) hacc
    isplitl [H6]
    · iexists _; isplitr; swap; · iexact H6
      ipureintro; exact hg6
    iexists _; isplitr; swap; · iexact H7
    ipureintro; exact hg7
  isplitl [HA HX HQ HS HP]
  · isplitl [HA]
    · iexists _; isplitr; swap; · iexact HA
      ipureintro; exact accP_all hga'
    isplitl [HX]; · iexists _; iexact HX
    isplitl [HQ]; · iexists _; iexact HQ
    isplitl [HS]; · iexists _; iexact HS
    iexists _; iexact HP
  isplitl [HF_src0 HF_src1]
  · isplitl [HF_src0]; · iexact HF_src0
    iexact HF_src1
  isplitl [HF]; · iexact HF
  isplitl [HSP]; · iexact HSP
  iexists _; iexact HW

set_option maxRecDepth 8000 in
/-- The last point: block `i` is waited for, and the product is written. -/
theorem runLast (A : ℕ → ℕ → ℕ → ℕ → ℕ → EReal) (hA : AHas A XA) (X S A0 : ℕ → ℕ → EReal) (h1 : ¬cond1 i) (h2 : ¬k0_cond2 i = 1#1) (h3 : k0_cond3 i = 1#1) (W : Waits sig Unit)
    (f0 : HB c × HB c) (Q : PUnit → sProp 𝕄) :
    iprop((wpre c arg1 arg4 arg5 arg6 arg7 X S ∗ scr c A0 ∗ flightP c XA (Ring.sl 3 (i 0).val) (Ring.bk 32 (i 0).val) f0 ∗ held c arg3 ∗ owes (c : Thread nD τ) 0 W)
      ∗ ((wpost c arg1 arg4 arg5 arg6 arg7 X (xsNew X S (i 0).val) (WB A (Ring.bk 32 (i 0).val : Fin 32).val) ∗ scr c (accNew A0 X (WB A (Ring.bk 32 (i 0).val : Fin 32).val)) ∗ homeP c XA (Ring.bk 32 (i 0).val) ∗ cellP c (Ring.sl 3 (i 0).val) ∗ (∃ f, slotP c (Ring.sl 3 (i 0).val) f) ∗ (∃ f, ⌜∀ y : S112x5376.Idx, arg3.view.read (Elt Ideal) f y = accNew A0 X (WB A (Ring.bk 32 (i 0).val : Fin 32).val) (y 0).val (y 1).val⌝ ∗ arg3.view.loc (c : Thread nD τ) ↦[arg3.view.set]{fullShare} f) ∗ ∃ W, owes (c : Thread nD τ) 0 W) -∗ Q ⟨⟩))
      ⊢ wp frame (wpE (defs₀ (F := Ideal)) 𝒱₀ (c : Thread nD τ) none) Set.univ (bodyG i arg1 harg1 arg3 harg3 arg4 harg4 arg5 harg5 arg6 harg6 arg7 harg7) Q := by
  iintro ⟨⟨⟨⟨%g1, %hg1, H1⟩, ⟨%g4, H4⟩, ⟨%g5, %hg5, H5⟩, ⟨%g6, H6⟩, ⟨%g7, H7⟩⟩, ⟨⟨%ga, %hga, HA⟩, ⟨%gx, HX⟩, ⟨%gw, HQ⟩, ⟨%gs, HS⟩, ⟨%gp, HP⟩⟩, HF, ⟨%g3, H3⟩, HW⟩, Hk⟩
  unfold bodyG
  sl_unfold [cc0_mxfp8_requant_matmul]
  sl_exec
  iapply (t1_run c i arg1 harg1 arg3 harg3 arg4 harg4 arg5 harg5 arg6 harg6 arg7 harg7 X _ hg1) $$ [H1 H4 HX]
  · isplitr; · ipureintro; exact xsN_zero
    isplitl [H1]; · iexact H1
    isplitl [H4]
    · iexists _; isplitr; swap; · iexact H4
      ipureintro; exact xcP_zero
    iexists _; isplitr; swap; · iexact HX
    ipureintro; exact xqN_zero
  iintro %acc ⟨%hacc, H1, ⟨%g4', %hg4, H4⟩, ⟨%gx', %hgx, HX⟩⟩
  sl_exec
  ihave HWS := (wslot_join_val A c XA hA (Ring.sl 3 (i 0).val) (Ring.bk 32 (i 0).val) _ _) $$ [HF_dst0 HF_dst1]
  · isplitl [HF_dst0]; · iexact HF_dst0
    iexact HF_dst1
  icases HWS with ⟨%gW, %hgW, HWS⟩
  iapply (t2_run c i arg1 harg1 arg3 harg3 arg4 harg4 arg5 harg5 arg6 harg6 arg7 harg7 A0 (xqV X) _ gW hgW _ (xqN_all hgx)) $$ [HA HX HS HP HWS H6 H7 HQ]
  · isplitl [HA]
    · iexists _; isplitr; swap; · iexact HA
      ipureintro; exact accP_zero hga
    isplitl [HX]; · iexact HX
    isplitl [HS]; · iexists _; iexact HS
    isplitl [HP]; · iexists _; iexact HP
    isplitl [HWS]; · iexact HWS
    isplitl [H6]
    · iexists _; isplitr; swap; · iexact H6
      ipureintro; exact wcP_zero
    isplitl [H7]
    · iexists _; isplitr; swap; · iexact H7
      ipureintro; exact wsP_zero
    iexists _; iexact HQ
  iintro %acc2 ⟨⟨%ga', %hga', HA⟩, HX, ⟨%gs', HS⟩, ⟨%gp', HP⟩, HWS, ⟨%g6', %hg6, H6⟩, ⟨%g7', %hg7, H7⟩, ⟨%gq', HQ⟩⟩
  sl_exec
  sl_step
  ihave HSP := (wslot_split c (Ring.sl 3 (i 0).val)) $$ [HWS]
  · iexists _; iexact HWS
  iapply Hk
  isplitl [H1 H4 H5 H6 H7]
  · isplitl [H1]
    · iexists _; isplitr; swap; · iexact H1
      ipureintro; exact hg1
    isplitl [H4]
    · iexists _; isplitr; swap; · iexact H4
      ipureintro; exact hg4
    isplitl [H5]
    · iexists _; isplitr; swap; · iexact H5
      ipureintro; exact xs_store i hg5 acc _ (k0_off6_inb i) hacc
    isplitl [H6]
    · iexists _; isplitr; swap; · iexact H6
      ipureintro; exact hg6
    iexists _; isplitr; swap; · iexact H7
    ipureintro; exact hg7
  isplitl [HA HX HQ HS HP]
  · isplitl [HA]
    · iexists _; isplitr; swap; · iexact HA
      ipureintro; exact accP_all hga'
    isplitl [HX]; · iexists _; iexact HX
    isplitl [HQ]; · iexists _; iexact HQ
    isplitl [HS]; · iexists _; iexact HS
    iexists _; iexact HP
  isplitl [HF_src0 HF_src1]
  · isplitl [HF_src0]; · iexact HF_src0
    iexact HF_src1
  isplitl [HF]; · iexact HF
  isplitl [HSP]; · iexact HSP
  isplitl [H3]
  · iexists _; isplitr; swap; · iexact H3
    ipureintro; exact y_store _ hga' inb_S112x5376_S112x5376_0_0 inb_S112x5376_S112x5376_0_0
  iexists _; iexact HW

end Body

end Cert.Proof.KV

end
-- ==== Proof.KVLaunch.lean ====
/- The printed kernel's run with its values: the ring of weight blocks before each grid point, one point of the grid from its ring to
   the next point's, and the launch. -/
module

public import proofs.«01_k».proof.Proof.KVBody

@[expose] public section

noncomputable section

namespace Cert.Proof.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UU nD τ) ℕ

/-- The first branch is taken at the first point. -/
theorem cond1_iff : ∀ i : grid0.Coords, cond1 i ↔ (i 0).val = 0 := by decide +kernel
/-- The second branch is taken while a block two ahead is left. -/
theorem cond2_iff : ∀ i : grid0.Coords, k0_cond2 i = 1#1 ↔ (i 0).val + 2 < 32 := by decide +kernel
/-- The third branch is taken at the last point. -/
theorem cond3_iff : ∀ i : grid0.Coords, k0_cond3 i = 1#1 ↔ (i 0).val = 31 := by decide +kernel
/-- A point's only coordinate is its number. -/
theorem coords_val : ∀ t : Fin grid0.N, (grid0.coords t 0).val = t.val := by decide +kernel

/-- The weights' ring before point `t`: all home and all slots free at first, then blocks `t`, `t + 1` in flight. -/
def ringP (c : Dev nD) (XA : Buf (Elt Ideal) (aM.view.loc (c : Thread nD τ))) (t : ℕ) : sProp 𝕄 :=
  if t = 0 then Ring.At₀ (cellP c) (slotP c) (homeP c XA) else Ring.At 2 (cellP c) (slotP c) (homeP c XA) (flightP c XA) t
/-- The ring before the first point. -/
theorem ringP_zero (c : Dev nD) (XA : Buf (Elt Ideal) (aM.view.loc (c : Thread nD τ))) (t : ℕ) (h : t = 0) :
    ringP c XA t = Ring.At₀ (cellP c) (slotP c) (homeP c XA) := if_pos h
/-- The ring before a later point. -/
theorem ringP_pos (c : Dev nD) (XA : Buf (Elt Ideal) (aM.view.loc (c : Thread nD τ))) (t : ℕ) (h : t ≠ 0) :
    ringP c XA t = Ring.At 2 (cellP c) (slotP c) (homeP c XA) (flightP c XA) t := if_neg h

section Point
variable (c : Dev nD) (XA : Buf (Elt Ideal) (aM.view.loc (c : Thread nD τ))) (i : grid0.Coords)
  (arg1 : Memref sig .tc .vmem S112x512 .bf16) (harg1 : arg1.IsWhole) (arg3 : Memref sig .tc .vmem S112x5376 .bf16) (harg3 : arg3.IsWhole)
  (arg4 : Memref sig .tc .vmem S112x512 .fp8e4m3) (harg4 : arg4.IsWhole) (arg5 : Memref sig .tc .vmem S112x512 .f32) (harg5 : arg5.IsWhole)
  (arg6 : Memref sig .tc .vmem S512x5376 .fp8e4m3) (harg6 : arg6.IsWhole) (arg7 : Memref sig .tc .vmem S16x5376 .f32) (harg7 : arg7.IsWhole)

/-- The buffers a point starts from: known, but for the accumulator and the scales at the first point. -/
abbrev wIn (X S : ℕ → ℕ → EReal) : sProp 𝕄 := iprop((∃ f, ⌜XHas X arg1 f⌝ ∗ arg1.view.loc (c : Thread nD τ) ↦[arg1.view.set]{fullShare} f) ∗ held c arg4 ∗ (∃ f, ⌜(i 0).val ≠ 0 → XsS S arg5 f⌝ ∗ arg5.view.loc (c : Thread nD τ) ↦[arg5.view.set]{fullShare} f) ∗ held c arg6 ∗ held c arg7)
abbrev sIn (t : ℕ) (A0 : ℕ → ℕ → EReal) : sProp 𝕄 := iprop((∃ f, ⌜t ≠ 0 → AccS A0 f⌝ ∗ accM.view.loc (c : Thread nD τ) ↦{fullShare} f) ∗ heldW c xqM ∗ heldW c wqM ∗ heldW c stM ∗ heldW c pwM)

/-- One grid point, from its ring to the next point's. -/
theorem bodyRun (A : ℕ → ℕ → ℕ → ℕ → ℕ → EReal) (hA : AHas A XA) (X S A0 : ℕ → ℕ → EReal) (hS : (i 0).val = 0 → S = fun _ _ => 0) (hA0 : (i 0).val = 0 → A0 = fun _ _ => 0) (g3 : Buf (Elt Ideal) (arg3.view.loc (c : Thread nD τ))) (W : Waits sig Unit) (Q : PUnit → sProp 𝕄) :
    iprop((wIn c i arg1 arg4 arg5 arg6 arg7 X S ∗ sIn c (i 0).val A0 ∗ (arg3.view.loc (c : Thread nD τ) ↦[arg3.view.set]{fullShare} g3) ∗ ringP c XA (i 0).val ∗ owes (c : Thread nD τ) 0 W)
      ∗ ((wpost c arg1 arg4 arg5 arg6 arg7 X (xsNew X S (i 0).val) (WB A (i 0).val) ∗ sIn c ((i 0).val + 1) (accNew A0 X (WB A (i 0).val)) ∗ (∃ f, ⌜((i 0).val ≠ 31 → f = g3) ∧ ((i 0).val = 31 → ∀ y : S112x5376.Idx, arg3.view.read (Elt Ideal) f y = accNew A0 X (WB A (i 0).val) (y 0).val (y 1).val)⌝ ∗ arg3.view.loc (c : Thread nD τ) ↦[arg3.view.set]{fullShare} f) ∗ ringP c XA ((i 0).val + 1) ∗ ∃ W, owes (c : Thread nD τ) 0 W) -∗ Q ⟨⟩))
      ⊢ wp frame (wpE (defs₀ (F := Ideal)) 𝒱₀ (c : Thread nD τ) none) Set.univ (bodyG i arg1 harg1 arg3 harg3 arg4 harg4 arg5 harg5 arg6 harg6 arg7 harg7) Q := by
  have hlt : (i 0).val < 32 := (i 0).isLt
  have hbk : (Ring.bk 32 (i 0).val : Fin 32).val = (i 0).val := Nat.mod_eq_of_lt hlt
  rw [ringP_pos c XA ((i 0).val + 1) (by omega)]
  by_cases hz : (i 0).val = 0
  · rw [ringP_zero c XA _ hz, Ring.At₀_eq3' _ _ _ (i 0).val hz (by decide), Ring.At3_one' _ _ _ _ (i 0).val hz (by decide)]
    iintro ⟨⟨⟨⟨%g1, %hg1, H1⟩, H4, ⟨%g5, %hg5, H5⟩, H6, H7⟩, ⟨⟨%ga, %hga, HA⟩, HSc⟩, H3, ⟨⟨Hh0, Hh1, Hh2, HR⟩, ⟨Hc0, ⟨%f0, Hs0⟩⟩, ⟨Hc1, ⟨%f1, Hs1⟩⟩, ⟨Hc2, ⟨%f2, Hs2⟩⟩⟩, HW⟩, Hk⟩
    have hR := (runFirst c XA i arg1 harg1 arg3 harg3 arg4 harg4 arg5 harg5 arg6 harg6 arg7 harg7 A hA X hz ((cond1_iff i).mpr hz) ((cond2_iff i).mpr (by omega))
      (fun h => by have := (cond3_iff i).mp h; omega) (by omega) W f0 f1 f2 Q)
    rw [hbk] at hR
    rw [hS hz, hA0 hz]
    iapply hR
    isplitl [H1 H4 H5 H6 H7 HA HSc Hh0 Hh1 Hh2 Hc0 Hs0 Hc1 Hs1 Hc2 Hs2 HW]
    · isplitl [H1 H4 H5 H6 H7]
      · isplitl [H1]
        · iexists _; isplitr; swap; · iexact H1
          ipureintro; exact hg1
        isplitl [H4]; · iexact H4
        isplitl [H5]
        · iexists _; iexact H5
        isplitl [H6]; · iexact H6
        iexact H7
      isplitl [HA HSc]
      · isplitl [HA]
        · iexists _; iexact HA
        iexact HSc
      isplitl [Hh0]; · iexact Hh0
      isplitl [Hh1]; · iexact Hh1
      isplitl [Hh2]; · iexact Hh2
      isplitl [Hc0]; · iexact Hc0
      isplitl [Hs0]; · iexact Hs0
      isplitl [Hc1]; · iexact Hc1
      isplitl [Hs1]; · iexact Hs1
      isplitl [Hc2]; · iexact Hc2
      isplitl [Hs2]; · iexact Hs2
      iexact HW
    · iintro ⟨HWin, ⟨⟨%gb, %hgb, HA⟩, HSc⟩, Hh, Hc, Hs, HF1, HF2, HW⟩
      iapply Hk
      isplitl [HWin]; · iexact HWin
      isplitl [HA HSc]
      · isplitl [HA]
        · iexists _; isplitr; swap; · iexact HA
          ipureintro; exact fun _ => hgb
        iexact HSc
      isplitl [H3]
      · iexists _; isplitr; swap; · iexact H3
        ipureintro; exact ⟨fun _ => rfl, fun h => absurd h (by omega)⟩
      isplitr [HW]
      · isplitl [Hh HR]
        · isplitl [Hh]; · iexact Hh
          iexact HR
        isplitl [HF1]; · iexact HF1
        isplitl [HF2]; · iexact HF2
        isplitl [Hc]; · iexact Hc
        iexact Hs
      iexact HW
  rw [ringP_pos c XA (i 0).val hz]
  by_cases hk : (i 0).val + 2 < 32
  · rw [Ring.At3_here _ _ _ _ (i 0).val hk, Ring.At3_next _ _ _ _ (i 0).val hk, Ring.slotAt3_next0 _ _ _ (i 0).val (by omega), Ring.slotAt3_next1 _ _ _ (i 0).val hk]
    iintro ⟨⟨⟨⟨%g1, %hg1, H1⟩, H4, ⟨%g5, %hg5, H5⟩, H6, H7⟩, ⟨⟨%ga, %hga, HA⟩, HSc⟩, H3, ⟨⟨Hh2, HR⟩, ⟨%f0, HF0⟩, HF1, ⟨Hc2, ⟨%f2, Hs2⟩⟩⟩, HW⟩, Hk⟩
    have hR := (runMid c XA i arg1 harg1 arg3 harg3 arg4 harg4 arg5 harg5 arg6 harg6 arg7 harg7 A hA X S A0 (fun h => hz ((cond1_iff i).mp h)) ((cond2_iff i).mpr hk)
      (fun h => by have := (cond3_iff i).mp h; omega) hk W f0 f2 Q)
    rw [hbk] at hR
    iapply hR
    isplitl [H1 H4 H5 H6 H7 HA HSc Hh2 HF0 Hc2 Hs2 HW]
    · isplitl [H1 H4 H5 H6 H7]
      · isplitl [H1]
        · iexists _; isplitr; swap; · iexact H1
          ipureintro; exact hg1
        isplitl [H4]; · iexact H4
        isplitl [H5]
        · iexists _; isplitr; swap; · iexact H5
          ipureintro; exact hg5 hz
        isplitl [H6]; · iexact H6
        iexact H7
      isplitl [HA HSc]
      · isplitl [HA]
        · iexists _; isplitr; swap; · iexact HA
          ipureintro; exact hga hz
        iexact HSc
      isplitl [Hh2]; · iexact Hh2
      isplitl [HF0]; · iexact HF0
      isplitl [Hc2]; · iexact Hc2
      isplitl [Hs2]; · iexact Hs2
      iexact HW
    · iintro ⟨HWin, ⟨⟨%gb, %hgb, HA⟩, HSc⟩, Hh, Hc, Hs, HF2, HW⟩
      iapply Hk
      isplitl [HWin]; · iexact HWin
      isplitl [HA HSc]
      · isplitl [HA]
        · iexists _; isplitr; swap; · iexact HA
          ipureintro; exact fun _ => hgb
        iexact HSc
      isplitl [H3]
      · iexists _; isplitr; swap; · iexact H3
        ipureintro; exact ⟨fun _ => rfl, fun h => absurd h (by omega)⟩
      isplitr [HW]
      · isplitl [Hh HR]
        · isplitl [Hh]; · iexact Hh
          iexact HR
        isplitl [HF1]; · iexact HF1
        isplitl [HF2]; · iexact HF2
        isplitl [Hc]; · iexact Hc
        iexact Hs
      iexact HW
  rw [Ring.At3_here_tail _ _ _ _ (i 0).val hlt, Ring.At3_next_tail _ _ _ _ (i 0).val (by omega) hlt, Ring.slotAt3_tail_role]
  by_cases h31 : (i 0).val = 31
  · iintro ⟨⟨⟨⟨%g1, %hg1, H1⟩, H4, ⟨%g5, %hg5, H5⟩, H6, H7⟩, ⟨⟨%ga, %hga, HA⟩, HSc⟩, H3, ⟨HR, ⟨%f0, HF0⟩, HF1, HF2⟩, HW⟩, Hk⟩
    have hR := (runLast c XA i arg1 harg1 arg3 harg3 arg4 harg4 arg5 harg5 arg6 harg6 arg7 harg7 A hA X S A0 (fun h => hz ((cond1_iff i).mp h)) (fun h => hk ((cond2_iff i).mp h))
      ((cond3_iff i).mpr h31) W f0 Q)
    rw [hbk] at hR
    iapply hR
    isplitl [H1 H4 H5 H6 H7 HA HSc H3 HF0 HW]
    · isplitl [H1 H4 H5 H6 H7]
      · isplitl [H1]
        · iexists _; isplitr; swap; · iexact H1
          ipureintro; exact hg1
        isplitl [H4]; · iexact H4
        isplitl [H5]
        · iexists _; isplitr; swap; · iexact H5
          ipureintro; exact hg5 hz
        isplitl [H6]; · iexact H6
        iexact H7
      isplitl [HA HSc]
      · isplitl [HA]
        · iexists _; isplitr; swap; · iexact HA
          ipureintro; exact hga hz
        iexact HSc
      isplitl [HF0]; · iexact HF0
      isplitl [H3]; · iexists _; iexact H3
      iexact HW
    · iintro ⟨HWin, ⟨⟨%gb, %hgb, HA⟩, HSc⟩, Hh, Hc, Hs, ⟨%g3', %hg3, H3⟩, HW⟩
      iapply Hk
      isplitl [HWin]; · iexact HWin
      isplitl [HA HSc]
      · isplitl [HA]
        · iexists _; isplitr; swap; · iexact HA
          ipureintro; exact fun _ => hgb
        iexact HSc
      isplitl [H3]
      · iexists _; isplitr; swap; · iexact H3
        ipureintro; exact ⟨fun h => absurd h31 h, fun _ => hg3⟩
      isplitr [HW]
      · isplitl [Hh HR]
        · isplitl [Hh]; · iexact Hh
          iexact HR
        isplitl [HF1]; · iexact HF1
        isplitl [HF2]; · iexact HF2
        isplitl [Hc]; · iexact Hc
        iexact Hs
      iexact HW
  · iintro ⟨⟨⟨⟨%g1, %hg1, H1⟩, H4, ⟨%g5, %hg5, H5⟩, H6, H7⟩, ⟨⟨%ga, %hga, HA⟩, HSc⟩, H3, ⟨HR, ⟨%f0, HF0⟩, HF1, HF2⟩, HW⟩, Hk⟩
    have hR := (runTail c XA i arg1 harg1 arg3 harg3 arg4 harg4 arg5 harg5 arg6 harg6 arg7 harg7 A hA X S A0 (fun h => hz ((cond1_iff i).mp h)) (fun h => hk ((cond2_iff i).mp h))
      (fun h => h31 ((cond3_iff i).mp h)) W f0 Q)
    rw [hbk] at hR
    iapply hR
    isplitl [H1 H4 H5 H6 H7 HA HSc HF0 HW]
    · isplitl [H1 H4 H5 H6 H7]
      · isplitl [H1]
        · iexists _; isplitr; swap; · iexact H1
          ipureintro; exact hg1
        isplitl [H4]; · iexact H4
        isplitl [H5]
        · iexists _; isplitr; swap; · iexact H5
          ipureintro; exact hg5 hz
        isplitl [H6]; · iexact H6
        iexact H7
      isplitl [HA HSc]
      · isplitl [HA]
        · iexists _; isplitr; swap; · iexact HA
          ipureintro; exact hga hz
        iexact HSc
      isplitl [HF0]; · iexact HF0
      iexact HW
    · iintro ⟨HWin, ⟨⟨%gb, %hgb, HA⟩, HSc⟩, Hh, Hc, Hs, HW⟩
      iapply Hk
      isplitl [HWin]; · iexact HWin
      isplitl [HA HSc]
      · isplitl [HA]
        · iexists _; isplitr; swap; · iexact HA
          ipureintro; exact fun _ => hgb
        iexact HSc
      isplitl [H3]
      · iexists _; isplitr; swap; · iexact H3
        ipureintro; exact ⟨fun _ => rfl, fun h => absurd h h31⟩
      isplitr [HW]
      · isplitl [Hh HR]
        · isplitl [Hh]; · iexact Hh
          iexact HR
        isplitl [HF1]; · iexact HF1
        isplitl [HF2]; · iexact HF2
        isplitl [Hc]; · iexact Hc
        iexact Hs
      iexact HW
end Point

/-! ## The launch -/

/-- A number below n is its own remainder. -/
theorem fin_ofNat (n : ℕ) [NeZero n] (x : Fin n) : Fin.ofNat n x.val = x := Fin.ext (Nat.mod_eq_of_lt x.isLt)

abbrev EP : Emb (UR sig nD τ) 𝕄 := embL
abbrev osem : Fin 3 → SemLoc sig := fun s => .dma (csm s).sem
/-- The copies' semaphores are the region's own. -/
theorem ownSemFacts : Pipeline.OwnSemFacts spec0 osem := by decide

/-- A staging buffer held at some contents is owned at what it reads there. -/
theorem held_owns (c : Dev nD) {s : Shape} {e : EltTy} (M : Memref sig .tc .vmem s e) :
    (held c M : sProp 𝕄) ⊢ iprop(∃ X, ∃ g, ⌜M.view.read (Elt Ideal) g = X⌝ ∗ M.view.loc (c : Thread nD τ) ↦[M.view.set]{fullShare} g) := by
  iintro ⟨%g, H⟩
  iexists (M.view.read (Elt Ideal) g); iexists g
  isplitr
  · ipureintro; rfl
  · iexact H

section Launch
variable (m : (ℓ : Loc nD τ sig) → Buf (Elt Ideal) ℓ) (ρ : Dev nD → PrngReg)

/-- The weights as the region finds them. -/
abbrev XA (c : Dev nD) : Buf (Elt Ideal) (aM.view.loc (c : Thread nD τ)) := V m c main_v1

/-- The region's own semaphores are the ring's three. -/
theorem ownSems0_eq (c : Dev nD) : (Pipeline.ownSems0 (Ix := Unit) (Name := ℕ) (U := UU nD τ) (Lvl := ℕ) (Val := Elt Ideal) (τ := τ) osem c : sProp 𝕄)
    = iprop(cellP c 0 ∗ cellP c 1 ∗ cellP c 2) := by
  unfold Pipeline.ownSems0; rw [bigSep_fin3]

/-- The weights as the region finds them, by coordinates. -/
def AF (c : Dev nD) (b q ct s l : ℕ) : EReal :=
  (XA m c : S1024x2x42x8x128.Idx → EReal) (ix5 (Fin.ofNat 1024 b) (Fin.ofNat 2 q) (Fin.ofNat 42 ct) (Fin.ofNat 8 s) (Fin.ofNat 128 l))
/-- The weights' function holds of the weights' array. -/
theorem hAF (c : Dev nD) : AHas (AF m c) (XA m c) := fun y => by
  unfold AF
  refine congrArg (XA m c : S1024x2x42x8x128.Idx → EReal) (funext fun a => ?_)
  match a with
  | ⟨0, _⟩ => exact (fin_ofNat 1024 (y 0)).symm
  | ⟨1, _⟩ => exact (fin_ofNat 2 (y 1)).symm
  | ⟨2, _⟩ => exact (fin_ofNat 42 (y 2)).symm
  | ⟨3, _⟩ => exact (fin_ofNat 8 (y 3)).symm
  | ⟨4, _⟩ => exact (fin_ofNat 128 (y 4)).symm
/-- The activations as the region finds them, by row and column; block `t` of them; block `t` of the weights. -/
def XF (c : Dev nD) (r k : ℕ) : EReal := (V m c main_v2 : S112x16384.Idx → EReal) (ix2 (Fin.ofNat 112 r) (Fin.ofNat 16384 k))
def XT (c : Dev nD) (t r k : ℕ) : EReal := XF m c r (512 * t + k)
abbrev WT (c : Dev nD) (t : ℕ) : ℕ → ℕ → EReal := WB (AF m c) t
/-- The accumulator, and the activation scales, before point `t`. -/
def accT (c : Dev nD) : ℕ → ℕ → ℕ → EReal
  | 0 => fun _ _ => 0
  | t + 1 => accNew (accT c t) (XT m c t) (WT m c t)
def xsT (c : Dev nD) : ℕ → ℕ → ℕ → EReal
  | 0 => fun _ _ => 0
  | t + 1 => xsNew (XT m c t) (xsT c t) t

/-- The body's invariant before point `t`: the ring, and the other scratch buffers, the accumulator known. -/
def Φ (c : Dev nD) (t : ℕ) : sProp 𝕄 := iprop(ringP c (XA m c) t ∗ sIn c t (accT m c t))

/-- The proof data: each window's contents after the body at a point. -/
def dats (_ : Fin 1) (c : Dev nD) : Dat τ (Elt Ideal) Unit ℕ (UU nD τ) ℕ cfg0 c where
  A w := V m c (Pipeline.arrRef spec0 w)
  after w t := match w with
    | ⟨0, _⟩ => fun j : S112x512.Idx => XT m c t.val (j 0).val (j 1).val
    | ⟨1, _⟩ => fun j : S112x5376.Idx => accT m c 32 (j 0).val (j 1).val
    | ⟨2, _⟩ => fun j : S112x512.Idx => xcV (XT m c t.val) (j 0).val (j 1).val
    | ⟨3, _⟩ => fun j : S112x512.Idx => xsT m c (t.val + 1) (j 0).val (j 1).val
    | ⟨4, _⟩ => fun j : S512x5376.Idx => wcV (WT m c t.val) (j 0).val (j 1).val
    | ⟨5, _⟩ => fun j : S16x5376.Idx => wsV (WT m c t.val) (j 0).val (j 1).val
  Φ t := Φ m c t.val
  q _ := fullShare
  owed _ := 0

/-- The arrays that the windows start from. -/
theorem A_eq (c : Dev nD) (w : Fin cfg0.W) : (dats m 0 c).A w = V m c (Pipeline.arrRef spec0 w) := by dsimp only [dats]
/-- What a point leaves in window 0's block: the activations. -/
theorem after0_0 (c : Dev nD) (t : Fin cfg0.N) : (dats m 0 c).after 0 t = fun j : S112x512.Idx => XT m c t.val (j 0).val (j 1).val := by dsimp only [dats]
/-- What the last point leaves in window 1's block: the accumulator. -/
theorem after0_1 (c : Dev nD) (t : Fin cfg0.N) : (dats m 0 c).after 1 t = fun j : S112x5376.Idx => accT m c 32 (j 0).val (j 1).val := by dsimp only [dats]
/-- What a point leaves in window 2's block: the activations' codes. -/
theorem after0_2 (c : Dev nD) (t : Fin cfg0.N) : (dats m 0 c).after 2 t = fun j : S112x512.Idx => xcV (XT m c t.val) (j 0).val (j 1).val := by dsimp only [dats]
/-- What a point leaves in window 3's block: the activations' scales so far. -/
theorem after0_3 (c : Dev nD) (t : Fin cfg0.N) : (dats m 0 c).after 3 t = fun j : S112x512.Idx => xsT m c (t.val + 1) (j 0).val (j 1).val := by dsimp only [dats]
/-- What a point leaves in window 4's block: the weights' codes. -/
theorem after0_4 (c : Dev nD) (t : Fin cfg0.N) : (dats m 0 c).after 4 t = fun j : S512x5376.Idx => wcV (WT m c t.val) (j 0).val (j 1).val := by dsimp only [dats]
/-- What a point leaves in window 5's block: the weights' scales. -/
theorem after0_5 (c : Dev nD) (t : Fin cfg0.N) : (dats m 0 c).after 5 t = fun j : S16x5376.Idx => wsV (WT m c t.val) (j 0).val (j 1).val := by dsimp only [dats]

/-- Window 0's block index at a point. -/
theorem idx0 : ∀ t : Fin cfg0.N, (cfg0.win 0).index t 0 = 0 ∧ (cfg0.win 0).index t 1 = t.val := by decide +kernel
/-- Window 1's block index at a point. -/
theorem idx1 : ∀ t : Fin cfg0.N, (cfg0.win 1).index t 0 = 0 ∧ (cfg0.win 1).index t 1 = 0 := by decide +kernel
/-- Window 2's block index at a point. -/
theorem idx2 : ∀ t : Fin cfg0.N, (cfg0.win 2).index t 0 = 0 ∧ (cfg0.win 2).index t 1 = t.val := by decide +kernel
/-- Window 3's block index at a point. -/
theorem idx3 : ∀ t : Fin cfg0.N, (cfg0.win 3).index t 0 = 0 ∧ (cfg0.win 3).index t 1 = 0 := by decide +kernel
/-- Window 4's block index at a point. -/
theorem idx4 : ∀ t : Fin cfg0.N, (cfg0.win 4).index t 0 = t.val ∧ (cfg0.win 4).index t 1 = 0 := by decide +kernel
/-- Window 5's block index at a point. -/
theorem idx5 : ∀ t : Fin cfg0.N, (cfg0.win 5).index t 0 = t.val ∧ (cfg0.win 5).index t 1 = 0 := by decide +kernel

/-- The activations' block at a point. -/
theorem xblk (c : Dev nD) (t : Fin cfg0.N) : ((cfg0.win 0).blk t).view.read (Elt Ideal) (V m c main_v2) = fun j : S112x512.Idx => XT m c t.val (j 0).val (j 1).val := by
  funext j
  unfold XT XF
  rw [View.read_apply]
  refine congrArg (V m c main_v2 : S112x16384.Idx → EReal) (funext fun a => Fin.ext ?_)
  have hi := idx0 t
  have hN : t.val < 32 := t.isLt
  have hj0 : (j 0).val < 112 := (j 0).isLt
  have hj1 : (j 1).val < 512 := (j 1).isLt
  refine ((cfg0.win 0).rect_emb_val_off t j a).trans ?_
  match a with
  | ⟨0, _⟩ =>
    show (cfg0.win 0).index t 0 * 112 + (j 0).val = (j 0).val % 112
    rw [hi.1]; omega
  | ⟨1, _⟩ =>
    show (cfg0.win 0).index t 1 * 512 + (j 1).val = (512 * t.val + (j 1).val) % 16384
    rw [hi.2]; omega

/-- What a point finds in window 0's block: the activations. -/
theorem before0_0 (c : Dev nD) (t : Fin cfg0.N) (d) : (dats m 0 c).before 0 t d = fun j : S112x512.Idx => XT m c t.val (j 0).val (j 1).val :=
  ((dats m 0 c).before_in_eq_fetched 0 rfl (fun _ => rfl) (fun _ _ _ => rfl) (fun t => by rw [after0_0, ← xblk]; unfold Dat.blockOf; rw [A_eq]; try rfl) t d).trans
    (by rw [← xblk]; unfold Dat.fetched Dat.blockOf; rw [A_eq]; try rfl)
/-- What a later point finds in window 3's block: the scales so far. -/
theorem before0_3 (c : Dev nD) (t : Fin cfg0.N) (ht : t.val ≠ 0) (d) : (dats m 0 c).before 3 t d = fun j : S112x512.Idx => xsT m c t.val (j 0).val (j 1).val := by
  have hN : t.val < 32 := t.isLt
  rw [(dats m 0 c).before_out_kept 3 rfl t ht (by
    rw [← Bool.not_eq_true, flush0_3]; show ¬((t.val - 1) % 32 = 31); omega) (fun _ => rfl) (fun _ _ => rfl), after0_3]
  funext j
  show xsT m c (t.val - 1 + 1) _ _ = _
  rw [show t.val - 1 + 1 = t.val by omega]

/-- What the name of the body stands for. -/
theorem defs_tc : (defs₀ (F := Ideal)) .tc cfg0.body
    = fun a => bodyG (grid0.coords a.1) (win0_0.stage (a.2 0)) (hstage0_0 ((a.2 0).cast nbuf0_0)) (win0_1.stage (a.2 1)) (hstage0_1 ((a.2 1).cast nbuf0_1))
      (win0_2.stage (a.2 2)) (hstage0_2 ((a.2 2).cast nbuf0_2)) (win0_3.stage (a.2 3)) (hstage0_3 ((a.2 3).cast nbuf0_3))
      (win0_4.stage (a.2 4)) (hstage0_4 ((a.2 4).cast nbuf0_4)) (win0_5.stage (a.2 5)) (hstage0_5 ((a.2 5).cast nbuf0_5)) := rfl
/-- The body at a point, with its arguments. -/
theorem prog_eq (t : Fin cfg0.N) : (defs₀ (F := Ideal)) .tc cfg0.body (cfg0.bodyArgs t (cfg0.slots t))
    = bodyG (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5)) :=
  (congrFun defs_tc _).trans rfl

set_option backward.isDefEq.respectTransparency.types false in
/-- The body obligation. -/
theorem body_obligation (c : Dev nD) : BodyObligation (dats m 0 c) (defs₀ (F := Ideal)) 𝒱₀ () Set.univ := fun t => by
  have hlt : t.val < 32 := t.isLt
  rw [bigSep_W0, bigSep_W0]
  dsimp only
  rw [show (dats m 0 c).Φ t.castSucc = Φ m c t.val from rfl, show (dats m 0 c).Φ t.succ = Φ m c (t.val + 1) from rfl]
  simp only [before0_0 m c t, after0_0, after0_1, after0_2, after0_3, after0_4, after0_5]
  unfold Dat.owesAt Pipeline.owesWithin
  rw [show (dats m 0 c).owed t.castSucc = 0 from rfl, show (dats m 0 c).owed t.succ = 0 from rfl]
  unfold owns Φ
  iintro ⟨⟨HR, HS⟩, ⟨%W, -, HW⟩, ⟨%d0, %g0, %e0, H0⟩, ⟨%d1, %g1, %e1, H1⟩, ⟨%d2, %g2, -, H2⟩, ⟨%d3, %g3, %e3, H3⟩, ⟨%d4, %g4, -, H4⟩, ⟨%d5, %g5, -, H5⟩⟩
  sl_rw [prog_eq t]
  have hR := bodyRun c (XA m c) (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5)) (AF m c) (hAF m c) (XT m c t.val) (xsT m c t.val) (accT m c t.val)
      (by rw [coords_val t]; intro h; rw [h]; rfl) (by rw [coords_val t]; intro h; rw [h]; rfl) g1 W
  unfold wIn at hR
  rw [coords_val t] at hR
  iapply (hR _)
  isplitl [HR HS HW H0 H1 H2 H3 H4 H5]
  · isplitl [H0 H2 H3 H4 H5]
    · isplitl [H0]
      · iexists _; isplitr; swap; · iexact H0
        ipureintro; exact fun y => congrFun e0 y
      isplitl [H2]; · iexists _; iexact H2
      isplitl [H3]
      · iexists _; isplitr; swap; · iexact H3
        ipureintro; exact fun ht y => (congrFun e3 y).trans (congrFun (before0_3 m c t ht d3) y)
      isplitl [H4]; · iexists _; iexact H4
      iexists _; iexact H5
    isplitl [HS]; · iexact HS
    isplitl [H1]; · iexact H1
    isplitl [HR]; · iexact HR
    iexact HW
  · iintro ⟨⟨⟨%f0, %h0, H0⟩, ⟨%f2, %h2, H2⟩, ⟨%f3, %h3, H3⟩, ⟨%f4, %h4, H4⟩, ⟨%f5, %h5, H5⟩⟩, HS, ⟨%f1, %h1, H1⟩, HR, ⟨%W', HW⟩⟩
    isplitl [HR HS]
    · isplitl [HR]; · iexact HR
      iexact HS
    isplitl [HW]
    · iexists W'; isplitr; · ipureintro; exact fun _ _ => Or.inl trivial
      iexact HW
    isplitl [H0]
    · iexists _; isplitr; swap; · iexact H0
      ipureintro; exact funext fun y => h0 y
    isplitl [H1]
    · by_cases h31 : t.val = 31
      · have hi : idle0 1 (grid0.coords t) = false := by
          show (!(k0_cond3 (grid0.coords t) == 1#1)) = false
          rw [(cond3_iff _).mpr ((coords_val t).trans h31)]; rfl
        rw [hi]
        dsimp only
        iexists _; isplitr; swap; · iexact H1
        ipureintro
        funext y
        refine (h1.2 h31 y).trans ?_
        rw [h31]; rfl
      · have hi : idle0 1 (grid0.coords t) = true := by
          show (!(k0_cond3 (grid0.coords t) == 1#1)) = true
          have : ¬(k0_cond3 (grid0.coords t) = 1#1) := fun h => h31 ((coords_val t).symm.trans ((cond3_iff _).mp h))
          simp [this]
        have hf : (win0 1).flush t = false := by
          rw [← Bool.not_eq_true]; intro h; exact absurd ((flush0_1 t).mp h) (by omega)
        rw [hi, hf]
        dsimp only
        iexists d1; iexists _; isplitr; swap; · iexact H1
        ipureintro; rw [h1.1 h31]; exact e1
    isplitl [H2]
    · iexists _; isplitr; swap; · iexact H2
      ipureintro; exact funext fun y => h2 y (by have h : (y 1).val < 512 := (y 1).isLt; omega)
    isplitl [H3]
    · iexists _; isplitr; swap; · iexact H3
      ipureintro; exact funext fun y => h3 y
    isplitl [H4]
    · iexists _; isplitr; swap; · iexact H4
      ipureintro; exact funext fun y => h4 y (by have ha : (y 0).val < 512 := (y 0).isLt; have hb : (y 1).val < 5376 := (y 1).isLt; unfold wkey; omega)
    iexists _; isplitr; swap; · iexact H5
    ipureintro; exact funext fun y => h5 y (by have ha : (y 0).val < 16 := (y 0).isLt; have hb : (y 1).val < 5376 := (y 1).isLt; omega)

def intoΦ (c : Dev nD) : sProp 𝕄 := iprop(bigSep Finset.univ (homeP c (XA m c)) ∗ Pipeline.ownSems0 osem c)
def outOfΦ (c : Dev nD) : sProp 𝕄 := iprop((((c : Thread nD τ).loc main_arg0) ↦{fullShare} m ((c : Thread nD τ).loc main_arg0)) ∗ (((c : Thread nD τ).loc main_arg1) ↦{fullShare} m ((c : Thread nD τ).loc main_arg1)))
def u₀ : UU nD τ := (initOf (Pipeline.cells cfgs cellOf_inj) (Pipeline.launchToks cfgs cellOf_inj), 1)
def QY (c : Dev nD) (s : MemSt nD τ sig (Elt Ideal)) : Prop :=
  s.mem ((c : Thread nD τ).loc main_arg0) = m ((c : Thread nD τ).loc main_arg0) ∧ s.mem ((c : Thread nD τ).loc main_arg1) = m ((c : Thread nD τ).loc main_arg1)

set_option maxHeartbeats 800000 in
/-- The main program is the host operations, then the region. -/
theorem hmainU : Pipeline.HMain (Ix := Unit) (Name := ℕ) (U := UU nD τ) (Lvl := ℕ) cfgs 0 defs₀ 𝒱₀ m (main (F := Ideal)) (V m) :=
  Pipeline.hmain_prefix cfgs 0 defs₀ 𝒱₀ m main hostOps0 hostOps0_sub hostOps0_fresh main_chain

set_option backward.isDefEq.respectTransparency.types false in
/-- Every weakly fair execution of @main terminates, with each window's array as the proof data say, the arguments unchanged and every semaphore counter at zero. -/
theorem run_main : θ_run defs (onTc (τ := τ) (main (F := Ideal))) ⟨m, fun _ => 0, ρ⟩ (fun r => (∀ c : Dev nD, (∀ w, r.2.mem ((spec0 w).arr.view.loc (c, .tc)) = (dats m 0 c).arrAt w cfg0.N) ∧ QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := intoΦ m) (Y := fun _ => iprop(emp)) (Z := outOfΦ m)
    (hX := fun c => by
      rw [unscopedRest0_eq, V_main_arg0, V_main_arg1, a_eq c (XA m c)]
      unfold intoΦ outOfΦ
      iintro ⟨⟨H0, H1, -, H3⟩, HS, -, -, -⟩; imodintro
      isplitl [H3 HS]
      · isplitl [H3]; · iexact H3
        iexact HS
      isplitl [H0]; · iexact H0
      iexact H1)
    (hin := fun c => by
      rw [scopedRest0_eq, show (dats m 0 c).Φ 0 = Φ m c 0 from rfl]
      unfold intoΦ Φ; rw [ownSems0_eq, ringP_zero _ _ _ rfl]; unfold Ring.At₀; rw [bigSep_fin3]
      iintro ⟨⟨H0, Hc0, Hc1, Hc2⟩, HA, HX, HQ, HS, HP, Hb⟩
      ihave Hs := (buf_split c) $$ Hb
      icases Hs with ⟨Hs0, Hs1, Hs2⟩
      isplitl [H0 Hc0 Hc1 Hc2 Hs0 Hs1 Hs2]
      · isplitl [H0]; · iexact H0
        isplitl [Hc0 Hs0]
        · isplitl [Hc0]; · iexact Hc0
          iexact Hs0
        isplitl [Hc1 Hs1]
        · isplitl [Hc1]; · iexact Hc1
          iexact Hs1
        isplitl [Hc2]; · iexact Hc2
        iexact Hs2
      isplitl [HA]
      · icases HA with ⟨%ga, HA⟩
        iexists _; isplitr; swap; · iexact HA
        ipureintro; exact fun h => absurd rfl h
      isplitl [HX]; · iexact HX
      isplitl [HQ]; · iexact HQ
      isplitl [HS]; · iexact HS
      iexact HP)
    (hout := fun c => by
      rw [scopedRest0_eq, show (dats m 0 c).Φ (Fin.last cfg0.N) = Φ m c 32 from congrArg (Φ m c) N_0, ownSems0_eq]
      unfold Φ; rw [ringP_pos _ _ _ (by decide)]
      iintro ⟨HR, ⟨%ga, -, HA⟩, HX, HQ, HS, HP⟩
      ihave HR' := (Ring.free3_of_At_last (NB := 32) (homeP c (XA m c)) (cellP c) (slotP c) (flightP c (XA m c))) $$ HR
      icases HR' with ⟨-, ⟨Hc0, Hs0⟩, ⟨Hc1, Hs1⟩, ⟨Hc2, Hs2⟩⟩
      isplitr; · iempintro
      isplitl [Hc0 Hc1 Hc2]
      · isplitl [Hc0]; · iexact Hc0
        isplitl [Hc1]; · iexact Hc1
        iexact Hc2
      isplitl [HA]; · iexists _; iexact HA
      isplitl [HX]; · iexact HX
      isplitl [HQ]; · iexact HQ
      isplitl [HS]; · iexact HS
      isplitl [HP]; · iexact HP
      iapply (buf_join c (Classical.arbitrary _))
      isplitl [Hs0]; · iexact Hs0
      isplitl [Hs1]; · iexact Hs1
      iexact Hs2)
    (QY := QY m)
    (hY := fun c s' => by
      unfold outOfΦ
      iintro ⟨-, ⟨H0, H1⟩, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun _ hh hz => ⟨hh, hz⟩)

end Launch

end Cert.Proof.KV

end
-- ==== Proof.KVMath.lean ====
/- The exponent search against the reference's logarithm: on a finite nonnegative value below `2^126` both
   name the same power of two. -/
module

public import proofs.«01_k».proof.Proof.KVPay

@[expose] public section

noncomputable section

namespace Cert.Proof.KV

open Idealize.ShloMosaic

/-- The f32 value with exponent field `n`, no sign and no fraction. -/
def thr (n : ℕ) : EReal := Ideal.ofBits .f32 (BitVec.ofNat 32 n <<< 23)

/-- The fields of the f32 word whose exponent field is n. -/
theorem fld (n : ℕ) (h : n < 256) : ((BitVec.ofNat 32 n <<< 23).extractLsb' 31 1 = 0#1) ∧ ((BitVec.ofNat 32 n <<< 23).extractLsb' 23 8).toNat = n ∧ ((BitVec.ofNat 32 n <<< 23).extractLsb' 0 23).toNat = 0 := by
  have e : (BitVec.ofNat 32 n <<< 23).toNat = n * 2 ^ 23 := by
    simp only [BitVec.toNat_shiftLeft, BitVec.toNat_ofNat, Nat.shiftLeft_eq]
    omega
  refine ⟨BitVec.eq_of_toNat_eq ?_, ?_, ?_⟩ <;>
  · simp only [BitVec.extractLsb'_toNat, e, BitVec.toNat_ofNat, Nat.shiftRight_eq_div_pow]
    omega

/-- The fields of the bf16 word whose exponent field is n. -/
theorem fldh (n : ℕ) (h : n < 256) : ((((BitVec.ofNat 32 n <<< 23) >>> 16).setWidth 16).extractLsb' 15 1 = 0#1) ∧ ((((BitVec.ofNat 32 n <<< 23) >>> 16).setWidth 16).extractLsb' 7 8).toNat = n ∧ ((((BitVec.ofNat 32 n <<< 23) >>> 16).setWidth 16).extractLsb' 0 7).toNat = 0 := by
  have e : (((BitVec.ofNat 32 n <<< 23) >>> 16).setWidth 16).toNat = n * 2 ^ 7 := by
    simp only [BitVec.toNat_setWidth, BitVec.toNat_ushiftRight, BitVec.toNat_shiftLeft, BitVec.toNat_ofNat, Nat.shiftLeft_eq, Nat.shiftRight_eq_div_pow]
    omega
  refine ⟨BitVec.eq_of_toNat_eq ?_, ?_, ?_⟩ <;>
  · simp only [BitVec.extractLsb'_toNat, e, BitVec.toNat_ofNat, Nat.shiftRight_eq_div_pow]
    omega

/-- A power of two as an f32. -/
theorem thr_eq (n : ℕ) (h1 : 1 ≤ n) (h : n < 255) : thr n = (((2 : ℝ) ^ ((n : ℤ) - 127) : ℝ) : EReal) := by
  obtain ⟨a, b, c⟩ := fld n (by omega)
  unfold thr Ideal.ofBits Ideal.ieee
  simp only [show 8 + 23 = 31 from rfl, a, b, c]
  rw [if_neg (by omega), if_neg (by omega)]
  refine congrArg _ ?_
  rw [show ((n : ℤ) - (2 ^ (8 - 1) - 1) - (23 : ℕ)) = ((n : ℤ) - 127) - 23 by norm_num, zpow_sub₀ (by norm_num)]
  generalize (2 : ℝ) ^ ((n : ℤ) - 127) = x
  norm_num <;> ring
/-- The word with the greatest exponent field is infinity. -/
theorem thr_top : thr 255 = ⊤ := by
  obtain ⟨a, b, c⟩ := fld 255 (by omega)
  unfold thr Ideal.ofBits Ideal.ieee
  simp only [show 8 + 23 = 31 from rfl, a, b, c]
  simp
/-- The word with the exponent field 0 is zero. -/
theorem thr_zero : thr 0 = 0 := by
  obtain ⟨a, b, c⟩ := fld 0 (by omega)
  unfold thr Ideal.ofBits Ideal.ieee
  simp only [show 8 + 23 = 31 from rfl, a, b, c]
  simp
/-- The same power of two as a bf16. -/
theorem halfV_eq (n : ℕ) (h1 : 1 ≤ n) (h : n < 255) : halfV (BitVec.ofNat 32 n) = (((2 : ℝ) ^ ((n : ℤ) - 127) : ℝ) : EReal) := by
  obtain ⟨a, b, c⟩ := fldh n (by omega)
  unfold halfV Ideal.ofBits Ideal.ieee
  simp only [show 8 + 7 = 15 from rfl, a, b, c]
  rw [if_neg (by omega), if_neg (by omega)]
  refine congrArg _ ?_
  rw [show ((n : ℤ) - (2 ^ (8 - 1) - 1) - (7 : ℕ)) = ((n : ℤ) - 127) - 7 by norm_num, zpow_sub₀ (by norm_num)]
  generalize (2 : ℝ) ^ ((n : ℤ) - 127) = x
  norm_num <;> ring

/-- A greater exponent field is a greater number. -/
theorem thr_mono {a b : ℕ} (h : a ≤ b) (hb : b < 256) : thr a ≤ thr b := by
  rcases Nat.eq_zero_or_pos a with rfl | ha
  · rw [thr_zero]
    rcases Nat.eq_zero_or_pos b with rfl | hb0
    · rw [thr_zero]
    · rcases Nat.lt_or_ge b 255 with h2 | h2
      · rw [thr_eq b hb0 h2]; exact_mod_cast (by positivity)
      · rw [show b = 255 by omega, thr_top]; exact le_top
  · rcases Nat.lt_or_ge b 255 with h2 | h2
    · rw [thr_eq a ha (by omega), thr_eq b (by omega) h2]
      exact EReal.coe_le_coe_iff.mpr (zpow_le_zpow_right₀ (by norm_num) (by omega))
    · rw [show b = 255 by omega, thr_top]; exact le_top

/-- One step of the search, on the numbers. -/
theorem kstep_eq (f : EReal) (b e : ℕ) (h : e + b < 256) :
    kstep f (BitVec.ofNat 32 b) (BitVec.ofNat 32 e) = BitVec.ofNat 32 (if thr (e + b) ≤ f then e + b else e) := by
  unfold kstep
  have e1 : IntOp.addi (BitVec.ofNat 32 e) (BitVec.ofNat 32 b) = BitVec.ofNat 32 (e + b) := by
    unfold IntOp.addi; exact (BitVec.ofNat_add e b).symm
  rw [e1]
  have e2 : Ideal.ofBits .f32 (IntOp.shli .vector (BitVec.ofNat 32 (e + b)) 23#32) = thr (e + b) := rfl
  rw [e2]
  unfold Ideal.cmp Scalar.select
  by_cases hf : thr (e + b) ≤ f <;> simp [hf]

/-- What the search knows: `f` reaches exponent field `e`, and no field from `e + w` on. -/
def Srch (f : EReal) (e w : ℕ) : Prop := thr e ≤ f ∧ ∀ n, e + w ≤ n → n < 256 → f < thr n

/-- One step of the search halves the interval that holds f. -/
theorem srch_step (f : EReal) (e b : ℕ) (hb : e + 2 * b ≤ 256) (h0 : 0 < b) (h : Srch f e (2 * b)) :
    ∃ e', kstep f (BitVec.ofNat 32 b) (BitVec.ofNat 32 e) = BitVec.ofNat 32 e' ∧ e' + b ≤ 256 ∧ Srch f e' b := by
  refine ⟨_, kstep_eq f b e (by omega), ?_, ?_⟩
  · split <;> omega
  · by_cases hf : thr (e + b) ≤ f
    · rw [if_pos hf]; exact ⟨hf, fun n hn h2 => h.2 n (by omega) h2⟩
    · rw [if_neg hf]; exact ⟨h.1, fun n hn h2 => lt_of_lt_of_le (not_le.mp hf) (thr_mono hn h2)⟩

/-- The whole search. -/
theorem kE_spec (f : EReal) (h0 : 0 ≤ f) : ∃ e : ℕ, kE f = BitVec.ofNat 32 e ∧ e + 1 ≤ 256 ∧ Srch f e 1 := by
  have s0 : Srch f 0 (2 * 128) := ⟨by rw [thr_zero]; exact h0, fun n h1 h2 => by omega⟩
  obtain ⟨e1, q1, b1, s1⟩ := srch_step f 0 128 (by omega) (by omega) s0
  obtain ⟨e2, q2, b2, s2⟩ := srch_step f e1 64 (by omega) (by omega) s1
  obtain ⟨e3, q3, b3, s3⟩ := srch_step f e2 32 (by omega) (by omega) s2
  obtain ⟨e4, q4, b4, s4⟩ := srch_step f e3 16 (by omega) (by omega) s3
  obtain ⟨e5, q5, b5, s5⟩ := srch_step f e4 8 (by omega) (by omega) s4
  obtain ⟨e6, q6, b6, s6⟩ := srch_step f e5 4 (by omega) (by omega) s5
  obtain ⟨e7, q7, b7, s7⟩ := srch_step f e6 2 (by omega) (by omega) s6
  obtain ⟨e8, q8, b8, s8⟩ := srch_step f e7 1 (by omega) (by omega) s7
  exact ⟨e8, by unfold kE; rw [q1, q2, q3, q4, q5, q6, q7, q8], b8, s8⟩

/-- The scale's exponent field, from the field that the search found. -/
theorem kS_of (f : EReal) (e : ℕ) (he : e < 255) (h : kE f = BitVec.ofNat 32 e) : kS f = BitVec.ofNat 32 (if e = 0 then 127 else e + 1) := by
  have h2 : ¬(BitVec.ofNat 32 e = 255#32) := fun q => by
    have := congrArg BitVec.toNat q
    simp only [BitVec.toNat_ofNat] at this
    omega
  have h1 : (BitVec.ofNat 32 e = 0#32) ↔ e = 0 := by
    constructor
    · intro q
      have := congrArg BitVec.toNat q
      simp only [BitVec.toNat_ofNat] at this
      omega
    · rintro rfl; rfl
  have e1 : IntOp.addi (BitVec.ofNat 32 e) 1#32 = BitVec.ofNat 32 (e + 1) := by
    unfold IntOp.addi; exact (BitVec.ofNat_add e 1).symm
  unfold kS
  rw [h, e1]
  by_cases h3 : e = 0
  · subst h3; rfl
  · have h4 : ¬(BitVec.ofNat 32 e = 0#32) := fun q => h3 (h1.mp q)
    have c1 : IntOp.cmpi .eq (BitVec.ofNat 32 e) 0#32 = 0#1 := by
      show BitVec.ofBool (BitVec.ofNat 32 e == 0#32) = 0#1
      rw [beq_eq_false_iff_ne.mpr h4]; rfl
    have c2 : IntOp.cmpi .eq (BitVec.ofNat 32 e) 255#32 = 0#1 := by
      show BitVec.ofBool (BitVec.ofNat 32 e == 255#32) = 0#1
      rw [beq_eq_false_iff_ne.mpr h2]; rfl
    rw [c1, c2, if_neg h3]
    rfl

/-- The reference's exponent of `f`. -/
def refE (f : EReal) : EReal :=
  Scalar.select (Ideal.cmp .olt f (Ideal.ofBits .f32 0x00800000#32)) (Ideal.ofBits .f32 0x00000000#32)
    (Ideal.liftRound Int.floor (Ideal.div (Ideal.log f) (Ideal.log (Ideal.ofBits .f32 0x40000000#32))) + Ideal.ofBits .f32 0x3F800000#32)

/-- The word of 2. -/
theorem two_bits : Ideal.ofBits .f32 0x40000000#32 = ((2 : ℝ) : EReal) := by
  have h := thr_eq 128 (by omega) (by omega)
  rw [show ((128 : ℕ) : ℤ) - 127 = 1 by norm_num, zpow_one] at h
  exact h
/-- The word of 1. -/
theorem one_bits : Ideal.ofBits .f32 0x3F800000#32 = ((1 : ℝ) : EReal) := by
  have h := thr_eq 127 (by omega) (by omega)
  rw [show ((127 : ℕ) : ℤ) - 127 = 0 by norm_num, zpow_zero] at h
  exact h

/-- The kernel's exponent field and the reference's exponent of a value below `2^126`. -/
theorem kS_spec (f : EReal) (h0 : 0 ≤ f) (hf : f < thr 253) :
    ∃ s : ℕ, 1 ≤ s ∧ s ≤ 253 ∧ kS f = BitVec.ofNat 32 s ∧ refE f = ((((s : ℤ) - 127 : ℤ) : ℝ) : EReal) := by
  obtain ⟨e, q, hb, s1, s2⟩ := kE_spec f h0
  have he : e < 253 := by
    by_contra hc
    exact absurd (lt_of_lt_of_le hf ((thr_mono (by omega) (by omega)).trans s1)) (lt_irrefl _)
  refine ⟨if e = 0 then 127 else e + 1, by split <;> omega, by split <;> omega, kS_of f e (by omega) q, ?_⟩
  have tiny : Ideal.ofBits .f32 0x00800000#32 = thr 1 := rfl
  unfold refE
  rw [tiny, one_bits, two_bits]
  by_cases h : e = 0
  · subst h
    have hlt : f < thr 1 := s2 1 (by omega) (by omega)
    have hz : Ideal.ofBits .f32 0x00000000#32 = 0 := thr_zero
    unfold Ideal.cmp Scalar.select
    simp [hlt, hz]
  · have hn : ¬ f < thr 1 := not_lt.mpr ((thr_mono (by omega) (by omega)).trans s1)
    have hu := s2 (e + 1) (by omega) (by omega)
    rw [thr_eq e (by omega) (by omega)] at s1
    rw [thr_eq (e + 1) (by omega) (by omega)] at hu
    induction f using EReal.rec with
    | bot => exact absurd h0 (by simp)
    | top => exact absurd hu (by simp)
    | coe r =>
      have r1 : (2 : ℝ) ^ ((e : ℤ) - 127) ≤ r := EReal.coe_le_coe_iff.mp s1
      have r2 : r < (2 : ℝ) ^ (((e + 1 : ℕ) : ℤ) - 127) := EReal.coe_lt_coe_iff.mp hu
      have rp : 0 < r := lt_of_lt_of_le (by positivity) r1
      have l2 : 0 < Real.log 2 := Real.log_pos (by norm_num)
      have fl : ⌊Real.log r * (1 / Real.log 2)⌋ = (e : ℤ) - 127 := by
        rw [mul_one_div, Int.floor_eq_iff]
        constructor
        · rw [le_div_iff₀ l2, ← Real.log_zpow]
          exact Real.log_le_log (by positivity) r1
        · rw [div_lt_iff₀ l2]
          have : (((e : ℤ) - 127 : ℤ) : ℝ) + 1 = ((((e + 1 : ℕ) : ℤ) - 127 : ℤ) : ℝ) := by push_cast; ring
          rw [this, ← Real.log_zpow]
          exact Real.log_lt_log rp r2
      have c : Ideal.cmp .olt (r : EReal) (thr 1) = 0#1 := by unfold Ideal.cmp; simp [hn]
      rw [c, Ideal.log_coe, Ideal.log_coe, if_neg (not_le.mpr rp), if_neg (by norm_num), Ideal.div_coe l2.ne', ← EReal.coe_mul, Ideal.liftRound_coe, fl]
      unfold Scalar.select
      rw [if_neg (by decide), if_neg h, ← EReal.coe_add]
      refine congrArg _ ?_
      push_cast; ring

/-- The scale and its inverse: the kernel's bit patterns are the reference's powers of two, in both formats. -/
theorem scale_eq (f : EReal) (h0 : 0 ≤ f) (hf : f < thr 253) :
    Ideal.ofBits .f32 (IntOp.shli .vector (kS f) 23#32) = Ideal.exp2 (refE f)
    ∧ Ideal.ofBits .f32 (IntOp.shli .vector (IntOp.subi 254#32 (kS f)) 23#32) = Ideal.exp2 (Ideal.ofBits .f32 0x00000000#32 - refE f)
    ∧ halfV (kS f) = Ideal.exp2 (refE f)
    ∧ halfV (IntOp.subi 254#32 (kS f)) = Ideal.exp2 (Ideal.ofBits .f32 0x00000000#32 - refE f) := by
  obtain ⟨s, h1, h2, q, r⟩ := kS_spec f h0 hf
  have hz : Ideal.ofBits .f32 0x00000000#32 = 0 := thr_zero
  have hs : IntOp.subi 254#32 (BitVec.ofNat 32 s) = BitVec.ofNat 32 (254 - s) := by
    unfold IntOp.subi
    apply BitVec.eq_of_toNat_eq
    simp only [BitVec.toNat_sub, BitVec.toNat_ofNat]
    omega
  have ep : Ideal.exp2 (refE f) = (((2 : ℝ) ^ ((s : ℤ) - 127) : ℝ) : EReal) := by
    rw [r, Ideal.exp2_coe]; exact congrArg _ (Real.rpow_intCast 2 _)
  have em : Ideal.exp2 (Ideal.ofBits .f32 0x00000000#32 - refE f) = (((2 : ℝ) ^ (((254 - s : ℕ) : ℤ) - 127) : ℝ) : EReal) := by
    rw [r, hz, zero_sub, ← EReal.coe_neg, Ideal.exp2_coe, show ((254 - s : ℕ) : ℤ) - 127 = -((s : ℤ) - 127) by omega, ← Int.cast_neg]
    exact congrArg _ (Real.rpow_intCast 2 _)
  rw [ep, em, q, hs]
  exact ⟨thr_eq s h1 (by omega), thr_eq (254 - s) (by omega) (by omega), halfV_eq s h1 (by omega), halfV_eq (254 - s) (by omega) (by omega)⟩

/-- The bounds of an e4m3 code in the two formats. -/
theorem bits_448 : Ideal.ofBits .bf16 0x43E0#16 = Ideal.ofBits .f32 0x43E00000#32 := by
  simp [Ideal.ofBits, Ideal.ieee, -EReal.coe_mul] <;> norm_num
/-- The bf16 and the f32 word of -448 are the same number. -/
theorem bits_m448 : Ideal.ofBits .bf16 0xC3E0#16 = Ideal.ofBits .f32 0xC3E00000#32 := by
  simp [Ideal.ofBits, Ideal.ieee, -EReal.coe_mul] <;> norm_num
/-- The clamp in bf16 is the clip in f32. -/
theorem clampV_eq (x : EReal) : clampV x = min (Ideal.ofBits .f32 0x43E00000#32) (max (Ideal.ofBits .f32 0xC3E00000#32) x) := by
  unfold clampV; rw [bits_448, bits_m448, min_comm, max_comm x]

/-- A group of finite bf16 magnitudes, over 448, is below `2^126`. -/
theorem f_bound (g : EReal) (h0 : 0 ≤ g) (h : g ≤ Ideal.ofBits .f32 0x7F7F0000#32) : 0 ≤ g * c448 ∧ g * c448 < thr 253 := by
  have ec : c448 = (((9586981 : ℝ) * 2 ^ (-32 : ℤ) : ℝ) : EReal) := by
    unfold c448; simp [Ideal.ofBits, Ideal.ieee, -EReal.coe_mul] <;> norm_num
  have em : Ideal.ofBits .f32 0x7F7F0000#32 = (((255 : ℝ) * 2 ^ (120 : ℤ) : ℝ) : EReal) := by
    simp [Ideal.ofBits, Ideal.ieee, -EReal.coe_mul] <;> norm_num
  rw [em] at h
  induction g using EReal.rec with
  | bot => exact absurd h0 (by simp)
  | top => exact absurd h (not_le.mpr (EReal.coe_lt_top _))
  | coe r =>
    have r0 : 0 ≤ r := EReal.coe_nonneg.mp h0
    have r1 : r ≤ 255 * 2 ^ (120 : ℤ) := EReal.coe_le_coe_iff.mp h
    rw [ec, ← EReal.coe_mul, thr_eq 253 (by omega) (by omega)]
    refine ⟨EReal.coe_nonneg.mpr (by positivity), EReal.coe_lt_coe_iff.mpr ?_⟩
    refine lt_of_le_of_lt (mul_le_mul_of_nonneg_right r1 (by positivity)) ?_
    norm_num

end Cert.Proof.KV

end
-- ==== Proof.KVRef.lean ====
/- What the reference computes, element by element, at the extended reals. -/
module

public import proofs.«01_k».proof.Proof.KVMath
public import proofs.«01_k».proof.Proof.Gen.ReferenceIdeal
public import proofs.«01_k».proof.Proof.Gen.ReferenceIdeal.Frame
public import Idealize.ShloMosaic.Lib.Pipeline.Value
public import Idealize.ShloMosaic.Lib.Pointwise
public import Idealize.ShloMosaic.Lib.ValueIdx

@[expose] public section

noncomputable section

namespace Cert.Proof.KV

open Cert.ReferenceIdeal Cert.ReferenceIdeal.Gen
open Idealize.ShloMosaic

/-- The largest magnitude of an activation group, and of a weight group. -/
def gX (A : ℕ → ℕ → EReal) (r g : ℕ) : EReal := Finset.univ.sup fun i : Fin 32 => magV (A r (32 * g + i.val))
def gW (B : ℕ → ℕ → EReal) (R c : ℕ) : EReal := Finset.univ.sup fun i : Fin 32 => magV (B (32 * R + i.val) c)
/-- A group's scale and its inverse, and a code, from the reference's exponent. -/
def rS (a : EReal) : EReal := Ideal.exp2 (refE (a * c448))
def rI (a : EReal) : EReal := Ideal.exp2 (Ideal.ofBits .f32 0x00000000#32 - refE (a * c448))
def rC (v a : EReal) : EReal := min (Ideal.ofBits .f32 0x43E00000#32) (max (Ideal.ofBits .f32 0xC3E00000#32) (v * rI a))

theorem bot_bits : Ideal.ofBits .f32 0xFF800000#32 = ⊥ := by simp [Ideal.ofBits, Ideal.ieee]

section
variable (s : Shape)
/-- The exponent, a code and a power of two at one element, whatever the shape. -/
theorem expE (M : FVec Ideal s .f32) (j : s.Idx) :
    select (cmpf .olt M (broadcast s (Scalar.ofBits .f32 0x00800000#32 : Ideal .f32))) (broadcast s (Scalar.ofBits .f32 0x00000000#32 : Ideal .f32))
      (addf (floor (divf (log M) (log (broadcast s (Scalar.ofBits .f32 0x40000000#32 : Ideal .f32))))) (broadcast s (Scalar.ofBits .f32 0x3F800000#32 : Ideal .f32))) j
    = refE (M j) := by unfold refE; rfl
theorem mulE (M : FVec Ideal s .f32) (j : s.Idx) : mulf M (broadcast s (Scalar.ofBits .f32 0x3B124925#32 : Ideal .f32)) j = M j * c448 := by unfold c448; rfl
theorem exp2E (M : FVec Ideal s .f32) (j : s.Idx) : exp2 M j = Ideal.exp2 (M j) := rfl
theorem negE (M : FVec Ideal s .f32) (j : s.Idx) :
    exp2 (subf (broadcast s (Scalar.ofBits .f32 0x00000000#32 : Ideal .f32)) M) j = Ideal.exp2 (Ideal.ofBits .f32 0x00000000#32 - M j) := rfl
theorem codeE (x y : FVec Ideal s .f32) (j : s.Idx) :
    truncf .fp8e4m3 (minimumf (broadcast s (Scalar.ofBits .f32 0x43E00000#32 : Ideal .f32)) (maximumf (broadcast s (Scalar.ofBits .f32 0xC3E00000#32 : Ideal .f32)) (mulf x y))) bitsLt_fp8e4m3_f32 j
    = min (Ideal.ofBits .f32 0x43E00000#32) (max (Ideal.ofBits .f32 0xC3E00000#32) (x j * y j)) := rfl
theorem deqE (x : FVec Ideal s .fp8e4m3) (y : FVec Ideal s .bf16) (j : s.Idx) : mulf (extf .bf16 x bitsLt_fp8e4m3_bf16) y j = x j * y j := rfl
theorem absE (x : FVec Ideal s .f32) (j : s.Idx) : absf x j = magV (x j) := rfl
end

/-- A group's value spread over its elements. -/
theorem spreadX {α : Type} (v : S112x512.Idx → α) (j : S112x512x32.Idx) :
    broadcastTo S112x512x32 (shapeCast S112x512x1 v shapeCasts_S112x512_S112x512x1) broadcasts_S112x512x1_S112x512x32 j = v (ix2 (j 0) (j 1)) := by
  refine (broadcastTo_apply _ _ j (ix3 (j 0) (j 1) 0 : S112x512x1.Idx) fun a => ?_).trans ?_
  · match a with
    | ⟨0, _⟩ => rfl
    | ⟨1, _⟩ => rfl
    | ⟨2, _⟩ => rfl
  refine shapeCast_apply _ _ _ (ix2 (j 0) (j 1) : S112x512.Idx) ?_
  rw [Shape.rowMajor_val_three, Shape.rowMajor_val_two]
  show (j 0).val * 512 + (j 1).val = ((j 0).val * 512 + (j 1).val) * 1 + 0
  omega
/-- A scale per group, spread over the group's rows. -/
theorem spreadW {α : Type} (v : S512x5376.Idx → α) (j : S512x32x5376.Idx) :
    broadcastTo S512x32x5376 (shapeCast S512x1x5376 v shapeCasts_S512x5376_S512x1x5376) broadcasts_S512x1x5376_S512x32x5376 j = v (ix2 (j 0) (j 2)) := by
  refine (broadcastTo_apply _ _ j (ix3 (j 0) 0 (j 2) : S512x1x5376.Idx) fun a => ?_).trans ?_
  · match a with
    | ⟨0, _⟩ => rfl
    | ⟨1, _⟩ => rfl
    | ⟨2, _⟩ => rfl
  refine shapeCast_apply _ _ _ (ix2 (j 0) (j 2) : S512x5376.Idx) ?_
  rw [Shape.rowMajor_val_three, Shape.rowMajor_val_two]
  show (j 0).val * 5376 + (j 2).val = ((j 0).val * 1 + 0) * 5376 + (j 2).val
  omega
/-- The grouped arrays laid flat. -/
theorem flatX {α : Type} (v : S112x512x32.Idx → α) (j : S112x16384.Idx) (g : Fin 512) (i : Fin 32) (h : (j 1).val = 32 * g.val + i.val) :
    shapeCast S112x16384 v shapeCasts_S112x512x32_S112x16384 j = v (ix3 (j 0) g i) := by
  refine shapeCast_apply _ _ _ (ix3 (j 0) g i : S112x512x32.Idx) ?_
  rw [Shape.rowMajor_val_three, Shape.rowMajor_val_two]
  show ((j 0).val * 512 + g.val) * 32 + i.val = (j 0).val * 16384 + (j 1).val
  omega
/-- Grouped rows flattened. -/
theorem flatW {α : Type} (v : S512x32x5376.Idx → α) (j : S16384x5376.Idx) (g : Fin 512) (i : Fin 32) (h : (j 0).val = 32 * g.val + i.val) :
    shapeCast S16384x5376 v shapeCasts_S512x32x5376_S16384x5376 j = v (ix3 g i (j 1)) := by
  refine shapeCast_apply _ _ _ (ix3 g i (j 1) : S512x32x5376.Idx) ?_
  rw [Shape.rowMajor_val_three, Shape.rowMajor_val_two]
  show (g.val * 32 + i.val) * 5376 + (j 1).val = (j 0).val * 5376 + (j 1).val
  rw [h]; ring
/-- The groups' maxima. -/
theorem maxX (M : FVec Ideal S112x512x32 .f32) (j : S112x512.Idx) :
    multiReduction .maximumf [2] S112x512 M 0xFF800000#32 reduces_S112x512x32_S112x512 (.inl rfl) rfl j = Finset.univ.sup fun k : Fin 32 => M (ix3 (j 0) (j 1) k) := by
  refine (show _ = Finset.univ.fold max (FloatOps.ofBits (F := Ideal) .f32 0xFF800000#32) (fun k : Fin 32 => M (ix3 (j 0) (j 1) k)) by simp only [pointwise]).trans ?_
  rw [Ideal.ofBits_def, bot_bits]
  rfl
/-- The reduction over a group of weights is the maximum over its 32 rows. -/
theorem maxW (M : FVec Ideal S512x32x5376 .f32) (j : S512x5376.Idx) :
    multiReduction .maximumf [1] S512x5376 M 0xFF800000#32 reduces_S512x32x5376_S512x5376 (.inl rfl) rfl j = Finset.univ.sup fun k : Fin 32 => M (ix3 (j 0) k (j 1)) := by
  refine (show _ = Finset.univ.fold max (FloatOps.ofBits (F := Ideal) .f32 0xFF800000#32) (fun k : Fin 32 => M (ix3 (j 0) k (j 1))) by simp only [pointwise]).trans ?_
  rw [Ideal.ofBits_def, bot_bits]
  rfl

/-- The one product, at an element. -/
theorem dotR (L : FVec Ideal S112x16384 .bf16) (R : FVec Ideal S16384x5376 .bf16) (z : FVec Ideal S112x5376 .f32) (j : S112x5376.Idx) :
    truncf .bf16 (matmul dot_S112x16384_S16384x5376_S112x5376_1_0_0_1_n_n none L R z) bitsLt_bf16_f32 j = z j + ∑ k : Fin 16384, L (ix2 (j 0) k) * R (ix2 k (j 1)) := by
  simp only [pointwise]

section
variable (A B : ℕ → ℕ → EReal) (x0 : Vec Ideal S112x16384 .bf16) (x1 : Vec Ideal S16384x5376 .bf16)
  (hx : ∀ y : S112x16384.Idx, x0 y = A (y 0).val (y 1).val) (hw : ∀ y : S16384x5376.Idx, x1 y = B (y 0).val (y 1).val)
include hx

/-- The activations grouped by 32. -/
theorem rx1 (j : S112x512x32.Idx) : k0_pay1 x0 j = A (j 0).val (32 * (j 1).val + (j 2).val) := by
  have h1 : (j 1).val < 512 := (j 1).isLt
  have h2 : (j 2).val < 32 := (j 2).isLt
  unfold k0_pay1
  refine (shapeCast_apply _ _ j (ix2 (j 0) ⟨32 * (j 1).val + (j 2).val, by omega⟩ : S112x16384.Idx) ?_).trans ?_
  · rw [Shape.rowMajor_val_three, Shape.rowMajor_val_two]
    show (j 0).val * 16384 + (32 * (j 1).val + (j 2).val) = ((j 0).val * 512 + (j 1).val) * 32 + (j 2).val
    omega
  · rw [shapeCast_self]
    exact hx _

/-- The exponent of a group of activations. -/
theorem rx2 (j : S112x512.Idx) : k0_pay2 x0 j = refE (gX A (j 0).val (j 1).val * c448) := by
  unfold k0_pay2
  dsimp only
  refine (expE _ _ j).trans (congrArg refE ((mulE _ _ j).trans (congrArg (· * c448) ((maxX _ j).trans ?_))))
  unfold gX
  exact Finset.sup_congr rfl fun k _ => (absE _ _ _).trans (congrArg magV (rx1 A x0 hx (ix3 (j 0) (j 1) k)))

/-- The scale of a group of activations. -/
theorem rx3 (j : S112x512.Idx) : k0_pay3 x0 j = rS (gX A (j 0).val (j 1).val) := by
  unfold k0_pay3 rS
  exact (exp2E _ _ j).trans (congrArg Ideal.exp2 (rx2 A x0 hx j))

/-- The codes of the activations, grouped. -/
theorem rx4 (j : S112x512x32.Idx) : k0_pay4 x0 j = rC (A (j 0).val (32 * (j 1).val + (j 2).val)) (gX A (j 0).val (j 1).val) := by
  have h1 := rx1 A x0 hx
  have h2 : ∀ (r : Fin 112) (g : Fin 512), k0_pay2 x0 (ix2 r g) = refE (gX A r.val g.val * c448) := fun r g => rx2 A x0 hx (ix2 r g)
  unfold k0_pay4
  dsimp only
  generalize k0_pay2 x0 = P at h2 ⊢
  generalize k0_pay1 x0 = Q at h1 ⊢
  refine (codeE _ _ _ j).trans ?_
  rw [h1, spreadX, negE]
  refine Eq.trans ?_ (congrArg (fun v => min (Ideal.ofBits .f32 0x43E00000#32) (max (Ideal.ofBits .f32 0xC3E00000#32) (A (j 0).val (32 * (j 1).val + (j 2).val) * Ideal.exp2 (Ideal.ofBits .f32 0x00000000#32 - v)))) (h2 (j 0) (j 1)))
  rfl

/-- The dequantised activations, grouped. -/
theorem rx5 (j : S112x512x32.Idx) : k0_pay5 x0 j = rC (A (j 0).val (32 * (j 1).val + (j 2).val)) (gX A (j 0).val (j 1).val) * rS (gX A (j 0).val (j 1).val) := by
  have h3 : ∀ (r : Fin 112) (g : Fin 512), k0_pay3 x0 (ix2 r g) = rS (gX A r.val g.val) := fun r g => rx3 A x0 hx (ix2 r g)
  have h4 := rx4 A x0 hx j
  unfold k0_pay5
  dsimp only
  generalize k0_pay3 x0 = P at h3 ⊢
  generalize k0_pay4 x0 = Q at h4 ⊢
  refine (deqE _ _ _ j).trans ?_
  rw [h4, spreadX]
  exact congrArg (fun v : EReal => rC (A (j 0).val (32 * (j 1).val + (j 2).val)) (gX A (j 0).val (j 1).val) * v) (h3 (j 0) (j 1))

omit hx
include hw
/-- The weights grouped by 32. -/
theorem rw6 (j : S512x32x5376.Idx) : k0_pay6 x1 j = B (32 * (j 0).val + (j 1).val) (j 2).val := by
  have h1 : (j 0).val < 512 := (j 0).isLt
  have h2 : (j 1).val < 32 := (j 1).isLt
  unfold k0_pay6
  dsimp only
  refine (shapeCast_apply _ _ j (ix2 ⟨32 * (j 0).val + (j 1).val, by omega⟩ (j 2) : S16384x5376.Idx) ?_).trans (hw _)
  rw [Shape.rowMajor_val_three, Shape.rowMajor_val_two]
  show (32 * (j 0).val + (j 1).val) * 5376 + (j 2).val = ((j 0).val * 32 + (j 1).val) * 5376 + (j 2).val
  rw [Nat.mul_comm 32]

/-- The maximum of a group of weights, divided by 448. -/
theorem rw7 (j : S512x5376.Idx) : k0_pay7 x1 j = gW B (j 0).val (j 1).val * c448 := by
  unfold k0_pay7
  dsimp only
  refine (mulE _ _ j).trans (congrArg (· * c448) ((maxW _ j).trans ?_))
  unfold gW
  exact Finset.sup_congr rfl fun k _ => (absE _ _ _).trans (congrArg magV (rw6 B x1 hw (ix3 (j 0) k (j 1))))

/-- The exponent of a group of weights. -/
theorem rw9 (j : S512x5376.Idx) : k0_pay9 (k0_pay7 x1) (k0_pay8 x1) (Scalar.ofBits .f32 0x40000000#32) j = refE (gW B (j 0).val (j 1).val * c448) := by
  unfold k0_pay9 k0_pay8
  dsimp only
  exact (expE _ _ j).trans (congrArg refE (rw7 B x1 hw j))

/-- The scale of a group of weights. -/
theorem rw10 (j : S512x5376.Idx) : k0_pay10 (k0_pay7 x1) (k0_pay8 x1) (Scalar.ofBits .f32 0x40000000#32) j = rS (gW B (j 0).val (j 1).val) := by
  unfold k0_pay10 rS
  exact (exp2E _ _ j).trans (congrArg Ideal.exp2 (rw9 B x1 hw j))

/-- The codes of the weights, grouped. -/
theorem rw11 (j : S512x32x5376.Idx) : k0_pay11 (k0_pay6 x1) (k0_pay7 x1) (k0_pay8 x1) (Scalar.ofBits .f32 0x40000000#32) j
    = rC (B (32 * (j 0).val + (j 1).val) (j 2).val) (gW B (j 0).val (j 2).val) := by
  unfold k0_pay11 rC rI
  dsimp only
  refine (codeE _ _ _ j).trans ?_
  rw [rw6 B x1 hw j, spreadW, negE]
  exact congrArg (fun v => min (Ideal.ofBits .f32 0x43E00000#32) (max (Ideal.ofBits .f32 0xC3E00000#32) (_ * Ideal.exp2 (_ - v)))) (rw9 B x1 hw (ix2 (j 0) (j 2)))

include hx
/-- The product of dequantised activations and weights. -/
theorem rr2 (j : S112x5376.Idx) : k0_pay12 (k0_pay5 x0) (k0_pay6 x1) (k0_pay7 x1) (k0_pay8 x1) (Scalar.ofBits .f32 0x40000000#32) j
    = ∑ k : Fin 16384, rC (A (j 0).val k.val) (gX A (j 0).val (k.val / 32)) * rS (gX A (j 0).val (k.val / 32))
        * (rC (B k.val (j 1).val) (gW B (k.val / 32) (j 1).val) * rS (gW B (k.val / 32) (j 1).val)) := by
  have h11 : ∀ (g : Fin 512) (i : Fin 32) (c : Fin 5376), k0_pay11 (k0_pay6 x1) (k0_pay7 x1) (k0_pay8 x1) (Scalar.ofBits .f32 0x40000000#32) (ix3 g i c)
    = rC (B (32 * g.val + i.val) c.val) (gW B g.val c.val) := fun g i c => rw11 B x1 hw (ix3 g i c)
  have h10 : ∀ (g : Fin 512) (c : Fin 5376), k0_pay10 (k0_pay7 x1) (k0_pay8 x1) (Scalar.ofBits .f32 0x40000000#32) (ix2 g c) = rS (gW B g.val c.val) := fun g c => rw10 B x1 hw (ix2 g c)
  unfold k0_pay12
  dsimp only
  generalize k0_pay11 (k0_pay6 x1) (k0_pay7 x1) (k0_pay8 x1) (Scalar.ofBits .f32 0x40000000#32) = P at h11 ⊢
  generalize k0_pay10 (k0_pay7 x1) (k0_pay8 x1) (Scalar.ofBits .f32 0x40000000#32) = Q at h10 ⊢
  have hz : Ideal.ofBits .f32 0x00000000#32 = 0 := thr_zero
  refine (dotR _ _ _ j).trans ?_
  rw [show (constant S112x5376 .f32 0x00000000#32 : FVec Ideal S112x5376 .f32) j = 0 from hz, zero_add]
  refine Finset.sum_congr rfl fun k _ => ?_
  have hk : k.val < 16384 := k.isLt
  have e : 32 * (k.val / 32) + k.val % 32 = k.val := by omega
  rw [flatX (k0_pay5 x0) (ix2 (j 0) k) ⟨k.val / 32, by omega⟩ ⟨k.val % 32, by omega⟩ e.symm, flatW _ (ix2 k (j 1)) ⟨k.val / 32, by omega⟩ ⟨k.val % 32, by omega⟩ e.symm]
  refine congrArg₂ (· * ·) ((rx5 A x0 hx _).trans ?_) ((deqE _ _ _ _).trans ?_)
  · exact congrArg (fun n => rC (A (j 0).val n) (gX A (j 0).val (k.val / 32)) * rS (gX A (j 0).val (k.val / 32))) e
  · rw [spreadW]
    refine (congrArg₂ (fun a b : EReal => a * b) (h11 ⟨k.val / 32, by omega⟩ ⟨k.val % 32, by omega⟩ (j 1)) (h10 ⟨k.val / 32, by omega⟩ (j 1))).trans ?_
    exact congrArg (fun n => rC (B n (j 1).val) (gW B (k.val / 32) (j 1).val) * rS (gW B (k.val / 32) (j 1).val)) e

end

end Cert.Proof.KV

end
-- ==== Proof.KVRefRun.lean ====
/- The reference's run: every result as a function of the arguments. -/
module

public import proofs.«01_k».proof.Proof.KVRef
public import proofs.«01_k».proof.Proof.Gen.ReferenceIdeal.Frame

@[expose] public section

set_option maxRecDepth 65536

noncomputable section

namespace Cert.Proof.KV

/-- The results, from the activations `A` and the weights `B` by row and column. -/
def vXc (A : ℕ → ℕ → EReal) (r k : ℕ) : EReal := rC (A r k) (gX A r (k / 32))
def vXs (A : ℕ → ℕ → EReal) (r g : ℕ) : EReal := rS (gX A r g)
def vWc (B : ℕ → ℕ → EReal) (k c : ℕ) : EReal := rC (B k c) (gW B (k / 32) c)
def vWs (B : ℕ → ℕ → EReal) (g c : ℕ) : EReal := rS (gW B g c)
def vY (A B : ℕ → ℕ → EReal) (r c : ℕ) : EReal :=
  ∑ k : Fin 16384, vXc A r k.val * vXs A r (k.val / 32) * (vWc B k.val c * vWs B (k.val / 32) c)

open Cert.ReferenceIdeal Cert.ReferenceIdeal.Gen
open Idealize.ShloMosaic Idealize.ShloMosaic.TcCoe
open Idealize.SL Idealize.SL.Sem
open Idealize.ShloMosaic.Pipeline (Dat Cfg Window)

/-- The activations and the weights by row and column. -/
def inA (X : S112x1x16384.Idx → EReal) (r k : ℕ) : EReal := X (ix3 (Fin.ofNat 112 r) 0 (Fin.ofNat 16384 k))
def inB (W : S16384x5376.Idx → EReal) (k c : ℕ) : EReal := W (ix2 (Fin.ofNat 16384 k) (Fin.ofNat 5376 c))

/-- A number below n is its own remainder. -/
theorem ofNat_val (n : ℕ) [NeZero n] (x : Fin n) : Fin.ofNat n x.val = x := Fin.ext (Nat.mod_eq_of_lt x.isLt)

variable (m : (ℓ : Loc nD τ sig) → Buf (Elt Ideal) ℓ) (ρ : Dev nD → PrngReg)

/-- The activations' array, as the reference's region finds it, is the first argument reshaped. -/
theorem hV0 (c : Dev nD) : (V m c main_v0 : S112x16384.Idx → EReal)
    = shapeCast S112x16384 (m ((c : Thread nD τ).loc main_arg0) : S112x1x16384.Idx → EReal) shapeCasts_S112x1x16384_S112x16384 := by
  show StableHlo.after hostOps0 _ (Proc.devRef .tc main_v0) = _
  after_results
  rfl

/-- The reference's activations are the first argument's entries. -/
theorem hx0 (c : Dev nD) (y : S112x16384.Idx) : (V m c main_v0 : S112x16384.Idx → EReal) y = inA (m ((c : Thread nD τ).loc main_arg0)) (y 0).val (y 1).val := by
  rw [hV0]
  refine (shapeCast_apply _ _ y (ix3 (y 0) 0 (y 1) : S112x1x16384.Idx) ?_).trans ?_
  · rw [Shape.rowMajor_val_three, Shape.rowMajor_val_two]
    show ((y 0).val * 1 + 0) * 16384 + (y 1).val = (y 0).val * 16384 + (y 1).val
    omega
  · unfold inA
    exact congrArg₂ (fun a b => (m ((c : Thread nD τ).loc main_arg0) : S112x1x16384.Idx → EReal) (ix3 a 0 b)) (ofNat_val 112 (y 0)).symm (ofNat_val 16384 (y 1)).symm

/-- The reference's weights are the second argument's entries. -/
theorem hw0 (c : Dev nD) (y : S16384x5376.Idx) : (V m c main_arg1 : S16384x5376.Idx → EReal) y = inB (m ((c : Thread nD τ).loc main_arg1)) (y 0).val (y 1).val := by
  rw [V_main_arg1]
  unfold inB
  refine congrArg (m ((c : Thread nD τ).loc main_arg1) : S16384x5376.Idx → EReal) (funext fun a => ?_)
  match a with
  | ⟨0, _⟩ => exact (ofNat_val 16384 (y 0)).symm
  | ⟨1, _⟩ => exact (ofNat_val 5376 (y 1)).symm

/-- Every window's block is its whole array: where an element of the block sits. -/
theorem emb0 (t : Fin cfg0.N) (y : S112x16384.Idx) : (((cfg0.win 0).blk t).view.emb y : S112x16384.Idx) = y := by
  have hi : (cfg0.win 0).index t 0 = 0 ∧ (cfg0.win 0).index t 1 = 0 := ⟨rfl, rfl⟩
  refine funext fun a => Fin.ext ?_
  refine ((cfg0.win 0).rect_emb_val_off t y a).trans ?_
  match a with
  | ⟨0, _⟩ =>
    show (cfg0.win 0).index t 0 * 112 + (y 0).val = (y 0).val
    rw [hi.1]; omega
  | ⟨1, _⟩ =>
    show (cfg0.win 0).index t 1 * 16384 + (y 1).val = (y 1).val
    rw [hi.2]; omega
/-- The window covers its whole array. -/
theorem emb1 (t : Fin cfg0.N) (y : S16384x5376.Idx) : (((cfg0.win 1).blk t).view.emb y : S16384x5376.Idx) = y := by
  have hi : (cfg0.win 1).index t 0 = 0 ∧ (cfg0.win 1).index t 1 = 0 := ⟨rfl, rfl⟩
  refine funext fun a => Fin.ext ?_
  refine ((cfg0.win 1).rect_emb_val_off t y a).trans ?_
  match a with
  | ⟨0, _⟩ =>
    show (cfg0.win 1).index t 0 * 5376 + (y 0).val = (y 0).val
    rw [hi.1]; omega
  | ⟨1, _⟩ =>
    show (cfg0.win 1).index t 1 * 5376 + (y 1).val = (y 1).val
    rw [hi.2]; omega
/-- The window covers its whole array. -/
theorem emb2 (t : Fin cfg0.N) (y : S112x5376.Idx) : (((cfg0.win 2).blk t).view.emb y : S112x5376.Idx) = y := by
  have hi : (cfg0.win 2).index t 0 = 0 ∧ (cfg0.win 2).index t 1 = 0 := ⟨rfl, rfl⟩
  refine funext fun a => Fin.ext ?_
  refine ((cfg0.win 2).rect_emb_val_off t y a).trans ?_
  match a with
  | ⟨0, _⟩ =>
    show (cfg0.win 2).index t 0 * 112 + (y 0).val = (y 0).val
    rw [hi.1]; omega
  | ⟨1, _⟩ =>
    show (cfg0.win 2).index t 1 * 5376 + (y 1).val = (y 1).val
    rw [hi.2]; omega
/-- The window covers its whole array. -/
theorem emb3 (t : Fin cfg0.N) (y : S112x16384.Idx) : (((cfg0.win 3).blk t).view.emb y : S112x16384.Idx) = y := by
  have hi : (cfg0.win 3).index t 0 = 0 ∧ (cfg0.win 3).index t 1 = 0 := ⟨rfl, rfl⟩
  refine funext fun a => Fin.ext ?_
  refine ((cfg0.win 3).rect_emb_val_off t y a).trans ?_
  match a with
  | ⟨0, _⟩ =>
    show (cfg0.win 3).index t 0 * 112 + (y 0).val = (y 0).val
    rw [hi.1]; omega
  | ⟨1, _⟩ =>
    show (cfg0.win 3).index t 1 * 16384 + (y 1).val = (y 1).val
    rw [hi.2]; omega
/-- The window covers its whole array. -/
theorem emb4 (t : Fin cfg0.N) (y : S112x512.Idx) : (((cfg0.win 4).blk t).view.emb y : S112x512.Idx) = y := by
  have hi : (cfg0.win 4).index t 0 = 0 ∧ (cfg0.win 4).index t 1 = 0 := ⟨rfl, rfl⟩
  refine funext fun a => Fin.ext ?_
  refine ((cfg0.win 4).rect_emb_val_off t y a).trans ?_
  match a with
  | ⟨0, _⟩ =>
    show (cfg0.win 4).index t 0 * 112 + (y 0).val = (y 0).val
    rw [hi.1]; omega
  | ⟨1, _⟩ =>
    show (cfg0.win 4).index t 1 * 512 + (y 1).val = (y 1).val
    rw [hi.2]; omega
/-- The window covers its whole array. -/
theorem emb5 (t : Fin cfg0.N) (y : S16384x5376.Idx) : (((cfg0.win 5).blk t).view.emb y : S16384x5376.Idx) = y := by
  have hi : (cfg0.win 5).index t 0 = 0 ∧ (cfg0.win 5).index t 1 = 0 := ⟨rfl, rfl⟩
  refine funext fun a => Fin.ext ?_
  refine ((cfg0.win 5).rect_emb_val_off t y a).trans ?_
  match a with
  | ⟨0, _⟩ =>
    show (cfg0.win 5).index t 0 * 5376 + (y 0).val = (y 0).val
    rw [hi.1]; omega
  | ⟨1, _⟩ =>
    show (cfg0.win 5).index t 1 * 5376 + (y 1).val = (y 1).val
    rw [hi.2]; omega
/-- The window covers its whole array. -/
theorem emb6 (t : Fin cfg0.N) (y : S512x5376.Idx) : (((cfg0.win 6).blk t).view.emb y : S512x5376.Idx) = y := by
  have hi : (cfg0.win 6).index t 0 = 0 ∧ (cfg0.win 6).index t 1 = 0 := ⟨rfl, rfl⟩
  refine funext fun a => Fin.ext ?_
  refine ((cfg0.win 6).rect_emb_val_off t y a).trans ?_
  match a with
  | ⟨0, _⟩ =>
    show (cfg0.win 6).index t 0 * 512 + (y 0).val = (y 0).val
    rw [hi.1]; omega
  | ⟨1, _⟩ =>
    show (cfg0.win 6).index t 1 * 5376 + (y 1).val = (y 1).val
    rw [hi.2]; omega

/-- The input blocks are the arrays. -/
theorem blk0 (c : Dev nD) (t : Fin cfg0.N) : (iblk m c 0 t : S112x16384.Idx → EReal) = V m c main_v0 := by
  funext y
  exact congrArg (V m c main_v0 : S112x16384.Idx → EReal) (emb0 t y)
/-- The block of weights is the whole array. -/
theorem blk1 (c : Dev nD) (t : Fin cfg0.N) : (iblk m c 1 t : S16384x5376.Idx → EReal) = V m c main_arg1 := by
  funext y
  exact congrArg (V m c main_arg1 : S16384x5376.Idx → EReal) (emb1 t y)

theorem off2 : (![0, 0] : Fin 2 → ℕ) = fun _ => 0 := by
  funext a
  match a with
  | ⟨0, _⟩ => rfl
  | ⟨1, _⟩ => rfl

section
variable (A B : ℕ → ℕ → EReal) (x0 : Vec Ideal S112x16384 .bf16) (x1 : Vec Ideal S16384x5376 .bf16)
  (hx : ∀ y : S112x16384.Idx, x0 y = A (y 0).val (y 1).val) (hw : ∀ y : S16384x5376.Idx, x1 y = B (y 0).val (y 1).val)
include hx
/-- The body's codes of the activations. -/
theorem o3 : out0_3 x0 x1 = fun y : S112x16384.Idx => vXc A (y 0).val (y 1).val := by
  have h4 : ∀ (r : Fin 112) (g : Fin 512) (i : Fin 32), k0_pay4 x0 (ix3 r g i) = rC (A r.val (32 * g.val + i.val)) (gX A r.val g.val) := fun r g i => rx4 A x0 hx (ix3 r g i)
  unfold out0_3
  rw [View.canon_unit_zero off2, View.ld_unit_zero off2]
  funext y
  have hk : (y 1).val < 16384 := (y 1).isLt
  have e : 32 * ((y 1).val / 32) + (y 1).val % 32 = (y 1).val := by omega
  unfold k0_pay13 vXc
  refine (flatX (k0_pay4 x0) y ⟨(y 1).val / 32, by omega⟩ ⟨(y 1).val % 32, by omega⟩ e.symm).trans ?_
  refine (h4 (y 0) _ _).trans ?_
  exact congrArg (fun n => rC (A (y 0).val n) (gX A (y 0).val ((y 1).val / 32))) e
/-- The body's scales of the activations. -/
theorem o4 : out0_4 x0 x1 = fun y : S112x512.Idx => vXs A (y 0).val (y 1).val := by
  unfold out0_4
  rw [View.canon_unit_zero off2, View.ld_unit_zero off2]
  exact funext fun y => rx3 A x0 hx y
omit hx
include hw
/-- The body's codes of the weights. -/
theorem o5 : out0_5 x0 x1 = fun y : S16384x5376.Idx => vWc B (y 0).val (y 1).val := by
  have h11 : ∀ (g : Fin 512) (i : Fin 32) (c : Fin 5376), k0_pay11 (k0_pay6 x1) (k0_pay7 x1) (k0_pay8 x1) (Scalar.ofBits .f32 0x40000000#32) (ix3 g i c)
    = rC (B (32 * g.val + i.val) c.val) (gW B g.val c.val) := fun g i c => rw11 B x1 hw (ix3 g i c)
  unfold out0_5 k0_pay15 k0_pay16 k0_pay17
  rw [View.canon_unit_zero off2, View.ld_unit_zero off2]
  funext y
  have hk : (y 0).val < 16384 := (y 0).isLt
  have e : 32 * ((y 0).val / 32) + (y 0).val % 32 = (y 0).val := by omega
  unfold k0_pay14 vWc
  dsimp only
  generalize k0_pay11 (k0_pay6 x1) (k0_pay7 x1) (k0_pay8 x1) (Scalar.ofBits .f32 0x40000000#32) = P at h11 ⊢
  refine (flatW P y ⟨(y 0).val / 32, by omega⟩ ⟨(y 0).val % 32, by omega⟩ e.symm).trans ?_
  refine (h11 _ _ (y 1)).trans ?_
  exact congrArg (fun n => rC (B n (y 1).val) (gW B ((y 0).val / 32) (y 1).val)) e
/-- The body's scales of the weights. -/
theorem o6 : out0_6 x0 x1 = fun y : S512x5376.Idx => vWs B (y 0).val (y 1).val := by
  unfold out0_6 k0_pay16 k0_pay17
  rw [View.canon_unit_zero off2, View.ld_unit_zero off2]
  exact funext fun y => rw10 B x1 hw y
include hx
/-- The body's product. -/
theorem o2 : out0_2 x0 x1 = fun y : S112x5376.Idx => vY A B (y 0).val (y 1).val := by
  unfold out0_2 k0_pay15 k0_pay16 k0_pay17
  rw [View.canon_unit_zero off2, View.ld_unit_zero off2, View.ld_unit_zero off2]
  exact funext fun y => rr2 A B x0 x1 hx hw y
end

/-- A result window whose block is the whole array ends with what the body left. -/
theorem fin2 (c : Dev nD) : (dats m 0 c).arrAt 2 cfg0.N = (fun y : S112x5376.Idx => vY (inA (m ((c : Thread nD τ).loc main_arg0))) (inB (m ((c : Thread nD τ).loc main_arg1))) (y 0).val (y 1).val) := by
  refine (dats m 0 c).arrAt_eq_of_cover 2 _ (fun t _ => ?_) (fun i => ⟨⟨0, by decide⟩, flush0_2 _, ?_⟩)
  · refine (after0_2 m c t).trans ?_
    rw [blk0, blk1, o2 _ _ _ _ (hx0 m c) (hw0 m c)]
    funext y
    exact congrArg (fun y : S112x5376.Idx => vY (inA (m ((c : Thread nD τ).loc main_arg0))) (inB (m ((c : Thread nD τ).loc main_arg1))) (y 0).val (y 1).val) (emb2 t y).symm
  · have h := ((cfg0.win 2).blk ⟨0, by decide⟩).view.emb_mem_set i
    rwa [emb2] at h
/-- The array of the activations' codes after the run. -/
theorem fin3 (c : Dev nD) : (dats m 0 c).arrAt 3 cfg0.N = (fun y : S112x16384.Idx => vXc (inA (m ((c : Thread nD τ).loc main_arg0))) (y 0).val (y 1).val) := by
  refine (dats m 0 c).arrAt_eq_of_cover 3 _ (fun t _ => ?_) (fun i => ⟨⟨0, by decide⟩, flush0_3 _, ?_⟩)
  · refine (after0_3 m c t).trans ?_
    rw [blk0, blk1, o3 _ _ _ (hx0 m c)]
    funext y
    exact congrArg (fun y : S112x16384.Idx => vXc (inA (m ((c : Thread nD τ).loc main_arg0))) (y 0).val (y 1).val) (emb3 t y).symm
  · have h := ((cfg0.win 3).blk ⟨0, by decide⟩).view.emb_mem_set i
    rwa [emb3] at h
/-- The array of the activations' scales after the run. -/
theorem fin4 (c : Dev nD) : (dats m 0 c).arrAt 4 cfg0.N = (fun y : S112x512.Idx => vXs (inA (m ((c : Thread nD τ).loc main_arg0))) (y 0).val (y 1).val) := by
  refine (dats m 0 c).arrAt_eq_of_cover 4 _ (fun t _ => ?_) (fun i => ⟨⟨0, by decide⟩, flush0_4 _, ?_⟩)
  · refine (after0_4 m c t).trans ?_
    rw [blk0, blk1, o4 _ _ _ (hx0 m c)]
    funext y
    exact congrArg (fun y : S112x512.Idx => vXs (inA (m ((c : Thread nD τ).loc main_arg0))) (y 0).val (y 1).val) (emb4 t y).symm
  · have h := ((cfg0.win 4).blk ⟨0, by decide⟩).view.emb_mem_set i
    rwa [emb4] at h
/-- The array of the weights' codes after the run. -/
theorem fin5 (c : Dev nD) : (dats m 0 c).arrAt 5 cfg0.N = (fun y : S16384x5376.Idx => vWc (inB (m ((c : Thread nD τ).loc main_arg1))) (y 0).val (y 1).val) := by
  refine (dats m 0 c).arrAt_eq_of_cover 5 _ (fun t _ => ?_) (fun i => ⟨⟨0, by decide⟩, flush0_5 _, ?_⟩)
  · refine (after0_5 m c t).trans ?_
    rw [blk0, blk1, o5 _ _ _ (hw0 m c)]
    funext y
    exact congrArg (fun y : S16384x5376.Idx => vWc (inB (m ((c : Thread nD τ).loc main_arg1))) (y 0).val (y 1).val) (emb5 t y).symm
  · have h := ((cfg0.win 5).blk ⟨0, by decide⟩).view.emb_mem_set i
    rwa [emb5] at h
/-- The array of the weights' scales after the run. -/
theorem fin6 (c : Dev nD) : (dats m 0 c).arrAt 6 cfg0.N = (fun y : S512x5376.Idx => vWs (inB (m ((c : Thread nD τ).loc main_arg1))) (y 0).val (y 1).val) := by
  refine (dats m 0 c).arrAt_eq_of_cover 6 _ (fun t _ => ?_) (fun i => ⟨⟨0, by decide⟩, flush0_6 _, ?_⟩)
  · refine (after0_6 m c t).trans ?_
    rw [blk0, blk1, o6 _ _ _ (hw0 m c)]
    funext y
    exact congrArg (fun y : S512x5376.Idx => vWs (inB (m ((c : Thread nD τ).loc main_arg1))) (y 0).val (y 1).val) (emb6 t y).symm
  · have h := ((cfg0.win 6).blk ⟨0, by decide⟩).view.emb_mem_set i
    rwa [emb6] at h

/-- The reference runs to its results, the arguments unchanged. -/
theorem ref_run : θ_run defs (onTc (τ := τ) (main (F := Ideal))) ⟨m, fun _ => 0, ρ⟩ (fun r => ∀ c : Dev nD,
      r.2.mem ((c.tc : Thread nD τ).loc main_v1_0) = (fun y : S112x5376.Idx => vY (inA (m ((c : Thread nD τ).loc main_arg0))) (inB (m ((c : Thread nD τ).loc main_arg1))) (y 0).val (y 1).val)
      ∧ r.2.mem ((c.tc : Thread nD τ).loc main_v1_1) = (fun y : S112x16384.Idx => vXc (inA (m ((c : Thread nD τ).loc main_arg0))) (y 0).val (y 1).val)
      ∧ r.2.mem ((c.tc : Thread nD τ).loc main_v1_2) = (fun y : S112x512.Idx => vXs (inA (m ((c : Thread nD τ).loc main_arg0))) (y 0).val (y 1).val)
      ∧ r.2.mem ((c.tc : Thread nD τ).loc main_v1_3) = (fun y : S16384x5376.Idx => vWc (inB (m ((c : Thread nD τ).loc main_arg1))) (y 0).val (y 1).val)
      ∧ r.2.mem ((c.tc : Thread nD τ).loc main_v1_4) = (fun y : S512x5376.Idx => vWs (inB (m ((c : Thread nD τ).loc main_arg1))) (y 0).val (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.2 c).1 2).trans (fin2 m c), ((h.2 c).1 3).trans (fin3 m c), ((h.2 c).1 4).trans (fin4 m c), ((h.2 c).1 5).trans (fin5 m c),
    ((h.2 c).1 6).trans (fin6 m c), (h.1 c).1, (h.1 c).2⟩) (θ_run_and (unchanged m ρ) (run_main m ρ))

end Cert.Proof.KV

end
-- ==== Proof.KVFinal.lean ====
/- The kernel's results: what its arrays hold after the run, as the same functions of the arguments as the reference's. -/
module

public import proofs.«01_k».proof.Proof.KVLaunch
public import proofs.«01_k».proof.Proof.KVRefRun
public import Idealize.ShloMosaic.Lib.Pipeline.Value
public import Idealize.ShloMosaic.Lib.Pointwise
public import Idealize.ShloMosaic.Lib.Pointwise.Sums

@[expose] public section

set_option maxRecDepth 65536

noncomputable section

namespace Cert.Proof.KV

open Cert.KernelIdeal Cert.KernelIdeal.Gen
open Idealize.ShloMosaic Idealize.ShloMosaic.TcCoe
open Idealize.SL Idealize.SL.Sem
open Idealize.ShloMosaic.Pipeline (Dat Cfg Window)

/-! ## One block against the whole -/

/-- Every entry is a finite bf16. -/
def Fin16 (A : ℕ → ℕ → EReal) : Prop := ∀ r k, magV (A r k) ≤ Ideal.ofBits .f32 0x7F7F0000#32

/-- A magnitude is not negative. -/
theorem magV_nonneg (x : EReal) : 0 ≤ magV x := by
  unfold magV
  rcases le_total 0 x with h | h
  · exact le_max_of_le_left h
  · exact le_max_of_le_right (by simpa using EReal.neg_le_neg_iff.mpr h)

/-- A group's maximum of finite activations, divided by 448, is in the range where search and logarithm agree. -/
theorem gX_bound (A : ℕ → ℕ → EReal) (h : Fin16 A) (r g : ℕ) : 0 ≤ gX A r g * c448 ∧ gX A r g * c448 < thr 253 := by
  refine f_bound _ ?_ (Finset.sup_le fun i _ => h _ _)
  exact (magV_nonneg _).trans (Finset.le_sup (f := fun i : Fin 32 => magV (A r (32 * g + i.val))) (Finset.mem_univ 0))
/-- A group's maximum of finite weights, divided by 448, is in the range where search and logarithm agree. -/
theorem gW_bound (B : ℕ → ℕ → EReal) (h : Fin16 B) (R c : ℕ) : 0 ≤ gW B R c * c448 ∧ gW B R c * c448 < thr 253 := by
  refine f_bound _ ?_ (Finset.sup_le fun i _ => h _ _)
  exact (magV_nonneg _).trans (Finset.le_sup (f := fun i : Fin 32 => magV (B (32 * R + i.val) c)) (Finset.mem_univ 0))

section
variable (A : ℕ → ℕ → EReal) (hA : Fin16 A) (t : ℕ) (X : ℕ → ℕ → EReal) (hX : ∀ r k, k < 512 → X r k = A r (512 * t + k))
include hX
/-- A group's maximum within a block of activations is the maximum of the same group of the whole. -/
theorem gX_block (r k : ℕ) (hk : k < 512) : gmxX X r (32 * (k / 32)) = gX A r ((512 * t + k) / 32) := by
  unfold gmxX gX
  refine Finset.sup_congr rfl fun i _ => ?_
  have hi : i.val < 32 := i.isLt
  rw [hX _ _ (by omega)]
  exact congrArg (fun n => magV (A r n)) (by omega)
include hA
/-- The kernel's codes of a block of activations are the reference's of the whole. -/
theorem xc_block (r k : ℕ) (hk : k < 512) : xcV X r k = vXc A r (512 * t + k) := by
  obtain ⟨h0, h1⟩ := gX_bound A hA r ((512 * t + k) / 32)
  unfold xcV vXc rC rI eX
  rw [gX_block A t X hX r k hk, (scale_eq _ h0 h1).2.1, hX r k hk]
/-- The kernel's dequantised activations of a block are the reference's of the whole. -/
theorem xq_block (r k : ℕ) (hk : k < 512) : xqV X r k = vXc A r (512 * t + k) * vXs A r ((512 * t + k) / 32) := by
  obtain ⟨h0, h1⟩ := gX_bound A hA r ((512 * t + k) / 32)
  unfold xqV
  rw [xc_block A hA t X hX r k hk]
  unfold vXs rS eX
  rw [gX_block A t X hX r k hk, (scale_eq _ h0 h1).1]
/-- The kernel's scales of a block of activations are the reference's of the whole. -/
theorem xs_block (r g : ℕ) (hg : g < 16) : xsV X r g = vXs A r (16 * t + g) := by
  obtain ⟨h0, h1⟩ := gX_bound A hA r (16 * t + g)
  unfold xsV vXs rS eX
  rw [gX_block A t X hX r (32 * g) (by omega), show (512 * t + 32 * g) / 32 = 16 * t + g by omega, (scale_eq _ h0 h1).1]
end

section
variable (B : ℕ → ℕ → EReal) (hB : Fin16 B) (t : ℕ) (W : ℕ → ℕ → EReal) (hW : ∀ r c, r < 512 → c < 5376 → W r c = B (512 * t + r) c)
include hW
/-- A group's maximum within a block of weights is the maximum of the same group of the whole. -/
theorem gW_block (r c : ℕ) (hr : r < 512) (hc : c < 5376) : gmx W (32 * (r / 32)) c = gW B ((512 * t + r) / 32) c := by
  unfold gmx gW
  refine Finset.sup_congr rfl fun i _ => ?_
  have hi : i.val < 32 := i.isLt
  rw [hW _ _ (by omega) hc]
  exact congrArg (fun n => magV (B n c)) (by omega)
include hB
/-- The kernel's codes of a block of weights are the reference's of the whole. -/
theorem wc_block (r c : ℕ) (hr : r < 512) (hc : c < 5376) : wcV W r c = vWc B (512 * t + r) c := by
  obtain ⟨h0, h1⟩ := gW_bound B hB ((512 * t + r) / 32) c
  unfold wcV vWc rC rI eW
  rw [gW_block B t W hW r c hr hc, (scale_eq _ h0 h1).2.2.2, hW r c hr hc, clampV_eq]
/-- The kernel's dequantised weights of a block are the reference's of the whole. -/
theorem wq_block (r c : ℕ) (hr : r < 512) (hc : c < 5376) : wqV W r c = vWc B (512 * t + r) c * vWs B ((512 * t + r) / 32) c := by
  obtain ⟨h0, h1⟩ := gW_bound B hB ((512 * t + r) / 32) c
  unfold wqV
  rw [wc_block B hB t W hW r c hr hc]
  unfold vWs rS eW
  rw [gW_block B t W hW r c hr hc, (scale_eq _ h0 h1).2.2.1]
/-- The kernel's scales of a block of weights are the reference's of the whole. -/
theorem ws_block (R c : ℕ) (hR : R < 16) (hc : c < 5376) : wsV W R c = vWs B (16 * t + R) c := by
  obtain ⟨h0, h1⟩ := gW_bound B hB (16 * t + R) c
  unfold wsV vWs rS eW
  rw [gW_block B t W hW (32 * R) c (by omega) hc, show (512 * t + 32 * R) / 32 = 16 * t + R by omega, (scale_eq _ h0 h1).1]
end

/-! ## The arrays the region finds -/

variable (m : (ℓ : Loc nD τ sig) → Buf (Elt Ideal) ℓ) (ρ : Dev nD → PrngReg)

abbrev kA (c : Dev nD) : ℕ → ℕ → EReal := inA (m ((c : Thread nD τ).loc main_arg0))
abbrev kB (c : Dev nD) : ℕ → ℕ → EReal := inB (m ((c : Thread nD τ).loc main_arg1))

/-- The activations' array, as the region finds it, is the first argument reshaped. -/
theorem kV2 (c : Dev nD) : (V m c main_v2 : S112x16384.Idx → EReal)
    = shapeCast S112x16384 (m ((c : Thread nD τ).loc main_arg0) : S112x1x16384.Idx → EReal) shapeCasts_S112x1x16384_S112x16384 := by
  show StableHlo.after hostOps0 _ (Proc.devRef .tc main_v2) = _
  after_results
  rfl
/-- The weights' array, as the region finds it, is the second argument reshaped and transposed. -/
theorem kV1 (c : Dev nD) : (V m c main_v1 : S1024x2x42x8x128.Idx → EReal)
    = transpose S1024x2x42x8x128 [0, 1, 3, 2, 4] (shapeCast S1024x2x8x42x128 (m ((c : Thread nD τ).loc main_arg1) : S16384x5376.Idx → EReal) shapeCasts_S16384x5376_S1024x2x8x42x128)
        transposes_S1024x2x8x42x128_S1024x2x42x8x128_0_1_3_2_4 := by
  show StableHlo.after hostOps0 _ (Proc.devRef .tc main_v1) = _
  after_results
  rfl

/-- The region's activations are the first argument's entries. -/
theorem XF_eq (c : Dev nD) (r k : ℕ) : XF m c r k = kA m c r k := by
  unfold XF
  rw [kV2]
  refine (shapeCast_apply _ _ _ (ix3 (Fin.ofNat 112 r) 0 (Fin.ofNat 16384 k) : S112x1x16384.Idx) ?_).trans rfl
  rw [Shape.rowMajor_val_three, Shape.rowMajor_val_two]
  show ((r % 112) * 1 + 0) * 16384 + k % 16384 = (r % 112) * 16384 + k % 16384
  omega

/-- A block of the weights, read through its tiles, is 512 rows of the second argument. -/
theorem WT_eq (c : Dev nD) (t r k : ℕ) (ht : t < 32) (hr : r < 512) (hk : k < 5376) : WT m c t r k = kB m c (512 * t + r) k := by
  unfold WT WB AF XA
  rw [kV1]
  refine (transpose_apply _ _ _ _ (ix5 (Fin.ofNat 1024 (32 * t + r / 16)) (Fin.ofNat 2 (r % 16 / 8)) (Fin.ofNat 8 (r % 8)) (Fin.ofNat 42 (k / 128)) (Fin.ofNat 128 (k % 128)) : S1024x2x8x42x128.Idx) ?_).trans ?_
  · intro b
    match b with
    | ⟨0, _⟩ => rfl
    | ⟨1, _⟩ => rfl
    | ⟨2, _⟩ => rfl
    | ⟨3, _⟩ => rfl
    | ⟨4, _⟩ => rfl
  refine (shapeCast_apply _ _ _ (ix2 (Fin.ofNat 16384 (512 * t + r)) (Fin.ofNat 5376 k) : S16384x5376.Idx) ?_).trans rfl
  rw [Shape.rowMajor_val_two, Shape.rowMajor_val_five]
  show (512 * t + r) % 16384 * 5376 + k % 5376 = (((((32 * t + r / 16) % 1024) * 2 + (r % 16 / 8) % 2) * 8 + (r % 8) % 8) * 42 + (k / 128) % 42) * 128 + (k % 128) % 128
  omega

/-- A block of the activations is 512 columns of the first argument. -/
theorem XT_eq (c : Dev nD) (t r k : ℕ) : XT m c t r k = kA m c r (512 * t + k) := XF_eq m c r _

/-- The accumulator is the sum over the blocks so far, and the scales are filled up to the blocks so far. -/
theorem accT_eq (c : Dev nD) (n r k : ℕ) : accT m c n r k = ∑ t ∈ Finset.range n, dotV (xqV (XT m c t)) (WT m c t) r k := by
  induction n with
  | zero => rfl
  | succ n ih => rw [Finset.sum_range_succ, ← ih]; rfl
/-- After n points the first 16 n columns of scales are those of their blocks. -/
theorem xsT_eq (c : Dev nD) (n r g : ℕ) (hg : g < 16 * n) : xsT m c n r g = xsV (XT m c (g / 16)) r (g % 16) := by
  induction n with
  | zero => omega
  | succ n ih =>
    show xsNew (XT m c n) (xsT m c n) n r g = _
    unfold xsNew
    by_cases h : 16 * n ≤ g ∧ g < 16 * n + 16
    · rw [if_pos h, show g / 16 = n by omega, show g - 16 * n = g % 16 by omega]
    · rw [if_neg h]; exact ih (by omega)

variable (hA : ∀ c : Dev nD, Fin16 (kA m c)) (hB : ∀ c : Dev nD, Fin16 (kB m c))

section
include hA
/-- After the last point the scales are the reference's. -/
theorem xs_all (c : Dev nD) (r g : ℕ) (hg : g < 512) : xsT m c 32 r g = vXs (kA m c) r g := by
  rw [xsT_eq m c 32 r g (by omega), xs_block (kA m c) (hA c) (g / 16) _ (fun r k _ => XT_eq m c (g / 16) r k) r (g % 16) (by omega)]
  exact congrArg (vXs (kA m c) r) (by omega)
include hB
/-- After the last point the accumulator is the reference's product. -/
theorem acc_all (c : Dev nD) (r k : ℕ) (hk : k < 5376) : accT m c 32 r k = vY (kA m c) (kB m c) r k := by
  rw [accT_eq]
  unfold vY
  rw [Fin.sum_univ_tiles 32 512 (by norm_num), Finset.sum_range]
  refine Finset.sum_congr rfl fun t _ => ?_
  unfold dotV
  refine Finset.sum_congr rfl fun i _ => ?_
  have hi : i.val < 512 := i.isLt
  have e : t.val * 512 + i.val = 512 * t.val + i.val := by omega
  rw [xq_block (kA m c) (hA c) t.val _ (fun r k _ => XT_eq m c t.val r k) r i.val hi,
    wq_block (kB m c) (hB c) t.val _ (fun r k hr hk => WT_eq m c t.val r k t.isLt hr hk) i.val k hi hk]
  show _ = vXc (kA m c) r (t.val * 512 + i.val) * vXs (kA m c) r ((t.val * 512 + i.val) / 32) * (vWc (kB m c) (t.val * 512 + i.val) k * vWs (kB m c) ((t.val * 512 + i.val) / 32) k)
  rw [e]
end

section Arrays

/-- Where window 1's block lies in its array. -/
theorem kemb1 (t : Fin cfg0.N) (y : S112x5376.Idx) :
    ((((cfg0.win 1).blk t).view.emb y : S112x5376.Idx) 0).val = (y 0).val ∧ ((((cfg0.win 1).blk t).view.emb y : S112x5376.Idx) 1).val = (y 1).val := by
  have hi := idx1 t
  constructor
  · refine ((cfg0.win 1).rect_emb_val_off t y 0).trans ?_
    show (cfg0.win 1).index t 0 * 112 + (y 0).val = (y 0).val
    rw [hi.1]; omega
  · refine ((cfg0.win 1).rect_emb_val_off t y 1).trans ?_
    show (cfg0.win 1).index t 1 * 5376 + (y 1).val = (y 1).val
    rw [hi.2]; omega

include hA hB in
/-- What window 1's array holds after the run. -/
theorem kfin1 (c : Dev nD) : (dats m 0 c).arrAt 1 cfg0.N = (fun y : S112x5376.Idx => vY (kA m c) (kB m c) (y 0).val (y 1).val) := by
  refine (dats m 0 c).arrAt_eq_of_cover 1 _ (fun t ht => ?_) (fun i => ?_)
  · refine (after0_1 m c t).trans ?_
    funext y
    have he := kemb1 t y
    show _ = vY (kA m c) (kB m c) ((((cfg0.win 1).blk t).view.emb y : S112x5376.Idx) 0).val ((((cfg0.win 1).blk t).view.emb y : S112x5376.Idx) 1).val
    rw [he.1, he.2]
    exact acc_all m hA hB c _ _ (y 1).isLt
  · obtain ⟨tt, htt⟩ : ∃ tt : Fin cfg0.N, tt.val = 31 := ⟨⟨31, by decide⟩, rfl⟩
    refine ⟨tt, (flush0_1 tt).2 (by omega), ?_⟩
    have h := ((cfg0.win 1).blk tt).view.emb_mem_set i
    have he := kemb1 tt i
    have e : (((cfg0.win 1).blk tt).view.emb i : S112x5376.Idx) = i := by
      refine funext fun a => Fin.ext ?_
      match a with
      | ⟨0, _⟩ => exact he.1.trans (by show (i 0).val = (i 0).val; omega)
      | ⟨1, _⟩ => exact he.2.trans (by show (i 1).val = (i 1).val; omega)
    rwa [e] at h

/-- Where window 2's block lies in its array. -/
theorem kemb2 (t : Fin cfg0.N) (y : S112x512.Idx) :
    ((((cfg0.win 2).blk t).view.emb y : S112x16384.Idx) 0).val = (y 0).val ∧ ((((cfg0.win 2).blk t).view.emb y : S112x16384.Idx) 1).val = 512 * t.val + (y 1).val := by
  have hi := idx2 t
  constructor
  · refine ((cfg0.win 2).rect_emb_val_off t y 0).trans ?_
    show (cfg0.win 2).index t 0 * 112 + (y 0).val = (y 0).val
    rw [hi.1]; omega
  · refine ((cfg0.win 2).rect_emb_val_off t y 1).trans ?_
    show (cfg0.win 2).index t 1 * 512 + (y 1).val = 512 * t.val + (y 1).val
    rw [hi.2]; omega

include hA in
/-- What window 2's array holds after the run. -/
theorem kfin2 (c : Dev nD) : (dats m 0 c).arrAt 2 cfg0.N = (fun y : S112x16384.Idx => vXc (kA m c) (y 0).val (y 1).val) := by
  refine (dats m 0 c).arrAt_eq_of_cover 2 _ (fun t ht => ?_) (fun i => ?_)
  · refine (after0_2 m c t).trans ?_
    funext y
    have he := kemb2 t y
    show _ = vXc (kA m c) ((((cfg0.win 2).blk t).view.emb y : S112x16384.Idx) 0).val ((((cfg0.win 2).blk t).view.emb y : S112x16384.Idx) 1).val
    rw [he.1, he.2]
    exact xc_block (kA m c) (hA c) t.val _ (fun r k _ => XT_eq m c t.val r k) _ _ (y 1).isLt
  · obtain ⟨tt, htt⟩ : ∃ tt : Fin cfg0.N, tt.val = (i 1).val / 512 := ⟨(⟨(i 1).val / 512, by have : (i 1).val < 16384 := (i 1).isLt; show _ < 32; omega⟩ : Fin cfg0.N), rfl⟩
    refine ⟨tt, flush0_2 tt, ?_⟩
    have h := ((cfg0.win 2).blk tt).view.emb_mem_set (ix2 ⟨(i 0).val, (i 0).isLt⟩ ⟨(i 1).val % 512, Nat.mod_lt _ (by decide)⟩ : S112x512.Idx)
    have he := kemb2 tt (ix2 ⟨(i 0).val, (i 0).isLt⟩ ⟨(i 1).val % 512, Nat.mod_lt _ (by decide)⟩ : S112x512.Idx)
    have e : (((cfg0.win 2).blk tt).view.emb (ix2 ⟨(i 0).val, (i 0).isLt⟩ ⟨(i 1).val % 512, Nat.mod_lt _ (by decide)⟩ : S112x512.Idx) : S112x16384.Idx) = i := by
      refine funext fun a => Fin.ext ?_
      match a with
      | ⟨0, _⟩ => exact he.1.trans (by show (i 0).val = (i 0).val; omega)
      | ⟨1, _⟩ => exact he.2.trans (by show 512 * tt.val + (i 1).val % 512 = (i 1).val; omega)
    rwa [e] at h

/-- Where window 3's block lies in its array. -/
theorem kemb3 (t : Fin cfg0.N) (y : S112x512.Idx) :
    ((((cfg0.win 3).blk t).view.emb y : S112x512.Idx) 0).val = (y 0).val ∧ ((((cfg0.win 3).blk t).view.emb y : S112x512.Idx) 1).val = (y 1).val := by
  have hi := idx3 t
  constructor
  · refine ((cfg0.win 3).rect_emb_val_off t y 0).trans ?_
    show (cfg0.win 3).index t 0 * 112 + (y 0).val = (y 0).val
    rw [hi.1]; omega
  · refine ((cfg0.win 3).rect_emb_val_off t y 1).trans ?_
    show (cfg0.win 3).index t 1 * 512 + (y 1).val = (y 1).val
    rw [hi.2]; omega

include hA in
/-- What window 3's array holds after the run. -/
theorem kfin3 (c : Dev nD) : (dats m 0 c).arrAt 3 cfg0.N = (fun y : S112x512.Idx => vXs (kA m c) (y 0).val (y 1).val) := by
  refine (dats m 0 c).arrAt_eq_of_cover 3 _ (fun t ht => ?_) (fun i => ?_)
  · refine (after0_3 m c t).trans ?_
    funext y
    have he := kemb3 t y
    show _ = vXs (kA m c) ((((cfg0.win 3).blk t).view.emb y : S112x512.Idx) 0).val ((((cfg0.win 3).blk t).view.emb y : S112x512.Idx) 1).val
    rw [he.1, he.2]
    have h31 : t.val + 1 = 32 := by have := (flush0_3 t).1 ht; have := t.isLt; have : t.val < 32 := t.isLt; omega
    show xsT m c (t.val + 1) (y 0).val (y 1).val = _
    rw [h31]
    exact xs_all m hA c _ _ (y 1).isLt
  · obtain ⟨tt, htt⟩ : ∃ tt : Fin cfg0.N, tt.val = 31 := ⟨⟨31, by decide⟩, rfl⟩
    refine ⟨tt, (flush0_3 tt).2 (by omega), ?_⟩
    have h := ((cfg0.win 3).blk tt).view.emb_mem_set i
    have he := kemb3 tt i
    have e : (((cfg0.win 3).blk tt).view.emb i : S112x512.Idx) = i := by
      refine funext fun a => Fin.ext ?_
      match a with
      | ⟨0, _⟩ => exact he.1.trans (by show (i 0).val = (i 0).val; omega)
      | ⟨1, _⟩ => exact he.2.trans (by show (i 1).val = (i 1).val; omega)
    rwa [e] at h

/-- Where window 4's block lies in its array. -/
theorem kemb4 (t : Fin cfg0.N) (y : S512x5376.Idx) :
    ((((cfg0.win 4).blk t).view.emb y : S16384x5376.Idx) 0).val = 512 * t.val + (y 0).val ∧ ((((cfg0.win 4).blk t).view.emb y : S16384x5376.Idx) 1).val = (y 1).val := by
  have hi := idx4 t
  constructor
  · refine ((cfg0.win 4).rect_emb_val_off t y 0).trans ?_
    show (cfg0.win 4).index t 0 * 512 + (y 0).val = 512 * t.val + (y 0).val
    rw [hi.1]; omega
  · refine ((cfg0.win 4).rect_emb_val_off t y 1).trans ?_
    show (cfg0.win 4).index t 1 * 5376 + (y 1).val = (y 1).val
    rw [hi.2]; omega

include hB in
/-- What window 4's array holds after the run. -/
theorem kfin4 (c : Dev nD) : (dats m 0 c).arrAt 4 cfg0.N = (fun y : S16384x5376.Idx => vWc (kB m c) (y 0).val (y 1).val) := by
  refine (dats m 0 c).arrAt_eq_of_cover 4 _ (fun t ht => ?_) (fun i => ?_)
  · refine (after0_4 m c t).trans ?_
    funext y
    have he := kemb4 t y
    show _ = vWc (kB m c) ((((cfg0.win 4).blk t).view.emb y : S16384x5376.Idx) 0).val ((((cfg0.win 4).blk t).view.emb y : S16384x5376.Idx) 1).val
    rw [he.1, he.2]
    exact wc_block (kB m c) (hB c) t.val _ (fun r k hr hk => WT_eq m c t.val r k t.isLt hr hk) _ _ (y 0).isLt (y 1).isLt
  · obtain ⟨tt, htt⟩ : ∃ tt : Fin cfg0.N, tt.val = (i 0).val / 512 := ⟨(⟨(i 0).val / 512, by have : (i 0).val < 16384 := (i 0).isLt; show _ < 32; omega⟩ : Fin cfg0.N), rfl⟩
    refine ⟨tt, flush0_4 tt, ?_⟩
    have h := ((cfg0.win 4).blk tt).view.emb_mem_set (ix2 ⟨(i 0).val % 512, Nat.mod_lt _ (by decide)⟩ ⟨(i 1).val, (i 1).isLt⟩ : S512x5376.Idx)
    have he := kemb4 tt (ix2 ⟨(i 0).val % 512, Nat.mod_lt _ (by decide)⟩ ⟨(i 1).val, (i 1).isLt⟩ : S512x5376.Idx)
    have e : (((cfg0.win 4).blk tt).view.emb (ix2 ⟨(i 0).val % 512, Nat.mod_lt _ (by decide)⟩ ⟨(i 1).val, (i 1).isLt⟩ : S512x5376.Idx) : S16384x5376.Idx) = i := by
      refine funext fun a => Fin.ext ?_
      match a with
      | ⟨0, _⟩ => exact he.1.trans (by show 512 * tt.val + (i 0).val % 512 = (i 0).val; omega)
      | ⟨1, _⟩ => exact he.2.trans (by show (i 1).val = (i 1).val; omega)
    rwa [e] at h

/-- Where window 5's block lies in its array. -/
theorem kemb5 (t : Fin cfg0.N) (y : S16x5376.Idx) :
    ((((cfg0.win 5).blk t).view.emb y : S512x5376.Idx) 0).val = 16 * t.val + (y 0).val ∧ ((((cfg0.win 5).blk t).view.emb y : S512x5376.Idx) 1).val = (y 1).val := by
  have hi := idx5 t
  constructor
  · refine ((cfg0.win 5).rect_emb_val_off t y 0).trans ?_
    show (cfg0.win 5).index t 0 * 16 + (y 0).val = 16 * t.val + (y 0).val
    rw [hi.1]; omega
  · refine ((cfg0.win 5).rect_emb_val_off t y 1).trans ?_
    show (cfg0.win 5).index t 1 * 5376 + (y 1).val = (y 1).val
    rw [hi.2]; omega

include hB in
/-- What window 5's array holds after the run. -/
theorem kfin5 (c : Dev nD) : (dats m 0 c).arrAt 5 cfg0.N = (fun y : S512x5376.Idx => vWs (kB m c) (y 0).val (y 1).val) := by
  refine (dats m 0 c).arrAt_eq_of_cover 5 _ (fun t ht => ?_) (fun i => ?_)
  · refine (after0_5 m c t).trans ?_
    funext y
    have he := kemb5 t y
    show _ = vWs (kB m c) ((((cfg0.win 5).blk t).view.emb y : S512x5376.Idx) 0).val ((((cfg0.win 5).blk t).view.emb y : S512x5376.Idx) 1).val
    rw [he.1, he.2]
    exact ws_block (kB m c) (hB c) t.val _ (fun r k hr hk => WT_eq m c t.val r k t.isLt hr hk) _ _ (y 0).isLt (y 1).isLt
  · obtain ⟨tt, htt⟩ : ∃ tt : Fin cfg0.N, tt.val = (i 0).val / 16 := ⟨(⟨(i 0).val / 16, by have : (i 0).val < 512 := (i 0).isLt; show _ < 32; omega⟩ : Fin cfg0.N), rfl⟩
    refine ⟨tt, flush0_5 tt, ?_⟩
    have h := ((cfg0.win 5).blk tt).view.emb_mem_set (ix2 ⟨(i 0).val % 16, Nat.mod_lt _ (by decide)⟩ ⟨(i 1).val, (i 1).isLt⟩ : S16x5376.Idx)
    have he := kemb5 tt (ix2 ⟨(i 0).val % 16, Nat.mod_lt _ (by decide)⟩ ⟨(i 1).val, (i 1).isLt⟩ : S16x5376.Idx)
    have e : (((cfg0.win 5).blk tt).view.emb (ix2 ⟨(i 0).val % 16, Nat.mod_lt _ (by decide)⟩ ⟨(i 1).val, (i 1).isLt⟩ : S16x5376.Idx) : S512x5376.Idx) = i := by
      refine funext fun a => Fin.ext ?_
      match a with
      | ⟨0, _⟩ => exact he.1.trans (by show 16 * tt.val + (i 0).val % 16 = (i 0).val; omega)
      | ⟨1, _⟩ => exact he.2.trans (by show (i 1).val = (i 1).val; omega)
    rwa [e] at h

include hA hB in
/-- The kernel runs to the same functions of the arguments as the reference, the arguments unchanged. -/
theorem ker_run : θ_run defs (onTc (τ := τ) (main (F := Ideal))) ⟨m, fun _ => 0, ρ⟩ (fun r => ∀ c : Dev nD,
      r.2.mem ((c.tc : Thread nD τ).loc main_v3_0) = (fun y : S112x5376.Idx => vY (kA m c) (kB m c) (y 0).val (y 1).val)
      ∧ r.2.mem ((c.tc : Thread nD τ).loc main_v3_1) = (fun y : S112x16384.Idx => vXc (kA m c) (y 0).val (y 1).val)
      ∧ r.2.mem ((c.tc : Thread nD τ).loc main_v3_2) = (fun y : S112x512.Idx => vXs (kA m c) (y 0).val (y 1).val)
      ∧ r.2.mem ((c.tc : Thread nD τ).loc main_v3_3) = (fun y : S16384x5376.Idx => vWc (kB m c) (y 0).val (y 1).val)
      ∧ r.2.mem ((c.tc : Thread nD τ).loc main_v3_4) = (fun y : S512x5376.Idx => vWs (kB m c) (y 0).val (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 1).trans (kfin1 m hA hB c), ((h.1 c).1 2).trans (kfin2 m hA c), ((h.1 c).1 3).trans (kfin3 m hA c),
    ((h.1 c).1 4).trans (kfin4 m hB c), ((h.1 c).1 5).trans (kfin5 m hB c), (h.1 c).2.1, (h.1 c).2.2⟩) (run_main m ρ)

end Arrays

end Cert.Proof.KV

end
-- ==== Proof.KVPre.lean ====
/- The precondition read back: every entry of both arguments is a finite bf16. -/
module

public import proofs.«01_k».proof.Defs
public import proofs.«01_k».proof.Proof.KVFinal
public import Idealize.ShloMosaic.Lib.ReduceAll

@[expose] public section

set_option maxRecDepth 65536

noncomputable section

namespace Cert.Proof.KV

open Idealize.ShloMosaic Idealize.ShloMosaic.TcCoe

/-- A comparison of a magnitude with the greatest finite bf16 that came out true, over any shape. -/
theorem le_of_cmp {s t u : Shape} {axes : List (Fin s.rank)} [Subsingleton t.Idx] (x : FVec Ideal s .bf16) (b : FTy.bits .bf16 < FTy.bits .f32)
    {v : Shape} (dims : Fin v.rank → Fin s.rank) (hb : v.BroadcastsInDim s dims) (init : u.Idx → BitVec 1) (h : s.ReducesTo axes t) (hu : 0 < u.numel) (j : t.Idx)
    (e : Host.reduce IntOp.andi (cmpf (F := Ideal) .ole (Host.absf (extf .f32 x b)) (broadcastInDim s dims hb (constant v .f32 0x7F7F0000#32))) init h hu j = 1#1)
    (i : s.Idx) : magV (x i) ≤ Ideal.ofBits .f32 0x7F7F0000#32 := by
  have h1 := Host.reduce_andi_all _ _ _ _ j e i
  have h2 : Ideal.cmp .ole (magV (x i)) (Ideal.ofBits .f32 0x7F7F0000#32) = 1#1 := h1
  by_contra hc
  simp [Ideal.cmp, hc] at h2

/-- Under the precondition every entry of both arguments is finite. -/
theorem pre_bounds [Cert.Pre_finite.Facts] (X : FVec Ideal Cert.Pre_finite.S112x1x16384 .bf16) (W : FVec Ideal Cert.Pre_finite.S16384x5376 .bf16)
    (h : Cert.Pre_finite.fn (F := Ideal) X W = fun _ => 1#1) :
    (∀ i, magV (X i) ≤ Ideal.ofBits .f32 0x7F7F0000#32) ∧ (∀ i, magV (W i) ≤ Ideal.ofBits .f32 0x7F7F0000#32) := by
  have hs : Subsingleton Cert.Pre_finite.S_.Idx := ⟨fun a b => funext fun k => k.elim0⟩
  have h0 := congrFun h (fun k => k.elim0)
  unfold Cert.Pre_finite.fn at h0
  obtain ⟨ha, hb⟩ := IntOp.andi_eq_one.1 h0
  exact ⟨fun i => le_of_cmp X _ _ _ _ _ _ _ ha i, fun i => le_of_cmp W _ _ _ _ _ _ _ hb i⟩

end Cert.Proof.KV

end
-- ==== Proof.lean ====
/- The claim: each of the three programs ends without fault, with its arguments unchanged and its counters at zero, the
   ideal kernel is the kernel read over the extended reals, and there it gives the reference's five results. -/
module

public import proofs.«01_k».proof.Defs
public import proofs.«01_k».proof.Proof.KLaunch
public import proofs.«01_k».proof.Proof.KILaunch
public import proofs.«01_k».proof.Proof.KVPre
public import proofs.«01_k».proof.Proof.Gen.Pre_finite
public import proofs.«01_k».proof.Proof.Gen.ReferenceIdeal
public import proofs.«01_k».proof.Proof.Gen.ReferenceIdeal.Frame
public import Idealize.ShloMosaic.Lib.Bf16PairInverse
public import Idealize.ShloMosaic.Adequacy
public import Idealize.ShloMosaic.Init

@[expose] public section

noncomputable section

namespace Cert.Proof

open Idealize.ShloMosaic Idealize.SL.Sem Idealize.ShloMosaic.TcCoe

/-- Each rewrite from the kernel to the ideal kernel keeps the bits: the packed words of the running maximum are pairs
    of rows, one in each half of a word. -/
theorem preserves : Cert.preserves_Kernel_KernelIdeal :=
  ⟨IdealRules.bf16_pair.bufferStatement _ _ Cert.KernelIdeal.Gen.facts.bitcasts_S8x72x2x128_w16_S8x72x1x128_w32,
   IdealRules.bf16_pair.statement _ _ Cert.KernelIdeal.Gen.facts.bitcasts_S112x128_w16_S56x128_w32,
   IdealRules.bf16_pair.statement _ _ Cert.KernelIdeal.Gen.facts.bitcasts_S16x128_w16_S8x128_w32,
   IdealRules.bf16_pair.statement _ _ Cert.KernelIdeal.Gen.facts.bitcasts_S8x2x128_w16_S8x1x128_w32,
   IdealRules.bf16_pair.statement _ _ Cert.KernelIdeal.Gen.facts.bitcasts_S1x8x2x128_w16_S1x8x1x128_w32⟩

/-- Over the extended reals, and for finite arguments, the kernel and the reference give the same five results: both are
    the same functions of the arguments. -/
theorem algebraic : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hargs
  have hb := fun c => KV.pre_bounds _ _ (hpre c)
  have hA : ∀ c, KV.Fin16 (KV.kA m c) := fun c r k => (hb c).1 _
  have hB : ∀ c, KV.Fin16 (KV.kB m c) := fun c r k => (hb c).2 _
  refine ⟨_, _, _, _, _, KV.ker_run m g hA hB, ?_⟩
  refine (θ_run _ _ _).mono (fun r h c => ?_) (KV.ref_run m' g')
  have h' := h c
  rw [(hargs c).1, (hargs c).2] at h'
  obtain ⟨h0, h1, h2, h3, h4, h5, h6⟩ := h'
  exact ⟨h0, h1, h2, h3, h4, h5.trans (hargs c).1.symm, h6.trans (hargs c).2.symm⟩

/-- Everything claimed. -/
theorem claim : Cert.Claim := ⟨Cert.Kernel.Gen.facts, Cert.KernelIdeal.Gen.facts, Cert.ReferenceIdeal.Gen.facts, Cert.Pre_finite.Gen.facts,
  fun m g _ => Cert.Proof.K.run_main m g,
  fun m g _ => Cert.Proof.KI.run_main m g,
  fun m g _ => Cert.Proof.KI.run_main m g,
  fun m g _ => Cert.ReferenceIdeal.Gen.frame m g,
  fun m g _ => Cert.ReferenceIdeal.Gen.frame m g,
  preserves, algebraic⟩

end Cert.Proof

end
